-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_exponents [hPre_small_exponents : Cert.Pre_small_exponents.Facts] (m : (ℓ : Loc Cert.KernelIdeal.nD Cert.KernelIdeal.τ Cert.KernelIdeal.sig) → Buf (Elt Ideal) ℓ) : Prop :=
  ∀ c : Dev Cert.KernelIdeal.nD,
    (Cert.Pre_small_exponents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_small_exponents [hPre_small_exponents : Cert.Pre_small_exponents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_exponents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateReferenceIdeal (m : (ℓ : Loc Cert.RotateReferenceIdeal.nD Cert.RotateReferenceIdeal.τ Cert.RotateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_small_exponents [hKernelIdeal : Cert.KernelIdeal.Facts] [hPre_small_exponents : Cert.Pre_small_exponents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_exponents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_small_exponents [hReferenceIdeal : Cert.ReferenceIdeal.Facts] [hPre_small_exponents : Cert.Pre_small_exponents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_exponents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def preserves_Kernel_KernelIdeal : Prop :=
  True

def preserves_Reference_ReferenceIdeal : Prop :=
  True

def algebraic_KernelIdeal_ReferenceIdeal_pre_small_exponents [hKernelIdeal : Cert.KernelIdeal.Facts] [hReferenceIdeal : Cert.ReferenceIdeal.Facts] [hPre_small_exponents : Cert.Pre_small_exponents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_exponents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Rotate_RotateIdeal : Prop :=
  True

def algebraic_RotateIdeal_RotateReferenceIdeal [hRotateIdeal : Cert.RotateIdeal.Facts] [hRotateReferenceIdeal : Cert.RotateReferenceIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v0_0)) (v1 : (c : Dev Cert.RotateIdeal.nD) → Buf (Elt Ideal) ((c.tc : Thread Cert.RotateIdeal.nD Cert.RotateIdeal.τ).loc Cert.RotateIdeal.main_v0_1)) (v2 : (c : Dev Cert.RotateIdeal.nD) → Buf (Elt Ideal) ((c.tc : Thread Cert.RotateIdeal.nD Cert.RotateIdeal.τ).loc Cert.RotateIdeal.main_v0_2)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v0_0) = v0 c
          ∧ r.2.mem ((c.tc : Thread Cert.RotateIdeal.nD Cert.RotateIdeal.τ).loc Cert.RotateIdeal.main_v0_1) = v1 c
          ∧ r.2.mem ((c.tc : Thread Cert.RotateIdeal.nD Cert.RotateIdeal.τ).loc Cert.RotateIdeal.main_v0_2) = v2 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v22_0) = v0 c
          ∧ r.2.mem ((c.tc : Thread Cert.RotateReferenceIdeal.nD Cert.RotateReferenceIdeal.τ).loc Cert.RotateReferenceIdeal.main_v22_1) = v1 c
          ∧ r.2.mem ((c.tc : Thread Cert.RotateReferenceIdeal.nD Cert.RotateReferenceIdeal.τ).loc Cert.RotateReferenceIdeal.main_v22_2) = v2 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hRotate : Cert.Rotate.Facts) (hRotateIdeal : Cert.RotateIdeal.Facts) (hRotateReferenceIdeal : Cert.RotateReferenceIdeal.Facts) (hPre_small_exponents : Cert.Pre_small_exponents.Facts),
    quiescent_Kernel (hKernel := hKernel)
    ∧ quiescent_KernelIdeal (hKernelIdeal := hKernelIdeal)
    ∧ quiescent_KernelIdeal_pre_small_exponents (hKernelIdeal := hKernelIdeal) (hPre_small_exponents := hPre_small_exponents)
    ∧ quiescent_Reference (hReference := hReference)
    ∧ quiescent_ReferenceIdeal (hReferenceIdeal := hReferenceIdeal)
    ∧ quiescent_ReferenceIdeal_pre_small_exponents (hReferenceIdeal := hReferenceIdeal) (hPre_small_exponents := hPre_small_exponents)
    ∧ quiescent_Rotate (hRotate := hRotate)
    ∧ quiescent_RotateIdeal (hRotateIdeal := hRotateIdeal)
    ∧ quiescent_RotateReferenceIdeal (hRotateReferenceIdeal := hRotateReferenceIdeal)
    ∧ preserves_Kernel_KernelIdeal
    ∧ preserves_Reference_ReferenceIdeal
    ∧ algebraic_KernelIdeal_ReferenceIdeal_pre_small_exponents (hKernelIdeal := hKernelIdeal) (hReferenceIdeal := hReferenceIdeal) (hPre_small_exponents := hPre_small_exponents)
    ∧ preserves_Rotate_RotateIdeal
    ∧ algebraic_RotateIdeal_RotateReferenceIdeal (hRotateIdeal := hRotateIdeal) (hRotateReferenceIdeal := hRotateReferenceIdeal)
-- ==== Pre_small_exponents.lean ====
abbrev S256x14336 : Shape := ⟨2, ![256, 14336]⟩
abbrev S256x1 : Shape := ⟨2, ![256, 1]⟩
abbrev S3584x7168 : Shape := ⟨2, ![3584, 7168]⟩
abbrev S3584x112 : Shape := ⟨2, ![3584, 112]⟩
abbrev S1x3584 : Shape := ⟨2, ![1, 3584]⟩
abbrev S_ : Shape := ⟨0, ![]⟩

class Facts : Prop where
  natLt_8_32 : 8 < 32
  bcast_S_S3584x112 : S_.BroadcastsInDim S3584x112 (![] : Fin 0 → Fin S3584x112.rank)
  reducesTo_S3584x112_S_d0_1 : S3584x112.ReducesTo [0, 1] S_
  h_S_ : 0 < S_.numel

variable [Facts]

def fn {F : FTy → Type} [FloatOps F] (main_arg0 : FVec F S256x14336 .fp8e4m3) (main_arg1 : FVec F S256x1 .f32) (main_arg2 : IVec S3584x7168 8) (main_arg3 : IVec S3584x112 8) (main_arg4 : FVec F S1x3584 .f32) : IVec S_ 1 :=
  let main_v0 : IVec S3584x112 32 := (extui 32 · natLt_8_32) main_arg3
  let main_c : IVec S_ 32 := constantI S_ 32 126#32
  let main_v1 : IVec S3584x112 32 := broadcastInDim S3584x112 ![] bcast_S_S3584x112 main_c
  let main_v2 : IVec S3584x112 1 := cmpi .sle main_v0 main_v1
  let main_c_0 : IVec S_ 1 := constantI S_ 1 1#1
  let main_v3 : IVec S_ 1 := (fun x v => Host.reduce IntOp.andi x v reducesTo_S3584x112_S_d0_1 h_S_) main_v2 main_c_0
  main_v3
-- ==== Kernel.lean ====
abbrev S256x14336 : Shape := ⟨2, ![256, 14336]⟩
abbrev S256x1 : Shape := ⟨2, ![256, 1]⟩
abbrev S3584x7168 : Shape := ⟨2, ![3584, 7168]⟩
abbrev S3584x112 : Shape := ⟨2, ![3584, 112]⟩
abbrev S1x3584 : Shape := ⟨2, ![1, 3584]⟩
abbrev S256x3584 : Shape := ⟨2, ![256, 3584]⟩
abbrev S256x7168 : Shape := ⟨2, ![256, 7168]⟩
abbrev S256x112 : Shape := ⟨2, ![256, 112]⟩
abbrev S1x256 : Shape := ⟨2, ![1, 256]⟩
abbrev S256x256 : Shape := ⟨2, ![256, 256]⟩
abbrev S112x256 : Shape := ⟨2, ![112, 256]⟩
abbrev S64x256 : Shape := ⟨2, ![64, 256]⟩
abbrev S8x256 : Shape := ⟨2, ![8, 256]⟩
abbrev S16x256 : Shape := ⟨2, ![16, 256]⟩
abbrev S128x256 : Shape := ⟨2, ![128, 256]⟩

abbrev nBuf : Space → Nat
  | .hbm => 6
  | .vmem => 11
  | .smem => 0
  | _ => 0

abbrev bufTy : (tb : Table) → Fin (tcTables nBuf tb) → BufTy
  | .hbm, ⟨0, _⟩ => ⟨S256x14336, .fp8e4m3⟩
  | .hbm, ⟨1, _⟩ => ⟨S256x1, .f32⟩
  | .hbm, ⟨2, _⟩ => ⟨S3584x7168, .i8⟩
  | .hbm, ⟨3, _⟩ => ⟨S3584x112, .i8⟩
  | .hbm, ⟨4, _⟩ => ⟨S1x3584, .f32⟩
  | .hbm, ⟨5, _⟩ => ⟨S256x3584, .bf16⟩
  | .local _ .vmem, ⟨0, _⟩ => ⟨S256x14336, .fp8e4m3⟩
  | .local _ .vmem, ⟨1, _⟩ => ⟨S256x1, .f32⟩
  | .local _ .vmem, ⟨2, _⟩ => ⟨S256x7168, .i8⟩
  | .local _ .vmem, ⟨3, _⟩ => ⟨S256x7168, .i8⟩
  | .local _ .vmem, ⟨4, _⟩ => ⟨S256x112, .i8⟩
  | .local _ .vmem, ⟨5, _⟩ => ⟨S256x112, .i8⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | .local _ .vmem, ⟨10, _⟩ => ⟨S112x256, .i32⟩
  | _, _ => ⟨S256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x112 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference.lean ====
abbrev S256x14336 : Shape := ⟨2, ![256, 14336]⟩
abbrev S256x1 : Shape := ⟨2, ![256, 1]⟩
abbrev S3584x7168 : Shape := ⟨2, ![3584, 7168]⟩
abbrev S3584x112 : Shape := ⟨2, ![3584, 112]⟩
abbrev S1x3584 : Shape := ⟨2, ![1, 3584]⟩
abbrev S256x3584 : Shape := ⟨2, ![256, 3584]⟩
abbrev S256x7168 : Shape := ⟨2, ![256, 7168]⟩
abbrev S3584x56 : Shape := ⟨2, ![3584, 56]⟩
abbrev S3584x56x128 : Shape := ⟨3, ![3584, 56, 128]⟩
abbrev S3584x56x1 : Shape := ⟨3, ![3584, 56, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x14336, .fp8e4m3⟩
  | .hbm, ⟨1, _⟩ => ⟨S256x1, .f32⟩
  | .hbm, ⟨2, _⟩ => ⟨S3584x7168, .i8⟩
  | .hbm, ⟨3, _⟩ => ⟨S3584x112, .i8⟩
  | .hbm, ⟨4, _⟩ => ⟨S1x3584, .f32⟩
  | .hbm, ⟨5, _⟩ => ⟨S256x3584, .bf16⟩
  | .local _ .vmem, ⟨0, _⟩ => ⟨S256x14336, .fp8e4m3⟩
  | .local _ .vmem, ⟨1, _⟩ => ⟨S256x1, .f32⟩
  | .local _ .vmem, ⟨2, _⟩ => ⟨S3584x7168, .i8⟩
  | .local _ .vmem, ⟨3, _⟩ => ⟨S3584x112, .i8⟩
  | .local _ .vmem, ⟨4, _⟩ => ⟨S1x3584, .f32⟩
  | .local _ .vmem, ⟨5, _⟩ => ⟨S256x3584, .bf16⟩
  | _, _ => ⟨S256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x112 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Rotate.lean ====
abbrev S256x14336 : Shape := ⟨2, ![256, 14336]⟩
abbrev S28x28 : Shape := ⟨2, ![28, 28]⟩
abbrev S1x256 : Shape := ⟨2, ![1, 256]⟩
abbrev S112x256x128 : Shape := ⟨3, ![112, 256, 128]⟩
abbrev S2x14336x128 : Shape := ⟨3, ![2, 14336, 128]⟩
abbrev S32x448x256 : Shape := ⟨3, ![32, 448, 256]⟩
abbrev S4 : Shape := ⟨1, ![4]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S448x28 : Shape := ⟨2, ![448, 28]⟩
abbrev S448x448 : Shape := ⟨2, ![448, 448]⟩
abbrev S128x256 : Shape := ⟨2, ![128, 256]⟩
abbrev S16x128 : Shape := ⟨2, ![16, 128]⟩
abbrev S1x16x128 : Shape := ⟨3, ![1, 16, 128]⟩
abbrev S1x448x128 : Shape := ⟨3, ![1, 448, 128]⟩
abbrev S448x128 : Shape := ⟨2, ![448, 128]⟩
abbrev S448x256 : Shape := ⟨2, ![448, 256]⟩
abbrev S1x448x256 : Shape := ⟨3, ![1, 448, 256]⟩
abbrev S8x256 : Shape := ⟨2, ![8, 256]⟩
abbrev S1x8x128 : Shape := ⟨3, ![1, 8, 128]⟩
abbrev S8x128 : Shape := ⟨2, ![8, 128]⟩
abbrev S256 : Shape := ⟨1, ![256]⟩
abbrev S32x16x256 : Shape := ⟨3, ![32, 16, 256]⟩
abbrev S512x256 : Shape := ⟨2, ![512, 256]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S256x14336, .bf16⟩
  | .hbm, ⟨1, _⟩ => ⟨S28x28, .f32⟩
  | .hbm, ⟨2, _⟩ => ⟨S256x14336, .i8⟩
  | .hbm, ⟨3, _⟩ => ⟨S256x14336, .fp8e4m3⟩
  | .hbm, ⟨4, _⟩ => ⟨S1x256, .f32⟩
  | .local _ .vmem, ⟨0, _⟩ => ⟨S28x28, .f32⟩
  | .local _ .vmem, ⟨1, _⟩ => ⟨S256x14336, .i8⟩
  | .local _ .vmem, ⟨2, _⟩ => ⟨S256x14336, .fp8e4m3⟩
  | .local _ .vmem, ⟨3, _⟩ => ⟨S1x256, .f32⟩
  | .local _ .vmem, ⟨4, _⟩ => ⟨S112x256x128, .bf16⟩
  | .local _ .vmem, ⟨5, _⟩ => ⟨S2x14336x128, .bf16⟩
  | .local _ .vmem, ⟨6, _⟩ => ⟨S32x448x256, .f32⟩
  | _, _ => ⟨S256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_631 : BitVec 32 := 0#32
  let c28_i32_632 : BitVec 32 := 28#32
  let v749 : BitVec 32 := Scalar.addi c0_i32_631 c28_i32_632
  let c1_i32_633 : BitVec 32 := 1#32
  ⟨c0_i32_631, v749, c1_i32_633⟩
def k0_off1 (k0_t1 : Fin k0_t1_loop.trips) : Fin 3 → Nat :=
  let c0_i32_1427 : BitVec 32 := 0#32
  let c0_i32_631 : BitVec 32 := 0#32
  let c1_i32_633 : BitVec 32 := 1#32
  let arg9 : BitVec 32 := Scf.iv c0_i32_631 c1_i32_633 k0_t1
  let c1_i32_1426 : BitVec 32 := 1#32
  let v1478 : BitVec 32 := Scalar.muli arg9 c1_i32_1426
  let v1479 : BitVec 32 := Scalar.addi c0_i32_1427 v1478
  let c4_i32_1428 : BitVec 32 := 4#32
  let v1480 : BitVec 32 := Scalar.muli v1479 c4_i32_1428
  let c0_i32_1429 : BitVec 32 := 0#32
  let v1481 : BitVec 32 := Scalar.addi v1480 c0_i32_1429
  let v1482 : Index := Scalar.indexCast v1481
  let c0_1430 : Index := 0#32
  let c0_1431 : Index := 0#32
  ![v1482.toNat, 0, 0]
def k0_off2 (k0_t1 : Fin k0_t1_loop.trips) (c0_i32_1433 : BitVec 32) : Fin 3 → Nat :=
  let c0_1434 : Index := 0#32
  let c0_i32_1427 : BitVec 32 := 0#32
  let c0_i32_631 : BitVec 32 := 0#32
  let c1_i32_633 : BitVec 32 := 1#32
  let arg9 : BitVec 32 := Scf.iv c0_i32_631 c1_i32_633 k0_t1
  let c1_i32_1426 : BitVec 32 := 1#32
  let v1478 : BitVec 32 := Scalar.muli arg9 c1_i32_1426
  let v1479 : BitVec 32 := Scalar.addi c0_i32_1427 v1478
  let c16_i32_1432 : BitVec 32 := 16#32
  let v1487 : BitVec 32 := Scalar.muli v1479 c16_i32_1432
  let v1488 : BitVec 32 := Scalar.addi c0_i32_1433 v1487
  let v1489 : Index := Scalar.indexCast v1488
  let c0_1435 : Index := 0#32
  ![0, v1489.toNat, 0]
def k0_off3 (k0_t1 : Fin k0_t1_loop.trips) (c0_i32_1437 : BitVec 32) : Fin 3 → Nat :=
  let c1_1438 : Index := 1#32
  let c0_i32_1427 : BitVec 32 := 0#32
  let c0_i32_631 : BitVec 32 := 0#32
  let c1_i32_633 : BitVec 32 := 1#32
  let arg9 : BitVec 32 := Scf.iv c0_i32_631 c1_i32_633 k0_t1
  let c1_i32_1426 : BitVec 32 := 1#32
  let v1478 : BitVec 32 := Scalar.muli arg9 c1_i32_1426
  let v1479 : BitVec 32 := Scalar.addi c0_i32_1427 v1478
  let c16_i32_1436 : BitVec 32 := 16#32
  let v1494 : BitVec 32 := Scalar.muli v1479 c16_i32_1436
  let v1495 : BitVec 32 := Scalar.addi c0_i32_1437 v1494
  let v1496 : Index := Scalar.indexCast v1495
  let c0_1439 : Index := 0#32
  ![1, v1496.toNat, 0]
@[reducible] def k0_t2_loop : Scf.Loop 32 :=
  let c0_i32_869 : BitVec 32 := 0#32
  let c28_i32_870 : BitVec 32 := 28#32
  let v962 : BitVec 32 := Scalar.addi c0_i32_869 c28_i32_870
  let c1_i32_871 : BitVec 32 := 1#32
  ⟨c0_i32_869, v962, c1_i32_871⟩
def k0_off4 (k0_t2 : Fin k0_t2_loop.trips) : Fin 3 → Nat :=
  let c0_i32_1427 : BitVec 32 := 0#32
  let c0_i32_869 : BitVec 32 := 0#32
  let c1_i32_871 : BitVec 32 := 1#32
  let arg9 : BitVec 32 := Scf.iv c0_i32_869 c1_i32_871 k0_t2
  let c1_i32_1426 : BitVec 32 := 1#32
  let v1478 : BitVec 32 := Scalar.muli arg9 c1_i32_1426
  let v1479 : BitVec 32 := Scalar.addi c0_i32_1427 v1478
  let c4_i32_1428 : BitVec 32 := 4#32
  let v1480 : BitVec 32 := Scalar.muli v1479 c4_i32_1428
  let c1_i32_1429 : BitVec 32 := 1#32
  let v1481 : BitVec 32 := Scalar.addi v1480 c1_i32_1429
  let v1482 : Index := Scalar.indexCast v1481
  let c0_1430 : Index := 0#32
  let c0_1431 : Index := 0#32
  ![v1482.toNat, 0, 0]
def k0_off5 (k0_t2 : Fin k0_t2_loop.trips) (c3584_i32_1433 : BitVec 32) : Fin 3 → Nat :=
  let c0_1434 : Index := 0#32
  let c0_i32_1427 : BitVec 32 := 0#32
  let c0_i32_869 : BitVec 32 := 0#32
  let c1_i32_871 : BitVec 32 := 1#32
  let arg9 : BitVec 32 := Scf.iv c0_i32_869 c1_i32_871 k0_t2
  let c1_i32_1426 : BitVec 32 := 1#32
  let v1478 : BitVec 32 := Scalar.muli arg9 c1_i32_1426
  let v1479 : BitVec 32 := Scalar.addi c0_i32_1427 v1478
  let c16_i32_1432 : BitVec 32 := 16#32
  let v1487 : BitVec 32 := Scalar.muli v1479 c16_i32_1432
  let v1488 : BitVec 32 := Scalar.addi c3584_i32_1433 v1487
  let v1489 : Index := Scalar.indexCast v1488
  let c0_1435 : Index := 0#32
  ![0, v1489.toNat, 0]
def k0_off6 (k0_t2 : Fin k0_t2_loop.trips) (c3584_i32_1437 : BitVec 32) : Fin 3 → Nat :=
  let c1_1438 : Index := 1#32
  let c0_i32_1427 : BitVec 32 := 0#32
  let c0_i32_869 : BitVec 32 := 0#32
  let c1_i32_871 : BitVec 32 := 1#32
  let arg9 : BitVec 32 := Scf.iv c0_i32_869 c1_i32_871 k0_t2
  let c1_i32_1426 : BitVec 32 := 1#32
  let v1478 : BitVec 32 := Scalar.muli arg9 c1_i32_1426
  let v1479 : BitVec 32 := Scalar.addi c0_i32_1427 v1478
  let c16_i32_1436 : BitVec 32 := 16#32
  let v1494 : BitVec 32 := Scalar.muli v1479 c16_i32_1436
  let v1495 : BitVec 32 := Scalar.addi c3584_i32_1437 v1494
  let v1496 : Index := Scalar.indexCast v1495
  let c0_1439 : Index := 0#32
  ![1, v1496.toNat, 0]
@[reducible] def k0_t3_loop : Scf.Loop 32 :=
  let c0_i32_1105 : BitVec 32 := 0#32
  let c28_i32_1106 : BitVec 32 := 28#32
  let v1175 : BitVec 32 := Scalar.addi c0_i32_1105 c28_i32_1106
  let c1_i32_1107 : BitVec 32 := 1#32
  ⟨c0_i32_1105, v1175, c1_i32_1107⟩
def k0_off7 (k0_t3 : Fin k0_t3_loop.trips) : Fin 3 → Nat :=
  let c0_i32_1427 : BitVec 32 := 0#32
  let c0_i32_1105 : BitVec 32 := 0#32
  let c1_i32_1107 : BitVec 32 := 1#32
  let arg9 : BitVec 32 := Scf.iv c0_i32_1105 c1_i32_1107 k0_t3
  let c1_i32_1426 : BitVec 32 := 1#32
  let v1478 : BitVec 32 := Scalar.muli arg9 c1_i32_1426
  let v1479 : BitVec 32 := Scalar.addi c0_i32_1427 v1478
  let c4_i32_1428 : BitVec 32 := 4#32
  let v1480 : BitVec 32 := Scalar.muli v1479 c4_i32_1428
  let c2_i32_1429 : BitVec 32 := 2#32
  let v1481 : BitVec 32 := Scalar.addi v1480 c2_i32_1429
  let v1482 : Index := Scalar.indexCast v1481
  let c0_1430 : Index := 0#32
  let c0_1431 : Index := 0#32
  ![v1482.toNat, 0, 0]
def k0_off8 (k0_t3 : Fin k0_t3_loop.trips) (c7168_i32_1433 : BitVec 32) : Fin 3 → Nat :=
  let c0_1434 : Index := 0#32
  let c0_i32_1427 : BitVec 32 := 0#32
  let c0_i32_1105 : BitVec 32 := 0#32
  let c1_i32_1107 : BitVec 32 := 1#32
  let arg9 : BitVec 32 := Scf.iv c0_i32_1105 c1_i32_1107 k0_t3
  let c1_i32_1426 : BitVec 32 := 1#32
  let v1478 : BitVec 32 := Scalar.muli arg9 c1_i32_1426
  let v1479 : BitVec 32 := Scalar.addi c0_i32_1427 v1478
  let c16_i32_1432 : BitVec 32 := 16#32
  let v1487 : BitVec 32 := Scalar.muli v1479 c16_i32_1432
  let v1488 : BitVec 32 := Scalar.addi c7168_i32_1433 v1487
  let v1489 : Index := Scalar.indexCast v1488
  let c0_1435 : Index := 0#32
  ![0, v1489.toNat, 0]
def k0_off9 (k0_t3 : Fin k0_t3_loop.trips) (c7168_i32_1437 : BitVec 32) : Fin 3 → Nat :=
  let c1_1438 : Index := 1#32
  let c0_i32_1427 : BitVec 32 := 0#32
  let c0_i32_1105 : BitVec 32 := 0#32
  let c1_i32_1107 : BitVec 32 := 1#32
  let arg9 : BitVec 32 := Scf.iv c0_i32_1105 c1_i32_1107 k0_t3
  let c1_i32_1426 : BitVec 32 := 1#32
  let v1478 : BitVec 32 := Scalar.muli arg9 c1_i32_1426
  let v1479 : BitVec 32 := Scalar.addi c0_i32_1427 v1478
  let c16_i32_1436 : BitVec 32 := 16#32
  let v1494 : BitVec 32 := Scalar.muli v1479 c16_i32_1436
  let v1495 : BitVec 32 := Scalar.addi c7168_i32_1437 v1494
  let v1496 : Index := Scalar.indexCast v1495
  let c0_1439 : Index := 0#32
  ![1, v1496.toNat, 0]
@[reducible] def k0_t4_loop : Scf.Loop 32 :=
  let c0_i32_1341 : BitVec 32 := 0#32
  let c28_i32_1342 : BitVec 32 := 28#32
  let v1388 : BitVec 32 := Scalar.addi c0_i32_1341 c28_i32_1342
  let c1_i32_1343 : BitVec 32 := 1#32
  ⟨c0_i32_1341, v1388, c1_i32_1343⟩
def k0_off10 (k0_t4 : Fin k0_t4_loop.trips) : Fin 3 → Nat :=
  let c0_i32_1427 : BitVec 32 := 0#32
  let c0_i32_1341 : BitVec 32 := 0#32
  let c1_i32_1343 : BitVec 32 := 1#32
  let arg9 : BitVec 32 := Scf.iv c0_i32_1341 c1_i32_1343 k0_t4
  let c1_i32_1426 : BitVec 32 := 1#32
  let v1478 : BitVec 32 := Scalar.muli arg9 c1_i32_1426
  let v1479 : BitVec 32 := Scalar.addi c0_i32_1427 v1478
  let c4_i32_1428 : BitVec 32 := 4#32
  let v1480 : BitVec 32 := Scalar.muli v1479 c4_i32_1428
  let c3_i32_1429 : BitVec 32 := 3#32
  let v1481 : BitVec 32 := Scalar.addi v1480 c3_i32_1429
  let v1482 : Index := Scalar.indexCast v1481
  let c0_1430 : Index := 0#32
  let c0_1431 : Index := 0#32
  ![v1482.toNat, 0, 0]
def k0_off11 (k0_t4 : Fin k0_t4_loop.trips) (c10752_i32_1433 : BitVec 32) : Fin 3 → Nat :=
  let c0_1434 : Index := 0#32
  let c0_i32_1427 : BitVec 32 := 0#32
  let c0_i32_1341 : BitVec 32 := 0#32
  let c1_i32_1343 : BitVec 32 := 1#32
  let arg9 : BitVec 32 := Scf.iv c0_i32_1341 c1_i32_1343 k0_t4
  let c1_i32_1426 : BitVec 32 := 1#32
  let v1478 : BitVec 32 := Scalar.muli arg9 c1_i32_1426
  let v1479 : BitVec 32 := Scalar.addi c0_i32_1427 v1478
  let c16_i32_1432 : BitVec 32 := 16#32
  let v1487 : BitVec 32 := Scalar.muli v1479 c16_i32_1432
  let v1488 : BitVec 32 := Scalar.addi c10752_i32_1433 v1487
  let v1489 : Index := Scalar.indexCast v1488
  let c0_1435 : Index := 0#32
  ![0, v1489.toNat, 0]
def k0_off12 (k0_t4 : Fin k0_t4_loop.trips) (c10752_i32_1437 : BitVec 32) : Fin 3 → Nat :=
  let c1_1438 : Index := 1#32
  let c0_i32_1427 : BitVec 32 := 0#32
  let c0_i32_1341 : BitVec 32 := 0#32
  let c1_i32_1343 : BitVec 32 := 1#32
  let arg9 : BitVec 32 := Scf.iv c0_i32_1341 c1_i32_1343 k0_t4
  let c1_i32_1426 : BitVec 32 := 1#32
  let v1478 : BitVec 32 := Scalar.muli arg9 c1_i32_1426
  let v1479 : BitVec 32 := Scalar.addi c0_i32_1427 v1478
  let c16_i32_1436 : BitVec 32 := 16#32
  let v1494 : BitVec 32 := Scalar.muli v1479 c16_i32_1436
  let v1495 : BitVec 32 := Scalar.addi c10752_i32_1437 v1494
  let v1496 : Index := Scalar.indexCast v1495
  let c0_1439 : Index := 0#32
  ![1, v1496.toNat, 0]
@[reducible] def k0_t5_loop : Scf.Loop 32 :=
  let c0_i32_1410 : BitVec 32 := 0#32
  let c56_i32_1411 : BitVec 32 := 56#32
  let v1462 : BitVec 32 := Scalar.addi c0_i32_1410 c56_i32_1411
  let c1_i32_1412 : BitVec 32 := 1#32
  ⟨c0_i32_1410, v1462, c1_i32_1412⟩
def k0_off13 (k0_t5 : Fin k0_t5_loop.trips) : Fin 3 → Nat :=
  let c0_1427 : Index := 0#32
  let c0_i32_1410 : BitVec 32 := 0#32
  let c1_i32_1412 : BitVec 32 := 1#32
  let arg9 : BitVec 32 := Scf.iv c0_i32_1410 c1_i32_1412 k0_t5
  let c8_i32_1426 : BitVec 32 := 8#32
  let v1478 : BitVec 32 := Scalar.muli arg9 c8_i32_1426
  let v1479 : Index := Scalar.indexCast v1478
  let c0_1428 : Index := 0#32
  ![0, v1479.toNat, 0]
def k0_off14 (k0_t5 : Fin k0_t5_loop.trips) : Fin 3 → Nat :=
  let c1_1430 : Index := 1#32
  let c0_i32_1410 : BitVec 32 := 0#32
  let c1_i32_1412 : BitVec 32 := 1#32
  let arg9 : BitVec 32 := Scf.iv c0_i32_1410 c1_i32_1412 k0_t5
  let c8_i32_1429 : BitVec 32 := 8#32
  let v1482 : BitVec 32 := Scalar.muli arg9 c8_i32_1429
  let v1483 : Index := Scalar.indexCast v1482
  let c0_1431 : Index := 0#32
  ![1, v1483.toNat, 0]
def k0_off15 (k0_t5 : Fin k0_t5_loop.trips) : Fin 3 → Nat :=
  let c2_1433 : Index := 2#32
  let c0_i32_1410 : BitVec 32 := 0#32
  let c1_i32_1412 : BitVec 32 := 1#32
  let arg9 : BitVec 32 := Scf.iv c0_i32_1410 c1_i32_1412 k0_t5
  let c8_i32_1432 : BitVec 32 := 8#32
  let v1486 : BitVec 32 := Scalar.muli arg9 c8_i32_1432
  let v1487 : Index := Scalar.indexCast v1486
  let c0_1434 : Index := 0#32
  ![2, v1487.toNat, 0]
def k0_off16 (k0_t5 : Fin k0_t5_loop.trips) : Fin 3 → Nat :=
  let c3_1436 : Index := 3#32
  let c0_i32_1410 : BitVec 32 := 0#32
  let c1_i32_1412 : BitVec 32 := 1#32
  let arg9 : BitVec 32 := Scf.iv c0_i32_1410 c1_i32_1412 k0_t5
  let c8_i32_1435 : BitVec 32 := 8#32
  let v1490 : BitVec 32 := Scalar.muli arg9 c8_i32_1435
  let v1491 : Index := Scalar.indexCast v1490
  let c0_1437 : Index := 0#32
  ![3, v1491.toNat, 0]
def k0_off17 (k0_t5 : Fin k0_t5_loop.trips) : Fin 3 → Nat :=
  let c4_1439 : Index := 4#32
  let c0_i32_1410 : BitVec 32 := 0#32
  let c1_i32_1412 : BitVec 32 := 1#32
  let arg9 : BitVec 32 := Scf.iv c0_i32_1410 c1_i32_1412 k0_t5
  let c8_i32_1438 : BitVec 32 := 8#32
  let v1494 : BitVec 32 := Scalar.muli arg9 c8_i32_1438
  let v1495 : Index := Scalar.indexCast v1494
  let c0_1440 : Index := 0#32
  ![4, v1495.toNat, 0]
def k0_off18 (k0_t5 : Fin k0_t5_loop.trips) : Fin 3 → Nat :=
  let c5_1442 : Index := 5#32
  let c0_i32_1410 : BitVec 32 := 0#32
  let c1_i32_1412 : BitVec 32 := 1#32
  let arg9 : BitVec 32 := Scf.iv c0_i32_1410 c1_i32_1412 k0_t5
  let c8_i32_1441 : BitVec 32 := 8#32
  let v1498 : BitVec 32 := Scalar.muli arg9 c8_i32_1441
  let v1499 : Index := Scalar.indexCast v1498
  let c0_1443 : Index := 0#32
  ![5, v1499.toNat, 0]
def k0_off19 (k0_t5 : Fin k0_t5_loop.trips) : Fin 3 → Nat :=
  let c6_1445 : Index := 6#32
  let c0_i32_1410 : BitVec 32 := 0#32
  let c1_i32_1412 : BitVec 32 := 1#32
  let arg9 : BitVec 32 := Scf.iv c0_i32_1410 c1_i32_1412 k0_t5
  let c8_i32_1444 : BitVec 32 := 8#32
  let v1502 : BitVec 32 := Scalar.muli arg9 c8_i32_1444
  let v1503 : Index := Scalar.indexCast v1502
  let c0_1446 : Index := 0#32
  ![6, v1503.toNat, 0]
def k0_off20 (k0_t5 : Fin k0_t5_loop.trips) : Fin 3 → Nat :=
  let c7_1448 : Index := 7#32
  let c0_i32_1410 : BitVec 32 := 0#32
  let c1_i32_1412 : BitVec 32 := 1#32
  let arg9 : BitVec 32 := Scf.iv c0_i32_1410 c1_i32_1412 k0_t5
  let c8_i32_1447 : BitVec 32 := 8#32
  let v1506 : BitVec 32 := Scalar.muli arg9 c8_i32_1447
  let v1507 : Index := Scalar.indexCast v1506
  let c0_1449 : Index := 0#32
  ![7, v1507.toNat, 0]
def k0_off21 (k0_t5 : Fin k0_t5_loop.trips) : Fin 3 → Nat :=
  let c8_1451 : Index := 8#32
  let c0_i32_1410 : BitVec 32 := 0#32
  let c1_i32_1412 : BitVec 32 := 1#32
  let arg9 : BitVec 32 := Scf.iv c0_i32_1410 c1_i32_1412 k0_t5
  let c8_i32_1450 : BitVec 32 := 8#32
  let v1510 : BitVec 32 := Scalar.muli arg9 c8_i32_1450
  let v1511 : Index := Scalar.indexCast v1510
  let c0_1452 : Index := 0#32
  ![8, v1511.toNat, 0]
def k0_off22 (k0_t5 : Fin k0_t5_loop.trips) : Fin 3 → Nat :=
  let c9_1454 : Index := 9#32
  let c0_i32_1410 : BitVec 32 := 0#32
  let c1_i32_1412 : BitVec 32 := 1#32
  let arg9 : BitVec 32 := Scf.iv c0_i32_1410 c1_i32_1412 k0_t5
  let c8_i32_1453 : BitVec 32 := 8#32
  let v1514 : BitVec 32 := Scalar.muli arg9 c8_i32_1453
  let v1515 : Index := Scalar.indexCast v1514
  let c0_1455 : Index := 0#32
  ![9, v1515.toNat, 0]
def k0_off23 (k0_t5 : Fin k0_t5_loop.trips) : Fin 3 → Nat :=
  let c10_1457 : Index := 10#32
  let c0_i32_1410 : BitVec 32 := 0#32
  let c1_i32_1412 : BitVec 32 := 1#32
  let arg9 : BitVec 32 := Scf.iv c0_i32_1410 c1_i32_1412 k0_t5
  let c8_i32_1456 : BitVec 32 := 8#32
  let v1518 : BitVec 32 := Scalar.muli arg9 c8_i32_1456
  let v1519 : Index := Scalar.indexCast v1518
  let c0_1458 : Index := 0#32
  ![10, v1519.toNat, 0]
def k0_off24 (k0_t5 : Fin k0_t5_loop.trips) : Fin 3 → Nat :=
  let c11_1460 : Index := 11#32
  let c0_i32_1410 : BitVec 32 := 0#32
  let c1_i32_1412 : BitVec 32 := 1#32
  let arg9 : BitVec 32 := Scf.iv c0_i32_1410 c1_i32_1412 k0_t5
  let c8_i32_1459 : BitVec 32 := 8#32
  let v1522 : BitVec 32 := Scalar.muli arg9 c8_i32_1459
  let v1523 : Index := Scalar.indexCast v1522
  let c0_1461 : Index := 0#32
  ![11, v1523.toNat, 0]
def k0_off25 (k0_t5 : Fin k0_t5_loop.trips) : Fin 3 → Nat :=
  let c12_1463 : Index := 12#32
  let c0_i32_1410 : BitVec 32 := 0#32
  let c1_i32_1412 : BitVec 32 := 1#32
  let arg9 : BitVec 32 := Scf.iv c0_i32_1410 c1_i32_1412 k0_t5
  let c8_i32_1462 : BitVec 32 := 8#32
  let v1526 : BitVec 32 := Scalar.muli arg9 c8_i32_1462
  let v1527 : Index := Scalar.indexCast v1526
  let c0_1464 : Index := 0#32
  ![12, v1527.toNat, 0]
def k0_off26 (k0_t5 : Fin k0_t5_loop.trips) : Fin 3 → Nat :=
  let c13_1466 : Index := 13#32
  let c0_i32_1410 : BitVec 32 := 0#32
  let c1_i32_1412 : BitVec 32 := 1#32
  let arg9 : BitVec 32 := Scf.iv c0_i32_1410 c1_i32_1412 k0_t5
  let c8_i32_1465 : BitVec 32 := 8#32
  let v1530 : BitVec 32 := Scalar.muli arg9 c8_i32_1465
  let v1531 : Index := Scalar.indexCast v1530
  let c0_1467 : Index := 0#32
  ![13, v1531.toNat, 0]
def k0_off27 (k0_t5 : Fin k0_t5_loop.trips) : Fin 3 → Nat :=
  let c14_1469 : Index := 14#32
  let c0_i32_1410 : BitVec 32 := 0#32
  let c1_i32_1412 : BitVec 32 := 1#32
  let arg9 : BitVec 32 := Scf.iv c0_i32_1410 c1_i32_1412 k0_t5
  let c8_i32_1468 : BitVec 32 := 8#32
  let v1534 : BitVec 32 := Scalar.muli arg9 c8_i32_1468
  let v1535 : Index := Scalar.indexCast v1534
  let c0_1470 : Index := 0#32
  ![14, v1535.toNat, 0]
def k0_off28 (k0_t5 : Fin k0_t5_loop.trips) : Fin 3 → Nat :=
  let c15_1472 : Index := 15#32
  let c0_i32_1410 : BitVec 32 := 0#32
  let c1_i32_1412 : BitVec 32 := 1#32
  let arg9 : BitVec 32 := Scf.iv c0_i32_1410 c1_i32_1412 k0_t5
  let c8_i32_1471 : BitVec 32 := 8#32
  let v1538 : BitVec 32 := Scalar.muli arg9 c8_i32_1471
  let v1539 : Index := Scalar.indexCast v1538
  let c0_1473 : Index := 0#32
  ![15, v1539.toNat, 0]
def k0_off29 (k0_t5 : Fin k0_t5_loop.trips) : Fin 3 → Nat :=
  let c16_1475 : Index := 16#32
  let c0_i32_1410 : BitVec 32 := 0#32
  let c1_i32_1412 : BitVec 32 := 1#32
  let arg9 : BitVec 32 := Scf.iv c0_i32_1410 c1_i32_1412 k0_t5
  let c8_i32_1474 : BitVec 32 := 8#32
  let v1542 : BitVec 32 := Scalar.muli arg9 c8_i32_1474
  let v1543 : Index := Scalar.indexCast v1542
  let c0_1476 : Index := 0#32
  ![16, v1543.toNat, 0]
def k0_off30 (k0_t5 : Fin k0_t5_loop.trips) : Fin 3 → Nat :=
  let c17_1478 : Index := 17#32
  let c0_i32_1410 : BitVec 32 := 0#32
  let c1_i32_1412 : BitVec 32 := 1#32
  let arg9 : BitVec 32 := Scf.iv c0_i32_1410 c1_i32_1412 k0_t5
  let c8_i32_1477 : BitVec 32 := 8#32
  let v1546 : BitVec 32 := Scalar.muli arg9 c8_i32_1477
  let v1547 : Index := Scalar.indexCast v1546
  let c0_1479 : Index := 0#32
  ![17, v1547.toNat, 0]
def k0_off31 (k0_t5 : Fin k0_t5_loop.trips) : Fin 3 → Nat :=
  let c18_1481 : Index := 18#32
  let c0_i32_1410 : BitVec 32 := 0#32
  let c1_i32_1412 : BitVec 32 := 1#32
  let arg9 : BitVec 32 := Scf.iv c0_i32_1410 c1_i32_1412 k0_t5
  let c8_i32_1480 : BitVec 32 := 8#32
  let v1550 : BitVec 32 := Scalar.muli arg9 c8_i32_1480
  let v1551 : Index := Scalar.indexCast v1550
  let c0_1482 : Index := 0#32
  ![18, v1551.toNat, 0]
def k0_off32 (k0_t5 : Fin k0_t5_loop.trips) : Fin 3 → Nat :=
  let c19_1484 : Index := 19#32
  let c0_i32_1410 : BitVec 32 := 0#32
  let c1_i32_1412 : BitVec 32 := 1#32
  let arg9 : BitVec 32 := Scf.iv c0_i32_1410 c1_i32_1412 k0_t5
  let c8_i32_1483 : BitVec 32 := 8#32
  let v1554 : BitVec 32 := Scalar.muli arg9 c8_i32_1483
  let v1555 : Index := Scalar.indexCast v1554
  let c0_1485 : Index := 0#32
  ![19, v1555.toNat, 0]
def k0_off33 (k0_t5 : Fin k0_t5_loop.trips) : Fin 3 → Nat :=
  let c20_1487 : Index := 20#32
  let c0_i32_1410 : BitVec 32 := 0#32
  let c1_i32_1412 : BitVec 32 := 1#32
  let arg9 : BitVec 32 := Scf.iv c0_i32_1410 c1_i32_1412 k0_t5
  let c8_i32_1486 : BitVec 32 := 8#32
  let v1558 : BitVec 32 := Scalar.muli arg9 c8_i32_1486
  let v1559 : Index := Scalar.indexCast v1558
  let c0_1488 : Index := 0#32
  ![20, v1559.toNat, 0]
def k0_off34 (k0_t5 : Fin k0_t5_loop.trips) : Fin 3 → Nat :=
  let c21_1490 : Index := 21#32
  let c0_i32_1410 : BitVec 32 := 0#32
  let c1_i32_1412 : BitVec 32 := 1#32
  let arg9 : BitVec 32 := Scf.iv c0_i32_1410 c1_i32_1412 k0_t5
  let c8_i32_1489 : BitVec 32 := 8#32
  let v1562 : BitVec 32 := Scalar.muli arg9 c8_i32_1489
  let v1563 : Index := Scalar.indexCast v1562
  let c0_1491 : Index := 0#32
  ![21, v1563.toNat, 0]
def k0_off35 (k0_t5 : Fin k0_t5_loop.trips) : Fin 3 → Nat :=
  let c22_1493 : Index := 22#32
  let c0_i32_1410 : BitVec 32 := 0#32
  let c1_i32_1412 : BitVec 32 := 1#32
  let arg9 : BitVec 32 := Scf.iv c0_i32_1410 c1_i32_1412 k0_t5
  let c8_i32_1492 : BitVec 32 := 8#32
  let v1566 : BitVec 32 := Scalar.muli arg9 c8_i32_1492
  let v1567 : Index := Scalar.indexCast v1566
  let c0_1494 : Index := 0#32
  ![22, v1567.toNat, 0]
def k0_off36 (k0_t5 : Fin k0_t5_loop.trips) : Fin 3 → Nat :=
  let c23_1496 : Index := 23#32
  let c0_i32_1410 : BitVec 32 := 0#32
  let c1_i32_1412 : BitVec 32 := 1#32
  let arg9 : BitVec 32 := Scf.iv c0_i32_1410 c1_i32_1412 k0_t5
  let c8_i32_1495 : BitVec 32 := 8#32
  let v1570 : BitVec 32 := Scalar.muli arg9 c8_i32_1495
  let v1571 : Index := Scalar.indexCast v1570
  let c0_1497 : Index := 0#32
  ![23, v1571.toNat, 0]
def k0_off37 (k0_t5 : Fin k0_t5_loop.trips) : Fin 3 → Nat :=
  let c24_1499 : Index := 24#32
  let c0_i32_1410 : BitVec 32 := 0#32
  let c1_i32_1412 : BitVec 32 := 1#32
  let arg9 : BitVec 32 := Scf.iv c0_i32_1410 c1_i32_1412 k0_t5
  let c8_i32_1498 : BitVec 32 := 8#32
  let v1574 : BitVec 32 := Scalar.muli arg9 c8_i32_1498
  let v1575 : Index := Scalar.indexCast v1574
  let c0_1500 : Index := 0#32
  ![24, v1575.toNat, 0]
def k0_off38 (k0_t5 : Fin k0_t5_loop.trips) : Fin 3 → Nat :=
  let c25_1502 : Index := 25#32
  let c0_i32_1410 : BitVec 32 := 0#32
  let c1_i32_1412 : BitVec 32 := 1#32
  let arg9 : BitVec 32 := Scf.iv c0_i32_1410 c1_i32_1412 k0_t5
  let c8_i32_1501 : BitVec 32 := 8#32
  let v1578 : BitVec 32 := Scalar.muli arg9 c8_i32_1501
  let v1579 : Index := Scalar.indexCast v1578
  let c0_1503 : Index := 0#32
  ![25, v1579.toNat, 0]
def k0_off39 (k0_t5 : Fin k0_t5_loop.trips) : Fin 3 → Nat :=
  let c26_1505 : Index := 26#32
  let c0_i32_1410 : BitVec 32 := 0#32
  let c1_i32_1412 : BitVec 32 := 1#32
  let arg9 : BitVec 32 := Scf.iv c0_i32_1410 c1_i32_1412 k0_t5
  let c8_i32_1504 : BitVec 32 := 8#32
  let v1582 : BitVec 32 := Scalar.muli arg9 c8_i32_1504
  let v1583 : Index := Scalar.indexCast v1582
  let c0_1506 : Index := 0#32
  ![26, v1583.toNat, 0]
def k0_off40 (k0_t5 : Fin k0_t5_loop.trips) : Fin 3 → Nat :=
  let c27_1508 : Index := 27#32
  let c0_i32_1410 : BitVec 32 := 0#32
  let c1_i32_1412 : BitVec 32 := 1#32
  let arg9 : BitVec 32 := Scf.iv c0_i32_1410 c1_i32_1412 k0_t5
  let c8_i32_1507 : BitVec 32 := 8#32
  let v1586 : BitVec 32 := Scalar.muli arg9 c8_i32_1507
  let v1587 : Index := Scalar.indexCast v1586
  let c0_1509 : Index := 0#32
  ![27, v1587.toNat, 0]
def k0_off41 (k0_t5 : Fin k0_t5_loop.trips) : Fin 3 → Nat :=
  let c28_1511 : Index := 28#32
  let c0_i32_1410 : BitVec 32 := 0#32
  let c1_i32_1412 : BitVec 32 := 1#32
  let arg9 : BitVec 32 := Scf.iv c0_i32_1410 c1_i32_1412 k0_t5
  let c8_i32_1510 : BitVec 32 := 8#32
  let v1590 : BitVec 32 := Scalar.muli arg9 c8_i32_1510
  let v1591 : Index := Scalar.indexCast v1590
  let c0_1512 : Index := 0#32
  ![28, v1591.toNat, 0]
def k0_off42 (k0_t5 : Fin k0_t5_loop.trips) : Fin 3 → Nat :=
  let c29_1514 : Index := 29#32
  let c0_i32_1410 : BitVec 32 := 0#32
  let c1_i32_1412 : BitVec 32 := 1#32
  let arg9 : BitVec 32 := Scf.iv c0_i32_1410 c1_i32_1412 k0_t5
  let c8_i32_1513 : BitVec 32 := 8#32
  let v1594 : BitVec 32 := Scalar.muli arg9 c8_i32_1513
  let v1595 : Index := Scalar.indexCast v1594
  let c0_1515 : Index := 0#32
  ![29, v1595.toNat, 0]
def k0_off43 (k0_t5 : Fin k0_t5_loop.trips) : Fin 3 → Nat :=
  let c30_1517 : Index := 30#32
  let c0_i32_1410 : BitVec 32 := 0#32
  let c1_i32_1412 : BitVec 32 := 1#32
  let arg9 : BitVec 32 := Scf.iv c0_i32_1410 c1_i32_1412 k0_t5
  let c8_i32_1516 : BitVec 32 := 8#32
  let v1598 : BitVec 32 := Scalar.muli arg9 c8_i32_1516
  let v1599 : Index := Scalar.indexCast v1598
  let c0_1518 : Index := 0#32
  ![30, v1599.toNat, 0]
def k0_off44 (k0_t5 : Fin k0_t5_loop.trips) : Fin 3 → Nat :=
  let c31_1520 : Index := 31#32
  let c0_i32_1410 : BitVec 32 := 0#32
  let c1_i32_1412 : BitVec 32 := 1#32
  let arg9 : BitVec 32 := Scf.iv c0_i32_1410 c1_i32_1412 k0_t5
  let c8_i32_1519 : BitVec 32 := 8#32
  let v1602 : BitVec 32 := Scalar.muli arg9 c8_i32_1519
  let v1603 : Index := Scalar.indexCast v1602
  let c0_1521 : Index := 0#32
  ![31, v1603.toNat, 0]
def k0_off45 (k0_t5 : Fin k0_t5_loop.trips) : Fin 3 → Nat :=
  let c0_1619 : Index := 0#32
  let c0_i32_1410 : BitVec 32 := 0#32
  let c1_i32_1412 : BitVec 32 := 1#32
  let arg9 : BitVec 32 := Scf.iv c0_i32_1410 c1_i32_1412 k0_t5
  let c8_i32_1618 : BitVec 32 := 8#32
  let v1991 : BitVec 32 := Scalar.muli arg9 c8_i32_1618
  let v1992 : Index := Scalar.indexCast v1991
  let c128 : Index := 128#32
  ![0, v1992.toNat, 128]
def k0_off46 (k0_t5 : Fin k0_t5_loop.trips) : Fin 3 → Nat :=
  let c1_1621 : Index := 1#32
  let c0_i32_1410 : BitVec 32 := 0#32
  let c1_i32_1412 : BitVec 32 := 1#32
  let arg9 : BitVec 32 := Scf.iv c0_i32_1410 c1_i32_1412 k0_t5
  let c8_i32_1620 : BitVec 32 := 8#32
  let v1995 : BitVec 32 := Scalar.muli arg9 c8_i32_1620
  let v1996 : Index := Scalar.indexCast v1995
  let c128_1622 : Index := 128#32
  ![1, v1996.toNat, 128]
def k0_off47 (k0_t5 : Fin k0_t5_loop.trips) : Fin 3 → Nat :=
  let c2_1624 : Index := 2#32
  let c0_i32_1410 : BitVec 32 := 0#32
  let c1_i32_1412 : BitVec 32 := 1#32
  let arg9 : BitVec 32 := Scf.iv c0_i32_1410 c1_i32_1412 k0_t5
  let c8_i32_1623 : BitVec 32 := 8#32
  let v1999 : BitVec 32 := Scalar.muli arg9 c8_i32_1623
  let v2000 : Index := Scalar.indexCast v1999
  let c128_1625 : Index := 128#32
  ![2, v2000.toNat, 128]
def k0_off48 (k0_t5 : Fin k0_t5_loop.trips) : Fin 3 → Nat :=
  let c3_1627 : Index := 3#32
  let c0_i32_1410 : BitVec 32 := 0#32
  let c1_i32_1412 : BitVec 32 := 1#32
  let arg9 : BitVec 32 := Scf.iv c0_i32_1410 c1_i32_1412 k0_t5
  let c8_i32_1626 : BitVec 32 := 8#32
  let v2003 : BitVec 32 := Scalar.muli arg9 c8_i32_1626
  let v2004 : Index := Scalar.indexCast v2003
  let c128_1628 : Index := 128#32
  ![3, v2004.toNat, 128]
def k0_off49 (k0_t5 : Fin k0_t5_loop.trips) : Fin 3 → Nat :=
  let c4_1630 : Index := 4#32
  let c0_i32_1410 : BitVec 32 := 0#32
  let c1_i32_1412 : BitVec 32 := 1#32
  let arg9 : BitVec 32 := Scf.iv c0_i32_1410 c1_i32_1412 k0_t5
  let c8_i32_1629 : BitVec 32 := 8#32
  let v2007 : BitVec 32 := Scalar.muli arg9 c8_i32_1629
  let v2008 : Index := Scalar.indexCast v2007
  let c128_1631 : Index := 128#32
  ![4, v2008.toNat, 128]
def k0_off50 (k0_t5 : Fin k0_t5_loop.trips) : Fin 3 → Nat :=
  let c5_1633 : Index := 5#32
  let c0_i32_1410 : BitVec 32 := 0#32
  let c1_i32_1412 : BitVec 32 := 1#32
  let arg9 : BitVec 32 := Scf.iv c0_i32_1410 c1_i32_1412 k0_t5
  let c8_i32_1632 : BitVec 32 := 8#32
  let v2011 : BitVec 32 := Scalar.muli arg9 c8_i32_1632
  let v2012 : Index := Scalar.indexCast v2011
  let c128_1634 : Index := 128#32
  ![5, v2012.toNat, 128]
def k0_off51 (k0_t5 : Fin k0_t5_loop.trips) : Fin 3 → Nat :=
  let c6_1636 : Index := 6#32
  let c0_i32_1410 : BitVec 32 := 0#32
  let c1_i32_1412 : BitVec 32 := 1#32
  let arg9 : BitVec 32 := Scf.iv c0_i32_1410 c1_i32_1412 k0_t5
  let c8_i32_1635 : BitVec 32 := 8#32
  let v2015 : BitVec 32 := Scalar.muli arg9 c8_i32_1635
  let v2016 : Index := Scalar.indexCast v2015
  let c128_1637 : Index := 128#32
  ![6, v2016.toNat, 128]
def k0_off52 (k0_t5 : Fin k0_t5_loop.trips) : Fin 3 → Nat :=
  let c7_1639 : Index := 7#32
  let c0_i32_1410 : BitVec 32 := 0#32
  let c1_i32_1412 : BitVec 32 := 1#32
  let arg9 : BitVec 32 := Scf.iv c0_i32_1410 c1_i32_1412 k0_t5
  let c8_i32_1638 : BitVec 32 := 8#32
  let v2019 : BitVec 32 := Scalar.muli arg9 c8_i32_1638
  let v2020 : Index := Scalar.indexCast v2019
  let c128_1640 : Index := 128#32
  ![7, v2020.toNat, 128]
def k0_off53 (k0_t5 : Fin k0_t5_loop.trips) : Fin 3 → Nat :=
  let c8_1642 : Index := 8#32
  let c0_i32_1410 : BitVec 32 := 0#32
  let c1_i32_1412 : BitVec 32 := 1#32
  let arg9 : BitVec 32 := Scf.iv c0_i32_1410 c1_i32_1412 k0_t5
  let c8_i32_1641 : BitVec 32 := 8#32
  let v2023 : BitVec 32 := Scalar.muli arg9 c8_i32_1641
  let v2024 : Index := Scalar.indexCast v2023
  let c128_1643 : Index := 128#32
  ![8, v2024.toNat, 128]
def k0_off54 (k0_t5 : Fin k0_t5_loop.trips) : Fin 3 → Nat :=
  let c9_1645 : Index := 9#32
  let c0_i32_1410 : BitVec 32 := 0#32
  let c1_i32_1412 : BitVec 32 := 1#32
  let arg9 : BitVec 32 := Scf.iv c0_i32_1410 c1_i32_1412 k0_t5
  let c8_i32_1644 : BitVec 32 := 8#32
  let v2027 : BitVec 32 := Scalar.muli arg9 c8_i32_1644
  let v2028 : Index := Scalar.indexCast v2027
  let c128_1646 : Index := 128#32
  ![9, v2028.toNat, 128]
def k0_off55 (k0_t5 : Fin k0_t5_loop.trips) : Fin 3 → Nat :=
  let c10_1648 : Index := 10#32
  let c0_i32_1410 : BitVec 32 := 0#32
  let c1_i32_1412 : BitVec 32 := 1#32
  let arg9 : BitVec 32 := Scf.iv c0_i32_1410 c1_i32_1412 k0_t5
  let c8_i32_1647 : BitVec 32 := 8#32
  let v2031 : BitVec 32 := Scalar.muli arg9 c8_i32_1647
  let v2032 : Index := Scalar.indexCast v2031
  let c128_1649 : Index := 128#32
  ![10, v2032.toNat, 128]
def k0_off56 (k0_t5 : Fin k0_t5_loop.trips) : Fin 3 → Nat :=
  let c11_1651 : Index := 11#32
  let c0_i32_1410 : BitVec 32 := 0#32
  let c1_i32_1412 : BitVec 32 := 1#32
  let arg9 : BitVec 32 := Scf.iv c0_i32_1410 c1_i32_1412 k0_t5
  let c8_i32_1650 : BitVec 32 := 8#32
  let v2035 : BitVec 32 := Scalar.muli arg9 c8_i32_1650
  let v2036 : Index := Scalar.indexCast v2035
  let c128_1652 : Index := 128#32
  ![11, v2036.toNat, 128]
def k0_off57 (k0_t5 : Fin k0_t5_loop.trips) : Fin 3 → Nat :=
  let c12_1654 : Index := 12#32
  let c0_i32_1410 : BitVec 32 := 0#32
  let c1_i32_1412 : BitVec 32 := 1#32
  let arg9 : BitVec 32 := Scf.iv c0_i32_1410 c1_i32_1412 k0_t5
  let c8_i32_1653 : BitVec 32 := 8#32
  let v2039 : BitVec 32 := Scalar.muli arg9 c8_i32_1653
  let v2040 : Index := Scalar.indexCast v2039
  let c128_1655 : Index := 128#32
  ![12, v2040.toNat, 128]
def k0_off58 (k0_t5 : Fin k0_t5_loop.trips) : Fin 3 → Nat :=
  let c13_1657 : Index := 13#32
  let c0_i32_1410 : BitVec 32 := 0#32
  let c1_i32_1412 : BitVec 32 := 1#32
  let arg9 : BitVec 32 := Scf.iv c0_i32_1410 c1_i32_1412 k0_t5
  let c8_i32_1656 : BitVec 32 := 8#32
  let v2043 : BitVec 32 := Scalar.muli arg9 c8_i32_1656
  let v2044 : Index := Scalar.indexCast v2043
  let c128_1658 : Index := 128#32
  ![13, v2044.toNat, 128]
def k0_off59 (k0_t5 : Fin k0_t5_loop.trips) : Fin 3 → Nat :=
  let c14_1660 : Index := 14#32
  let c0_i32_1410 : BitVec 32 := 0#32
  let c1_i32_1412 : BitVec 32 := 1#32
  let arg9 : BitVec 32 := Scf.iv c0_i32_1410 c1_i32_1412 k0_t5
  let c8_i32_1659 : BitVec 32 := 8#32
  let v2047 : BitVec 32 := Scalar.muli arg9 c8_i32_1659
  let v2048 : Index := Scalar.indexCast v2047
  let c128_1661 : Index := 128#32
  ![14, v2048.toNat, 128]
def k0_off60 (k0_t5 : Fin k0_t5_loop.trips) : Fin 3 → Nat :=
  let c15_1663 : Index := 15#32
  let c0_i32_1410 : BitVec 32 := 0#32
  let c1_i32_1412 : BitVec 32 := 1#32
  let arg9 : BitVec 32 := Scf.iv c0_i32_1410 c1_i32_1412 k0_t5
  let c8_i32_1662 : BitVec 32 := 8#32
  let v2051 : BitVec 32 := Scalar.muli arg9 c8_i32_1662
  let v2052 : Index := Scalar.indexCast v2051
  let c128_1664 : Index := 128#32
  ![15, v2052.toNat, 128]
def k0_off61 (k0_t5 : Fin k0_t5_loop.trips) : Fin 3 → Nat :=
  let c16_1666 : Index := 16#32
  let c0_i32_1410 : BitVec 32 := 0#32
  let c1_i32_1412 : BitVec 32 := 1#32
  let arg9 : BitVec 32 := Scf.iv c0_i32_1410 c1_i32_1412 k0_t5
  let c8_i32_1665 : BitVec 32 := 8#32
  let v2055 : BitVec 32 := Scalar.muli arg9 c8_i32_1665
  let v2056 : Index := Scalar.indexCast v2055
  let c128_1667 : Index := 128#32
  ![16, v2056.toNat, 128]
def k0_off62 (k0_t5 : Fin k0_t5_loop.trips) : Fin 3 → Nat :=
  let c17_1669 : Index := 17#32
  let c0_i32_1410 : BitVec 32 := 0#32
  let c1_i32_1412 : BitVec 32 := 1#32
  let arg9 : BitVec 32 := Scf.iv c0_i32_1410 c1_i32_1412 k0_t5
  let c8_i32_1668 : BitVec 32 := 8#32
  let v2059 : BitVec 32 := Scalar.muli arg9 c8_i32_1668
  let v2060 : Index := Scalar.indexCast v2059
  let c128_1670 : Index := 128#32
  ![17, v2060.toNat, 128]
def k0_off63 (k0_t5 : Fin k0_t5_loop.trips) : Fin 3 → Nat :=
  let c18_1672 : Index := 18#32
  let c0_i32_1410 : BitVec 32 := 0#32
  let c1_i32_1412 : BitVec 32 := 1#32
  let arg9 : BitVec 32 := Scf.iv c0_i32_1410 c1_i32_1412 k0_t5
  let c8_i32_1671 : BitVec 32 := 8#32
  let v2063 : BitVec 32 := Scalar.muli arg9 c8_i32_1671
  let v2064 : Index := Scalar.indexCast v2063
  let c128_1673 : Index := 128#32
  ![18, v2064.toNat, 128]
def k0_off64 (k0_t5 : Fin k0_t5_loop.trips) : Fin 3 → Nat :=
  let c19_1675 : Index := 19#32
  let c0_i32_1410 : BitVec 32 := 0#32
  let c1_i32_1412 : BitVec 32 := 1#32
  let arg9 : BitVec 32 := Scf.iv c0_i32_1410 c1_i32_1412 k0_t5
  let c8_i32_1674 : BitVec 32 := 8#32
  let v2067 : BitVec 32 := Scalar.muli arg9 c8_i32_1674
  let v2068 : Index := Scalar.indexCast v2067
  let c128_1676 : Index := 128#32
  ![19, v2068.toNat, 128]
def k0_off65 (k0_t5 : Fin k0_t5_loop.trips) : Fin 3 → Nat :=
  let c20_1678 : Index := 20#32
  let c0_i32_1410 : BitVec 32 := 0#32
  let c1_i32_1412 : BitVec 32 := 1#32
  let arg9 : BitVec 32 := Scf.iv c0_i32_1410 c1_i32_1412 k0_t5
  let c8_i32_1677 : BitVec 32 := 8#32
  let v2071 : BitVec 32 := Scalar.muli arg9 c8_i32_1677
  let v2072 : Index := Scalar.indexCast v2071
  let c128_1679 : Index := 128#32
  ![20, v2072.toNat, 128]
def k0_off66 (k0_t5 : Fin k0_t5_loop.trips) : Fin 3 → Nat :=
  let c21_1681 : Index := 21#32
  let c0_i32_1410 : BitVec 32 := 0#32
  let c1_i32_1412 : BitVec 32 := 1#32
  let arg9 : BitVec 32 := Scf.iv c0_i32_1410 c1_i32_1412 k0_t5
  let c8_i32_1680 : BitVec 32 := 8#32
  let v2075 : BitVec 32 := Scalar.muli arg9 c8_i32_1680
  let v2076 : Index := Scalar.indexCast v2075
  let c128_1682 : Index := 128#32
  ![21, v2076.toNat, 128]
def k0_off67 (k0_t5 : Fin k0_t5_loop.trips) : Fin 3 → Nat :=
  let c22_1684 : Index := 22#32
  let c0_i32_1410 : BitVec 32 := 0#32
  let c1_i32_1412 : BitVec 32 := 1#32
  let arg9 : BitVec 32 := Scf.iv c0_i32_1410 c1_i32_1412 k0_t5
  let c8_i32_1683 : BitVec 32 := 8#32
  let v2079 : BitVec 32 := Scalar.muli arg9 c8_i32_1683
  let v2080 : Index := Scalar.indexCast v2079
  let c128_1685 : Index := 128#32
  ![22, v2080.toNat, 128]
def k0_off68 (k0_t5 : Fin k0_t5_loop.trips) : Fin 3 → Nat :=
  let c23_1687 : Index := 23#32
  let c0_i32_1410 : BitVec 32 := 0#32
  let c1_i32_1412 : BitVec 32 := 1#32
  let arg9 : BitVec 32 := Scf.iv c0_i32_1410 c1_i32_1412 k0_t5
  let c8_i32_1686 : BitVec 32 := 8#32
  let v2083 : BitVec 32 := Scalar.muli arg9 c8_i32_1686
  let v2084 : Index := Scalar.indexCast v2083
  let c128_1688 : Index := 128#32
  ![23, v2084.toNat, 128]
def k0_off69 (k0_t5 : Fin k0_t5_loop.trips) : Fin 3 → Nat :=
  let c24_1690 : Index := 24#32
  let c0_i32_1410 : BitVec 32 := 0#32
  let c1_i32_1412 : BitVec 32 := 1#32
  let arg9 : BitVec 32 := Scf.iv c0_i32_1410 c1_i32_1412 k0_t5
  let c8_i32_1689 : BitVec 32 := 8#32
  let v2087 : BitVec 32 := Scalar.muli arg9 c8_i32_1689
  let v2088 : Index := Scalar.indexCast v2087
  let c128_1691 : Index := 128#32
  ![24, v2088.toNat, 128]
def k0_off70 (k0_t5 : Fin k0_t5_loop.trips) : Fin 3 → Nat :=
  let c25_1693 : Index := 25#32
  let c0_i32_1410 : BitVec 32 := 0#32
  let c1_i32_1412 : BitVec 32 := 1#32
  let arg9 : BitVec 32 := Scf.iv c0_i32_1410 c1_i32_1412 k0_t5
  let c8_i32_1692 : BitVec 32 := 8#32
  let v2091 : BitVec 32 := Scalar.muli arg9 c8_i32_1692
  let v2092 : Index := Scalar.indexCast v2091
  let c128_1694 : Index := 128#32
  ![25, v2092.toNat, 128]
def k0_off71 (k0_t5 : Fin k0_t5_loop.trips) : Fin 3 → Nat :=
  let c26_1696 : Index := 26#32
  let c0_i32_1410 : BitVec 32 := 0#32
  let c1_i32_1412 : BitVec 32 := 1#32
  let arg9 : BitVec 32 := Scf.iv c0_i32_1410 c1_i32_1412 k0_t5
  let c8_i32_1695 : BitVec 32 := 8#32
  let v2095 : BitVec 32 := Scalar.muli arg9 c8_i32_1695
  let v2096 : Index := Scalar.indexCast v2095
  let c128_1697 : Index := 128#32
  ![26, v2096.toNat, 128]
def k0_off72 (k0_t5 : Fin k0_t5_loop.trips) : Fin 3 → Nat :=
  let c27_1699 : Index := 27#32
  let c0_i32_1410 : BitVec 32 := 0#32
  let c1_i32_1412 : BitVec 32 := 1#32
  let arg9 : BitVec 32 := Scf.iv c0_i32_1410 c1_i32_1412 k0_t5
  let c8_i32_1698 : BitVec 32 := 8#32
  let v2099 : BitVec 32 := Scalar.muli arg9 c8_i32_1698
  let v2100 : Index := Scalar.indexCast v2099
  let c128_1700 : Index := 128#32
  ![27, v2100.toNat, 128]
def k0_off73 (k0_t5 : Fin k0_t5_loop.trips) : Fin 3 → Nat :=
  let c28_1702 : Index := 28#32
  let c0_i32_1410 : BitVec 32 := 0#32
  let c1_i32_1412 : BitVec 32 := 1#32
  let arg9 : BitVec 32 := Scf.iv c0_i32_1410 c1_i32_1412 k0_t5
  let c8_i32_1701 : BitVec 32 := 8#32
  let v2103 : BitVec 32 := Scalar.muli arg9 c8_i32_1701
  let v2104 : Index := Scalar.indexCast v2103
  let c128_1703 : Index := 128#32
  ![28, v2104.toNat, 128]
def k0_off74 (k0_t5 : Fin k0_t5_loop.trips) : Fin 3 → Nat :=
  let c29_1705 : Index := 29#32
  let c0_i32_1410 : BitVec 32 := 0#32
  let c1_i32_1412 : BitVec 32 := 1#32
  let arg9 : BitVec 32 := Scf.iv c0_i32_1410 c1_i32_1412 k0_t5
  let c8_i32_1704 : BitVec 32 := 8#32
  let v2107 : BitVec 32 := Scalar.muli arg9 c8_i32_1704
  let v2108 : Index := Scalar.indexCast v2107
  let c128_1706 : Index := 128#32
  ![29, v2108.toNat, 128]
def k0_off75 (k0_t5 : Fin k0_t5_loop.trips) : Fin 3 → Nat :=
  let c30_1708 : Index := 30#32
  let c0_i32_1410 : BitVec 32 := 0#32
  let c1_i32_1412 : BitVec 32 := 1#32
  let arg9 : BitVec 32 := Scf.iv c0_i32_1410 c1_i32_1412 k0_t5
  let c8_i32_1707 : BitVec 32 := 8#32
  let v2111 : BitVec 32 := Scalar.muli arg9 c8_i32_1707
  let v2112 : Index := Scalar.indexCast v2111
  let c128_1709 : Index := 128#32
  ![30, v2112.toNat, 128]
def k0_off76 (k0_t5 : Fin k0_t5_loop.trips) : Fin 3 → Nat :=
  let c31_1711 : Index := 31#32
  let c0_i32_1410 : BitVec 32 := 0#32
  let c1_i32_1412 : BitVec 32 := 1#32
  let arg9 : BitVec 32 := Scf.iv c0_i32_1410 c1_i32_1412 k0_t5
  let c8_i32_1710 : BitVec 32 := 8#32
  let v2115 : BitVec 32 := Scalar.muli arg9 c8_i32_1710
  let v2116 : Index := Scalar.indexCast v2115
  let c128_1712 : Index := 128#32
  ![31, v2116.toNat, 128]
@[reducible] def k0_t6_loop : Scf.Loop 32 :=
  let c0_i32_1422 : BitVec 32 := 0#32
  let c28_i32_1423 : BitVec 32 := 28#32
  let v1477 : BitVec 32 := Scalar.addi c0_i32_1422 c28_i32_1423
  let c1_i32_1424 : BitVec 32 := 1#32
  ⟨c0_i32_1422, v1477, c1_i32_1424⟩
def k0_off77 (k0_t6 : Fin k0_t6_loop.trips) : Fin 3 → Nat :=
  let c0_1429 : Index := 0#32
  let c0_i32_1427 : BitVec 32 := 0#32
  let c0_i32_1422 : BitVec 32 := 0#32
  let c1_i32_1424 : BitVec 32 := 1#32
  let arg9 : BitVec 32 := Scf.iv c0_i32_1422 c1_i32_1424 k0_t6
  let c1_i32_1426 : BitVec 32 := 1#32
  let v1478 : BitVec 32 := Scalar.muli arg9 c1_i32_1426
  let v1479 : BitVec 32 := Scalar.addi c0_i32_1427 v1478
  let c16_i32_1428 : BitVec 32 := 16#32
  let v1480 : BitVec 32 := Scalar.muli v1479 c16_i32_1428
  let v1481 : Index := Scalar.indexCast v1480
  let c0_1430 : Index := 0#32
  ![0, v1481.toNat, 0]
def k0_off78 (k0_t6 : Fin k0_t6_loop.trips) : Fin 2 → Nat :=
  let c0_1434 : Index := 0#32
  let c0_i32_1427 : BitVec 32 := 0#32
  let c0_i32_1422 : BitVec 32 := 0#32
  let c1_i32_1424 : BitVec 32 := 1#32
  let arg9 : BitVec 32 := Scf.iv c0_i32_1422 c1_i32_1424 k0_t6
  let c1_i32_1426 : BitVec 32 := 1#32
  let v1478 : BitVec 32 := Scalar.muli arg9 c1_i32_1426
  let v1479 : BitVec 32 := Scalar.addi c0_i32_1427 v1478
  let c512_i32_1433 : BitVec 32 := 512#32
  let v1493 : BitVec 32 := Scalar.muli v1479 c512_i32_1433
  let v1494 : Index := Scalar.indexCast v1493
  ![0, v1494.toNat]
abbrev stage0_0 : Fin 1 → Memref sig .tc .vmem S28x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14336 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RotateReferenceIdeal.lean ====
abbrev S256x14336 : Shape := ⟨2, ![256, 14336]⟩
abbrev S28x28 : Shape := ⟨2, ![28, 28]⟩
abbrev S256x28x512 : Shape := ⟨3, ![256, 28, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S256x512x28 : Shape := ⟨3, ![256, 512, 28]⟩
abbrev S1x256 : Shape := ⟨2, ![1, 256]⟩
abbrev S256 : Shape := ⟨1, ![256]⟩
abbrev S256x1 : Shape := ⟨2, ![256, 1]⟩

abbrev nBuf : Space → Nat
  | .hbm => 31
  | .vmem => 4
  | .smem => 0
  | _ => 0

abbrev bufTy : (tb : Table) → Fin (tcTables nBuf tb) → BufTy
  | .hbm, ⟨0, _⟩ => ⟨S256x14336, .bf16⟩
  | .hbm, ⟨1, _⟩ => ⟨S28x28, .f32⟩
  | .hbm, ⟨2, _⟩ => ⟨S256x14336, .f32⟩
  | .hbm, ⟨3, _⟩ => ⟨S256x28x512, .f32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .f32⟩
  | .hbm, ⟨21, _⟩ => ⟨S256x28x512, .f32⟩
  | .hbm, ⟨22, _⟩ => ⟨S256x512x28, .f32⟩
  | .hbm, ⟨23, _⟩ => ⟨S256x28x512, .f32⟩
  | .hbm, ⟨24, _⟩ => ⟨S_, .f32⟩
  | .hbm, ⟨25, _⟩ => ⟨S256x28x512, .f32⟩
  | .hbm, ⟨26, _⟩ => ⟨S256x28x512, .f32⟩
  | .hbm, ⟨27, _⟩ => ⟨S256x14336, .f32⟩
  | .hbm, ⟨28, _⟩ => ⟨S256x14336, .i8⟩
  | .hbm, ⟨29, _⟩ => ⟨S256x14336, .fp8e4m3⟩
  | .hbm, ⟨30, _⟩ => ⟨S1x256, .f32⟩
  | .local _ .vmem, ⟨0, _⟩ => ⟨S256x14336, .f32⟩
  | .local _ .vmem, ⟨1, _⟩ => ⟨S256x14336, .i8⟩
  | .local _ .vmem, ⟨2, _⟩ => ⟨S256x14336, .fp8e4m3⟩
  | .local _ .vmem, ⟨3, _⟩ => ⟨S1x256, .f32⟩
  | _, _ => ⟨S256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14336 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/- The kernel's body, run once on whole staging buffers: what it leaves in the output block, as a term of its five
   inputs. The body threads the state of the two matrix units (staging registers, result rows), so this run is written
   here and not generated with the program. -/
module

public import proofs.«01_k».proof.Proof.Gen.Kernel.Frame
public import proofs.«01_k».proof.Proof.Gen.Kernel.Skeleton

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- Each window's current staging memref at point `t`, spelled as the pipeline passes it (`bodyAt0`), and its wholeness. -/
abbrev ms0_0 (t : Fin cfg0.N) : Memref sig .tc .vmem S256x14336 .fp8e4m3 := win0_0.stage (cfg0.slots t 0)
/-- It is a whole buffer (window 0). -/
abbrev hs0_0 (t : Fin cfg0.N) : (ms0_0 t).IsWhole := hstage0_0 ((cfg0.slots t 0).cast nbuf0_0)
/-- The current staging buffer of window 1. -/
abbrev ms0_1 (t : Fin cfg0.N) : Memref sig .tc .vmem S256x1 .f32 := win0_1.stage (cfg0.slots t 1)
/-- It is a whole buffer (window 1). -/
abbrev hs0_1 (t : Fin cfg0.N) : (ms0_1 t).IsWhole := hstage0_1 ((cfg0.slots t 1).cast nbuf0_1)
/-- The current staging buffer of window 2. -/
abbrev ms0_2 (t : Fin cfg0.N) : Memref sig .tc .vmem S256x7168 .i8 := win0_2.stage (cfg0.slots t 2)
/-- It is a whole buffer (window 2). -/
abbrev hs0_2 (t : Fin cfg0.N) : (ms0_2 t).IsWhole := hstage0_2 ((cfg0.slots t 2).cast nbuf0_2)
/-- The current staging buffer of window 3. -/
abbrev ms0_3 (t : Fin cfg0.N) : Memref sig .tc .vmem S256x112 .i8 := win0_3.stage (cfg0.slots t 3)
/-- It is a whole buffer (window 3). -/
abbrev hs0_3 (t : Fin cfg0.N) : (ms0_3 t).IsWhole := hstage0_3 ((cfg0.slots t 3).cast nbuf0_3)
/-- The current staging buffer of window 4. -/
abbrev ms0_4 (t : Fin cfg0.N) : Memref sig .tc .vmem S1x256 .f32 := win0_4.stage (cfg0.slots t 4)
/-- It is a whole buffer (window 4). -/
abbrev hs0_4 (t : Fin cfg0.N) : (ms0_4 t).IsWhole := hstage0_4 ((cfg0.slots t 4).cast nbuf0_4)
/-- The current staging buffer of window 5. -/
abbrev ms0_5 (t : Fin cfg0.N) : Memref sig .tc .vmem S256x256 .bf16 := win0_5.stage (cfg0.slots t 5)
/-- It is a whole buffer (window 5). -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S112x256 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 20000000 in
/-- What the body's stores leave in the output block and in the table of group scales, as pieces (last first), WITH
    the proof that on whole staging memrefs — the inputs at their contents, the output and the table at anything — the
    body runs to the continuation holding the inputs as they were and each stored buffer with its pieces written. -/
noncomputable def kernelRun0_A (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) :
    Σ' (L5 : List (View.Piece (Elt F) S256x256 .bf16)), { LT0 : List (View.Piece (Elt F) S112x256 .i32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0)) -∗ K ⟨⟩))
          ⊢ wp frame (wpE (defs₀ (F := F)) Variants.none c none) E (cc0_int4_matmul i arg1 harg1 arg2 harg2 arg3 harg3 arg4 harg4 arg5 harg5 arg6 harg6 arg7 harg7) K } := by
  refine ⟨?_, ?_, fun E K => ?run⟩
  case run =>
    simp only [cc0_int4_matmul_eq_skeleton]; unfold cc0_int4_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Run

end
-- ==== Proof.KernelFrame.lean ====
/- The pipeline around the body's run: the proof data (each input's buffer at its block, the output's at what the run
   leaves), the body obligation at every grid point, the launch, the frame claim with every counter at zero, and the
   result array block by block: block `t` of the result is what grid point `t` wrote. -/
module

public import proofs.«01_k».proof.Proof.KernelRun
public import Idealize.ShloMosaic.Lib.Claim
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The run's pieces for output 5 tile its block (1 store of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) (y : S256x256.Idx) :
    ∃ pc ∈ (kernelRun0_A c i arg1 harg1 arg2 harg2 arg3 harg3 arg4 harg4 arg5 harg5 arg6 harg6 arg7 harg7 x0 x1 x2 x3 x4).1, y ∈ pc.1.set :=
  View.cover_of_tiledL (kernelRun0_A c i arg1 harg1 arg2 harg2 arg3 harg3 arg4 harg4 arg5 harg5 arg6 harg6 arg7 harg7 x0 x1 x2 x3 x4).1 S256x256.size (by sl_kernel_rfl) y

/-- What the run leaves in output 5's staging buffer: its pieces read back over junk. -/
def out0_A_5 (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) : Vec F S256x256 .bf16 :=
  VO0_5.read (Elt F) (VO0_5.writes (Elt F) VO0_5.junk (kernelRun0_A c i arg1 harg1 arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt0 (c : Dev nD) (t : Fin cfg0.N) : Vec F S256x256 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 holds its block after a point, -/
theorem after0_1 (c : Dev nD) (t : Fin cfg0.N) : (dats m 0 c).after 1 t = iblk m c 1 t := by dsimp only [dats]
/-- Window 2 holds its block after a point, -/
theorem after0_2 (c : Dev nD) (t : Fin cfg0.N) : (dats m 0 c).after 2 t = iblk m c 2 t := by dsimp only [dats]
/-- Window 3 holds its block after a point, -/
theorem after0_3 (c : Dev nD) (t : Fin cfg0.N) : (dats m 0 c).after 3 t = iblk m c 3 t := by dsimp only [dats]
/-- Window 4 holds its block after a point, -/
theorem after0_4 (c : Dev nD) (t : Fin cfg0.N) : (dats m 0 c).after 4 t = iblk m c 4 t := by dsimp only [dats]
/-- and the output window what the run leaves. -/
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds its block before a point. -/
theorem before0_1 (c : Dev nD) (t : Fin cfg0.N) (d) : (dats m 0 c).before 1 t d = iblk m c 1 t :=
  before0_1_of m (dats m 0 c) (A_eq m c 1) (after0_1 m c) t d
/-- Window 2 holds its block before a point. -/
theorem before0_2 (c : Dev nD) (t : Fin cfg0.N) (d) : (dats m 0 c).before 2 t d = iblk m c 2 t :=
  before0_2_of m (dats m 0 c) (A_eq m c 2) (after0_2 m c) t d
/-- Window 3 holds its block before a point. -/
theorem before0_3 (c : Dev nD) (t : Fin cfg0.N) (d) : (dats m 0 c).before 3 t d = iblk m c 3 t :=
  before0_3_of m (dats m 0 c) (A_eq m c 3) (after0_3 m c) t d
/-- Window 4 holds its block before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 5's array: the run's contents for that window after the body (`outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — the kernel's one case, `outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)) := by
  simp only [flushed5, outsAt0]

/-- The index map sends distinct grid points to distinct block indices (decided over the 14 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x3584.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Kernel.Run

end
-- ==== Proof.IdealRun.lean ====
/- The kernel's body, run once on whole staging buffers: what it leaves in the output block, as a term of its five
   inputs. The body threads the state of the two matrix units (staging registers, result rows), so this run is written
   here and not generated with the program. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- Each window's current staging memref at point `t`, spelled as the pipeline passes it (`bodyAt0`), and its wholeness. -/
abbrev ms0_0 (t : Fin cfg0.N) : Memref sig .tc .vmem S256x14336 .fp8e4m3 := win0_0.stage (cfg0.slots t 0)
/-- It is a whole buffer (window 0). -/
abbrev hs0_0 (t : Fin cfg0.N) : (ms0_0 t).IsWhole := hstage0_0 ((cfg0.slots t 0).cast nbuf0_0)
/-- The current staging buffer of window 1. -/
abbrev ms0_1 (t : Fin cfg0.N) : Memref sig .tc .vmem S256x1 .f32 := win0_1.stage (cfg0.slots t 1)
/-- It is a whole buffer (window 1). -/
abbrev hs0_1 (t : Fin cfg0.N) : (ms0_1 t).IsWhole := hstage0_1 ((cfg0.slots t 1).cast nbuf0_1)
/-- The current staging buffer of window 2. -/
abbrev ms0_2 (t : Fin cfg0.N) : Memref sig .tc .vmem S256x7168 .i8 := win0_2.stage (cfg0.slots t 2)
/-- It is a whole buffer (window 2). -/
abbrev hs0_2 (t : Fin cfg0.N) : (ms0_2 t).IsWhole := hstage0_2 ((cfg0.slots t 2).cast nbuf0_2)
/-- The current staging buffer of window 3. -/
abbrev ms0_3 (t : Fin cfg0.N) : Memref sig .tc .vmem S256x112 .i8 := win0_3.stage (cfg0.slots t 3)
/-- It is a whole buffer (window 3). -/
abbrev hs0_3 (t : Fin cfg0.N) : (ms0_3 t).IsWhole := hstage0_3 ((cfg0.slots t 3).cast nbuf0_3)
/-- The current staging buffer of window 4. -/
abbrev ms0_4 (t : Fin cfg0.N) : Memref sig .tc .vmem S1x256 .f32 := win0_4.stage (cfg0.slots t 4)
/-- It is a whole buffer (window 4). -/
abbrev hs0_4 (t : Fin cfg0.N) : (ms0_4 t).IsWhole := hstage0_4 ((cfg0.slots t 4).cast nbuf0_4)
/-- The current staging buffer of window 5. -/
abbrev ms0_5 (t : Fin cfg0.N) : Memref sig .tc .vmem S256x256 .bf16 := win0_5.stage (cfg0.slots t 5)
/-- It is a whole buffer (window 5). -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S112x256 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 20000000 in
/-- What the body's stores leave in the output block and in the table of group scales, as pieces (last first), WITH
    the proof that on whole staging memrefs — the inputs at their contents, the output and the table at anything — the
    body runs to the continuation holding the inputs as they were and each stored buffer with its pieces written. -/
noncomputable def kernelRun0_A (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) :
    Σ' (L5 : List (View.Piece (Elt F) S256x256 .bf16)), { LT0 : List (View.Piece (Elt F) S112x256 .i32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0)) -∗ K ⟨⟩))
          ⊢ wp frame (wpE (defs₀ (F := F)) Variants.none c none) E (cc0_int4_matmul i arg1 harg1 arg2 harg2 arg3 harg3 arg4 harg4 arg5 harg5 arg6 harg6 arg7 harg7) K } := by
  refine ⟨?_, ?_, fun E K => ?run⟩
  case run =>
    simp only [cc0_int4_matmul_eq_skeleton]; unfold cc0_int4_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Run

end
-- ==== Proof.IdealFrame.lean ====
/- The pipeline around the body's run: the proof data (each input's buffer at its block, the output's at what the run
   leaves), the body obligation at every grid point, the launch, the frame claim with every counter at zero, and the
   result array block by block: block `t` of the result is what grid point `t` wrote. -/
module

public import proofs.«01_k».proof.Proof.IdealRun
public import Idealize.ShloMosaic.Lib.Claim
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The run's pieces for output 5 tile its block (1 store of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) (y : S256x256.Idx) :
    ∃ pc ∈ (kernelRun0_A c i arg1 harg1 arg2 harg2 arg3 harg3 arg4 harg4 arg5 harg5 arg6 harg6 arg7 harg7 x0 x1 x2 x3 x4).1, y ∈ pc.1.set :=
  View.cover_of_tiledL (kernelRun0_A c i arg1 harg1 arg2 harg2 arg3 harg3 arg4 harg4 arg5 harg5 arg6 harg6 arg7 harg7 x0 x1 x2 x3 x4).1 S256x256.size (by sl_kernel_rfl) y

/-- What the run leaves in output 5's staging buffer: its pieces read back over junk. -/
def out0_A_5 (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) : Vec F S256x256 .bf16 :=
  VO0_5.read (Elt F) (VO0_5.writes (Elt F) VO0_5.junk (kernelRun0_A c i arg1 harg1 arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt0 (c : Dev nD) (t : Fin cfg0.N) : Vec F S256x256 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 holds its block after a point, -/
theorem after0_1 (c : Dev nD) (t : Fin cfg0.N) : (dats m 0 c).after 1 t = iblk m c 1 t := by dsimp only [dats]
/-- Window 2 holds its block after a point, -/
theorem after0_2 (c : Dev nD) (t : Fin cfg0.N) : (dats m 0 c).after 2 t = iblk m c 2 t := by dsimp only [dats]
/-- Window 3 holds its block after a point, -/
theorem after0_3 (c : Dev nD) (t : Fin cfg0.N) : (dats m 0 c).after 3 t = iblk m c 3 t := by dsimp only [dats]
/-- Window 4 holds its block after a point, -/
theorem after0_4 (c : Dev nD) (t : Fin cfg0.N) : (dats m 0 c).after 4 t = iblk m c 4 t := by dsimp only [dats]
/-- and the output window what the run leaves. -/
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds its block before a point. -/
theorem before0_1 (c : Dev nD) (t : Fin cfg0.N) (d) : (dats m 0 c).before 1 t d = iblk m c 1 t :=
  before0_1_of m (dats m 0 c) (A_eq m c 1) (after0_1 m c) t d
/-- Window 2 holds its block before a point. -/
theorem before0_2 (c : Dev nD) (t : Fin cfg0.N) (d) : (dats m 0 c).before 2 t d = iblk m c 2 t :=
  before0_2_of m (dats m 0 c) (A_eq m c 2) (after0_2 m c) t d
/-- Window 3 holds its block before a point. -/
theorem before0_3 (c : Dev nD) (t : Fin cfg0.N) (d) : (dats m 0 c).before 3 t d = iblk m c 3 t :=
  before0_3_of m (dats m 0 c) (A_eq m c 3) (after0_3 m c) t d
/-- Window 4 holds its block before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 5's array: the run's contents for that window after the body (`outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — the kernel's one case, `outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)) := by
  simp only [flushed5, outsAt0]

/-- The index map sends distinct grid points to distinct block indices (decided over the 14 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x3584.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.KernelIdeal.Run

end
-- ==== Proof.Chain.lean ====
/- The body's run read: the result block is the epilogue of the two units' result rows after 28 steps, each step a
   push and an accumulate on either unit (`kernelRun_out`); each half step in the run's own names is one half step of
   `chain`, the steps' recursion. -/
module

public import proofs.«01_k».proof.Proof.IdealFrame
public import Idealize.ShloMosaic.Lib.Mxu.PassChain
public import Idealize.ShloMosaic.Lib.WholeRead
public import Idealize.ShloMosaic.Lib.VecWindow
public import Idealize.ShloMosaic.Lib.Pipeline.ReadBack

@[expose] public section

set_option maxRecDepth 16384

noncomputable section

namespace Cert.KernelIdeal.Run

open Cert.KernelIdeal Cert.KernelIdeal.Gen
open Idealize.ShloMosaic Idealize.ShloMosaic.TcCoe Idealize.ShloMosaic.Mxu

variable {F : FTy → Type} [FloatOps F]

/-- Columns `256 k …` of the packed weights' block. -/
def wBlk (x : Vec F S256x7168 .i8) (k : ℕ) : Vec F S256x256 .i8 :=
  fun i => x (ix (i 0) (Fin.ofNat 7168 (256 * k + (i 1).val)))

/-- Columns `256 k …` of the activations. -/
def aBlk (x : Vec F S256x14336 .fp8e4m3) (k : ℕ) : Vec F S256x256 .fp8e4m3 :=
  fun i => x (ix (i 0) (Fin.ofNat 14336 (256 * k + (i 1).val)))

/-- Row `g` of the table of group scale words. -/
def gRow (x : Vec F S256x112 .i8) (g : ℕ) : Vec F S1x256 .i32 :=
  fun i => k0_pay2 x (ix (Fin.ofNat 112 g) (i 1))

/-- The right-hand tile of step `k` on unit 0 (low nibbles), -/
def tileLo (x2 : Vec F S256x7168 .i8) (x3 : Vec F S256x112 .i8) (k : ℕ) : FVec F S256x256 .bf16 :=
  k0_pay4 (wBlk x2 k) (gRow x3 (2 * k)) (gRow x3 (2 * k + 1))

/-- and on unit 1 (high nibbles). -/
def tileHi (x2 : Vec F S256x7168 .i8) (x3 : Vec F S256x112 .i8) (k : ℕ) : FVec F S256x256 .bf16 :=
  k0_pay6 (k0_pay3 (wBlk x2 k)) (gRow x3 (56 + 2 * k)) (gRow x3 (56 + 2 * k + 1))

/-- One step on one unit: the tile pushed into register `r` and the activations accumulated against it. -/
def half (q r : Fin 2) (s : Mxu F) (T : FVec F S256x256 .bf16) (a : Vec F S256x256 .fp8e4m3) : Mxu F :=
  pushAcc q r false 0 fits_0_256 s T (k0_pay5 a)

/-- The units' state after `k` steps. -/
def chain (x0 : Vec F S256x14336 .fp8e4m3) (x2 : Vec F S256x7168 .i8) (x3 : Vec F S256x112 .i8) : ℕ → Mxu F
  | 0 => init
  | k + 1 => half 1 (Fin.ofNat 2 k) (half 0 (Fin.ofNat 2 k) (chain x0 x2 x3 k) (tileLo x2 x3 k) (aBlk x0 k))
      (tileHi x2 x3 k) (aBlk x0 (28 + k))

section Reads

variable (c : Dev nD)
  (arg1 : Memref sig .tc .vmem S256x14336 .fp8e4m3) (harg1 : arg1.IsWhole)
  (arg3 : Memref sig .tc .vmem S256x7168 .i8) (harg3 : arg3.IsWhole)
  (arg4 : Memref sig .tc .vmem S256x112 .i8) (harg4 : arg4.IsWhole)
  (arg7 : Memref sig .tc .vmem S112x256 .i32)
  (x0 : Vec F S256x14336 .fp8e4m3) (x2 : Vec F S256x7168 .i8) (x3 : Vec F S256x112 .i8)

/-- A load of 256 columns of the weights' block. -/
theorem readW {o : ℕ} (k : ℕ) (ho : o = 256 * k) (hk : k < 28) (inb : ∀ a, (![0, o] : Fin 2 → ℕ) a + S256x256.size a ≤ S256x7168.size a) :
    View.readAt (Elt F) arg3.view (Rect.unit (s := S256x7168) ![0, o] S256x256.size inb).toLoadRect (harg3.unread x2) = wBlk x2 k := by
  subst ho; funext i
  rw [harg3.readAt_unread]
  unfold wBlk
  congr 1; funext a
  have h1 : (i 1).val < 256 := (i 1).isLt
  match a with
  | 0 => exact Fin.ext (show 0 + 1 * (i 0).val = (i 0).val by omega)
  | 1 => exact Fin.ext (show 256 * k + 1 * (i 1).val = (256 * k + (i 1).val) % 7168 by omega)

/-- A load of 256 columns of the activations. -/
theorem readA {o : ℕ} (k : ℕ) (ho : o = 256 * k) (hk : k < 56) (inb : ∀ a, (![0, o] : Fin 2 → ℕ) a + S256x256.size a ≤ S256x14336.size a) :
    View.readAt (Elt F) arg1.view (Rect.unit (s := S256x14336) ![0, o] S256x256.size inb).toLoadRect (harg1.unread x0) = aBlk x0 k := by
  subst ho; funext i
  rw [harg1.readAt_unread]
  unfold aBlk
  congr 1; funext a
  have h1 : (i 1).val < 256 := (i 1).isLt
  match a with
  | 0 => exact Fin.ext (show 0 + 1 * (i 0).val = (i 0).val by omega)
  | 1 => exact Fin.ext (show 256 * k + 1 * (i 1).val = (256 * k + (i 1).val) % 14336 by omega)

/-- The table of scale words is written from the whole exponents' block. -/
theorem readE (inb : ∀ a, (![0, 0] : Fin 2 → ℕ) a + S256x112.size a ≤ S256x112.size a) :
    View.readAt (Elt F) arg4.view (Rect.unit (s := S256x112) ![0, 0] S256x112.size inb).toLoadRect (harg4.unread x3) = x3 := by
  funext i
  rw [harg4.readAt_unread]
  exact congrArg x3 (Rect.emb_unit_full inb i)

/-- A load of one row of a table written whole. -/
theorem read_row {o : ℕ} (Z : Vec F S112x256 .i32) (inb0 : ∀ a, (![0, 0] : Fin 2 → ℕ) a + S112x256.size a ≤ S112x256.size a)
    (inb : ∀ a, (![o, 0] : Fin 2 → ℕ) a + S1x256.size a ≤ S112x256.size a) (ho : o < 112) :
    arg7.view.readCov [⟨Rect.unit (s := S112x256) ![0, 0] S112x256.size inb0, Z⟩] (Rect.unit (s := S112x256) ![o, 0] S1x256.size inb).toLoadRect
      = fun i : S1x256.Idx => Z (ix (Fin.ofNat 112 o) (i 1)) := by
  refine (View.readCov_fill arg7.view inb0 Z [] _ (fun a => by fin_cases a <;> rfl)).trans ?_
  funext i
  have h0 : (i 0).val < 1 := (i 0).isLt
  refine congrArg Z (funext fun a => Fin.ext ?_)
  match a with
  | 0 => show o + 1 * (i 0).val = o % 112; omega
  | 1 => show 0 + 1 * (i 1).val = (i 1).val; omega

/-- The table of scale words, as the body writes it, over the exponents' block. -/
theorem table_eq : kernelRun0_A.sl.HS0_1 c arg4 harg4 x3
    = [⟨Rect.unit (s := S112x256) ![0, 0] S112x256.size inb_S112x256_S112x256_0_0, k0_pay2 x3⟩] := by
  refine (show kernelRun0_A.sl.HS0_1 c arg4 harg4 x3 = [⟨Rect.unit (s := S112x256) ![0, 0] S112x256.size inb_S112x256_S112x256_0_0,
    k0_pay2 (View.readAt (Elt F) arg4.view (Rect.unit (s := S256x112) ![0, 0] S256x112.size inb_S256x112_S256x112_0_0).toLoadRect
      (harg4.unread x3))⟩] from rfl).trans ?_
  rw [readE]

/-- A load of one row of the table of scale words. -/
theorem readG {o : ℕ} (g : ℕ) (ho : o = g) (hg : g < 112) (inb : ∀ a, (![o, 0] : Fin 2 → ℕ) a + S1x256.size a ≤ S112x256.size a) :
    arg7.view.readCov (kernelRun0_A.sl.HS0_1 c arg4 harg4 x3) (Rect.unit (s := S112x256) ![o, 0] S1x256.size inb).toLoadRect = gRow x3 g := by
  rw [table_eq]
  subst ho
  exact read_row (F := F) arg7 (k0_pay2 x3) inb_S112x256_S112x256_0_0 inb hg

/-! ### Each half step of the run -/

/-- Tile 0, the low nibbles. -/
theorem half_0_0 : kernelRun0_A.sl.k0_mxu3 c arg1 harg1 arg3 harg3 arg4 harg4 arg7 x0 x2 x3
    = half 0 0 init (tileLo x2 x3 0) (aBlk x0 0) := by
  unfold tileLo
  rw [← readW arg3 harg3 x2 0 (o := 0) rfl (by decide) inb_S256x7168_S256x256_0_0, ← readA arg1 harg1 x0 0 (o := 0) rfl (by decide) inb_S256x14336_S256x256_0_0,
    ← readG c arg4 harg4 arg7 x3 (2 * 0) (o := 0) rfl (by decide) inb_S112x256_S1x256_0_0, ← readG c arg4 harg4 arg7 x3 (2 * 0 + 1) (o := 1) rfl (by decide) inb_S112x256_S1x256_1_0]
  rfl

/-- Tile 0, the high nibbles. -/
theorem half_0_1 : kernelRun0_A.sl.k0_mxu5 c arg1 harg1 arg3 harg3 arg4 harg4 arg7 x0 x2 x3
    = half 1 0 (kernelRun0_A.sl.k0_mxu3 c arg1 harg1 arg3 harg3 arg4 harg4 arg7 x0 x2 x3) (tileHi x2 x3 0) (aBlk x0 28) := by
  unfold tileHi
  rw [← readW arg3 harg3 x2 0 (o := 0) rfl (by decide) inb_S256x7168_S256x256_0_0, ← readA arg1 harg1 x0 28 (o := 7168) rfl (by decide) inb_S256x14336_S256x256_0_7168,
    ← readG c arg4 harg4 arg7 x3 (56 + 2 * 0) (o := 56) rfl (by decide) inb_S112x256_S1x256_56_0, ← readG c arg4 harg4 arg7 x3 (56 + 2 * 0 + 1) (o := 57) rfl (by decide) inb_S112x256_S1x256_57_0]
  rfl

/-- Tile 1, the low nibbles. -/
theorem half_1_0 : kernelRun0_A.sl.k0_mxu7 c arg1 harg1 arg3 harg3 arg4 harg4 arg7 x0 x2 x3
    = half 0 1 (kernelRun0_A.sl.k0_mxu5 c arg1 harg1 arg3 harg3 arg4 harg4 arg7 x0 x2 x3) (tileLo x2 x3 1) (aBlk x0 1) := by
  unfold tileLo
  rw [← readW arg3 harg3 x2 1 (o := 256) rfl (by decide) inb_S256x7168_S256x256_0_256, ← readA arg1 harg1 x0 1 (o := 256) rfl (by decide) inb_S256x14336_S256x256_0_256,
    ← readG c arg4 harg4 arg7 x3 (2 * 1) (o := 2) rfl (by decide) inb_S112x256_S1x256_2_0, ← readG c arg4 harg4 arg7 x3 (2 * 1 + 1) (o := 3) rfl (by decide) inb_S112x256_S1x256_3_0]
  rfl

/-- Tile 1, the high nibbles. -/
theorem half_1_1 : kernelRun0_A.sl.k0_mxu9 c arg1 harg1 arg3 harg3 arg4 harg4 arg7 x0 x2 x3
    = half 1 1 (kernelRun0_A.sl.k0_mxu7 c arg1 harg1 arg3 harg3 arg4 harg4 arg7 x0 x2 x3) (tileHi x2 x3 1) (aBlk x0 29) := by
  unfold tileHi
  rw [← readW arg3 harg3 x2 1 (o := 256) rfl (by decide) inb_S256x7168_S256x256_0_256, ← readA arg1 harg1 x0 29 (o := 7424) rfl (by decide) inb_S256x14336_S256x256_0_7424,
    ← readG c arg4 harg4 arg7 x3 (56 + 2 * 1) (o := 58) rfl (by decide) inb_S112x256_S1x256_58_0, ← readG c arg4 harg4 arg7 x3 (56 + 2 * 1 + 1) (o := 59) rfl (by decide) inb_S112x256_S1x256_59_0]
  rfl

/-- Tile 2, the low nibbles. -/
theorem half_2_0 : kernelRun0_A.sl.k0_mxu11 c arg1 harg1 arg3 harg3 arg4 harg4 arg7 x0 x2 x3
    = half 0 0 (kernelRun0_A.sl.k0_mxu9 c arg1 harg1 arg3 harg3 arg4 harg4 arg7 x0 x2 x3) (tileLo x2 x3 2) (aBlk x0 2) := by
  unfold tileLo
  rw [← readW arg3 harg3 x2 2 (o := 512) rfl (by decide) inb_S256x7168_S256x256_0_512, ← readA arg1 harg1 x0 2 (o := 512) rfl (by decide) inb_S256x14336_S256x256_0_512,
    ← readG c arg4 harg4 arg7 x3 (2 * 2) (o := 4) rfl (by decide) inb_S112x256_S1x256_4_0, ← readG c arg4 harg4 arg7 x3 (2 * 2 + 1) (o := 5) rfl (by decide) inb_S112x256_S1x256_5_0]
  rfl

/-- Tile 2, the high nibbles. -/
theorem half_2_1 : kernelRun0_A.sl.k0_mxu13 c arg1 harg1 arg3 harg3 arg4 harg4 arg7 x0 x2 x3
    = half 1 0 (kernelRun0_A.sl.k0_mxu11 c arg1 harg1 arg3 harg3 arg4 harg4 arg7 x0 x2 x3) (tileHi x2 x3 2) (aBlk x0 30) := by
  unfold tileHi
  rw [← readW arg3 harg3 x2 2 (o := 512) rfl (by decide) inb_S256x7168_S256x256_0_512, ← readA arg1 harg1 x0 30 (o := 7680) rfl (by decide) inb_S256x14336_S256x256_0_7680,
    ← readG c arg4 harg4 arg7 x3 (56 + 2 * 2) (o := 60) rfl (by decide) inb_S112x256_S1x256_60_0, ← readG c arg4 harg4 arg7 x3 (56 + 2 * 2 + 1) (o := 61) rfl (by decide) inb_S112x256_S1x256_61_0]
  rfl

/-- Tile 3, the low nibbles. -/
theorem half_3_0 : kernelRun0_A.sl.k0_mxu15 c arg1 harg1 arg3 harg3 arg4 harg4 arg7 x0 x2 x3
    = half 0 1 (kernelRun0_A.sl.k0_mxu13 c arg1 harg1 arg3 harg3 arg4 harg4 arg7 x0 x2 x3) (tileLo x2 x3 3) (aBlk x0 3) := by
  unfold tileLo
  rw [← readW arg3 harg3 x2 3 (o := 768) rfl (by decide) inb_S256x7168_S256x256_0_768, ← readA arg1 harg1 x0 3 (o := 768) rfl (by decide) inb_S256x14336_S256x256_0_768,
    ← readG c arg4 harg4 arg7 x3 (2 * 3) (o := 6) rfl (by decide) inb_S112x256_S1x256_6_0, ← readG c arg4 harg4 arg7 x3 (2 * 3 + 1) (o := 7) rfl (by decide) inb_S112x256_S1x256_7_0]
  rfl

/-- Tile 3, the high nibbles. -/
theorem half_3_1 : kernelRun0_A.sl.k0_mxu17 c arg1 harg1 arg3 harg3 arg4 harg4 arg7 x0 x2 x3
    = half 1 1 (kernelRun0_A.sl.k0_mxu15 c arg1 harg1 arg3 harg3 arg4 harg4 arg7 x0 x2 x3) (tileHi x2 x3 3) (aBlk x0 31) := by
  unfold tileHi
  rw [← readW arg3 harg3 x2 3 (o := 768) rfl (by decide) inb_S256x7168_S256x256_0_768, ← readA arg1 harg1 x0 31 (o := 7936) rfl (by decide) inb_S256x14336_S256x256_0_7936,
    ← readG c arg4 harg4 arg7 x3 (56 + 2 * 3) (o := 62) rfl (by decide) inb_S112x256_S1x256_62_0, ← readG c arg4 harg4 arg7 x3 (56 + 2 * 3 + 1) (o := 63) rfl (by decide) inb_S112x256_S1x256_63_0]
  rfl

/-- Tile 4, the low nibbles. -/
theorem half_4_0 : kernelRun0_A.sl.k0_mxu19 c arg1 harg1 arg3 harg3 arg4 harg4 arg7 x0 x2 x3
    = half 0 0 (kernelRun0_A.sl.k0_mxu17 c arg1 harg1 arg3 harg3 arg4 harg4 arg7 x0 x2 x3) (tileLo x2 x3 4) (aBlk x0 4) := by
  unfold tileLo
  rw [← readW arg3 harg3 x2 4 (o := 1024) rfl (by decide) inb_S256x7168_S256x256_0_1024, ← readA arg1 harg1 x0 4 (o := 1024) rfl (by decide) inb_S256x14336_S256x256_0_1024,
    ← readG c arg4 harg4 arg7 x3 (2 * 4) (o := 8) rfl (by decide) inb_S112x256_S1x256_8_0, ← readG c arg4 harg4 arg7 x3 (2 * 4 + 1) (o := 9) rfl (by decide) inb_S112x256_S1x256_9_0]
  rfl

/-- Tile 4, the high nibbles. -/
theorem half_4_1 : kernelRun0_A.sl.k0_mxu21 c arg1 harg1 arg3 harg3 arg4 harg4 arg7 x0 x2 x3
    = half 1 0 (kernelRun0_A.sl.k0_mxu19 c arg1 harg1 arg3 harg3 arg4 harg4 arg7 x0 x2 x3) (tileHi x2 x3 4) (aBlk x0 32) := by
  unfold tileHi
  rw [← readW arg3 harg3 x2 4 (o := 1024) rfl (by decide) inb_S256x7168_S256x256_0_1024, ← readA arg1 harg1 x0 32 (o := 8192) rfl (by decide) inb_S256x14336_S256x256_0_8192,
    ← readG c arg4 harg4 arg7 x3 (56 + 2 * 4) (o := 64) rfl (by decide) inb_S112x256_S1x256_64_0, ← readG c arg4 harg4 arg7 x3 (56 + 2 * 4 + 1) (o := 65) rfl (by decide) inb_S112x256_S1x256_65_0]
  rfl

/-- Tile 5, the low nibbles. -/
theorem half_5_0 : kernelRun0_A.sl.k0_mxu23 c arg1 harg1 arg3 harg3 arg4 harg4 arg7 x0 x2 x3
    = half 0 1 (kernelRun0_A.sl.k0_mxu21 c arg1 harg1 arg3 harg3 arg4 harg4 arg7 x0 x2 x3) (tileLo x2 x3 5) (aBlk x0 5) := by
  unfold tileLo
  rw [← readW arg3 harg3 x2 5 (o := 1280) rfl (by decide) inb_S256x7168_S256x256_0_1280, ← readA arg1 harg1 x0 5 (o := 1280) rfl (by decide) inb_S256x14336_S256x256_0_1280,
    ← readG c arg4 harg4 arg7 x3 (2 * 5) (o := 10) rfl (by decide) inb_S112x256_S1x256_10_0, ← readG c arg4 harg4 arg7 x3 (2 * 5 + 1) (o := 11) rfl (by decide) inb_S112x256_S1x256_11_0]
  rfl

/-- Tile 5, the high nibbles. -/
theorem half_5_1 : kernelRun0_A.sl.k0_mxu25 c arg1 harg1 arg3 harg3 arg4 harg4 arg7 x0 x2 x3
    = half 1 1 (kernelRun0_A.sl.k0_mxu23 c arg1 harg1 arg3 harg3 arg4 harg4 arg7 x0 x2 x3) (tileHi x2 x3 5) (aBlk x0 33) := by
  unfold tileHi
  rw [← readW arg3 harg3 x2 5 (o := 1280) rfl (by decide) inb_S256x7168_S256x256_0_1280, ← readA arg1 harg1 x0 33 (o := 8448) rfl (by decide) inb_S256x14336_S256x256_0_8448,
    ← readG c arg4 harg4 arg7 x3 (56 + 2 * 5) (o := 66) rfl (by decide) inb_S112x256_S1x256_66_0, ← readG c arg4 harg4 arg7 x3 (56 + 2 * 5 + 1) (o := 67) rfl (by decide) inb_S112x256_S1x256_67_0]
  rfl

/-- Tile 6, the low nibbles. -/
theorem half_6_0 : kernelRun0_A.sl.k0_mxu27 c arg1 harg1 arg3 harg3 arg4 harg4 arg7 x0 x2 x3
    = half 0 0 (kernelRun0_A.sl.k0_mxu25 c arg1 harg1 arg3 harg3 arg4 harg4 arg7 x0 x2 x3) (tileLo x2 x3 6) (aBlk x0 6) := by
  unfold tileLo
  rw [← readW arg3 harg3 x2 6 (o := 1536) rfl (by decide) inb_S256x7168_S256x256_0_1536, ← readA arg1 harg1 x0 6 (o := 1536) rfl (by decide) inb_S256x14336_S256x256_0_1536,
    ← readG c arg4 harg4 arg7 x3 (2 * 6) (o := 12) rfl (by decide) inb_S112x256_S1x256_12_0, ← readG c arg4 harg4 arg7 x3 (2 * 6 + 1) (o := 13) rfl (by decide) inb_S112x256_S1x256_13_0]
  rfl

/-- Tile 6, the high nibbles. -/
theorem half_6_1 : kernelRun0_A.sl.k0_mxu29 c arg1 harg1 arg3 harg3 arg4 harg4 arg7 x0 x2 x3
    = half 1 0 (kernelRun0_A.sl.k0_mxu27 c arg1 harg1 arg3 harg3 arg4 harg4 arg7 x0 x2 x3) (tileHi x2 x3 6) (aBlk x0 34) := by
  unfold tileHi
  rw [← readW arg3 harg3 x2 6 (o := 1536) rfl (by decide) inb_S256x7168_S256x256_0_1536, ← readA arg1 harg1 x0 34 (o := 8704) rfl (by decide) inb_S256x14336_S256x256_0_8704,
    ← readG c arg4 harg4 arg7 x3 (56 + 2 * 6) (o := 68) rfl (by decide) inb_S112x256_S1x256_68_0, ← readG c arg4 harg4 arg7 x3 (56 + 2 * 6 + 1) (o := 69) rfl (by decide) inb_S112x256_S1x256_69_0]
  rfl

/-- Tile 7, the low nibbles. -/
theorem half_7_0 : kernelRun0_A.sl.k0_mxu31 c arg1 harg1 arg3 harg3 arg4 harg4 arg7 x0 x2 x3
    = half 0 1 (kernelRun0_A.sl.k0_mxu29 c arg1 harg1 arg3 harg3 arg4 harg4 arg7 x0 x2 x3) (tileLo x2 x3 7) (aBlk x0 7) := by
  unfold tileLo
  rw [← readW arg3 harg3 x2 7 (o := 1792) rfl (by decide) inb_S256x7168_S256x256_0_1792, ← readA arg1 harg1 x0 7 (o := 1792) rfl (by decide) inb_S256x14336_S256x256_0_1792,
    ← readG c arg4 harg4 arg7 x3 (2 * 7) (o := 14) rfl (by decide) inb_S112x256_S1x256_14_0, ← readG c arg4 harg4 arg7 x3 (2 * 7 + 1) (o := 15) rfl (by decide) inb_S112x256_S1x256_15_0]
  rfl

/-- Tile 7, the high nibbles. -/
theorem half_7_1 : kernelRun0_A.sl.k0_mxu33 c arg1 harg1 arg3 harg3 arg4 harg4 arg7 x0 x2 x3
    = half 1 1 (kernelRun0_A.sl.k0_mxu31 c arg1 harg1 arg3 harg3 arg4 harg4 arg7 x0 x2 x3) (tileHi x2 x3 7) (aBlk x0 35) := by
  unfold tileHi
  rw [← readW arg3 harg3 x2 7 (o := 1792) rfl (by decide) inb_S256x7168_S256x256_0_1792, ← readA arg1 harg1 x0 35 (o := 8960) rfl (by decide) inb_S256x14336_S256x256_0_8960,
    ← readG c arg4 harg4 arg7 x3 (56 + 2 * 7) (o := 70) rfl (by decide) inb_S112x256_S1x256_70_0, ← readG c arg4 harg4 arg7 x3 (56 + 2 * 7 + 1) (o := 71) rfl (by decide) inb_S112x256_S1x256_71_0]
  rfl

/-- Tile 8, the low nibbles. -/
theorem half_8_0 : kernelRun0_A.sl.k0_mxu35 c arg1 harg1 arg3 harg3 arg4 harg4 arg7 x0 x2 x3
    = half 0 0 (kernelRun0_A.sl.k0_mxu33 c arg1 harg1 arg3 harg3 arg4 harg4 arg7 x0 x2 x3) (tileLo x2 x3 8) (aBlk x0 8) := by
  unfold tileLo
  rw [← readW arg3 harg3 x2 8 (o := 2048) rfl (by decide) inb_S256x7168_S256x256_0_2048, ← readA arg1 harg1 x0 8 (o := 2048) rfl (by decide) inb_S256x14336_S256x256_0_2048,
    ← readG c arg4 harg4 arg7 x3 (2 * 8) (o := 16) rfl (by decide) inb_S112x256_S1x256_16_0, ← readG c arg4 harg4 arg7 x3 (2 * 8 + 1) (o := 17) rfl (by decide) inb_S112x256_S1x256_17_0]
  rfl

/-- Tile 8, the high nibbles. -/
theorem half_8_1 : kernelRun0_A.sl.k0_mxu37 c arg1 harg1 arg3 harg3 arg4 harg4 arg7 x0 x2 x3
    = half 1 0 (kernelRun0_A.sl.k0_mxu35 c arg1 harg1 arg3 harg3 arg4 harg4 arg7 x0 x2 x3) (tileHi x2 x3 8) (aBlk x0 36) := by
  unfold tileHi
  rw [← readW arg3 harg3 x2 8 (o := 2048) rfl (by decide) inb_S256x7168_S256x256_0_2048, ← readA arg1 harg1 x0 36 (o := 9216) rfl (by decide) inb_S256x14336_S256x256_0_9216,
    ← readG c arg4 harg4 arg7 x3 (56 + 2 * 8) (o := 72) rfl (by decide) inb_S112x256_S1x256_72_0, ← readG c arg4 harg4 arg7 x3 (56 + 2 * 8 + 1) (o := 73) rfl (by decide) inb_S112x256_S1x256_73_0]
  rfl

/-- Tile 9, the low nibbles. -/
theorem half_9_0 : kernelRun0_A.sl.k0_mxu39 c arg1 harg1 arg3 harg3 arg4 harg4 arg7 x0 x2 x3
    = half 0 1 (kernelRun0_A.sl.k0_mxu37 c arg1 harg1 arg3 harg3 arg4 harg4 arg7 x0 x2 x3) (tileLo x2 x3 9) (aBlk x0 9) := by
  unfold tileLo
  rw [← readW arg3 harg3 x2 9 (o := 2304) rfl (by decide) inb_S256x7168_S256x256_0_2304, ← readA arg1 harg1 x0 9 (o := 2304) rfl (by decide) inb_S256x14336_S256x256_0_2304,
    ← readG c arg4 harg4 arg7 x3 (2 * 9) (o := 18) rfl (by decide) inb_S112x256_S1x256_18_0, ← readG c arg4 harg4 arg7 x3 (2 * 9 + 1) (o := 19) rfl (by decide) inb_S112x256_S1x256_19_0]
  rfl

/-- Tile 9, the high nibbles. -/
theorem half_9_1 : kernelRun0_A.sl.k0_mxu41 c arg1 harg1 arg3 harg3 arg4 harg4 arg7 x0 x2 x3
    = half 1 1 (kernelRun0_A.sl.k0_mxu39 c arg1 harg1 arg3 harg3 arg4 harg4 arg7 x0 x2 x3) (tileHi x2 x3 9) (aBlk x0 37) := by
  unfold tileHi
  rw [← readW arg3 harg3 x2 9 (o := 2304) rfl (by decide) inb_S256x7168_S256x256_0_2304, ← readA arg1 harg1 x0 37 (o := 9472) rfl (by decide) inb_S256x14336_S256x256_0_9472,
    ← readG c arg4 harg4 arg7 x3 (56 + 2 * 9) (o := 74) rfl (by decide) inb_S112x256_S1x256_74_0, ← readG c arg4 harg4 arg7 x3 (56 + 2 * 9 + 1) (o := 75) rfl (by decide) inb_S112x256_S1x256_75_0]
  rfl

/-- Tile 10, the low nibbles. -/
theorem half_10_0 : kernelRun0_A.sl.k0_mxu43 c arg1 harg1 arg3 harg3 arg4 harg4 arg7 x0 x2 x3
    = half 0 0 (kernelRun0_A.sl.k0_mxu41 c arg1 harg1 arg3 harg3 arg4 harg4 arg7 x0 x2 x3) (tileLo x2 x3 10) (aBlk x0 10) := by
  unfold tileLo
  rw [← readW arg3 harg3 x2 10 (o := 2560) rfl (by decide) inb_S256x7168_S256x256_0_2560, ← readA arg1 harg1 x0 10 (o := 2560) rfl (by decide) inb_S256x14336_S256x256_0_2560,
    ← readG c arg4 harg4 arg7 x3 (2 * 10) (o := 20) rfl (by decide) inb_S112x256_S1x256_20_0, ← readG c arg4 harg4 arg7 x3 (2 * 10 + 1) (o := 21) rfl (by decide) inb_S112x256_S1x256_21_0]
  rfl

/-- Tile 10, the high nibbles. -/
theorem half_10_1 : kernelRun0_A.sl.k0_mxu45 c arg1 harg1 arg3 harg3 arg4 harg4 arg7 x0 x2 x3
    = half 1 0 (kernelRun0_A.sl.k0_mxu43 c arg1 harg1 arg3 harg3 arg4 harg4 arg7 x0 x2 x3) (tileHi x2 x3 10) (aBlk x0 38) := by
  unfold tileHi
  rw [← readW arg3 harg3 x2 10 (o := 2560) rfl (by decide) inb_S256x7168_S256x256_0_2560, ← readA arg1 harg1 x0 38 (o := 9728) rfl (by decide) inb_S256x14336_S256x256_0_9728,
    ← readG c arg4 harg4 arg7 x3 (56 + 2 * 10) (o := 76) rfl (by decide) inb_S112x256_S1x256_76_0, ← readG c arg4 harg4 arg7 x3 (56 + 2 * 10 + 1) (o := 77) rfl (by decide) inb_S112x256_S1x256_77_0]
  rfl

/-- Tile 11, the low nibbles. -/
theorem half_11_0 : kernelRun0_A.sl.k0_mxu47 c arg1 harg1 arg3 harg3 arg4 harg4 arg7 x0 x2 x3
    = half 0 1 (kernelRun0_A.sl.k0_mxu45 c arg1 harg1 arg3 harg3 arg4 harg4 arg7 x0 x2 x3) (tileLo x2 x3 11) (aBlk x0 11) := by
  unfold tileLo
  rw [← readW arg3 harg3 x2 11 (o := 2816) rfl (by decide) inb_S256x7168_S256x256_0_2816, ← readA arg1 harg1 x0 11 (o := 2816) rfl (by decide) inb_S256x14336_S256x256_0_2816,
    ← readG c arg4 harg4 arg7 x3 (2 * 11) (o := 22) rfl (by decide) inb_S112x256_S1x256_22_0, ← readG c arg4 harg4 arg7 x3 (2 * 11 + 1) (o := 23) rfl (by decide) inb_S112x256_S1x256_23_0]
  rfl

/-- Tile 11, the high nibbles. -/
theorem half_11_1 : kernelRun0_A.sl.k0_mxu49 c arg1 harg1 arg3 harg3 arg4 harg4 arg7 x0 x2 x3
    = half 1 1 (kernelRun0_A.sl.k0_mxu47 c arg1 harg1 arg3 harg3 arg4 harg4 arg7 x0 x2 x3) (tileHi x2 x3 11) (aBlk x0 39) := by
  unfold tileHi
  rw [← readW arg3 harg3 x2 11 (o := 2816) rfl (by decide) inb_S256x7168_S256x256_0_2816, ← readA arg1 harg1 x0 39 (o := 9984) rfl (by decide) inb_S256x14336_S256x256_0_9984,
    ← readG c arg4 harg4 arg7 x3 (56 + 2 * 11) (o := 78) rfl (by decide) inb_S112x256_S1x256_78_0, ← readG c arg4 harg4 arg7 x3 (56 + 2 * 11 + 1) (o := 79) rfl (by decide) inb_S112x256_S1x256_79_0]
  rfl

/-- Tile 12, the low nibbles. -/
theorem half_12_0 : kernelRun0_A.sl.k0_mxu51 c arg1 harg1 arg3 harg3 arg4 harg4 arg7 x0 x2 x3
    = half 0 0 (kernelRun0_A.sl.k0_mxu49 c arg1 harg1 arg3 harg3 arg4 harg4 arg7 x0 x2 x3) (tileLo x2 x3 12) (aBlk x0 12) := by
  unfold tileLo
  rw [← readW arg3 harg3 x2 12 (o := 3072) rfl (by decide) inb_S256x7168_S256x256_0_3072, ← readA arg1 harg1 x0 12 (o := 3072) rfl (by decide) inb_S256x14336_S256x256_0_3072,
    ← readG c arg4 harg4 arg7 x3 (2 * 12) (o := 24) rfl (by decide) inb_S112x256_S1x256_24_0, ← readG c arg4 harg4 arg7 x3 (2 * 12 + 1) (o := 25) rfl (by decide) inb_S112x256_S1x256_25_0]
  rfl

/-- Tile 12, the high nibbles. -/
theorem half_12_1 : kernelRun0_A.sl.k0_mxu53 c arg1 harg1 arg3 harg3 arg4 harg4 arg7 x0 x2 x3
    = half 1 0 (kernelRun0_A.sl.k0_mxu51 c arg1 harg1 arg3 harg3 arg4 harg4 arg7 x0 x2 x3) (tileHi x2 x3 12) (aBlk x0 40) := by
  unfold tileHi
  rw [← readW arg3 harg3 x2 12 (o := 3072) rfl (by decide) inb_S256x7168_S256x256_0_3072, ← readA arg1 harg1 x0 40 (o := 10240) rfl (by decide) inb_S256x14336_S256x256_0_10240,
    ← readG c arg4 harg4 arg7 x3 (56 + 2 * 12) (o := 80) rfl (by decide) inb_S112x256_S1x256_80_0, ← readG c arg4 harg4 arg7 x3 (56 + 2 * 12 + 1) (o := 81) rfl (by decide) inb_S112x256_S1x256_81_0]
  rfl

/-- Tile 13, the low nibbles. -/
theorem half_13_0 : kernelRun0_A.sl.k0_mxu55 c arg1 harg1 arg3 harg3 arg4 harg4 arg7 x0 x2 x3
    = half 0 1 (kernelRun0_A.sl.k0_mxu53 c arg1 harg1 arg3 harg3 arg4 harg4 arg7 x0 x2 x3) (tileLo x2 x3 13) (aBlk x0 13) := by
  unfold tileLo
  rw [← readW arg3 harg3 x2 13 (o := 3328) rfl (by decide) inb_S256x7168_S256x256_0_3328, ← readA arg1 harg1 x0 13 (o := 3328) rfl (by decide) inb_S256x14336_S256x256_0_3328,
    ← readG c arg4 harg4 arg7 x3 (2 * 13) (o := 26) rfl (by decide) inb_S112x256_S1x256_26_0, ← readG c arg4 harg4 arg7 x3 (2 * 13 + 1) (o := 27) rfl (by decide) inb_S112x256_S1x256_27_0]
  rfl

/-- Tile 13, the high nibbles. -/
theorem half_13_1 : kernelRun0_A.sl.k0_mxu57 c arg1 harg1 arg3 harg3 arg4 harg4 arg7 x0 x2 x3
    = half 1 1 (kernelRun0_A.sl.k0_mxu55 c arg1 harg1 arg3 harg3 arg4 harg4 arg7 x0 x2 x3) (tileHi x2 x3 13) (aBlk x0 41) := by
  unfold tileHi
  rw [← readW arg3 harg3 x2 13 (o := 3328) rfl (by decide) inb_S256x7168_S256x256_0_3328, ← readA arg1 harg1 x0 41 (o := 10496) rfl (by decide) inb_S256x14336_S256x256_0_10496,
    ← readG c arg4 harg4 arg7 x3 (56 + 2 * 13) (o := 82) rfl (by decide) inb_S112x256_S1x256_82_0, ← readG c arg4 harg4 arg7 x3 (56 + 2 * 13 + 1) (o := 83) rfl (by decide) inb_S112x256_S1x256_83_0]
  rfl

/-- Tile 14, the low nibbles. -/
theorem half_14_0 : kernelRun0_A.sl.k0_mxu59 c arg1 harg1 arg3 harg3 arg4 harg4 arg7 x0 x2 x3
    = half 0 0 (kernelRun0_A.sl.k0_mxu57 c arg1 harg1 arg3 harg3 arg4 harg4 arg7 x0 x2 x3) (tileLo x2 x3 14) (aBlk x0 14) := by
  unfold tileLo
  rw [← readW arg3 harg3 x2 14 (o := 3584) rfl (by decide) inb_S256x7168_S256x256_0_3584, ← readA arg1 harg1 x0 14 (o := 3584) rfl (by decide) inb_S256x14336_S256x256_0_3584,
    ← readG c arg4 harg4 arg7 x3 (2 * 14) (o := 28) rfl (by decide) inb_S112x256_S1x256_28_0, ← readG c arg4 harg4 arg7 x3 (2 * 14 + 1) (o := 29) rfl (by decide) inb_S112x256_S1x256_29_0]
  rfl

/-- Tile 14, the high nibbles. -/
theorem half_14_1 : kernelRun0_A.sl.k0_mxu61 c arg1 harg1 arg3 harg3 arg4 harg4 arg7 x0 x2 x3
    = half 1 0 (kernelRun0_A.sl.k0_mxu59 c arg1 harg1 arg3 harg3 arg4 harg4 arg7 x0 x2 x3) (tileHi x2 x3 14) (aBlk x0 42) := by
  unfold tileHi
  rw [← readW arg3 harg3 x2 14 (o := 3584) rfl (by decide) inb_S256x7168_S256x256_0_3584, ← readA arg1 harg1 x0 42 (o := 10752) rfl (by decide) inb_S256x14336_S256x256_0_10752,
    ← readG c arg4 harg4 arg7 x3 (56 + 2 * 14) (o := 84) rfl (by decide) inb_S112x256_S1x256_84_0, ← readG c arg4 harg4 arg7 x3 (56 + 2 * 14 + 1) (o := 85) rfl (by decide) inb_S112x256_S1x256_85_0]
  rfl

/-- Tile 15, the low nibbles. -/
theorem half_15_0 : kernelRun0_A.sl.k0_mxu63 c arg1 harg1 arg3 harg3 arg4 harg4 arg7 x0 x2 x3
    = half 0 1 (kernelRun0_A.sl.k0_mxu61 c arg1 harg1 arg3 harg3 arg4 harg4 arg7 x0 x2 x3) (tileLo x2 x3 15) (aBlk x0 15) := by
  unfold tileLo
  rw [← readW arg3 harg3 x2 15 (o := 3840) rfl (by decide) inb_S256x7168_S256x256_0_3840, ← readA arg1 harg1 x0 15 (o := 3840) rfl (by decide) inb_S256x14336_S256x256_0_3840,
    ← readG c arg4 harg4 arg7 x3 (2 * 15) (o := 30) rfl (by decide) inb_S112x256_S1x256_30_0, ← readG c arg4 harg4 arg7 x3 (2 * 15 + 1) (o := 31) rfl (by decide) inb_S112x256_S1x256_31_0]
  rfl

/-- Tile 15, the high nibbles. -/
theorem half_15_1 : kernelRun0_A.sl.k0_mxu65 c arg1 harg1 arg3 harg3 arg4 harg4 arg7 x0 x2 x3
    = half 1 1 (kernelRun0_A.sl.k0_mxu63 c arg1 harg1 arg3 harg3 arg4 harg4 arg7 x0 x2 x3) (tileHi x2 x3 15) (aBlk x0 43) := by
  unfold tileHi
  rw [← readW arg3 harg3 x2 15 (o := 3840) rfl (by decide) inb_S256x7168_S256x256_0_3840, ← readA arg1 harg1 x0 43 (o := 11008) rfl (by decide) inb_S256x14336_S256x256_0_11008,
    ← readG c arg4 harg4 arg7 x3 (56 + 2 * 15) (o := 86) rfl (by decide) inb_S112x256_S1x256_86_0, ← readG c arg4 harg4 arg7 x3 (56 + 2 * 15 + 1) (o := 87) rfl (by decide) inb_S112x256_S1x256_87_0]
  rfl

/-- Tile 16, the low nibbles. -/
theorem half_16_0 : kernelRun0_A.sl.k0_mxu67 c arg1 harg1 arg3 harg3 arg4 harg4 arg7 x0 x2 x3
    = half 0 0 (kernelRun0_A.sl.k0_mxu65 c arg1 harg1 arg3 harg3 arg4 harg4 arg7 x0 x2 x3) (tileLo x2 x3 16) (aBlk x0 16) := by
  unfold tileLo
  rw [← readW arg3 harg3 x2 16 (o := 4096) rfl (by decide) inb_S256x7168_S256x256_0_4096, ← readA arg1 harg1 x0 16 (o := 4096) rfl (by decide) inb_S256x14336_S256x256_0_4096,
    ← readG c arg4 harg4 arg7 x3 (2 * 16) (o := 32) rfl (by decide) inb_S112x256_S1x256_32_0, ← readG c arg4 harg4 arg7 x3 (2 * 16 + 1) (o := 33) rfl (by decide) inb_S112x256_S1x256_33_0]
  rfl

/-- Tile 16, the high nibbles. -/
theorem half_16_1 : kernelRun0_A.sl.k0_mxu69 c arg1 harg1 arg3 harg3 arg4 harg4 arg7 x0 x2 x3
    = half 1 0 (kernelRun0_A.sl.k0_mxu67 c arg1 harg1 arg3 harg3 arg4 harg4 arg7 x0 x2 x3) (tileHi x2 x3 16) (aBlk x0 44) := by
  unfold tileHi
  rw [← readW arg3 harg3 x2 16 (o := 4096) rfl (by decide) inb_S256x7168_S256x256_0_4096, ← readA arg1 harg1 x0 44 (o := 11264) rfl (by decide) inb_S256x14336_S256x256_0_11264,
    ← readG c arg4 harg4 arg7 x3 (56 + 2 * 16) (o := 88) rfl (by decide) inb_S112x256_S1x256_88_0, ← readG c arg4 harg4 arg7 x3 (56 + 2 * 16 + 1) (o := 89) rfl (by decide) inb_S112x256_S1x256_89_0]
  rfl

/-- Tile 17, the low nibbles. -/
theorem half_17_0 : kernelRun0_A.sl.k0_mxu71 c arg1 harg1 arg3 harg3 arg4 harg4 arg7 x0 x2 x3
    = half 0 1 (kernelRun0_A.sl.k0_mxu69 c arg1 harg1 arg3 harg3 arg4 harg4 arg7 x0 x2 x3) (tileLo x2 x3 17) (aBlk x0 17) := by
  unfold tileLo
  rw [← readW arg3 harg3 x2 17 (o := 4352) rfl (by decide) inb_S256x7168_S256x256_0_4352, ← readA arg1 harg1 x0 17 (o := 4352) rfl (by decide) inb_S256x14336_S256x256_0_4352,
    ← readG c arg4 harg4 arg7 x3 (2 * 17) (o := 34) rfl (by decide) inb_S112x256_S1x256_34_0, ← readG c arg4 harg4 arg7 x3 (2 * 17 + 1) (o := 35) rfl (by decide) inb_S112x256_S1x256_35_0]
  rfl

/-- Tile 17, the high nibbles. -/
theorem half_17_1 : kernelRun0_A.sl.k0_mxu73 c arg1 harg1 arg3 harg3 arg4 harg4 arg7 x0 x2 x3
    = half 1 1 (kernelRun0_A.sl.k0_mxu71 c arg1 harg1 arg3 harg3 arg4 harg4 arg7 x0 x2 x3) (tileHi x2 x3 17) (aBlk x0 45) := by
  unfold tileHi
  rw [← readW arg3 harg3 x2 17 (o := 4352) rfl (by decide) inb_S256x7168_S256x256_0_4352, ← readA arg1 harg1 x0 45 (o := 11520) rfl (by decide) inb_S256x14336_S256x256_0_11520,
    ← readG c arg4 harg4 arg7 x3 (56 + 2 * 17) (o := 90) rfl (by decide) inb_S112x256_S1x256_90_0, ← readG c arg4 harg4 arg7 x3 (56 + 2 * 17 + 1) (o := 91) rfl (by decide) inb_S112x256_S1x256_91_0]
  rfl

/-- Tile 18, the low nibbles. -/
theorem half_18_0 : kernelRun0_A.sl.k0_mxu75 c arg1 harg1 arg3 harg3 arg4 harg4 arg7 x0 x2 x3
    = half 0 0 (kernelRun0_A.sl.k0_mxu73 c arg1 harg1 arg3 harg3 arg4 harg4 arg7 x0 x2 x3) (tileLo x2 x3 18) (aBlk x0 18) := by
  unfold tileLo
  rw [← readW arg3 harg3 x2 18 (o := 4608) rfl (by decide) inb_S256x7168_S256x256_0_4608, ← readA arg1 harg1 x0 18 (o := 4608) rfl (by decide) inb_S256x14336_S256x256_0_4608,
    ← readG c arg4 harg4 arg7 x3 (2 * 18) (o := 36) rfl (by decide) inb_S112x256_S1x256_36_0, ← readG c arg4 harg4 arg7 x3 (2 * 18 + 1) (o := 37) rfl (by decide) inb_S112x256_S1x256_37_0]
  rfl

/-- Tile 18, the high nibbles. -/
theorem half_18_1 : kernelRun0_A.sl.k0_mxu77 c arg1 harg1 arg3 harg3 arg4 harg4 arg7 x0 x2 x3
    = half 1 0 (kernelRun0_A.sl.k0_mxu75 c arg1 harg1 arg3 harg3 arg4 harg4 arg7 x0 x2 x3) (tileHi x2 x3 18) (aBlk x0 46) := by
  unfold tileHi
  rw [← readW arg3 harg3 x2 18 (o := 4608) rfl (by decide) inb_S256x7168_S256x256_0_4608, ← readA arg1 harg1 x0 46 (o := 11776) rfl (by decide) inb_S256x14336_S256x256_0_11776,
    ← readG c arg4 harg4 arg7 x3 (56 + 2 * 18) (o := 92) rfl (by decide) inb_S112x256_S1x256_92_0, ← readG c arg4 harg4 arg7 x3 (56 + 2 * 18 + 1) (o := 93) rfl (by decide) inb_S112x256_S1x256_93_0]
  rfl

/-- Tile 19, the low nibbles. -/
theorem half_19_0 : kernelRun0_A.sl.k0_mxu79 c arg1 harg1 arg3 harg3 arg4 harg4 arg7 x0 x2 x3
    = half 0 1 (kernelRun0_A.sl.k0_mxu77 c arg1 harg1 arg3 harg3 arg4 harg4 arg7 x0 x2 x3) (tileLo x2 x3 19) (aBlk x0 19) := by
  unfold tileLo
  rw [← readW arg3 harg3 x2 19 (o := 4864) rfl (by decide) inb_S256x7168_S256x256_0_4864, ← readA arg1 harg1 x0 19 (o := 4864) rfl (by decide) inb_S256x14336_S256x256_0_4864,
    ← readG c arg4 harg4 arg7 x3 (2 * 19) (o := 38) rfl (by decide) inb_S112x256_S1x256_38_0, ← readG c arg4 harg4 arg7 x3 (2 * 19 + 1) (o := 39) rfl (by decide) inb_S112x256_S1x256_39_0]
  rfl

/-- Tile 19, the high nibbles. -/
theorem half_19_1 : kernelRun0_A.sl.k0_mxu81 c arg1 harg1 arg3 harg3 arg4 harg4 arg7 x0 x2 x3
    = half 1 1 (kernelRun0_A.sl.k0_mxu79 c arg1 harg1 arg3 harg3 arg4 harg4 arg7 x0 x2 x3) (tileHi x2 x3 19) (aBlk x0 47) := by
  unfold tileHi
  rw [← readW arg3 harg3 x2 19 (o := 4864) rfl (by decide) inb_S256x7168_S256x256_0_4864, ← readA arg1 harg1 x0 47 (o := 12032) rfl (by decide) inb_S256x14336_S256x256_0_12032,
    ← readG c arg4 harg4 arg7 x3 (56 + 2 * 19) (o := 94) rfl (by decide) inb_S112x256_S1x256_94_0, ← readG c arg4 harg4 arg7 x3 (56 + 2 * 19 + 1) (o := 95) rfl (by decide) inb_S112x256_S1x256_95_0]
  rfl

/-- Tile 20, the low nibbles. -/
theorem half_20_0 : kernelRun0_A.sl.k0_mxu83 c arg1 harg1 arg3 harg3 arg4 harg4 arg7 x0 x2 x3
    = half 0 0 (kernelRun0_A.sl.k0_mxu81 c arg1 harg1 arg3 harg3 arg4 harg4 arg7 x0 x2 x3) (tileLo x2 x3 20) (aBlk x0 20) := by
  unfold tileLo
  rw [← readW arg3 harg3 x2 20 (o := 5120) rfl (by decide) inb_S256x7168_S256x256_0_5120, ← readA arg1 harg1 x0 20 (o := 5120) rfl (by decide) inb_S256x14336_S256x256_0_5120,
    ← readG c arg4 harg4 arg7 x3 (2 * 20) (o := 40) rfl (by decide) inb_S112x256_S1x256_40_0, ← readG c arg4 harg4 arg7 x3 (2 * 20 + 1) (o := 41) rfl (by decide) inb_S112x256_S1x256_41_0]
  rfl

/-- Tile 20, the high nibbles. -/
theorem half_20_1 : kernelRun0_A.sl.k0_mxu85 c arg1 harg1 arg3 harg3 arg4 harg4 arg7 x0 x2 x3
    = half 1 0 (kernelRun0_A.sl.k0_mxu83 c arg1 harg1 arg3 harg3 arg4 harg4 arg7 x0 x2 x3) (tileHi x2 x3 20) (aBlk x0 48) := by
  unfold tileHi
  rw [← readW arg3 harg3 x2 20 (o := 5120) rfl (by decide) inb_S256x7168_S256x256_0_5120, ← readA arg1 harg1 x0 48 (o := 12288) rfl (by decide) inb_S256x14336_S256x256_0_12288,
    ← readG c arg4 harg4 arg7 x3 (56 + 2 * 20) (o := 96) rfl (by decide) inb_S112x256_S1x256_96_0, ← readG c arg4 harg4 arg7 x3 (56 + 2 * 20 + 1) (o := 97) rfl (by decide) inb_S112x256_S1x256_97_0]
  rfl

/-- Tile 21, the low nibbles. -/
theorem half_21_0 : kernelRun0_A.sl.k0_mxu87 c arg1 harg1 arg3 harg3 arg4 harg4 arg7 x0 x2 x3
    = half 0 1 (kernelRun0_A.sl.k0_mxu85 c arg1 harg1 arg3 harg3 arg4 harg4 arg7 x0 x2 x3) (tileLo x2 x3 21) (aBlk x0 21) := by
  unfold tileLo
  rw [← readW arg3 harg3 x2 21 (o := 5376) rfl (by decide) inb_S256x7168_S256x256_0_5376, ← readA arg1 harg1 x0 21 (o := 5376) rfl (by decide) inb_S256x14336_S256x256_0_5376,
    ← readG c arg4 harg4 arg7 x3 (2 * 21) (o := 42) rfl (by decide) inb_S112x256_S1x256_42_0, ← readG c arg4 harg4 arg7 x3 (2 * 21 + 1) (o := 43) rfl (by decide) inb_S112x256_S1x256_43_0]
  rfl

/-- Tile 21, the high nibbles. -/
theorem half_21_1 : kernelRun0_A.sl.k0_mxu89 c arg1 harg1 arg3 harg3 arg4 harg4 arg7 x0 x2 x3
    = half 1 1 (kernelRun0_A.sl.k0_mxu87 c arg1 harg1 arg3 harg3 arg4 harg4 arg7 x0 x2 x3) (tileHi x2 x3 21) (aBlk x0 49) := by
  unfold tileHi
  rw [← readW arg3 harg3 x2 21 (o := 5376) rfl (by decide) inb_S256x7168_S256x256_0_5376, ← readA arg1 harg1 x0 49 (o := 12544) rfl (by decide) inb_S256x14336_S256x256_0_12544,
    ← readG c arg4 harg4 arg7 x3 (56 + 2 * 21) (o := 98) rfl (by decide) inb_S112x256_S1x256_98_0, ← readG c arg4 harg4 arg7 x3 (56 + 2 * 21 + 1) (o := 99) rfl (by decide) inb_S112x256_S1x256_99_0]
  rfl

/-- Tile 22, the low nibbles. -/
theorem half_22_0 : kernelRun0_A.sl.k0_mxu91 c arg1 harg1 arg3 harg3 arg4 harg4 arg7 x0 x2 x3
    = half 0 0 (kernelRun0_A.sl.k0_mxu89 c arg1 harg1 arg3 harg3 arg4 harg4 arg7 x0 x2 x3) (tileLo x2 x3 22) (aBlk x0 22) := by
  unfold tileLo
  rw [← readW arg3 harg3 x2 22 (o := 5632) rfl (by decide) inb_S256x7168_S256x256_0_5632, ← readA arg1 harg1 x0 22 (o := 5632) rfl (by decide) inb_S256x14336_S256x256_0_5632,
    ← readG c arg4 harg4 arg7 x3 (2 * 22) (o := 44) rfl (by decide) inb_S112x256_S1x256_44_0, ← readG c arg4 harg4 arg7 x3 (2 * 22 + 1) (o := 45) rfl (by decide) inb_S112x256_S1x256_45_0]
  rfl

/-- Tile 22, the high nibbles. -/
theorem half_22_1 : kernelRun0_A.sl.k0_mxu93 c arg1 harg1 arg3 harg3 arg4 harg4 arg7 x0 x2 x3
    = half 1 0 (kernelRun0_A.sl.k0_mxu91 c arg1 harg1 arg3 harg3 arg4 harg4 arg7 x0 x2 x3) (tileHi x2 x3 22) (aBlk x0 50) := by
  unfold tileHi
  rw [← readW arg3 harg3 x2 22 (o := 5632) rfl (by decide) inb_S256x7168_S256x256_0_5632, ← readA arg1 harg1 x0 50 (o := 12800) rfl (by decide) inb_S256x14336_S256x256_0_12800,
    ← readG c arg4 harg4 arg7 x3 (56 + 2 * 22) (o := 100) rfl (by decide) inb_S112x256_S1x256_100_0, ← readG c arg4 harg4 arg7 x3 (56 + 2 * 22 + 1) (o := 101) rfl (by decide) inb_S112x256_S1x256_101_0]
  rfl

/-- Tile 23, the low nibbles. -/
theorem half_23_0 : kernelRun0_A.sl.k0_mxu95 c arg1 harg1 arg3 harg3 arg4 harg4 arg7 x0 x2 x3
    = half 0 1 (kernelRun0_A.sl.k0_mxu93 c arg1 harg1 arg3 harg3 arg4 harg4 arg7 x0 x2 x3) (tileLo x2 x3 23) (aBlk x0 23) := by
  unfold tileLo
  rw [← readW arg3 harg3 x2 23 (o := 5888) rfl (by decide) inb_S256x7168_S256x256_0_5888, ← readA arg1 harg1 x0 23 (o := 5888) rfl (by decide) inb_S256x14336_S256x256_0_5888,
    ← readG c arg4 harg4 arg7 x3 (2 * 23) (o := 46) rfl (by decide) inb_S112x256_S1x256_46_0, ← readG c arg4 harg4 arg7 x3 (2 * 23 + 1) (o := 47) rfl (by decide) inb_S112x256_S1x256_47_0]
  rfl

/-- Tile 23, the high nibbles. -/
theorem half_23_1 : kernelRun0_A.sl.k0_mxu97 c arg1 harg1 arg3 harg3 arg4 harg4 arg7 x0 x2 x3
    = half 1 1 (kernelRun0_A.sl.k0_mxu95 c arg1 harg1 arg3 harg3 arg4 harg4 arg7 x0 x2 x3) (tileHi x2 x3 23) (aBlk x0 51) := by
  unfold tileHi
  rw [← readW arg3 harg3 x2 23 (o := 5888) rfl (by decide) inb_S256x7168_S256x256_0_5888, ← readA arg1 harg1 x0 51 (o := 13056) rfl (by decide) inb_S256x14336_S256x256_0_13056,
    ← readG c arg4 harg4 arg7 x3 (56 + 2 * 23) (o := 102) rfl (by decide) inb_S112x256_S1x256_102_0, ← readG c arg4 harg4 arg7 x3 (56 + 2 * 23 + 1) (o := 103) rfl (by decide) inb_S112x256_S1x256_103_0]
  rfl

/-- Tile 24, the low nibbles. -/
theorem half_24_0 : kernelRun0_A.sl.k0_mxu99 c arg1 harg1 arg3 harg3 arg4 harg4 arg7 x0 x2 x3
    = half 0 0 (kernelRun0_A.sl.k0_mxu97 c arg1 harg1 arg3 harg3 arg4 harg4 arg7 x0 x2 x3) (tileLo x2 x3 24) (aBlk x0 24) := by
  unfold tileLo
  rw [← readW arg3 harg3 x2 24 (o := 6144) rfl (by decide) inb_S256x7168_S256x256_0_6144, ← readA arg1 harg1 x0 24 (o := 6144) rfl (by decide) inb_S256x14336_S256x256_0_6144,
    ← readG c arg4 harg4 arg7 x3 (2 * 24) (o := 48) rfl (by decide) inb_S112x256_S1x256_48_0, ← readG c arg4 harg4 arg7 x3 (2 * 24 + 1) (o := 49) rfl (by decide) inb_S112x256_S1x256_49_0]
  rfl

/-- Tile 24, the high nibbles. -/
theorem half_24_1 : kernelRun0_A.sl.k0_mxu101 c arg1 harg1 arg3 harg3 arg4 harg4 arg7 x0 x2 x3
    = half 1 0 (kernelRun0_A.sl.k0_mxu99 c arg1 harg1 arg3 harg3 arg4 harg4 arg7 x0 x2 x3) (tileHi x2 x3 24) (aBlk x0 52) := by
  unfold tileHi
  rw [← readW arg3 harg3 x2 24 (o := 6144) rfl (by decide) inb_S256x7168_S256x256_0_6144, ← readA arg1 harg1 x0 52 (o := 13312) rfl (by decide) inb_S256x14336_S256x256_0_13312,
    ← readG c arg4 harg4 arg7 x3 (56 + 2 * 24) (o := 104) rfl (by decide) inb_S112x256_S1x256_104_0, ← readG c arg4 harg4 arg7 x3 (56 + 2 * 24 + 1) (o := 105) rfl (by decide) inb_S112x256_S1x256_105_0]
  rfl

/-- Tile 25, the low nibbles. -/
theorem half_25_0 : kernelRun0_A.sl.k0_mxu103 c arg1 harg1 arg3 harg3 arg4 harg4 arg7 x0 x2 x3
    = half 0 1 (kernelRun0_A.sl.k0_mxu101 c arg1 harg1 arg3 harg3 arg4 harg4 arg7 x0 x2 x3) (tileLo x2 x3 25) (aBlk x0 25) := by
  unfold tileLo
  rw [← readW arg3 harg3 x2 25 (o := 6400) rfl (by decide) inb_S256x7168_S256x256_0_6400, ← readA arg1 harg1 x0 25 (o := 6400) rfl (by decide) inb_S256x14336_S256x256_0_6400,
    ← readG c arg4 harg4 arg7 x3 (2 * 25) (o := 50) rfl (by decide) inb_S112x256_S1x256_50_0, ← readG c arg4 harg4 arg7 x3 (2 * 25 + 1) (o := 51) rfl (by decide) inb_S112x256_S1x256_51_0]
  rfl

/-- Tile 25, the high nibbles. -/
theorem half_25_1 : kernelRun0_A.sl.k0_mxu105 c arg1 harg1 arg3 harg3 arg4 harg4 arg7 x0 x2 x3
    = half 1 1 (kernelRun0_A.sl.k0_mxu103 c arg1 harg1 arg3 harg3 arg4 harg4 arg7 x0 x2 x3) (tileHi x2 x3 25) (aBlk x0 53) := by
  unfold tileHi
  rw [← readW arg3 harg3 x2 25 (o := 6400) rfl (by decide) inb_S256x7168_S256x256_0_6400, ← readA arg1 harg1 x0 53 (o := 13568) rfl (by decide) inb_S256x14336_S256x256_0_13568,
    ← readG c arg4 harg4 arg7 x3 (56 + 2 * 25) (o := 106) rfl (by decide) inb_S112x256_S1x256_106_0, ← readG c arg4 harg4 arg7 x3 (56 + 2 * 25 + 1) (o := 107) rfl (by decide) inb_S112x256_S1x256_107_0]
  rfl

/-- Tile 26, the low nibbles. -/
theorem half_26_0 : kernelRun0_A.sl.k0_mxu107 c arg1 harg1 arg3 harg3 arg4 harg4 arg7 x0 x2 x3
    = half 0 0 (kernelRun0_A.sl.k0_mxu105 c arg1 harg1 arg3 harg3 arg4 harg4 arg7 x0 x2 x3) (tileLo x2 x3 26) (aBlk x0 26) := by
  unfold tileLo
  rw [← readW arg3 harg3 x2 26 (o := 6656) rfl (by decide) inb_S256x7168_S256x256_0_6656, ← readA arg1 harg1 x0 26 (o := 6656) rfl (by decide) inb_S256x14336_S256x256_0_6656,
    ← readG c arg4 harg4 arg7 x3 (2 * 26) (o := 52) rfl (by decide) inb_S112x256_S1x256_52_0, ← readG c arg4 harg4 arg7 x3 (2 * 26 + 1) (o := 53) rfl (by decide) inb_S112x256_S1x256_53_0]
  rfl

/-- Tile 26, the high nibbles. -/
theorem half_26_1 : kernelRun0_A.sl.k0_mxu109 c arg1 harg1 arg3 harg3 arg4 harg4 arg7 x0 x2 x3
    = half 1 0 (kernelRun0_A.sl.k0_mxu107 c arg1 harg1 arg3 harg3 arg4 harg4 arg7 x0 x2 x3) (tileHi x2 x3 26) (aBlk x0 54) := by
  unfold tileHi
  rw [← readW arg3 harg3 x2 26 (o := 6656) rfl (by decide) inb_S256x7168_S256x256_0_6656, ← readA arg1 harg1 x0 54 (o := 13824) rfl (by decide) inb_S256x14336_S256x256_0_13824,
    ← readG c arg4 harg4 arg7 x3 (56 + 2 * 26) (o := 108) rfl (by decide) inb_S112x256_S1x256_108_0, ← readG c arg4 harg4 arg7 x3 (56 + 2 * 26 + 1) (o := 109) rfl (by decide) inb_S112x256_S1x256_109_0]
  rfl

/-- Tile 27, the low nibbles. -/
theorem half_27_0 : kernelRun0_A.sl.k0_mxu111 c arg1 harg1 arg3 harg3 arg4 harg4 arg7 x0 x2 x3
    = half 0 1 (kernelRun0_A.sl.k0_mxu109 c arg1 harg1 arg3 harg3 arg4 harg4 arg7 x0 x2 x3) (tileLo x2 x3 27) (aBlk x0 27) := by
  unfold tileLo
  rw [← readW arg3 harg3 x2 27 (o := 6912) rfl (by decide) inb_S256x7168_S256x256_0_6912, ← readA arg1 harg1 x0 27 (o := 6912) rfl (by decide) inb_S256x14336_S256x256_0_6912,
    ← readG c arg4 harg4 arg7 x3 (2 * 27) (o := 54) rfl (by decide) inb_S112x256_S1x256_54_0, ← readG c arg4 harg4 arg7 x3 (2 * 27 + 1) (o := 55) rfl (by decide) inb_S112x256_S1x256_55_0]
  rfl

/-- Tile 27, the high nibbles. -/
theorem half_27_1 : kernelRun0_A.sl.k0_mxu113 c arg1 harg1 arg3 harg3 arg4 harg4 arg7 x0 x2 x3
    = half 1 1 (kernelRun0_A.sl.k0_mxu111 c arg1 harg1 arg3 harg3 arg4 harg4 arg7 x0 x2 x3) (tileHi x2 x3 27) (aBlk x0 55) := by
  unfold tileHi
  rw [← readW arg3 harg3 x2 27 (o := 6912) rfl (by decide) inb_S256x7168_S256x256_0_6912, ← readA arg1 harg1 x0 55 (o := 14080) rfl (by decide) inb_S256x14336_S256x256_0_14080,
    ← readG c arg4 harg4 arg7 x3 (56 + 2 * 27) (o := 110) rfl (by decide) inb_S112x256_S1x256_110_0, ← readG c arg4 harg4 arg7 x3 (56 + 2 * 27 + 1) (o := 111) rfl (by decide) inb_S112x256_S1x256_111_0]
  rfl

/-- The accumulation after tile 0. -/
theorem after_0 : kernelRun0_A.sl.k0_mxu5 c arg1 harg1 arg3 harg3 arg4 harg4 arg7 x0 x2 x3 = chain x0 x2 x3 1 := by
  rw [half_0_1, half_0_0]; rfl

/-- The accumulation after tile 1. -/
theorem after_1 : kernelRun0_A.sl.k0_mxu9 c arg1 harg1 arg3 harg3 arg4 harg4 arg7 x0 x2 x3 = chain x0 x2 x3 2 := by
  rw [half_1_1, half_1_0, after_0]; rfl

/-- The accumulation after tile 2. -/
theorem after_2 : kernelRun0_A.sl.k0_mxu13 c arg1 harg1 arg3 harg3 arg4 harg4 arg7 x0 x2 x3 = chain x0 x2 x3 3 := by
  rw [half_2_1, half_2_0, after_1]; rfl

/-- The accumulation after tile 3. -/
theorem after_3 : kernelRun0_A.sl.k0_mxu17 c arg1 harg1 arg3 harg3 arg4 harg4 arg7 x0 x2 x3 = chain x0 x2 x3 4 := by
  rw [half_3_1, half_3_0, after_2]; rfl

/-- The accumulation after tile 4. -/
theorem after_4 : kernelRun0_A.sl.k0_mxu21 c arg1 harg1 arg3 harg3 arg4 harg4 arg7 x0 x2 x3 = chain x0 x2 x3 5 := by
  rw [half_4_1, half_4_0, after_3]; rfl

/-- The accumulation after tile 5. -/
theorem after_5 : kernelRun0_A.sl.k0_mxu25 c arg1 harg1 arg3 harg3 arg4 harg4 arg7 x0 x2 x3 = chain x0 x2 x3 6 := by
  rw [half_5_1, half_5_0, after_4]; rfl

/-- The accumulation after tile 6. -/
theorem after_6 : kernelRun0_A.sl.k0_mxu29 c arg1 harg1 arg3 harg3 arg4 harg4 arg7 x0 x2 x3 = chain x0 x2 x3 7 := by
  rw [half_6_1, half_6_0, after_5]; rfl

/-- The accumulation after tile 7. -/
theorem after_7 : kernelRun0_A.sl.k0_mxu33 c arg1 harg1 arg3 harg3 arg4 harg4 arg7 x0 x2 x3 = chain x0 x2 x3 8 := by
  rw [half_7_1, half_7_0, after_6]; rfl

/-- The accumulation after tile 8. -/
theorem after_8 : kernelRun0_A.sl.k0_mxu37 c arg1 harg1 arg3 harg3 arg4 harg4 arg7 x0 x2 x3 = chain x0 x2 x3 9 := by
  rw [half_8_1, half_8_0, after_7]; rfl

/-- The accumulation after tile 9. -/
theorem after_9 : kernelRun0_A.sl.k0_mxu41 c arg1 harg1 arg3 harg3 arg4 harg4 arg7 x0 x2 x3 = chain x0 x2 x3 10 := by
  rw [half_9_1, half_9_0, after_8]; rfl

/-- The accumulation after tile 10. -/
theorem after_10 : kernelRun0_A.sl.k0_mxu45 c arg1 harg1 arg3 harg3 arg4 harg4 arg7 x0 x2 x3 = chain x0 x2 x3 11 := by
  rw [half_10_1, half_10_0, after_9]; rfl

/-- The accumulation after tile 11. -/
theorem after_11 : kernelRun0_A.sl.k0_mxu49 c arg1 harg1 arg3 harg3 arg4 harg4 arg7 x0 x2 x3 = chain x0 x2 x3 12 := by
  rw [half_11_1, half_11_0, after_10]; rfl

/-- The accumulation after tile 12. -/
theorem after_12 : kernelRun0_A.sl.k0_mxu53 c arg1 harg1 arg3 harg3 arg4 harg4 arg7 x0 x2 x3 = chain x0 x2 x3 13 := by
  rw [half_12_1, half_12_0, after_11]; rfl

/-- The accumulation after tile 13. -/
theorem after_13 : kernelRun0_A.sl.k0_mxu57 c arg1 harg1 arg3 harg3 arg4 harg4 arg7 x0 x2 x3 = chain x0 x2 x3 14 := by
  rw [half_13_1, half_13_0, after_12]; rfl

/-- The accumulation after tile 14. -/
theorem after_14 : kernelRun0_A.sl.k0_mxu61 c arg1 harg1 arg3 harg3 arg4 harg4 arg7 x0 x2 x3 = chain x0 x2 x3 15 := by
  rw [half_14_1, half_14_0, after_13]; rfl

/-- The accumulation after tile 15. -/
theorem after_15 : kernelRun0_A.sl.k0_mxu65 c arg1 harg1 arg3 harg3 arg4 harg4 arg7 x0 x2 x3 = chain x0 x2 x3 16 := by
  rw [half_15_1, half_15_0, after_14]; rfl

/-- The accumulation after tile 16. -/
theorem after_16 : kernelRun0_A.sl.k0_mxu69 c arg1 harg1 arg3 harg3 arg4 harg4 arg7 x0 x2 x3 = chain x0 x2 x3 17 := by
  rw [half_16_1, half_16_0, after_15]; rfl

/-- The accumulation after tile 17. -/
theorem after_17 : kernelRun0_A.sl.k0_mxu73 c arg1 harg1 arg3 harg3 arg4 harg4 arg7 x0 x2 x3 = chain x0 x2 x3 18 := by
  rw [half_17_1, half_17_0, after_16]; rfl

/-- The accumulation after tile 18. -/
theorem after_18 : kernelRun0_A.sl.k0_mxu77 c arg1 harg1 arg3 harg3 arg4 harg4 arg7 x0 x2 x3 = chain x0 x2 x3 19 := by
  rw [half_18_1, half_18_0, after_17]; rfl

/-- The accumulation after tile 19. -/
theorem after_19 : kernelRun0_A.sl.k0_mxu81 c arg1 harg1 arg3 harg3 arg4 harg4 arg7 x0 x2 x3 = chain x0 x2 x3 20 := by
  rw [half_19_1, half_19_0, after_18]; rfl

/-- The accumulation after tile 20. -/
theorem after_20 : kernelRun0_A.sl.k0_mxu85 c arg1 harg1 arg3 harg3 arg4 harg4 arg7 x0 x2 x3 = chain x0 x2 x3 21 := by
  rw [half_20_1, half_20_0, after_19]; rfl

/-- The accumulation after tile 21. -/
theorem after_21 : kernelRun0_A.sl.k0_mxu89 c arg1 harg1 arg3 harg3 arg4 harg4 arg7 x0 x2 x3 = chain x0 x2 x3 22 := by
  rw [half_21_1, half_21_0, after_20]; rfl

/-- The accumulation after tile 22. -/
theorem after_22 : kernelRun0_A.sl.k0_mxu93 c arg1 harg1 arg3 harg3 arg4 harg4 arg7 x0 x2 x3 = chain x0 x2 x3 23 := by
  rw [half_22_1, half_22_0, after_21]; rfl

/-- The accumulation after tile 23. -/
theorem after_23 : kernelRun0_A.sl.k0_mxu97 c arg1 harg1 arg3 harg3 arg4 harg4 arg7 x0 x2 x3 = chain x0 x2 x3 24 := by
  rw [half_23_1, half_23_0, after_22]; rfl

/-- The accumulation after tile 24. -/
theorem after_24 : kernelRun0_A.sl.k0_mxu101 c arg1 harg1 arg3 harg3 arg4 harg4 arg7 x0 x2 x3 = chain x0 x2 x3 25 := by
  rw [half_24_1, half_24_0, after_23]; rfl

/-- The accumulation after tile 25. -/
theorem after_25 : kernelRun0_A.sl.k0_mxu105 c arg1 harg1 arg3 harg3 arg4 harg4 arg7 x0 x2 x3 = chain x0 x2 x3 26 := by
  rw [half_25_1, half_25_0, after_24]; rfl

/-- The accumulation after tile 26. -/
theorem after_26 : kernelRun0_A.sl.k0_mxu109 c arg1 harg1 arg3 harg3 arg4 harg4 arg7 x0 x2 x3 = chain x0 x2 x3 27 := by
  rw [half_26_1, half_26_0, after_25]; rfl

/-- The accumulation after tile 27. -/
theorem after_27 : kernelRun0_A.sl.k0_mxu113 c arg1 harg1 arg3 harg3 arg4 harg4 arg7 x0 x2 x3 = chain x0 x2 x3 28 := by
  rw [half_27_1, half_27_0, after_26]; rfl

/-- A load of the whole of a one-column or one-row block reads it. -/
theorem read_full {s : Shape} {e : EltTy} {m : Memref sig .tc .vmem s e} (hm : m.IsWhole) (x : Vec F s e) {off : Fin s.rank → ℕ}
    (inb : ∀ a, off a + s.size a ≤ s.size a) :
    View.readAt (Elt F) m.view (Rect.unit off s.size inb).toLoadRect (hm.unread x) = x := by
  funext i
  rw [hm.readAt_unread]
  exact congrArg x (Rect.emb_unit_full inb i)

end Reads

/-- WHAT THE BODY LEAVES IN THE OUTPUT BLOCK: the two units' result rows after 28 steps, added, times 1/16, times the
    rows' scales and the columns' scales. -/
theorem out_eq (c : Dev nD) (i : grid0.Coords) (arg1 : Memref sig .tc .vmem S256x14336 .fp8e4m3) (harg1 : arg1.IsWhole) (arg2 : Memref sig .tc .vmem S256x1 .f32) (harg2 : arg2.IsWhole) (arg3 : Memref sig .tc .vmem S256x7168 .i8) (harg3 : arg3.IsWhole) (arg4 : Memref sig .tc .vmem S256x112 .i8) (harg4 : arg4.IsWhole) (arg5 : Memref sig .tc .vmem S1x256 .f32) (harg5 : arg5.IsWhole) (arg6 : Memref sig .tc .vmem S256x256 .bf16) (harg6 : arg6.IsWhole) (arg7 : Memref sig .tc .vmem S112x256 .i32) (harg7 : arg7.IsWhole)
    (x0 : Vec F S256x14336 .fp8e4m3) (x1 : Vec F S256x1 .f32) (x2 : Vec F S256x7168 .i8) (x3 : Vec F S256x112 .i8) (x4 : Vec F S1x256 .f32) :
    out0_A_5 c i arg1 harg1 arg2 harg2 arg3 harg3 arg4 harg4 arg5 harg5 arg6 harg6 arg7 harg7 x0 x1 x2 x3 x4
      = k0_pay1 (addf ((chain x0 x2 x3 28).read 0 0 fits_0_256) ((chain x0 x2 x3 28).read 1 0 fits_0_256))
          (FloatOps.ofBits .f32 1031798784#32) x1 x4 := by
  unfold out0_A_5
  refine (View.read_writes_full VO0_5 _ inb_S256x256_S256x256_0_0 _ []).trans ?_
  rw [read_full harg2, read_full harg5]
  have e : kernelRun0_A.sl.r_123 c arg1 harg1 arg3 harg3 arg4 harg4 arg7 x0 x2 x3
      = addf ((kernelRun0_A.sl.k0_mxu113 c arg1 harg1 arg3 harg3 arg4 harg4 arg7 x0 x2 x3).read 0 0 fits_0_256)
          (((kernelRun0_A.sl.k0_mxu113 c arg1 harg1 arg3 harg3 arg4 harg4 arg7 x0 x2 x3).pop 0 0 256 fits_0_256).read 1 0 fits_0_256) := rfl
  rw [e, read_pop_ne _ _ _ _ _ _ _ (Or.inl (by decide)), after_27]
  rfl

end Cert.KernelIdeal.Run

end
-- ==== Proof.Units.lean ====
/- The matrix units over the extended reals: after `k` steps each unit's result rows are the sum of its first `k`
   products of a 256-column block of the activations with a 256 × 256 tile of weights. -/
module

public import proofs.«01_k».proof.Proof.Chain
public import Idealize.ShloMosaic.Lib.MatmulPlain
public import Idealize.ShloMosaic.Lib.Pointwise

@[expose] public section

noncomputable section

namespace Cert.KernelIdeal.Run

open Cert.KernelIdeal Cert.KernelIdeal.Gen
open Idealize.ShloMosaic Idealize.ShloMosaic.TcCoe Idealize.ShloMosaic.Mxu

/-- One step on a unit with its register empty adds the product of the activations' block with the tile to the rows:
    a row not live yet reads zero, so whether the rows are live does not matter. -/
theorem read_half (q r : Fin 2) (s : Mxu Ideal) (hr : s.reg q r = none) (T : FVec Ideal S256x256 .bf16) (a : Vec Ideal S256x256 .fp8e4m3)
    (i j : Fin 256) :
    (half q r s T a).read q 0 fits_0_256 (ix2 i j)
      = s.read q 0 fits_0_256 (ix2 i j) + ∑ κ : Fin 256, (a (ix2 i κ) : EReal) * T (ix2 κ j) := by
  unfold half pushAcc
  rw [read_accLhs, read_pushed]
  have e : ((s.pushed q r false T).staged q r).pass (k0_pay5 a) (ix2 i j)
      = ∑ κ : Fin 256, (a (ix2 i κ) : EReal) * T (ix2 κ j) := by
    rw [staged_eq, reg_pushed_of_none (hn := hr)]
    have := Ideal.matmul_plain_apply (M := 256) (K := 256) (N := 256) (φ₁ := .bf16) (φ₂ := .bf16) none (k0_pay5 a) T (fun _ => 0) i j
    rw [zero_add] at this
    refine Eq.trans ?_ this
    rw [Ideal.matmul_apply, zero_add]
    rfl
  show deposit _ _ _ = _
  rw [e]
  cases hl : (s.pushed q r false T).live q (row fits_0_256 (ix2 i j 0)) with
  | true => rfl
  | false =>
    have z : s.read q 0 fits_0_256 (ix2 i j) = (0 : EReal) := by
      show s.acc q (row fits_0_256 i) j = _
      rw [live_pushed] at hl
      exact (s.clean q _ _ hl).trans Ideal.ofBits_zero_f32
    rw [z, zero_add]
    rfl

/-- It leaves the other unit's rows as they were, -/
theorem read_half_ne (q r q' : Fin 2) (hq : q' ≠ q) (s : Mxu Ideal) (T : FVec Ideal S256x256 .bf16) (a : Vec Ideal S256x256 .fp8e4m3) :
    (half q r s T a).read q' 0 fits_0_256 = s.read q' 0 fits_0_256 := by
  unfold half pushAcc
  rw [read_accLhs_ne _ _ _ _ _ _ _ _ _ (Or.inl hq), read_pushed]

/-- and every register empty if all were. -/
theorem reg_half (q r : Fin 2) (s : Mxu Ideal) (hs : ∀ q' r', s.reg q' r' = none) (T : FVec Ideal S256x256 .bf16)
    (a : Vec Ideal S256x256 .fp8e4m3) (q' r' : Fin 2) : (half q r s T a).reg q' r' = none := by
  unfold half pushAcc
  by_cases h : q' = q ∧ r' = r
  · obtain ⟨rfl, rfl⟩ := h
    exact reg_accLhs _ _ _ _ _ _
  · rw [reg_accLhs_ne _ _ _ _ _ _ _ _ h, reg_pushed_ne _ _ _ _ _ _ _ h]
    exact hs q' r'

variable (x0 : Vec Ideal S256x14336 .fp8e4m3) (x2 : Vec Ideal S256x7168 .i8) (x3 : Vec Ideal S256x112 .i8)

/-- Between steps every register is empty. -/
theorem reg_chain (k : ℕ) : ∀ q r, (chain x0 x2 x3 k).reg q r = none := by
  induction k with
  | zero => intro q r; exact reg_init q r
  | succ k ih => exact reg_half 1 _ _ (reg_half 0 _ _ ih _ _) _ _

/-- Unit 0's rows after `k` steps: the products of the low nibbles' tiles with the first half's columns. -/
theorem read_chain_lo (i j : Fin 256) (k : ℕ) :
    (chain x0 x2 x3 k).read 0 0 fits_0_256 (ix2 i j)
      = ∑ t ∈ Finset.range k, ∑ κ : Fin 256, (aBlk x0 t (ix2 i κ) : EReal) * tileLo x2 x3 t (ix2 κ j) := by
  induction k with
  | zero => rw [Finset.range_zero, Finset.sum_empty]; exact Ideal.ofBits_zero_f32
  | succ k ih =>
    rw [Finset.sum_range_succ, ← ih]
    show (half 1 _ (half 0 _ _ _ _) _ _).read 0 0 fits_0_256 (ix2 i j) = _
    rw [read_half_ne _ _ _ (by decide), read_half _ _ _ (reg_chain x0 x2 x3 k _ _)]

/-- Unit 1's rows after `k` steps: the products of the high nibbles' tiles with the second half's columns. -/
theorem read_chain_hi (i j : Fin 256) (k : ℕ) :
    (chain x0 x2 x3 k).read 1 0 fits_0_256 (ix2 i j)
      = ∑ t ∈ Finset.range k, ∑ κ : Fin 256, (aBlk x0 (28 + t) (ix2 i κ) : EReal) * tileHi x2 x3 t (ix2 κ j) := by
  induction k with
  | zero => rw [Finset.range_zero, Finset.sum_empty]; exact Ideal.ofBits_zero_f32
  | succ k ih =>
    rw [Finset.sum_range_succ, ← ih]
    show (half 1 _ (half 0 _ _ _ _) _ _).read 1 0 fits_0_256 (ix2 i j) = _
    rw [read_half _ _ _ (reg_half _ _ _ (reg_chain x0 x2 x3 k) _ _ _ _), read_half_ne _ _ _ (by decide)]

end Cert.KernelIdeal.Run

end
-- ==== Proof.Weights.lean ====
/- The weights: a nibble read as a signed number times a power of two, and the integer arithmetic either program makes
   them by. Words of four bytes are masked in one go, so the reading goes through the bytes of a word; the power of two
   is the word's two halves read as floats. -/
module

public import Idealize.ShloMosaic.Lib.BitcastFour
public import Idealize.ShloMosaic.Lib.Pointwise

@[expose] public section

noncomputable section

namespace Cert.Weights

open Idealize.ShloMosaic Idealize.ShloMosaic.TcCoe

/-- The low four bits of a byte read as a signed number, -/
def lowNib (b : BitVec 8) : ℤ := (b.extractLsb' 0 4).toInt

/-- and the high four bits. -/
def highNib (b : BitVec 8) : ℤ := (b.extractLsb' 4 4).toInt

/-- The weight of nibble value `v` in a group of exponent byte `e`: `v · 2^-e`. -/
def weight (v : ℤ) (e : BitVec 8) : ℝ := (v : ℝ) * (2 : ℝ) ^ (-(e.toNat : ℤ))

/-- A byte shifted left by four holds 16 times its low nibble, -/
theorem low_byte : ∀ b : BitVec 8, ((b <<< 4) &&& 0xF0#8).toInt = 16 * lowNib b := by unfold lowNib; decide +kernel

/-- and a byte with its low nibble cleared 16 times its high one. -/
theorem high_byte : ∀ b : BitVec 8, (b &&& 0xF0#8).toInt = 16 * highNib b := by unfold highNib; decide +kernel

/-! ## A map of words that acts byte by byte -/

/-- If a map of words does the same to each byte, the words of a column of bytes mapped and read as bytes again are the
    bytes mapped. -/
theorem bytes_of_words (x : (⟨2, ![256, 256]⟩ : Shape).Idx → BitVec 8)
    (h₁ : (⟨2, ![256, 256]⟩ : Shape).Bitcasts 8 ⟨2, ![64, 256]⟩ 32) (h₂ : (⟨2, ![64, 256]⟩ : Shape).Bitcasts 32 ⟨2, ![256, 256]⟩ 8)
    (g : BitVec 32 → BitVec 32) (h : BitVec 8 → BitVec 8)
    (hg : ∀ w : BitVec 32, ∀ b < 4, ∀ q < 8, (g w).getLsbD (8 * b + q) = (h (w.extractLsb' (8 * b) 8)).getLsbD q) (κ n : Fin 256) :
    bitcast ⟨2, ![256, 256]⟩ 8 (fun i => g (bitcast ⟨2, ![64, 256]⟩ 32 x h₁ i)) h₂ (ix2 κ n) = h (x (ix2 κ n)) := by
  show _ = h (x (ValueIdx.ix2 κ n))
  show bitcast ⟨2, ![256, 256]⟩ 8 _ h₂ (ValueIdx.ix2 κ n) = _
  have hκ := κ.isLt
  apply BitVec.eq_of_getLsbD_eq
  intro q hq
  rw [bitcast_getLsbD _ h₂ _ q hq (by decide)]
  show (g (bitcast _ 32 x h₁ (h₂.srcIdx (ValueIdx.ix2 κ n) ((κ.val * 8 + q) / 32) _))).getLsbD ((κ.val * 8 + q) % 32) = _
  rw [show (κ.val * 8 + q) % 32 = 8 * (κ.val % 4) + q by omega, hg _ _ (Nat.mod_lt _ (by decide)) _ hq]
  congr 2
  have es : h₂.srcIdx (ValueIdx.ix2 κ n) ((κ.val * 8 + q) / 32) (fun a ha => (Nat.div_lt_iff_lt_mul (by decide)).2 (show κ.val * 8 + q < _ from h₂.pos_lt (ValueIdx.ix2 κ n) q hq a ha))
      = ValueIdx.ix2 (⟨κ.val / 4, by omega⟩ : Fin 64) n := by
    funext c
    match c with
    | ⟨0, _⟩ => exact Fin.ext ((h₂.srcIdx_row _ _ _ ⟨0, Nat.zero_lt_two⟩ rfl).trans (show (κ.val * 8 + q) / 32 = κ.val / 4 by omega))
    | ⟨1, _⟩ => exact Fin.ext (h₂.srcIdx_other _ _ _ ⟨1, Nat.one_lt_two⟩ (by show ¬ 1 + 2 = 2; omega))
  refine (congrArg (fun i => BitVec.extractLsb' (8 * (κ.val % 4)) 8 (bitcast ⟨2, ![64, 256]⟩ 32 x h₁ i)) es).trans ?_
  apply BitVec.eq_of_getLsbD_eq
  intro p hp
  rw [BitVec.getLsbD_extractLsb', bitcast_8_32_getLsbD_ix2 x h₁ _ n _ (by omega) κ (by show κ.val = 4 * (κ.val / 4) + _; omega)]
  rw [show (8 * (κ.val % 4) + p) % 8 = p by omega]
  simp [hp]

/-- Shift a word left by four and keep the high nibble of each byte: each byte does the same on its own. -/
theorem shift_mask (w : BitVec 32) : ∀ b < 4, ∀ q < 8, ((w <<< 4) &&& 4042322160#32).getLsbD (8 * b + q)
    = (((w.extractLsb' (8 * b) 8) <<< 4) &&& 0xF0#8).getLsbD q := by
  intro b hb q hq
  have m32 : ∀ b < 4, ∀ q < 8, (4042322160#32).getLsbD (8 * b + q) = decide (4 ≤ q) := by decide
  have m8 : ∀ q < 8, (0xF0#8).getLsbD q = decide (4 ≤ q) := by decide
  rw [BitVec.getLsbD_and, BitVec.getLsbD_and, m32 b hb q hq, m8 q hq, BitVec.getLsbD_shiftLeft, BitVec.getLsbD_shiftLeft,
    BitVec.getLsbD_extractLsb']
  by_cases h4 : 4 ≤ q
  · rw [show 8 * b + q - 4 = 8 * b + (q - 4) by omega]
    simp [h4, hq, show 8 * b + q < 32 by omega, show ¬ 8 * b + q < 4 by omega, show ¬ q < 4 by omega, show q - 4 < 8 by omega]
  · simp [h4]

/-- Keep the high nibble of each byte of a word. -/
theorem mask (w : BitVec 32) : ∀ b < 4, ∀ q < 8, (w &&& 4042322160#32).getLsbD (8 * b + q)
    = ((w.extractLsb' (8 * b) 8) &&& 0xF0#8).getLsbD q := by
  intro b hb q hq
  have m32 : ∀ b < 4, ∀ q < 8, (4042322160#32).getLsbD (8 * b + q) = decide (4 ≤ q) := by decide
  have m8 : ∀ q < 8, (0xF0#8).getLsbD q = decide (4 ≤ q) := by decide
  rw [BitVec.getLsbD_and, BitVec.getLsbD_and, m32 b hb q hq, m8 q hq, BitVec.getLsbD_extractLsb']
  simp [hq]

/-! ## The scale words -/

/-- The word the kernel makes of an exponent byte: the bits of the bf16 number `2^-e` in either half. -/
def scaleWord (e : BitVec 8) : BitVec 32 := ((127#32 - e.setWidth 32) <<< 7) * 65537#32

/-- Both halves of the word are the exponent field `127 - e` above seven zero bits. -/
theorem scaleWord_lo : ∀ e : BitVec 8, e.toNat ≤ 126 → (scaleWord e).extractLsb' 0 16 = BitVec.ofNat 16 ((127 - e.toNat) * 128) := by
  unfold scaleWord; decide +kernel

/-- The upper half of a word of a pair of powers. -/
theorem scaleWord_hi : ∀ e : BitVec 8, e.toNat ≤ 126 → (scaleWord e).extractLsb' 16 16 = BitVec.ofNat 16 ((127 - e.toNat) * 128) := by
  unfold scaleWord; decide +kernel

/-- The sign, exponent and fraction fields of those bits. -/
theorem scale_fields : ∀ n ≤ 126, ((BitVec.ofNat 16 ((127 - n) * 128)).extractLsb' 15 1 == 1#1) = false
    ∧ ((BitVec.ofNat 16 ((127 - n) * 128)).extractLsb' 7 8).toNat = 127 - n
    ∧ ((BitVec.ofNat 16 ((127 - n) * 128)).extractLsb' 0 7).toNat = 0 := by decide +kernel

/-- Those bits read as a bf16 number are `2^-n`. -/
theorem ofBits_scale (n : ℕ) (hn : n ≤ 126) :
    Ideal.ofBits .bf16 (BitVec.ofNat 16 ((127 - n) * 128)) = (((2 : ℝ) ^ (-(n : ℤ)) : ℝ) : EReal) := by
  obtain ⟨h1, h2, h3⟩ := scale_fields n hn
  show Ideal.ieee 8 7 _ = _
  unfold Ideal.ieee
  simp only [Nat.reduceAdd, h1, h2, h3]
  rw [if_neg (by omega), if_neg (by omega)]
  congr 1
  have e : ((127 - n : ℕ) : ℤ) = 127 - n := by omega
  rw [e]
  norm_num
  rw [show -(n : ℤ) - 7 = -(n : ℤ) + (-7) by ring, zpow_add₀ (by norm_num)]
  norm_num
  ring

end Cert.Weights

end
-- ==== Proof.Tiles.lean ====
/- The tiles the kernel builds, over the extended reals: entry (κ, n) of a tile is 16 times the weight, the weight being
   a nibble read as a signed number times a power of two. -/
module

public import proofs.«01_k».proof.Proof.Units
public import proofs.«01_k».proof.Proof.Weights
public import Idealize.ShloMosaic.Lib.BitcastFour
public import Idealize.ShloMosaic.Lib.Pointwise

@[expose] public section

noncomputable section

namespace Cert.KernelIdeal.Run

open Cert.KernelIdeal Cert.KernelIdeal.Gen Cert.Weights
open Idealize.ShloMosaic Idealize.ShloMosaic.TcCoe Idealize.ShloMosaic.Mxu

/-- The two ways of writing an index of two coordinates. -/
theorem ix_eq {a b : ℕ} (r : Fin a) (c : Fin b) : (ix r c : (⟨2, ![a, b]⟩ : Shape).Idx) = ix2 r c := by
  funext d
  match d with
  | ⟨0, _⟩ => rfl
  | ⟨1, _⟩ => rfl

/-- An entry of a block of packed weights. -/
theorem wBlk_apply (x : Vec Ideal S256x7168 .i8) (k : ℕ) (n κ : Fin 256) :
    wBlk x k (ix2 n κ) = x (ix2 n (Fin.ofNat 7168 (256 * k + κ.val))) := congrArg x (ix_eq n (Fin.ofNat 7168 (256 * k + κ.val)))

/-- An entry of a block of activations. -/
theorem aBlk_apply (x : Vec Ideal S256x14336 .fp8e4m3) (k : ℕ) (r κ : Fin 256) :
    aBlk x k (ix2 r κ) = x (ix2 r (Fin.ofNat 14336 (256 * k + κ.val))) := congrArg x (ix_eq r (Fin.ofNat 14336 (256 * k + κ.val)))

/-- Row `g` of the table of scale words at column `n`. -/
theorem gRow_apply (x : Vec Ideal S256x112 .i8) (g : ℕ) (n : Fin 256) (z : Fin 1) :
    gRow x g (ix2 z n) = scaleWord (x (ix2 n (Fin.ofNat 112 g))) := by
  unfold gRow k0_pay2
  pointwise
  rfl

/-- The 128 rows of scales of one group: the group's word at sixteen bits, read as floats, every row the same. -/
def scaleTile (g : Vec Ideal S1x256 .i32) : FVec Ideal S128x256 .bf16 :=
  have w : FVec Ideal S16x256 .bf16 := bitcastToFloat .bf16 (bitcast S16x256 16
    (broadcastTo S8x256 (shapeCast S1x256 g shapeCasts_S1x256_S1x256) broadcasts_S1x256_S8x256) bitcasts_S8x256_w32_S16x256_w16)
  concatenate S128x256 0 [⟨S16x256, w⟩, ⟨S16x256, w⟩, ⟨S16x256, w⟩, ⟨S16x256, w⟩, ⟨S16x256, w⟩, ⟨S16x256, w⟩, ⟨S16x256, w⟩, ⟨S16x256, w⟩]
    concatenates_S16x256_S16x256_S16x256_S16x256_S16x256_S16x256_S16x256_S16x256_S128x256_d0

/-- An entry of a tile of powers of two. -/
theorem scaleTile_apply (g : Vec Ideal S1x256 .i32) (e : Fin 256 → BitVec 8) (he : ∀ n, (e n).toNat ≤ 126)
    (hg : ∀ n, g (ix2 0 n) = scaleWord (e n)) (κ : Fin 128) (n : Fin 256) :
    scaleTile g (ix2 κ n) = (((2 : ℝ) ^ (-((e n).toNat : ℤ)) : ℝ) : EReal) := by
  unfold scaleTile
  have hκ := κ.isLt
  refine (concatenate_replicate_apply (t := S128x256) (s₁ := S16x256) 0 8 _ _ rfl (ix2 κ n) (ix2 (⟨κ.val % 16, by omega⟩ : Fin 16) n) rfl ?_).trans ?_
  · intro b hb
    match b with
    | ⟨0, _⟩ => exact absurd rfl hb
    | ⟨1, _⟩ => rfl
  show Ideal.ofBits .bf16 (bitcast S16x256 16 _ _ _) = _
  rw [bitcast_32_16]
  have hs : ∀ j : S8x256.Idx, (j 1).val = n.val →
      (broadcastTo S8x256 (shapeCast S1x256 g shapeCasts_S1x256_S1x256) broadcasts_S1x256_S8x256) j = scaleWord (e n) := by
    intro j hj
    rw [← hg n]
    pointwise
    congr 1; funext a
    match a with
    | ⟨0, _⟩ => rfl
    | ⟨1, _⟩ => exact Fin.ext hj
  rw [hs _ ((Shape.Bitcasts.srcIdx_other _ _ _ _ ⟨1, Nat.one_lt_two⟩ (by show ¬ 1 + 2 = 2; omega)))]
  rw [← ofBits_scale _ (he n)]
  congr 1
  have hr : (S16x256.row (ix2 (⟨κ.val % 16, by omega⟩ : Fin 16) n)) = κ.val % 16 := rfl
  rw [hr]
  rcases Nat.mod_two_eq_zero_or_one (κ.val % 16) with h | h <;> rw [h]
  · exact scaleWord_lo _ (he n)
  · exact scaleWord_hi _ (he n)

/-- A tile from its bytes and its two groups' scales: rows 0–127 by the first group's, rows 128–255 by the second's. -/
def scaled (b : FVec Ideal S256x256 .bf16) (g₀ g₁ : Vec Ideal S1x256 .i32) : FVec Ideal S256x256 .bf16 :=
  concatenate S256x256 0 [⟨S128x256, mulf (extractStridedSlice S128x256 ![0, 0] b slices_S256x256_o0_0_S128x256) (scaleTile g₀)⟩,
    ⟨S128x256, mulf (extractStridedSlice S128x256 ![128, 0] b slices_S256x256_o128_0_S128x256) (scaleTile g₁)⟩]
    concatenates_S128x256_S128x256_S256x256_d0

/-- An entry of a tile of weights, scaled. -/
theorem scaled_apply (b : FVec Ideal S256x256 .bf16) (g₀ g₁ : Vec Ideal S1x256 .i32) (e₀ e₁ : Fin 256 → BitVec 8)
    (h₀ : ∀ n, (e₀ n).toNat ≤ 126) (h₁ : ∀ n, (e₁ n).toNat ≤ 126)
    (hg₀ : ∀ n, g₀ (ix2 0 n) = scaleWord (e₀ n)) (hg₁ : ∀ n, g₁ (ix2 0 n) = scaleWord (e₁ n)) (κ n : Fin 256) :
    scaled b g₀ g₁ (ix2 κ n)
      = (b (ix2 κ n) : EReal) * (((2 : ℝ) ^ (-(((if κ.val < 128 then e₀ n else e₁ n)).toNat : ℤ)) : ℝ) : EReal) := by
  unfold scaled
  have hκ := κ.isLt
  by_cases h : κ.val < 128
  · rw [if_pos h, ← scaleTile_apply g₀ e₀ h₀ hg₀ ⟨κ.val, h⟩ n]
    refine (concatenate_pair_apply_left (t := S256x256) (s₁ := S128x256) (s₂ := S128x256) 0 _ _ _ (ix2 κ n) rfl (ix2 (⟨κ.val, h⟩ : Fin 128) n) ?_).trans ?_
    · intro a
      match a with
      | ⟨0, _⟩ => rfl
      | ⟨1, _⟩ => rfl
    · pointwise
  · rw [if_neg h, ← scaleTile_apply g₁ e₁ h₁ hg₁ ⟨κ.val - 128, by omega⟩ n]
    refine (concatenate_pair_apply_right (t := S256x256) (s₁ := S128x256) (s₂ := S128x256) 0 _ _ _ (ix2 κ n) rfl rfl (ix2 (⟨κ.val - 128, by omega⟩ : Fin 128) n) ?_ ?_).trans ?_
    · intro a ha
      match a with
      | ⟨0, _⟩ => exact absurd rfl ha
      | ⟨1, _⟩ => rfl
    · show κ.val - 128 + 128 = κ.val
      omega
    · pointwise
      congr 2; funext a
      match a with
      | ⟨0, _⟩ => exact Fin.ext (by simp; omega)
      | ⟨1, _⟩ => exact Fin.ext (by simp)

variable (x2 : Vec Ideal S256x7168 .i8) (x3 : Vec Ideal S256x112 .i8)

/-- A weight times its power of two. -/
theorem mul_weight (v : ℤ) (e : BitVec 8) :
    (((16 * v : ℤ) : ℝ) : EReal) * (((2 : ℝ) ^ (-(e.toNat : ℤ)) : ℝ) : EReal) = ((weight v e * 16 : ℝ) : EReal) := by
  rw [← EReal.coe_mul]
  congr 1
  unfold weight
  push_cast
  ring

/-- ENTRY (κ, n) OF UNIT 0's TILE OF STEP `k`: 16 times the weight of column 256 k + κ's low nibble. -/
theorem tileLo_apply (h3 : ∀ i, (x3 i).toNat ≤ 126) (k : ℕ) (κ n : Fin 256) :
    (tileLo x2 x3 k (ix2 κ n) : EReal)
      = ((weight (lowNib (x2 (ix2 n (Fin.ofNat 7168 (256 * k + κ.val))))) (x3 (ix2 n (Fin.ofNat 112 (2 * k + κ.val / 128)))) * 16 : ℝ) : EReal) := by
  have hκ := κ.isLt
  refine (scaled_apply _ (gRow x3 (2 * k)) (gRow x3 (2 * k + 1)) (fun n => x3 (ix2 n (Fin.ofNat 112 (2 * k))))
    (fun n => x3 (ix2 n (Fin.ofNat 112 (2 * k + 1)))) (fun _ => h3 _) (fun _ => h3 _) (fun n => gRow_apply x3 _ n 0) (fun n => gRow_apply x3 _ n 0) κ n).trans ?_
  have eb := bytes_of_words (transpose S256x256 [1, 0] (wBlk x2 k) transposes_S256x256_p1_0_S256x256) bitcasts_S256x256_w8_S64x256_w32
    bitcasts_S64x256_w32_S256x256_w8 (fun w => (w <<< 4) &&& 4042322160#32) (fun b => (b <<< 4) &&& 0xF0#8) shift_mask κ n
  have et : transpose S256x256 [1, 0] (wBlk x2 k) transposes_S256x256_p1_0_S256x256 (ix2 κ n) = x2 (ix2 n (Fin.ofNat 7168 (256 * k + κ.val))) := by
    pointwise
    exact wBlk_apply x2 k n κ
  rw [et] at eb
  rw [← mul_weight, ← low_byte, ← eb]
  congr 1
  by_cases h : κ.val < 128
  · simp [h, show κ.val / 128 = 0 by omega]
  · simp [h, show κ.val / 128 = 1 by omega]

/-- ENTRY (κ, n) OF UNIT 1's TILE OF STEP `k`: 16 times the weight of column 7168 + 256 k + κ, a high nibble. -/
theorem tileHi_apply (h3 : ∀ i, (x3 i).toNat ≤ 126) (k : ℕ) (κ n : Fin 256) :
    (tileHi x2 x3 k (ix2 κ n) : EReal)
      = ((weight (highNib (x2 (ix2 n (Fin.ofNat 7168 (256 * k + κ.val))))) (x3 (ix2 n (Fin.ofNat 112 (56 + 2 * k + κ.val / 128)))) * 16 : ℝ) : EReal) := by
  have hκ := κ.isLt
  refine (scaled_apply _ (gRow x3 (56 + 2 * k)) (gRow x3 (56 + 2 * k + 1)) (fun n => x3 (ix2 n (Fin.ofNat 112 (56 + 2 * k))))
    (fun n => x3 (ix2 n (Fin.ofNat 112 (56 + 2 * k + 1)))) (fun _ => h3 _) (fun _ => h3 _) (fun n => gRow_apply x3 _ n 0) (fun n => gRow_apply x3 _ n 0) κ n).trans ?_
  have eb := bytes_of_words (transpose S256x256 [1, 0] (wBlk x2 k) transposes_S256x256_p1_0_S256x256) bitcasts_S256x256_w8_S64x256_w32
    bitcasts_S64x256_w32_S256x256_w8 (fun w => w &&& 4042322160#32) (fun b => b &&& 0xF0#8) mask κ n
  have et : transpose S256x256 [1, 0] (wBlk x2 k) transposes_S256x256_p1_0_S256x256 (ix2 κ n) = x2 (ix2 n (Fin.ofNat 7168 (256 * k + κ.val))) := by
    pointwise
    exact wBlk_apply x2 k n κ
  rw [et] at eb
  rw [← mul_weight, ← high_byte, ← eb]
  congr 1
  by_cases h : κ.val < 128
  · simp [h, show κ.val / 128 = 0 by omega]
  · simp [h, show κ.val / 128 = 1 by omega]

end Cert.KernelIdeal.Run

end
-- ==== Proof.Value.lean ====
/- The kernel's result over the extended reals. An entry of the output block is the two halves' products with the
   weights, added, times the row's scale, times the column's: the factor 16 in every tile leaves each sum and meets the
   1/16 at the end, whatever the activations are, since it is a positive real. The output array's blocks are the 14
   column blocks, so the array is that function of the arguments everywhere. -/
module

public import proofs.«01_k».proof.Proof.Tiles

@[expose] public section

set_option maxRecDepth 16384

noncomputable section

namespace Cert.KernelIdeal.Run

open Cert.KernelIdeal Cert.KernelIdeal.Gen Cert.Weights
open Idealize.ShloMosaic Idealize.ShloMosaic.TcCoe Idealize.ShloMosaic.Mxu Idealize.SL.Sem
open Idealize.ShloMosaic.Pipeline (Dat)

/-- A positive real leaves a sum of extended reals. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- A sum over `n · m` numbers, `n` at a time. -/
theorem sum_blocks (f : ℕ → EReal) (n m : ℕ) :
    ∑ t ∈ Finset.range m, ∑ κ : Fin n, f (n * t + κ.val) = ∑ k : Fin (n * m), f k.val := by
  rw [Fin.sum_univ_eq_sum_range f]
  induction m with
  | zero => simp
  | succ m ih =>
    rw [Finset.sum_range_succ, ih, Nat.mul_succ, Finset.sum_range_add, Fin.sum_univ_eq_sum_range (fun κ => f (n * m + κ))]

/-- The factor 1/16 undoes the factor 16 of the two sums. -/
theorem cancel16 (a b : EReal) : (a * ((16 : ℝ) : EReal) + b * ((16 : ℝ) : EReal)) * ((1 / 16 : ℝ) : EReal) = a + b := by
  rw [← EReal.right_distrib_of_nonneg_of_ne_top (EReal.coe_nonneg.2 (by norm_num)) (EReal.coe_ne_top _), mul_assoc, ← EReal.coe_mul]
  norm_num

/-- The word of one sixteenth. -/
theorem ofBits_sixteenth : Ideal.ofBits .f32 1031798784#32 = ((1 / 16 : ℝ) : EReal) := by
  have h1 : ((1031798784#32).extractLsb' 31 1 == 1#1) = false := by decide
  have h2 : ((1031798784#32).extractLsb' 23 8).toNat = 123 := by decide
  have h3 : ((1031798784#32).extractLsb' 0 23).toNat = 0 := by decide
  unfold Ideal.ofBits Ideal.ieee
  simp only [Nat.reduceAdd, h1, h2, h3]
  norm_num

section Block

variable (x0 : Vec Ideal S256x14336 .fp8e4m3) (x1 : Vec Ideal S256x1 .f32) (x2 : Vec Ideal S256x7168 .i8) (x3 : Vec Ideal S256x112 .i8)
  (x4 : Vec Ideal S1x256 .f32)

/-- Unit 0's rows after all steps: 16 times the low nibbles' product. -/
theorem lo_sum (h3 : ∀ i, (x3 i).toNat ≤ 126) (r n : Fin 256) :
    ((chain x0 x2 x3 28).read 0 0 fits_0_256 (ix2 r n) : EReal)
      = (∑ k : Fin 7168, (x0 (ix2 r (Fin.ofNat 14336 k.val)) : EReal)
          * ((weight (lowNib (x2 (ix2 n k))) (x3 (ix2 n (Fin.ofNat 112 (k.val / 128)))) : ℝ) : EReal)) * ((16 : ℝ) : EReal) := by
  have e := sum_blocks (fun k => (x0 (ix2 r (Fin.ofNat 14336 k)) : EReal)
          * ((weight (lowNib (x2 (ix2 n (Fin.ofNat 7168 k)))) (x3 (ix2 n (Fin.ofNat 112 (k / 128)))) : ℝ) : EReal) * ((16 : ℝ) : EReal)) 256 28
  rw [← sum_mul_coe _ _ _ (by norm_num)]
  refine (read_chain_lo x0 x2 x3 r n 28).trans (Eq.trans ?_ (e.trans ?_))
  · refine Finset.sum_congr rfl fun t ht => Finset.sum_congr rfl fun κ _ => ?_
    have := κ.isLt
    rw [tileLo_apply x2 x3 h3, aBlk_apply, EReal.coe_mul, ← mul_assoc, show (256 * t + κ.val) / 128 = 2 * t + κ.val / 128 by omega]
  · refine Finset.sum_congr rfl fun k _ => ?_
    have hk : k.val < 7168 := k.isLt
    rw [show Fin.ofNat 7168 k.val = k from Fin.ext (show k.val % 7168 = k.val by omega)]

/-- Unit 1's rows after all steps: 16 times the high nibbles' product. -/
theorem hi_sum (h3 : ∀ i, (x3 i).toNat ≤ 126) (r n : Fin 256) :
    ((chain x0 x2 x3 28).read 1 0 fits_0_256 (ix2 r n) : EReal)
      = (∑ k : Fin 7168, (x0 (ix2 r (Fin.ofNat 14336 (7168 + k.val))) : EReal)
          * ((weight (highNib (x2 (ix2 n k))) (x3 (ix2 n (Fin.ofNat 112 (56 + k.val / 128)))) : ℝ) : EReal)) * ((16 : ℝ) : EReal) := by
  have e := sum_blocks (fun k => (x0 (ix2 r (Fin.ofNat 14336 (7168 + k))) : EReal)
          * ((weight (highNib (x2 (ix2 n (Fin.ofNat 7168 k)))) (x3 (ix2 n (Fin.ofNat 112 (56 + k / 128)))) : ℝ) : EReal) * ((16 : ℝ) : EReal)) 256 28
  rw [← sum_mul_coe _ _ _ (by norm_num)]
  refine (read_chain_hi x0 x2 x3 r n 28).trans (Eq.trans ?_ (e.trans ?_))
  · refine Finset.sum_congr rfl fun t ht => Finset.sum_congr rfl fun κ _ => ?_
    have := κ.isLt
    rw [tileHi_apply x2 x3 h3, aBlk_apply, EReal.coe_mul, ← mul_assoc, show (256 * t + κ.val) / 128 = 2 * t + κ.val / 128 by omega,
      show 256 * (28 + t) + κ.val = 7168 + (256 * t + κ.val) by omega, add_assoc 56 (2 * t) (κ.val / 128)]
  · refine Finset.sum_congr rfl fun k _ => ?_
    have hk : k.val < 7168 := k.isLt
    rw [show Fin.ofNat 7168 k.val = k from Fin.ext (show k.val % 7168 = k.val by omega)]

/-- ENTRY (r, n) OF THE OUTPUT BLOCK. -/
theorem block_apply (h3 : ∀ i, (x3 i).toNat ≤ 126) (r n : Fin 256) :
    (k0_pay1 (addf ((chain x0 x2 x3 28).read 0 0 fits_0_256) ((chain x0 x2 x3 28).read 1 0 fits_0_256))
          (FloatOps.ofBits .f32 1031798784#32) x1 x4 (ix2 r n) : EReal)
      = (((∑ k : Fin 7168, (x0 (ix2 r (Fin.ofNat 14336 k.val)) : EReal)
              * ((weight (lowNib (x2 (ix2 n k))) (x3 (ix2 n (Fin.ofNat 112 (k.val / 128)))) : ℝ) : EReal))
          + ∑ k : Fin 7168, (x0 (ix2 r (Fin.ofNat 14336 (7168 + k.val))) : EReal)
              * ((weight (highNib (x2 (ix2 n k))) (x3 (ix2 n (Fin.ofNat 112 (56 + k.val / 128)))) : ℝ) : EReal))
          * (x1 (ix2 r 0) : EReal)) * (x4 (ix2 0 n) : EReal) := by
  rw [← cancel16, ← lo_sum x0 x2 x3 h3 r n, ← hi_sum x0 x2 x3 h3 r n, ← ofBits_sixteenth]
  generalize (chain x0 x2 x3 28).read 0 0 fits_0_256 = A
  generalize (chain x0 x2 x3 28).read 1 0 fits_0_256 = B
  unfold k0_pay1
  pointwise

end Block

/-! ## The output array -/

variable (m : (ℓ : Loc nD τ sig) → Buf (Elt Ideal) ℓ)

/-- Where each window's block lies at point `t`: the activations and their scales whole, rows 256 t … of the weights and of
    the exponents, columns 256 t … of the column scales and of the output. -/
theorem idx0 : ∀ t : Fin cfg0.N, win0_0.index t (0 : Fin 2) = 0 ∧ win0_0.index t (1 : Fin 2) = 0 :=
  (by decide +kernel : ∀ t : Fin grid0.N, _)
/-- The block of window 1 at a point. -/
theorem idx1 : ∀ t : Fin cfg0.N, win0_1.index t (0 : Fin 2) = 0 ∧ win0_1.index t (1 : Fin 2) = 0 :=
  (by decide +kernel : ∀ t : Fin grid0.N, _)
/-- The block of window 2 at a point. -/
theorem idx2 : ∀ t : Fin cfg0.N, win0_2.index t (0 : Fin 2) = t.val ∧ win0_2.index t (1 : Fin 2) = 0 :=
  (by decide +kernel : ∀ t : Fin grid0.N, _)
/-- The block of window 3 at a point. -/
theorem idx3 : ∀ t : Fin cfg0.N, win0_3.index t (0 : Fin 2) = t.val ∧ win0_3.index t (1 : Fin 2) = 0 :=
  (by decide +kernel : ∀ t : Fin grid0.N, _)
/-- The block of window 4 at a point. -/
theorem idx4 : ∀ t : Fin cfg0.N, win0_4.index t (0 : Fin 2) = 0 ∧ win0_4.index t (1 : Fin 2) = t.val :=
  (by decide +kernel : ∀ t : Fin grid0.N, _)
/-- The block of window 5 at a point. -/
theorem idx5 : ∀ t : Fin cfg0.N, win0_5.index t (0 : Fin 2) = 0 ∧ win0_5.index t (1 : Fin 2) = t.val :=
  (by decide +kernel : ∀ t : Fin grid0.N, _)

/-- The block of the activations is the whole array, -/
theorem emb0 (t : Fin cfg0.N) (j : S256x14336.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 14336 + 1 * (j 1).val = (j 1).val; omega

/-- that of their scales too; -/
theorem emb1 (t : Fin cfg0.N) (j : S256x1.Idx) : ((cfg0.win 1).blk t).view.emb j = j := by
  obtain ⟨e0, e1⟩ := idx1 t
  funext a; apply Fin.ext
  match a with
  | ⟨0, _⟩ => show win0_1.index t (0 : Fin 2) * 256 + 1 * (j 0).val = (j 0).val; omega
  | ⟨1, _⟩ => show win0_1.index t (1 : Fin 2) * 1 + 1 * (j 1).val = (j 1).val; omega

/-- Column (of the output) or row (of the weights) `n` of block `t`. -/
def at' (t : Fin cfg0.N) (n : Fin 256) : Fin 3584 := ⟨256 * t.val + n.val, by have := t.isLt; have : cfg0.N = 14 := rfl; omega⟩

/-- a block of weights is 256 of their rows, -/
theorem emb2 (t : Fin cfg0.N) (n : Fin 256) (k : Fin 7168) : ((cfg0.win 2).blk t).view.emb (ix2 n k) = ix2 (at' t n) k := by
  obtain ⟨e0, e1⟩ := idx2 t
  funext a; apply Fin.ext
  match a with
  | ⟨0, _⟩ => show win0_2.index t (0 : Fin 2) * 256 + 1 * n.val = 256 * t.val + n.val; omega
  | ⟨1, _⟩ => show win0_2.index t (1 : Fin 2) * 7168 + 1 * k.val = k.val; omega

/-- one of exponents 256 of theirs, -/
theorem emb3 (t : Fin cfg0.N) (n : Fin 256) (k : Fin 112) : ((cfg0.win 3).blk t).view.emb (ix2 n k) = ix2 (at' t n) k := by
  obtain ⟨e0, e1⟩ := idx3 t
  funext a; apply Fin.ext
  match a with
  | ⟨0, _⟩ => show win0_3.index t (0 : Fin 2) * 256 + 1 * n.val = 256 * t.val + n.val; omega
  | ⟨1, _⟩ => show win0_3.index t (1 : Fin 2) * 112 + 1 * k.val = k.val; omega

/-- one of output scales 256 columns, -/
theorem emb4 (t : Fin cfg0.N) (z : Fin 1) (n : Fin 256) : ((cfg0.win 4).blk t).view.emb (ix2 z n) = ix2 z (at' t n) := by
  obtain ⟨e0, e1⟩ := idx4 t
  funext a; apply Fin.ext
  match a with
  | ⟨0, _⟩ => show win0_4.index t (0 : Fin 2) * 1 + 1 * z.val = z.val; omega
  | ⟨1, _⟩ => show win0_4.index t (1 : Fin 2) * 256 + 1 * n.val = 256 * t.val + n.val; omega

/-- and one of the output 256 columns. -/
theorem emb5 (t : Fin cfg0.N) (r n : Fin 256) : ((cfg0.win 5).blk t).view.emb (ix2 r n) = ix2 r (at' t n) := by
  obtain ⟨e0, e1⟩ := idx5 t
  funext a; apply Fin.ext
  match a with
  | ⟨0, _⟩ => show win0_5.index t (0 : Fin 2) * 256 + 1 * r.val = r.val; omega
  | ⟨1, _⟩ => show win0_5.index t (1 : Fin 2) * 256 + 1 * n.val = 256 * t.val + n.val; omega

/-- THE PRODUCT at an entry, as a function of the argument arrays. -/
def entry (a0 : Vec Ideal S256x14336 .fp8e4m3) (a1 : Vec Ideal S256x1 .f32) (a2 : Vec Ideal S3584x7168 .i8) (a3 : Vec Ideal S3584x112 .i8)
    (a4 : Vec Ideal S1x3584 .f32) (r : Fin 256) (n : Fin 3584) : EReal :=
  (((∑ k : Fin 7168, (a0 (ix2 r (Fin.ofNat 14336 k.val)) : EReal)
              * ((weight (lowNib (a2 (ix2 n k))) (a3 (ix2 n (Fin.ofNat 112 (k.val / 128)))) : ℝ) : EReal))
          + ∑ k : Fin 7168, (a0 (ix2 r (Fin.ofNat 14336 (7168 + k.val))) : EReal)
              * ((weight (highNib (a2 (ix2 n k))) (a3 (ix2 n (Fin.ofNat 112 (56 + k.val / 128)))) : ℝ) : EReal))
          * (a1 (ix2 r 0) : EReal)) * (a4 (ix2 0 n) : EReal)

/-- The output array as one function of the argument arrays. -/
def result (a0 : Vec Ideal S256x14336 .fp8e4m3) (a1 : Vec Ideal S256x1 .f32) (a2 : Vec Ideal S3584x7168 .i8) (a3 : Vec Ideal S3584x112 .i8)
    (a4 : Vec Ideal S1x3584 .f32) : Vec Ideal S256x3584 .bf16 := fun i => entry a0 a1 a2 a3 a4 (i 0) (i 1)

/-- What point `t` writes back is block `t` of `result`. -/
theorem flushed5_eq (c : Dev nD) (h3 : ∀ i, ((V m c main_arg3 : Vec Ideal S3584x112 .i8) i).toNat ≤ 126) (t : Fin cfg0.N) :
    (dats m 0 c).flushed 5 t = ((cfg0.win 5).blk t).view.read (Elt Ideal)
      (result (V m c main_arg0) (V m c main_arg1) (V m c main_arg2) (V m c main_arg3) (V m c main_arg4)) := by
  rw [flushed5_A, out_eq]
  funext j
  obtain ⟨r, n, rfl⟩ : ∃ r n : Fin 256, j = ix2 r n := ⟨j 0, j 1, eq_ix2 (n0 := 256) (n1 := 256) j⟩
  refine (block_apply (iblk m c 0 t) (iblk m c 1 t) (iblk m c 2 t) (iblk m c 3 t) (iblk m c 4 t) (fun i => h3 _) r n).trans ?_
  refine Eq.trans ?_ (congrArg (result (V m c main_arg0) (V m c main_arg1) (V m c main_arg2) (V m c main_arg3) (V m c main_arg4)) (emb5 t r n)).symm
  show _ = entry _ _ _ _ _ r (at' t n)
  have e0 : ∀ j, iblk m c 0 t j = V m c main_arg0 j := fun j => congrArg (V m c main_arg0) (emb0 t j)
  have e1 : ∀ j, iblk m c 1 t j = V m c main_arg1 j := fun j => congrArg (V m c main_arg1) (emb1 t j)
  have e2 : ∀ k, iblk m c 2 t (ix2 n k) = V m c main_arg2 (ix2 (at' t n) k) := fun k => congrArg (V m c main_arg2) (emb2 t n k)
  have e3 : ∀ k, iblk m c 3 t (ix2 n k) = V m c main_arg3 (ix2 (at' t n) k) := fun k => congrArg (V m c main_arg3) (emb3 t n k)
  have e4 : iblk m c 4 t (ix2 0 n) = V m c main_arg4 (ix2 0 (at' t n)) := congrArg (V m c main_arg4) (emb4 t 0 n)
  unfold entry
  rw [e4, e1]
  refine congrArg (· * _) (congrArg (· * _) (congrArg₂ (· + ·) ?_ ?_))
  · refine Finset.sum_congr rfl fun k _ => ?_
    rw [e0, e2, e3]
  · refine Finset.sum_congr rfl fun k _ => ?_
    rw [e0, e2, e3]

/-- Entry (r, 256 t + n) of the output array is in point `t`'s block. -/
theorem mem5 (t : Fin cfg0.N) (r n : Fin 256) :
    (ix2 r (at' t n) : S256x3584.Idx) ∈ ((cfg0.win 5).blk t).view.set :=
  (emb5 t r n) ▸ ((cfg0.win 5).blk t).view.emb_mem_set (ix2 r n)

/-- The same at an index known to be that entry's. -/
theorem mem5' (i : S256x3584.Idx) (t : Fin cfg0.N) (r n : Fin 256) (e : (ix2 r (at' t n) : S256x3584.Idx) = i) :
    i ∈ ((cfg0.win 5).blk t).view.set := by
  subst e
  exact mem5 t r n

/-- Every index of the output array is in some point's block. -/
theorem covered5 (i : S256x3584.Idx) : ∃ t : Fin cfg0.N, (cfg0.win 5).flush t = true ∧ i ∈ ((cfg0.win 5).blk t).view.set := by
  have h1 : (i 1).val < 3584 := (i 1).isLt
  refine ⟨⟨(i 1).val / 256, by show _ < 14; omega⟩, flush0_5 _, mem5' i _ (i 0 : Fin 256) (⟨(i 1).val % 256, by omega⟩ : Fin 256) ?_⟩
  funext a
  match a with
  | ⟨0, _⟩ => rfl
  | ⟨1, _⟩ => exact Fin.ext (show 256 * ((i 1).val / 256) + (i 1).val % 256 = (i 1).val by omega)

/-- THE OUTPUT ARRAY AFTER THE RUN is `result` of the argument arrays as launched. -/
theorem final5 (c : Dev nD) (h3 : ∀ i, ((m ((c : Thread nD τ).loc main_arg3) : Vec Ideal S3584x112 .i8) i).toNat ≤ 126) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) := by
  rw [← V_main_arg0 m c, ← V_main_arg1 m c, ← V_main_arg2 m c, ← V_main_arg3 m c, ← V_main_arg4 m c] at *
  exact (dats m 0 c).arrAt_eq_of_cover 5 _ (fun t _ => flushed5_eq m c h3 t) covered5

end Cert.KernelIdeal.Run

end
-- ==== Proof.Reference.lean ====
/- The reference over the extended reals, read at an entry: the two halves' products with the weights, times the row's
   scale, times the column's. -/
module

public import proofs.«01_k».proof.Proof.Weights
public import proofs.«01_k».proof.Proof.Gen.ReferenceIdeal.Value
public import Idealize.ShloMosaic.Lib.MatmulPlain
public import Idealize.ShloMosaic.Lib.Pointwise

@[expose] public section

set_option maxRecDepth 16384

noncomputable section

namespace Cert.ReferenceIdeal.Value

open Cert.ReferenceIdeal Cert.ReferenceIdeal.Gen Cert.Weights
open Idealize.ShloMosaic Idealize.ShloMosaic.TcCoe

/-- A nibble of 32-bit arithmetic with its sign taken, over the low four bits of a byte, -/
theorem low_word : ∀ b : BitVec 8,
    (Scalar.select (IntOp.cmpi .sge (IntOp.andi (b.setWidth 32) 15#32) 8#32) (IntOp.subi (IntOp.andi (b.setWidth 32) 15#32) 16#32)
      (IntOp.andi (b.setWidth 32) 15#32)).toInt = lowNib b := by unfold lowNib; decide +kernel

/-- and over the high four. -/
theorem high_word : ∀ b : BitVec 8,
    (Scalar.select (IntOp.cmpi .sge (IntOp.andi (IntOp.shrsi .vector (b.setWidth 32) 4#32) 15#32) 8#32)
      (IntOp.subi (IntOp.andi (IntOp.shrsi .vector (b.setWidth 32) 4#32) 15#32) 16#32)
      (IntOp.andi (IntOp.shrsi .vector (b.setWidth 32) 4#32) 15#32)).toInt = highNib b := by unfold highNib; decide +kernel

/-- A byte widened to a word is the same number. -/
theorem exponent_word : ∀ e : BitVec 8, (e.setWidth 32).toInt = (e.toNat : ℤ) := by decide +kernel

/-- A nibble times the power of two the reference computes is the weight. -/
theorem mul_exp2 (v : ℤ) (w : BitVec 32) (hw : w.toInt = v) (e : BitVec 8) :
    (FloatOps.sitofp (F := Ideal) .bf16 w : EReal) * FloatOps.exp2 (F := Ideal) (φ := .f32) (0 - FloatOps.sitofp (F := Ideal) .f32 (e.setWidth 32) : EReal)
      = ((weight v e : ℝ) : EReal) := by
  show (((w.toInt : ℤ) : ℝ) : EReal) * Ideal.exp2 ((0 : EReal) - ((((e.setWidth 32).toInt : ℤ) : ℝ) : EReal)) = _
  rw [hw, exponent_word, show ((0 : EReal) - ((((e.toNat : ℤ)) : ℝ) : EReal)) = ((-((e.toNat : ℤ) : ℝ) : ℝ) : EReal) by
    rw [← EReal.coe_zero, ← EReal.coe_sub, zero_sub], Ideal.exp2_coe, ← EReal.coe_mul]
  congr 1
  unfold weight
  congr 1
  show (2 : ℝ) ^ (-((e.toNat : ℤ) : ℝ)) = _
  rw [← Int.cast_neg, Real.rpow_intCast]

/-- The dequantised low nibbles at row `n`, column `k`. -/
theorem pay6_apply (x3 : Vec Ideal S3584x7168 .i8) (x5 : Vec Ideal S3584x112 .i8) (n : Fin 3584) (k : Fin 7168) :
    (k0_pay6 x3 x5 (ix2 n k) : EReal) = ((weight (lowNib (x3 (ix2 n k))) (x5 (ix2 n (Fin.ofNat 112 (k.val / 128)))) : ℝ) : EReal) := by
  rw [← mul_exp2 _ _ (low_word (x3 (ix2 n k)))]
  unfold k0_pay6 k0_pay4 k0_pay5
  pointwise
  congr 6
  congr 1
  exact Fin.ext (show k.val / 128 = (k.val / 128) % 112 by have := k.isLt; omega)

/-- THE REFERENCE'S ENTRY (r, n). -/
theorem G5_apply (a0 : Vec Ideal S256x14336 .fp8e4m3) (a1 : Vec Ideal S256x1 .f32) (a2 : Vec Ideal S3584x7168 .i8) (a3 : Vec Ideal S3584x112 .i8)
    (a4 : Vec Ideal S1x3584 .f32) (r : Fin 256) (n : Fin 3584) :
    (G5 a0 a1 a2 a3 a4 (ix2 r n) : EReal)
      = (((∑ k : Fin 7168, (a0 (ix2 r (Fin.ofNat 14336 k.val)) : EReal)
              * ((weight (lowNib (a2 (ix2 n k))) (a3 (ix2 n (Fin.ofNat 112 (k.val / 128)))) : ℝ) : EReal))
          + ∑ k : Fin 7168, (a0 (ix2 r (Fin.ofNat 14336 (7168 + k.val))) : EReal)
              * ((weight (highNib (a2 (ix2 n k))) (a3 (ix2 n (Fin.ofNat 112 (56 + k.val / 128)))) : ℝ) : EReal))
          * (a1 (ix2 r 0) : EReal)) * (a4 (ix2 0 n) : EReal) := by
  unfold G5 k0_pay1
  have e6 := fun k => pay6_apply a2 a3 n k
  generalize k0_pay6 a2 a3 = W at e6
  unfold k0_pay2 k0_pay3 k0_pay7 k0_pay8 k0_pay4 k0_pay5
  pointwise
  refine congrArg (· * _) (congrArg (· * _) (congrArg₂ (· + ·) ?_ ?_))
  · refine Finset.sum_congr rfl fun k _ => ?_
    have hk := k.isLt
    rw [e6]
    congr 3
    exact Fin.ext (show k.val = k.val % 14336 by omega)
  · refine Finset.sum_congr rfl fun k _ => ?_
    have hk := k.isLt
    rw [mul_exp2 _ _ (high_word (a2 (ix2 n k)))]
    rw [show (⟨7168 + k.val, by omega⟩ : Fin 14336) = Fin.ofNat 14336 (7168 + k.val) from
        Fin.ext (show 7168 + k.val = (7168 + k.val) % 14336 by omega),
      show (⟨56 + k.val / 128, by omega⟩ : Fin 112) = Fin.ofNat 112 (56 + k.val / 128) from
        Fin.ext (show 56 + k.val / 128 = (56 + k.val / 128) % 112 by omega)]

end Cert.ReferenceIdeal.Value

end
-- ==== Proof.RefCopy.lean ====
/- The matrix product's reference and its ideal copy are one program, by unfolding. What is proved of the copy at any floats
   so holds of the reference at machine floats. -/
module

public import proofs.«01_k».proof.Reference
public import proofs.«01_k».proof.Proof.Gen.ReferenceIdeal
public import proofs.«01_k».proof.Proof.Gen.ReferenceIdeal.Frame

@[expose] public section

set_option maxRecDepth 65536
set_option maxHeartbeats 4000000

noncomputable section

namespace Cert.Reference.Copy

open Idealize.ShloMosaic Idealize.ShloMosaic.TcCoe Idealize.SL.Sem

/-- The facts the reference states of its shapes are the copy's, -/
instance facts₀ : Cert.Reference.Facts₀ where
  inb_S256x14336_S256x14336_0_0 := Cert.ReferenceIdeal.Gen.inb_S256x14336_S256x14336_0_0
  h_S256x14336 := Cert.ReferenceIdeal.Gen.h_S256x14336
  slices_S256x14336_o0_0_S256x7168 := Cert.ReferenceIdeal.Gen.slices_S256x14336_o0_0_S256x7168
  slices_S256x14336_o0_7168_S256x7168 := Cert.ReferenceIdeal.Gen.slices_S256x14336_o0_7168_S256x7168
  inb_S3584x7168_S3584x7168_0_0 := Cert.ReferenceIdeal.Gen.inb_S3584x7168_S3584x7168_0_0
  h_S3584x7168 := Cert.ReferenceIdeal.Gen.h_S3584x7168
  natLt_8_32 := Cert.ReferenceIdeal.Gen.natLt_8_32
  inb_S3584x112_S3584x112_0_0 := Cert.ReferenceIdeal.Gen.inb_S3584x112_S3584x112_0_0
  h_S3584x112 := Cert.ReferenceIdeal.Gen.h_S3584x112
  slices_S3584x112_o0_0_S3584x56 := Cert.ReferenceIdeal.Gen.slices_S3584x112_o0_0_S3584x56
  bitsLt_bf16_f32 := Cert.ReferenceIdeal.Gen.bitsLt_bf16_f32
  shapeCasts_S3584x7168_S3584x56x128 := Cert.ReferenceIdeal.Gen.shapeCasts_S3584x7168_S3584x56x128
  shapeCasts_S3584x56_S3584x56x1 := Cert.ReferenceIdeal.Gen.shapeCasts_S3584x56_S3584x56x1
  broadcasts_S3584x56x1_S3584x56x128 := Cert.ReferenceIdeal.Gen.broadcasts_S3584x56x1_S3584x56x128
  shapeCasts_S3584x56x128_S3584x7168 := Cert.ReferenceIdeal.Gen.shapeCasts_S3584x56x128_S3584x7168
  bitsLt_fp8e4m3_bf16 := Cert.ReferenceIdeal.Gen.bitsLt_fp8e4m3_bf16
  slices_S3584x112_o0_56_S3584x56 := Cert.ReferenceIdeal.Gen.slices_S3584x112_o0_56_S3584x56
  inb_S256x1_S256x1_0_0 := Cert.ReferenceIdeal.Gen.inb_S256x1_S256x1_0_0
  h_S256x1 := Cert.ReferenceIdeal.Gen.h_S256x1
  broadcasts_S256x1_S256x3584 := Cert.ReferenceIdeal.Gen.broadcasts_S256x1_S256x3584
  inb_S1x3584_S1x3584_0_0 := Cert.ReferenceIdeal.Gen.inb_S1x3584_S1x3584_0_0
  h_S1x3584 := Cert.ReferenceIdeal.Gen.h_S1x3584
  broadcasts_S1x3584_S256x3584 := Cert.ReferenceIdeal.Gen.broadcasts_S1x3584_S256x3584
  inb_S256x3584_S256x3584_0_0 := Cert.ReferenceIdeal.Gen.inb_S256x3584_S256x3584_0_0
  h_S256x3584 := Cert.ReferenceIdeal.Gen.h_S256x3584
  packedbf16_S256x3584_S256x3584_0_0 := Cert.ReferenceIdeal.Gen.packedbf16_S256x3584_S256x3584_0_0
  dot_S256x7168_S3584x7168_S256x3584_1_1_0_0_n_n_wf := Cert.ReferenceIdeal.Gen.dot_S256x7168_S3584x7168_S256x3584_1_1_0_0_n_n_wf
  hstage0_0 := Cert.ReferenceIdeal.Gen.hstage0_0
  hstage0_1 := Cert.ReferenceIdeal.Gen.hstage0_1
  hstage0_2 := Cert.ReferenceIdeal.Gen.hstage0_2
  hstage0_3 := Cert.ReferenceIdeal.Gen.hstage0_3
  hstage0_4 := Cert.ReferenceIdeal.Gen.hstage0_4
  hstage0_5 := Cert.ReferenceIdeal.Gen.hstage0_5

/-- and so those of its windows. -/
instance facts : Cert.Reference.Facts where

variable {F : FTy → Type} [FloatOps F]

/-- The first part of the body, -/
theorem part1 : Cert.Reference.k0_part1 (F := F) = Cert.ReferenceIdeal.k0_part1 (F := F) := rfl

/-- the body, -/
theorem body : Cert.Reference.cc0__reference_mm (F := F) = Cert.ReferenceIdeal.cc0__reference_mm (F := F) := by
  unfold Cert.Reference.cc0__reference_mm Cert.ReferenceIdeal.cc0__reference_mm
  rw [part1]
  rfl

/-- the one labelled body, -/
theorem defs₀ : Cert.Reference.defs₀ (F := F) = Cert.ReferenceIdeal.defs₀ (F := F) := by
  unfold Cert.Reference.defs₀ Cert.ReferenceIdeal.defs₀
  rw [body]
  refine congrArg Defs.onTc (funext fun l => funext fun a => ?_)
  match l, a with
  | 0, (t, s) => rfl

/-- the pipeline's bodies, -/
theorem defs : Cert.Reference.defs (F := F) = Cert.ReferenceIdeal.defs (F := F) := by
  unfold Cert.Reference.defs Cert.ReferenceIdeal.defs
  rw [defs₀]
  rfl

/-- and the host program. -/
theorem main : Cert.Reference.main (F := F) = Cert.ReferenceIdeal.main (F := F) := rfl

variable (m : (ℓ : Loc Cert.Reference.nD Cert.Reference.τ Cert.Reference.sig) → Buf (Elt F) ℓ) (ρ : Dev Cert.Reference.nD → PrngReg)

/-- THE FRAME of the reference: the copy's. -/
theorem frame : θ_run (Cert.Reference.defs (F := F)) (onTc (τ := Cert.Reference.τ) (Cert.Reference.main (F := F))) ⟨m, fun _ => 0, ρ⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0) := by
  rw [defs, main]
  exact Cert.ReferenceIdeal.Gen.frame m ρ

end Cert.Reference.Copy

end
-- ==== Proof.RotIdealDma.lean ====
/- The staging transfers of the rotation kernel: slab `s` of the staging buffer receives columns `128 s … 128 s + 127`
   of `x`; the 28 transfers of a chunk share one semaphore cell, so each chunk's transfers are one batch. -/
module

public import proofs.«01_k».proof.Proof.Gen.RotateIdeal.Frame
public import proofs.«01_k».proof.Proof.Gen.RotateIdeal.Skeleton
public import Idealize.ShloMosaic.Lib.Batch
public import Idealize.ShloMosaic.Lib.Pointwise
public import Idealize.ShloMosaic.Lib.Claim
public import Idealize.ShloMosaic.Lib.Ring
public import Idealize.ShloMosaic.Lib.Pipeline.Value

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- `x`, left in HBM; the staging buffer; the transposed buffer; the product buffer. -/
abbrev hbX : Memref sig .tc .hbm S256x14336 .bf16 := Memref.whole main_arg0
/-- The staging buffer. -/
abbrev scS : Memref sig .tc .vmem S112x256x128 .bf16 := Memref.whole cc0_scratch0
/-- The transposed buffer. -/
abbrev scT : Memref sig .tc .vmem S2x14336x128 .bf16 := Memref.whole cc0_scratch1
/-- The product buffer. -/
abbrev scU : Memref sig .tc .vmem S32x448x256 .f32 := Memref.whole cc0_scratch2

/-- Slab `o` of the staging buffer, and the 128 columns of `x` at `o`, as the transfers name them. -/
abbrev slabM (o : ℕ) (h : ∀ a, (![o, 0, 0] : Fin 3 → ℕ) a + S1x256x128.size a ≤ S112x256x128.size a) : Memref sig .tc .vmem S256x128 .bf16 :=
  (scS.slice (Rect.unit (s := S112x256x128) ![o, 0, 0] S1x256x128.size h) (fun _ => rfl)).squeeze S256x128 squeezes_S1x256x128_S256x128
/-- The 128 columns of `x` a transfer reads. -/
abbrev colM (o : ℕ) (h : ∀ a, (![0, o] : Fin 2 → ℕ) a + S256x128.size a ≤ S256x14336.size a) : Memref sig .tc .hbm S256x128 .bf16 :=
  hbX.slice (Rect.unit (s := S256x14336) ![0, o] S256x128.size h) (fun _ => rfl)
/-- The semaphore of a column of transfers. -/
abbrev cellM (o : ℕ) (h : ∀ a, (![o] : Fin 1 → ℕ) a + S1.size a ≤ S4.size a) : DmaSem sig :=
  ((cc0_scratch3.slice (Rect.unit (s := S4) ![o] S1.size h)).squeeze S_ squeezes_S1_S_).sem

/-- A slab lies in the staging buffer, -/
theorem slab_inb (c : Fin 4) (t : Fin 28) : ∀ a, (![4 * t.val + c.val, 0, 0] : Fin 3 → ℕ) a + S1x256x128.size a ≤ S112x256x128.size a := by
  have := t.isLt; have := c.isLt
  intro a; fin_cases a
  · show 4 * t.val + c.val + 1 ≤ 112; omega
  · exact le_refl _
  · exact le_refl _
/-- its columns in `x`, -/
theorem col_inb (c : Fin 4) (t : Fin 28) : ∀ a, (![0, 128 * (4 * t.val + c.val)] : Fin 2 → ℕ) a + S256x128.size a ≤ S256x14336.size a := by
  have := t.isLt; have := c.isLt
  intro a; fin_cases a
  · exact le_refl _
  · show 128 * (4 * t.val + c.val) + 128 ≤ 14336; omega
/-- and its semaphore in the array. -/
theorem cell_inb (c : Fin 4) : ∀ a, (![c.val] : Fin 1 → ℕ) a + S1.size a ≤ S4.size a := by
  have := c.isLt
  intro a; fin_cases a; show c.val + 1 ≤ 4; omega

/-- The elements of slab `4 t + c`, and of its columns of `x`. -/
def slabSet (b : Fin 4 × Fin 28) : Finset S112x256x128.Idx :=
  (Rect.unit (s := S112x256x128) ![4 * b.2.val + b.1.val, 0, 0] S1x256x128.size (slab_inb b.1 b.2)).set
/-- The columns of `x` that slab is copied from. -/
def colSet (b : Fin 4 × Fin 28) : Finset S256x14336.Idx :=
  (Rect.unit (s := S256x14336) ![0, 128 * (4 * b.2.val + b.1.val)] S256x128.size (col_inb b.1 b.2)).set

/-- An element is in a slab by its first coordinate, -/
theorem mem_slabSet (b : Fin 4 × Fin 28) (i : S112x256x128.Idx) : i ∈ slabSet b ↔ (i 0).val = 4 * b.2.val + b.1.val := by
  unfold slabSet
  rw [Rect.mem_set_unit]
  constructor
  · intro h
    have h0 : 4 * b.2.val + b.1.val ≤ (i 0).val ∧ (i 0).val < 4 * b.2.val + b.1.val + 1 := h 0
    omega
  · intro h a
    fin_cases a
    · show 4 * b.2.val + b.1.val ≤ (i 0).val ∧ (i 0).val < 4 * b.2.val + b.1.val + 1; omega
    · exact ⟨Nat.zero_le _, (i 1).isLt.trans_eq (Nat.zero_add _).symm⟩
    · exact ⟨Nat.zero_le _, (i 2).isLt.trans_eq (Nat.zero_add _).symm⟩

/-- and in its columns by its second. -/
theorem mem_colSet (b : Fin 4 × Fin 28) (i : S256x14336.Idx) :
    i ∈ colSet b ↔ (i 1).val / 128 = 4 * b.2.val + b.1.val := by
  unfold colSet
  rw [Rect.mem_set_unit]
  constructor
  · intro h
    have h0 : 128 * (4 * b.2.val + b.1.val) ≤ (i 1).val ∧ (i 1).val < 128 * (4 * b.2.val + b.1.val) + 128 := h 1
    omega
  · intro h a
    fin_cases a
    · exact ⟨Nat.zero_le _, (i 0).isLt.trans_eq (Nat.zero_add _).symm⟩
    · show 128 * (4 * b.2.val + b.1.val) ≤ (i 1).val ∧ (i 1).val < 128 * (4 * b.2.val + b.1.val) + 128; omega

/-- Slabs are disjoint, -/
theorem slab_disj (b b' : Fin 4 × Fin 28) (h : b ≠ b') : Disjoint (slabSet b) (slabSet b') := by
  rw [Finset.disjoint_left]
  intro i hi hi'
  rw [mem_slabSet] at hi hi'
  apply h
  have := b.1.isLt; have := b'.1.isLt
  exact Prod.ext (Fin.ext (by omega)) (Fin.ext (by omega))
/-- and so are their columns. -/
theorem col_disj (b b' : Fin 4 × Fin 28) (h : b ≠ b') : Disjoint (colSet b) (colSet b') := by
  rw [Finset.disjoint_left]
  intro i hi hi'
  rw [mem_colSet] at hi hi'
  apply h
  have := b.1.isLt; have := b'.1.isLt
  exact Prod.ext (Fin.ext (by omega)) (Fin.ext (by omega))
/-- The slabs cover the buffer, -/
theorem slab_cover : Finset.univ.biUnion slabSet = Finset.univ := by
  ext i
  simp only [Finset.mem_biUnion, Finset.mem_univ, true_and, iff_true]
  have h : (i 0).val < 112 := (i 0).isLt
  exact ⟨(⟨(i 0).val % 4, by omega⟩, ⟨(i 0).val / 4, by omega⟩), (mem_slabSet _ _).mpr (by simp only []; omega)⟩
/-- and the columns cover `x`. -/
theorem col_cover : Finset.univ.biUnion colSet = Finset.univ := by
  ext i
  simp only [Finset.mem_biUnion, Finset.mem_univ, true_and, iff_true]
  have h : (i 1).val < 14336 := (i 1).isLt
  exact ⟨(⟨(i 1).val / 128 % 4, by omega⟩, ⟨(i 1).val / 128 / 4, by omega⟩), (mem_colSet _ _).mpr (by simp only []; omega)⟩

/-- The staging buffer once every transfer has landed: slab `s` holds columns `128 s …` of `x`. -/
def XS (x : S256x14336.Idx → Elt F .bf16) : S112x256x128.Idx → Elt F .bf16 := fun i =>
  x (ix2 (n0 := 256) (n1 := 14336) ⟨(i 1).val, (i 1).isLt⟩ ⟨128 * (i 0).val + (i 2).val, by
    have h0 : (i 0).val < 112 := (i 0).isLt
    have h2 : (i 2).val < 128 := (i 2).isLt
    omega⟩)

/-- What slab `b`'s transfer delivers: the slab at `XS`, its columns of `x` back. -/
def dlv (c : Dev nD) (x : S256x14336.Idx → Elt F .bf16) (b : Fin 4 × Fin 28) : sProp (MT nD τ sig Unit (Elt F) ℕ (Pipeline.UD sig nD τ) ℕ) :=
  iprop((scS.view.loc (c : Thread nD τ) ↦[slabSet b]{fullShare} (XS x)) ∗ (hbX.view.loc (c : Thread nD τ) ↦[colSet b]{fullShare} x))

/-- What a transfer delivers may be kept with its semaphore. -/
instance dlv_storable (c : Dev nD) (x : S256x14336.Idx → Elt F .bf16) (b : Fin 4 × Fin 28) :
    Storable (upEmb : UEmb _ (MT nD τ sig Unit (Elt F) ℕ (Pipeline.UD sig nD τ) ℕ)) (dlv c x b) := by
  unfold dlv; infer_instance

/-- The elements of a slab as the transfer names it. -/
theorem slabM_set (b : Fin 4 × Fin 28) : (slabM (4 * b.2.val + b.1.val) (slab_inb b.1 b.2)).view.set = slabSet b := by
  show ((View.whole cc0_scratch0).slice _ |>.reshape _ _).set = _
  rw [View.set_reshape, View.set_slice_whole]; rfl
/-- The elements of its columns as the transfer names them. -/
theorem colM_set (b : Fin 4 × Fin 28) : (colM (128 * (4 * b.2.val + b.1.val)) (col_inb b.1 b.2)).view.set = colSet b := by
  show ((View.whole main_arg0).slice _).set = _
  rw [View.set_slice_whole]; rfl

/-- A slab's index with its unit axis dropped. -/
theorem reshape_slab (h : S256x128.numel = S1x256x128.numel) (r : Fin 256) (l : Fin 128) :
    Shape.reshapeEquiv h (ix2 (n0 := 256) (n1 := 128) r l) = ix3 (n0 := 1) (n1 := 256) (n2 := 128) 0 r l := by
  simp only [pointwise]

/-- What a landed transfer leaves in its slab is `XS`. -/
theorem landed (b : Fin 4 × Fin 28) (fd : S112x256x128.Idx → Elt F .bf16) (x : S256x14336.Idx → Elt F .bf16) (i : S112x256x128.Idx) (hi : i ∈ slabSet b) :
    (slabM (4 * b.2.val + b.1.val) (slab_inb b.1 b.2)).view.write (Elt F) fd (ReadAs.same.apply ((colM (128 * (4 * b.2.val + b.1.val)) (col_inb b.1 b.2)).view.read (Elt F) x)) Finset.univ i
      = XS x i := by
  rw [← slabM_set b] at hi
  obtain ⟨y, rfl⟩ := View.exists_emb_of_mem_set _ hi
  obtain ⟨r, l, rfl⟩ : ∃ (r : Fin 256) (l : Fin 128), y = ix2 r l := ⟨y 0, y 1, eq_ix2 (n0 := 256) (n1 := 128) y⟩
  rw [View.write_emb_of_mem _ _ (Finset.mem_univ _)]
  have e : (slabM (4 * b.2.val + b.1.val) (slab_inb b.1 b.2)).view.emb (ix2 (n0 := 256) (n1 := 128) r l)
      = ix3 (n0 := 112) (n1 := 256) (n2 := 128) ⟨4 * b.2.val + b.1.val, slab_inb b.1 b.2 0⟩ r l := by
    show (Rect.unit (s := S112x256x128) ![4 * b.2.val + b.1.val, 0, 0] S1x256x128.size (slab_inb b.1 b.2)).emb (Shape.reshapeEquiv _ (ix2 (n0 := 256) (n1 := 128) r l)) = _
    rw [reshape_slab]
    funext a; fin_cases a <;> apply Fin.ext <;> simp [Rect.emb, Rect.unit, ix3]
  have e2 : (colM (128 * (4 * b.2.val + b.1.val)) (col_inb b.1 b.2)).view.emb (ix2 (n0 := 256) (n1 := 128) r l)
      = ix2 (n0 := 256) (n1 := 14336) r ⟨128 * (4 * b.2.val + b.1.val) + l.val, (Nat.add_lt_add_left l.isLt _).trans_le (col_inb b.1 b.2 1)⟩ := by
    show (Rect.unit (s := S256x14336) ![0, 128 * (4 * b.2.val + b.1.val)] S256x128.size (col_inb b.1 b.2)).emb (ix2 (n0 := 256) (n1 := 128) r l) = _
    funext a; fin_cases a <;> apply Fin.ext <;> simp [Rect.emb, Rect.unit, ix2]
  rw [e]
  show x ((colM (128 * (4 * b.2.val + b.1.val)) (col_inb b.1 b.2)).view.emb (ix2 (n0 := 256) (n1 := 128) r l)) = _
  rw [e2]
  rfl

/-- The credit one transfer brings. -/
def NN : ℕ := (slabM 0 (slab_inb 0 0)).view.dmaCredit

/-- What a transfer counts on its semaphore is the same for each slab, -/
theorem credit (o h) : (slabM o h).view.dmaCredit = NN := by unfold NN; rfl

/-- and positive. -/
theorem NN_pos : 0 < NN := View.dmaCredit_pos _ (by unfold Shape.numel; decide)

/-- The 28 transfers of chunk `c`, `j` issued and none yet waited for, with the slabs and columns of the rest. -/
def Iss (c : Dev nD) (x : S256x14336.Idx → Elt F .bf16) (q : Fin 4) (j : ℕ) : sProp (MT nD τ sig Unit (Elt F) ℕ (Pipeline.UD sig nD τ) ℕ) :=
  iprop(Transfers.Batch (Lvl := ℕ) (countersEmb (U := Pipeline.UD sig nD τ)) (c : Thread nD τ) (.dma (cellM q.val (cell_inb q))) () NN (fun t : Fin 28 => dlv c x (q, t)) j 0
    ∗ bigSep (Transfers.pending (n := 28) j) (fun t => iprop((∃ f, scS.view.loc (c : Thread nD τ) ↦[slabSet (q, t)]{fullShare} f)
        ∗ (hbX.view.loc (c : Thread nD τ) ↦[colSet (q, t)]{fullShare} x))))

/-- STARTING a transfer: its slab and columns go to it. -/
theorem issue (c : Dev nD) (x : S256x14336.Idx → Elt F .bf16) (q : Fin 4) (t : Fin 28) (o5 o1 oc : ℕ) (h5 : o5 = 4 * t.val + q.val)
    (h1 : o1 = 128 * (4 * t.val + q.val)) (hc : oc = q.val) (i5 i1 ic) (hsrc hdst hsem)
    {Q : PUnit → sProp (MT nD τ sig Unit (Elt F) ℕ (Pipeline.UD sig nD τ) ℕ)} :
    iprop(Iss c x q t.val ∗ (Iss c x q (t.val + 1) -∗ Q ⟨⟩))
      ⊢ wp frame (wpE (defs₀ (F := F)) Variants.none (c : Thread nD τ) none) Set.univ
        (Prog.lift (.enqueueDma (colM o1 i1) (.here (slabM o5 i5)) (.dma (cellM oc ic)) hsrc hdst hsem)) Q := by
  subst h5 h1 hc
  unfold Iss
  have hp : ∀ Φ : Fin 28 → sProp (MT nD τ sig Unit (Elt F) ℕ (Pipeline.UD sig nD τ) ℕ), bigSep (Transfers.pending (n := 28) t.val) Φ = iprop(Φ t ∗ bigSep (Transfers.pending (n := 28) (t.val + 1)) Φ) := fun Φ => by
    rw [Transfers.pending_succ t.isLt, bigSep_insert (Transfers.not_mem_pending_succ t.isLt)]; rfl
  rw [hp]
  iintro ⟨⟨HB, ⟨⟨%fd, Hd⟩, Hs⟩, HR⟩, Hk⟩
  have hD : iprop(((slabM (4 * t.val + q.val) i5).view.loc (c : Thread nD τ) ↦[slabSet (q, t)]{fullShare} ((slabM (4 * t.val + q.val) i5).view.write (Elt F) fd (ReadAs.same.apply ((colM (128 * (4 * t.val + q.val)) i1).view.read (Elt F) x)) Finset.univ))
              ∗ ((colM (128 * (4 * t.val + q.val)) i1).view.loc (c : Thread nD τ) ↦[(colM (128 * (4 * t.val + q.val)) i1).view.set]{fullShare} x)) ⊢ dlv c x (q, t) := by
    unfold dlv
    rw [colM_set (q, t)]
    iintro ⟨Ha, Hb⟩
    isplitl [Ha]
    · iapply (Entails.of_eq (pointsTo_congr (landed (q, t) fd x)))
      iexact Ha
    iexact Hb
  have key := Transfers.wp_dmaBatch (Lvl := ℕ) (Name := ℕ) (defs := defs₀ (F := F)) (countersEmb (U := Pipeline.UD sig nD τ)) Variants.none (c : Thread nD τ) none (Q := Q)
    (src := colM (128 * (4 * t.val + q.val)) i1) (via := ReadAs.same) (dst := slabM (4 * t.val + q.val) i5) (sm := .dma (cellM q.val ic)) (hsrc := hsrc) (hdst := hdst) (hsem := hsem)
    (k := Prog.ret) (q := fullShare) (fs := x) (Sd := slabSet (q, t)) (fd := fd)
    (D := fun t : Fin 28 => dlv c x (q, t)) (j := t.val) (u := 0) () NN (credit _ _) (slabM_set (q, t)).subset t.isLt (Nat.zero_le _) hD
  rw [colM_set (q, t)] at key
  iapply key $$ [HB Hd Hs]
  · isplitl [Hs]; · iexact Hs
    isplitl [Hd]; · iexact Hd
    iexact HB
  iintro HB
  iapply le_wp_ret
  iapply Hk
  isplitl [HB]; · iexact HB
  iexact HR

/-- The 28 transfers of chunk `q` issued, `i` of them waited for, with the core's record of its waits. -/
def Wt (c : Dev nD) (x : S256x14336.Idx → Elt F .bf16) (q : Fin 4) (i : ℕ) : sProp (MT nD τ sig Unit (Elt F) ℕ (Pipeline.UD sig nD τ) ℕ) :=
  iprop(Transfers.Batch (Lvl := ℕ) (countersEmb (U := Pipeline.UD sig nD τ)) (c : Thread nD τ) (.dma (cellM q.val (cell_inb q))) () NN (fun t : Fin 28 => dlv c x (q, t)) 28 (i * NN)
    ∗ ∃ W, owes (c : Thread nD τ) 0 W)

/-- The chunk landed: its slabs at `XS`, its columns of `x` back, its cell at zero. -/
def Got (c : Dev nD) (x : S256x14336.Idx → Elt F .bf16) (q : Fin 4) : sProp (MT nD τ sig Unit (Elt F) ℕ (Pipeline.UD sig nD τ) ℕ) :=
  iprop(bigSep Finset.univ (fun t : Fin 28 => dlv c x (q, t)) ∗ semVal ((c : Thread nD τ), SemLoc.dma (cellM q.val (cell_inb q))) 0
    ∗ ∃ W, owes (c : Thread nD τ) 0 W)

/-- WAITING for one transfer of a column but the last. -/
theorem wait_one (c : Dev nD) (x : S256x14336.Idx → Elt F .bf16) (q : Fin 4) (i : ℕ) (hi : i + 1 < 28) (o5 o1 oc : ℕ) (hc : oc = q.val) (i5 i1 ic) (hsrc hdst)
    {Q : PUnit → sProp (MT nD τ sig Unit (Elt F) ℕ (Pipeline.UD sig nD τ) ℕ)} :
    iprop(Wt c x q i ∗ (Wt c x q (i + 1) -∗ Q ⟨⟩))
      ⊢ wp frame (wpE (defs₀ (F := F)) Variants.none (c : Thread nD τ) none) Set.univ
        (Prog.lift (.waitDma2 (cellM oc ic) (colM o1 i1) (slabM o5 i5) hsrc hdst)) Q := by
  subst hc
  unfold Wt
  iintro ⟨⟨HB, ⟨%W, HW⟩⟩, Hk⟩
  have key := Transfers.wp_waitBatch (Lvl := ℕ) (Name := ℕ) (defs := defs₀ (F := F)) (countersEmb (U := Pipeline.UD sig nD τ)) Variants.none (c : Thread nD τ) none (Q := Q)
    (sem := cellM q.val ic) (srcw := colM o1 i1) (dstw := slabM o5 i5) (hsrc := hsrc) (hdst := hdst)
    (k := Prog.ret) () (credit o5 i5) (D := fun t : Fin 28 => dlv c x (q, t)) (u := i * NN)
    (by have h := NN_pos; rw [← Nat.succ_mul, Nat.mul_comm]; exact Nat.mul_lt_mul_of_pos_left hi h) (W := W)
  iapply key $$ [HB HW]
  · isplitl [HB]; · iexact HB
    iexact HW
  iintro ⟨HB, HW⟩
  iapply le_wp_ret
  iapply Hk
  rw [Nat.succ_mul]
  isplitl [HB]; · iexact HB
  iexists _; iexact HW

/-- WAITING for the last transfer of a column: all its slabs have landed. -/
theorem wait_last (c : Dev nD) (x : S256x14336.Idx → Elt F .bf16) (q : Fin 4) (o5 o1 oc : ℕ) (hc : oc = q.val) (i5 i1 ic) (hsrc hdst)
    {Q : PUnit → sProp (MT nD τ sig Unit (Elt F) ℕ (Pipeline.UD sig nD τ) ℕ)} :
    iprop(Wt c x q 27 ∗ (Got c x q -∗ Q ⟨⟩))
      ⊢ wp frame (wpE (defs₀ (F := F)) Variants.none (c : Thread nD τ) none) Set.univ
        (Prog.lift (.waitDma2 (cellM oc ic) (colM o1 i1) (slabM o5 i5) hsrc hdst)) Q := by
  subst hc
  unfold Wt Got
  iintro ⟨⟨HB, ⟨%W, HW⟩⟩, Hk⟩
  have key := Transfers.wp_waitBatchLast (Lvl := ℕ) (Name := ℕ) (defs := defs₀ (F := F)) (countersEmb (U := Pipeline.UD sig nD τ)) Variants.none (c : Thread nD τ) none (Q := Q)
    (sem := cellM q.val ic) (srcw := colM o1 i1) (dstw := slabM o5 i5) (hsrc := hsrc) (hdst := hdst)
    (k := Prog.ret) () (credit o5 i5) (D := fun t : Fin 28 => dlv c x (q, t)) (u := 27 * NN)
    NN_pos (by rw [← Nat.succ_mul, Nat.mul_comm]) (W := W)
  iapply key $$ [HB HW]
  · isplitl [HB]; · iexact HB
    iexact HW
  iintro ⟨HD, HS, HW⟩
  iapply le_wp_ret
  iapply Hk
  isplitl [HD]; · iexact HD
  isplitl [HS]; · iexact HS
  iexists _; iexact HW

/-- All 28 transfers of a column are started. -/
theorem Iss_all (c : Dev nD) (x : S256x14336.Idx → Elt F .bf16) (q : Fin 4) (W) :
    iprop(Iss c x q 28 ∗ owes (c : Thread nD τ) 0 W) ⊢ Wt c x q 0 := by
  unfold Iss Wt
  rw [Nat.zero_mul]
  iintro ⟨⟨HB, -⟩, HW⟩
  isplitl [HB]; · iexact HB
  iexists _; iexact HW

/-- A chunk's transfers before the first is issued, from its cell at zero, its slabs at anything and its columns of `x`. -/
theorem Iss_start (c : Dev nD) (x : S256x14336.Idx → Elt F .bf16) (q : Fin 4) :
    iprop(semVal ((c : Thread nD τ), SemLoc.dma (cellM q.val (cell_inb q))) 0
      ∗ bigSep Finset.univ (fun t : Fin 28 => iprop((∃ f, scS.view.loc (c : Thread nD τ) ↦[slabSet (q, t)]{fullShare} f)
        ∗ (hbX.view.loc (c : Thread nD τ) ↦[colSet (q, t)]{fullShare} x))))
      ⊢ (iprop(|={Set.univ}[frame]=> Iss c x q 0) : sProp (MT nD τ sig Unit (Elt F) ℕ (Pipeline.UD sig nD τ) ℕ)) := by
  unfold Iss
  rw [Transfers.pending_zero]
  iintro ⟨HS, HR⟩
  imod (Transfers.batch_alloc' (Lvl := ℕ) (countersEmb (U := Pipeline.UD sig nD τ)) (c : Thread nD τ) () NN (fun t : Fin 28 => dlv c x (q, t))
    (sm := SemLoc.dma (cellM q.val (cell_inb q))) (E := Set.univ)) $$ HS with HB
  imodintro
  isplitl [HB]; · iexact HB
  iexact HR

end Cert.RotateIdeal.Run
-- ==== Proof.RotIdealTrans.lean ====
/- The four loops that transpose the landed slabs. -/
module

public import proofs.«01_k».proof.Proof.RotIdealDma

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole)

/-- A place of the transposed buffer names a column of `x`, -/
theorem XT_inb (i : S2x14336x128.Idx) : 512 * ((i 1).val % 448 / 16) + 16 * ((i 1).val / 448) + (i 1).val % 16 < 14336 := by
  have h : (i 1).val < 14336 := (i 1).isLt
  omega
/-- and a row. -/
theorem XT_inb0 (i : S2x14336x128.Idx) : 128 * (i 0).val + (i 2).val < 256 := by
  have h : (i 0).val < 2 := (i 0).isLt
  have h : (i 2).val < 128 := (i 2).isLt
  omega

/-- The transposed buffer once every slab has been through: row `448 i + 16 k + b` of half `h` is column
    `512 k + 16 i + b` of `x` at the half's 128 rows. -/
def XT : S2x14336x128.Idx → Elt F .bf16 := fun i =>
  x (ix2 (n0 := 256) (n1 := 14336) ⟨128 * (i 0).val + (i 2).val, XT_inb0 i⟩
    ⟨512 * ((i 1).val % 448 / 16) + 16 * ((i 1).val / 448) + (i 1).val % 16, XT_inb i⟩)

/-- The rows the first `k` trips of chunk `q` have written, with those of the chunks before. -/
def DoneT (q k : ℕ) (i : S2x14336x128.Idx) : Prop :=
  (i 1).val / 448 < 8 * q ∨ ((i 1).val / 448 < 8 * q + 8 ∧ (i 1).val % 448 / 16 < k)

/-- The rows written so far are right. -/
def GoodT (q k : ℕ) (f : S2x14336x128.Idx → Elt F .bf16) : Prop := ∀ i, DoneT q k i → f i = XT x i

/-- The transposed buffer, right on the rows written so far. -/
def TS (q k : ℕ) : sProp (MT nD τ sig Unit (Elt F) ℕ (Pipeline.UD sig nD τ) ℕ) :=
  iprop(∃ f, ⌜GoodT x q k f⌝ ∗ (scT.view.loc (c : Thread nD τ) ↦[scT.view.set]{fullShare} f))

/-- Loading a rectangle of the staging buffer from elements that include it. -/
theorem load_slab (S : Finset S112x256x128.Idx) (r : Rect S112x256x128) (hl) (hS : (scS.access r).set ⊆ S) {α : Type}
    (k : (r.shape.Idx → Elt F .bf16) → Prog (TpuEff nD τ sig (Elt F) Λ₀ .tc) α) {Q : α → sProp (MT nD τ sig Unit (Elt F) ℕ (Pipeline.UD sig nD τ) ℕ)} :
    iprop((scS.view.loc (c : Thread nD τ) ↦[S]{fullShare} (XS x))
        ∗ ((scS.view.loc (c : Thread nD τ) ↦[S]{fullShare} (XS x)) -∗ wp frame (wpE (defs₀ (F := F)) Variants.none (c : Thread nD τ) none) Set.univ (k (fun j => XS x (r.emb j))) Q))
      ⊢ wp frame (wpE (defs₀ (F := F)) Variants.none (c : Thread nD τ) none) Set.univ (Prog.lift (.load scS r.toLoadRect hl) >>= k) Q := by
  rw [wp_bind]
  iintro ⟨HS, Hk⟩
  iapply (wp_load_rect (Lvl := ℕ) (Name := ℕ) (U := Pipeline.UD sig nD τ) (Ix := Unit) (defs := defs₀ (F := F)) Variants.none (c : Thread nD τ) none Set.univ
    (Q := fun a => wp frame (wpE (defs₀ (F := F)) Variants.none (c : Thread nD τ) none) Set.univ (k a) Q)
    (m := scS) (r := r) (hl := hl) (k := Prog.ret) (S := S) (q := fullShare) (f := XS x) hS) $$ HS
  iintro HS
  iapply le_wp_ret
  iapply Hk
  iexact HS

/-- One trip's stores carry the invariant a step on: they agree with `XT` and cover the rows the trip adds. -/
theorem goodT_step (q k : ℕ) (f : S2x14336x128.Idx → Elt F .bf16) (hf : GoodT x q k f) (L : List (View.Piece (Elt F) S2x14336x128 .bf16))
    (hL : ∀ p ∈ L, ∀ j : p.1.shape.Idx, p.2 j = XT x (p.1.emb j))
    (hc : ∀ i, DoneT q (k + 1) i → ¬ DoneT q k i → ∃ p ∈ L, i ∈ p.1.set) :
    GoodT x q (k + 1) (scT.view.writes (Elt F) f L) := by
  intro i hi
  by_cases h : ∃ p ∈ L, i ∈ p.1.set
  · exact View.read_writes_apply_of_pieces scT.view f (XT x) L hL i h
  · have hd : DoneT q k i := by
      by_contra hn
      exact h (hc i hi hn)
    have h' : ∀ p ∈ L, i ∉ p.1.set := fun p hp hm => h ⟨p, hp, hm⟩
    exact (View.read_writes_apply_of_forall_not_mem scT.view f i L h').trans (hf i hd)

/-- The rows a trip adds. -/
theorem newT (q k : ℕ) (i : S2x14336x128.Idx) (hi : DoneT q (k + 1) i) (hn : ¬ DoneT q k i) :
    ∃ e, e < 8 ∧ (i 1).val / 448 = 8 * q + e ∧ (i 1).val % 448 / 16 = k := by
  unfold DoneT at hi hn
  exact ⟨(i 1).val / 448 - 8 * q, by omega, by omega, by omega⟩

/-- An element of a piece stored, by its coordinates. -/
theorem mem_piece (q k e h : ℕ) (off : Fin 3 → ℕ) (ho : off = ![h, 448 * (8 * q + e) + 16 * k, 0]) (inb) (i : S2x14336x128.Idx)
    (h0 : (i 0).val = h) (hr : (i 1).val / 448 = 8 * q + e) (hk : (i 1).val % 448 / 16 = k) :
    i ∈ (Rect.unit (s := S2x14336x128) off ![1, 16, 128] inb).set := by
  subst ho
  rw [Rect.mem_set_unit]
  have h2 : (i 2).val < 128 := (i 2).isLt
  intro a
  fin_cases a
  · exact ⟨by show h ≤ (i 0).val; omega, by show (i 0).val < h + 1; omega⟩
  · exact ⟨by show 448 * (8 * q + e) + 16 * k ≤ (i 1).val; omega, by show (i 1).val < 448 * (8 * q + e) + 16 * k + 16; omega⟩
  · exact ⟨by show 0 ≤ (i 2).val; omega, by show (i 2).val < 0 + 128; omega⟩

/-- What one store of a trip puts down: sixteen rows of the transposed slab. -/
theorem piece_ok (q k e h : ℕ) (hq : q < 4) (hk : k < 28) (he : e < 8) (hh : h < 2) (off : Fin 3 → ℕ)
    (ho : off = ![h, 448 * (8 * q + e) + 16 * k, 0]) (inb) (offs : Fin 3 → ℕ) (hs : offs = ![4 * k + q, 0, 0]) (inbs)
    (j : (Rect.unit (s := S2x14336x128) off ![1, 16, 128] inb).shape.Idx) :
    shapeCast S1x16x128 (extractStridedSlice S16x128 ![16 * e, 128 * h]
      (k0_pay4 (fun i => XS x ((Rect.unit (s := S112x256x128) offs ![1, 256, 128] inbs).emb i)))
      (by unfold Shape.Slices; refine ⟨rfl, fun a => ?_⟩; fin_cases a
          · show 16 * e + 16 ≤ 128; omega
          · show 128 * h + 128 ≤ 256; omega)) shapeCasts_S16x128_S1x16x128 j
      = XT x ((Rect.unit (s := S2x14336x128) off ![1, 16, 128] inb).emb j) := by
  subst ho hs
  obtain ⟨z, b, l, rfl⟩ : ∃ (z : Fin 1) (b : Fin 16) (l : Fin 128), j = ix3 z b l := ⟨j 0, j 1, j 2, eq_ix3 (n0 := 1) (n1 := 16) (n2 := 128) j⟩
  have hz : z = 0 := Subsingleton.elim _ _
  subst hz
  have hb := b.isLt
  have hl := l.isLt
  rw [shapeCast_apply _ _ _ (ix2 b l) (by rw [Shape.rowMajor_val_two, Shape.rowMajor_val_three]; show b.val * 128 + l.val = (0 * 16 + b.val) * 128 + l.val; omega),
    extractStridedSlice_apply _ _ _ _ (ix2 (n0 := 128) (n1 := 256) ⟨16 * e + b.val, by omega⟩ ⟨128 * h + l.val, by omega⟩)
      (by intro a; fin_cases a <;> rfl)]
  unfold k0_pay4
  rw [transpose_apply _ _ _ _ (ix2 (n0 := 256) (n1 := 128) ⟨128 * h + l.val, by omega⟩ ⟨16 * e + b.val, by omega⟩)
      (by intro a; fin_cases a <;> rfl),
    shapeCast_apply _ _ _ (ix3 (n0 := 1) (n1 := 256) (n2 := 128) 0 ⟨128 * h + l.val, by omega⟩ ⟨16 * e + b.val, by omega⟩)
      (by rw [Shape.rowMajor_val_two, Shape.rowMajor_val_three]; show (0 * 256 + (128 * h + l.val)) * 128 + (16 * e + b.val) = (128 * h + l.val) * 128 + (16 * e + b.val); omega)]
  unfold XS XT
  congr 1
  funext a
  apply Fin.ext
  match a with
  | ⟨0, _⟩ =>
    show 0 + 1 * (128 * h + l.val) = 128 * (h + 1 * 0) + (0 + 1 * l.val)
    omega
  | ⟨1, _⟩ =>
    show 128 * (4 * k + q + 1 * 0) + (0 + 1 * (16 * e + b.val))
      = 512 * ((448 * (8 * q + e) + 16 * k + 1 * b.val) % 448 / 16) + 16 * ((448 * (8 * q + e) + 16 * k + 1 * b.val) / 448) + (448 * (8 * q + e) + 16 * k + 1 * b.val) % 16
    have h1 : (448 * (8 * q + e) + 16 * k + 1 * b.val) % 448 = 16 * k + b.val := by omega
    have h2 : (448 * (8 * q + e) + 16 * k + 1 * b.val) / 448 = 8 * q + e := by omega
    have h3 : (448 * (8 * q + e) + 16 * k + 1 * b.val) % 16 = b.val := by omega
    rw [h1, h2, h3]
    omega

section Offsets

/-- Offset 1, in numbers. -/
theorem off1_eq : ∀ k : Fin k0_t1_loop.trips, k0_off1 k = ![4 * k.val + 0, 0, 0] := by decide +kernel
/-- Offset 2, in numbers. -/
theorem off2_eq : ∀ e : Fin 8, ∀ k : Fin k0_t1_loop.trips, k0_off2 k (BitVec.ofNat 32 (448 * (8 * 0 + e.val))) = ![0, 448 * (8 * 0 + e.val) + 16 * k.val, 0] := by decide +kernel
/-- Offset 3, in numbers. -/
theorem off3_eq : ∀ e : Fin 8, ∀ k : Fin k0_t1_loop.trips, k0_off3 k (BitVec.ofNat 32 (448 * (8 * 0 + e.val))) = ![1, 448 * (8 * 0 + e.val) + 16 * k.val, 0] := by decide +kernel

/-- Offset 4, in numbers. -/
theorem off4_eq : ∀ k : Fin k0_t2_loop.trips, k0_off4 k = ![4 * k.val + 1, 0, 0] := by decide +kernel
/-- Offset 5, in numbers. -/
theorem off5_eq : ∀ e : Fin 8, ∀ k : Fin k0_t2_loop.trips, k0_off5 k (BitVec.ofNat 32 (448 * (8 * 1 + e.val))) = ![0, 448 * (8 * 1 + e.val) + 16 * k.val, 0] := by decide +kernel
/-- Offset 6, in numbers. -/
theorem off6_eq : ∀ e : Fin 8, ∀ k : Fin k0_t2_loop.trips, k0_off6 k (BitVec.ofNat 32 (448 * (8 * 1 + e.val))) = ![1, 448 * (8 * 1 + e.val) + 16 * k.val, 0] := by decide +kernel

/-- Offset 7, in numbers. -/
theorem off7_eq : ∀ k : Fin k0_t3_loop.trips, k0_off7 k = ![4 * k.val + 2, 0, 0] := by decide +kernel
/-- Offset 8, in numbers. -/
theorem off8_eq : ∀ e : Fin 8, ∀ k : Fin k0_t3_loop.trips, k0_off8 k (BitVec.ofNat 32 (448 * (8 * 2 + e.val))) = ![0, 448 * (8 * 2 + e.val) + 16 * k.val, 0] := by decide +kernel
/-- Offset 9, in numbers. -/
theorem off9_eq : ∀ e : Fin 8, ∀ k : Fin k0_t3_loop.trips, k0_off9 k (BitVec.ofNat 32 (448 * (8 * 2 + e.val))) = ![1, 448 * (8 * 2 + e.val) + 16 * k.val, 0] := by decide +kernel

/-- Offset 10, in numbers. -/
theorem off10_eq : ∀ k : Fin k0_t4_loop.trips, k0_off10 k = ![4 * k.val + 3, 0, 0] := by decide +kernel
/-- Offset 11, in numbers. -/
theorem off11_eq : ∀ e : Fin 8, ∀ k : Fin k0_t4_loop.trips, k0_off11 k (BitVec.ofNat 32 (448 * (8 * 3 + e.val))) = ![0, 448 * (8 * 3 + e.val) + 16 * k.val, 0] := by decide +kernel
/-- Offset 12, in numbers. -/
theorem off12_eq : ∀ e : Fin 8, ∀ k : Fin k0_t4_loop.trips, k0_off12 k (BitVec.ofNat 32 (448 * (8 * 3 + e.val))) = ![1, 448 * (8 * 3 + e.val) + 16 * k.val, 0] := by decide +kernel
end Offsets

set_option maxHeartbeats 4000000 in
/-- One trip of the loop that transposes chunk 0. -/
theorem trip1 (v : FVec F S448x448 .bf16) (k : Fin k0_t1_loop.trips) {Q : Unit → sProp (MT nD τ sig Unit (Elt F) ℕ (Pipeline.UD sig nD τ) ℕ)} (S : Finset S112x256x128.Idx)
    (hS : (scS.access (Rect.unit (s := S112x256x128) (k0_off1 k) S1x256x128.size (k0_off1_inb k))).set ⊆ S) :
    iprop(TS c x 0 k ∗ (scS.view.loc (c : Thread nD τ) ↦[S]{fullShare} (XS x))
        ∗ ((TS c x 0 (k.val + 1) ∗ (scS.view.loc (c : Thread nD τ) ↦[S]{fullShare} (XS x))) -∗ Q ⟨⟩))
      ⊢ wp frame (wpE (defs₀ (F := F)) Variants.none (c : Thread nD τ) none) Set.univ
          (k0_t1_body arg0 harg0 hbX (Memref.isWhole_whole _) arg2 harg2 arg3 harg3 arg4 harg4 scS (Memref.isWhole_whole _) scT (Memref.isWhole_whole _) scU (Memref.isWhole_whole _) cc0_scratch3 v k ⟨⟩)
          Q := by
  unfold k0_t1_body
  rw [k0_part1_eq_skeleton]
  unfold k0_part1_skel
  simp only [bind_assoc]
  unfold TS
  iintro ⟨⟨%f, %hf, HT⟩, HS, Hk⟩
  iapply (load_slab c x _ _ _ hS)
  isplitl [HS]; · iexact HS
  iintro HS
  sl_exec
  sl_step
  iapply Hk
  isplitl [HT]
  · iexists _; isplitr; swap; · iexact HT
    ipureintro
    refine goodT_step x 0 k f hf _ ?_ ?_
    · refine List.forall_mem_cons.2 ⟨?_, ?_⟩
      · exact piece_ok x 0 k.val 7 1 (by decide) k.isLt (by decide) (by decide) _ (off3_eq 7 k) (k0_off3_inb k 7) _ (off1_eq k) (k0_off1_inb k)
      refine List.forall_mem_cons.2 ⟨?_, ?_⟩
      · exact piece_ok x 0 k.val 7 0 (by decide) k.isLt (by decide) (by decide) _ (off2_eq 7 k) (k0_off2_inb k 7) _ (off1_eq k) (k0_off1_inb k)
      refine List.forall_mem_cons.2 ⟨?_, ?_⟩
      · exact piece_ok x 0 k.val 6 1 (by decide) k.isLt (by decide) (by decide) _ (off3_eq 6 k) (k0_off3_inb k 6) _ (off1_eq k) (k0_off1_inb k)
      refine List.forall_mem_cons.2 ⟨?_, ?_⟩
      · exact piece_ok x 0 k.val 6 0 (by decide) k.isLt (by decide) (by decide) _ (off2_eq 6 k) (k0_off2_inb k 6) _ (off1_eq k) (k0_off1_inb k)
      refine List.forall_mem_cons.2 ⟨?_, ?_⟩
      · exact piece_ok x 0 k.val 5 1 (by decide) k.isLt (by decide) (by decide) _ (off3_eq 5 k) (k0_off3_inb k 5) _ (off1_eq k) (k0_off1_inb k)
      refine List.forall_mem_cons.2 ⟨?_, ?_⟩
      · exact piece_ok x 0 k.val 5 0 (by decide) k.isLt (by decide) (by decide) _ (off2_eq 5 k) (k0_off2_inb k 5) _ (off1_eq k) (k0_off1_inb k)
      refine List.forall_mem_cons.2 ⟨?_, ?_⟩
      · exact piece_ok x 0 k.val 4 1 (by decide) k.isLt (by decide) (by decide) _ (off3_eq 4 k) (k0_off3_inb k 4) _ (off1_eq k) (k0_off1_inb k)
      refine List.forall_mem_cons.2 ⟨?_, ?_⟩
      · exact piece_ok x 0 k.val 4 0 (by decide) k.isLt (by decide) (by decide) _ (off2_eq 4 k) (k0_off2_inb k 4) _ (off1_eq k) (k0_off1_inb k)
      refine List.forall_mem_cons.2 ⟨?_, ?_⟩
      · exact piece_ok x 0 k.val 3 1 (by decide) k.isLt (by decide) (by decide) _ (off3_eq 3 k) (k0_off3_inb k 3) _ (off1_eq k) (k0_off1_inb k)
      refine List.forall_mem_cons.2 ⟨?_, ?_⟩
      · exact piece_ok x 0 k.val 3 0 (by decide) k.isLt (by decide) (by decide) _ (off2_eq 3 k) (k0_off2_inb k 3) _ (off1_eq k) (k0_off1_inb k)
      refine List.forall_mem_cons.2 ⟨?_, ?_⟩
      · exact piece_ok x 0 k.val 2 1 (by decide) k.isLt (by decide) (by decide) _ (off3_eq 2 k) (k0_off3_inb k 2) _ (off1_eq k) (k0_off1_inb k)
      refine List.forall_mem_cons.2 ⟨?_, ?_⟩
      · exact piece_ok x 0 k.val 2 0 (by decide) k.isLt (by decide) (by decide) _ (off2_eq 2 k) (k0_off2_inb k 2) _ (off1_eq k) (k0_off1_inb k)
      refine List.forall_mem_cons.2 ⟨?_, ?_⟩
      · exact piece_ok x 0 k.val 1 1 (by decide) k.isLt (by decide) (by decide) _ (off3_eq 1 k) (k0_off3_inb k 1) _ (off1_eq k) (k0_off1_inb k)
      refine List.forall_mem_cons.2 ⟨?_, ?_⟩
      · exact piece_ok x 0 k.val 1 0 (by decide) k.isLt (by decide) (by decide) _ (off2_eq 1 k) (k0_off2_inb k 1) _ (off1_eq k) (k0_off1_inb k)
      refine List.forall_mem_cons.2 ⟨?_, ?_⟩
      · exact piece_ok x 0 k.val 0 1 (by decide) k.isLt (by decide) (by decide) _ (off3_eq 0 k) (k0_off3_inb k 0) _ (off1_eq k) (k0_off1_inb k)
      refine List.forall_mem_cons.2 ⟨?_, fun _ h => absurd h List.not_mem_nil⟩
      · exact piece_ok x 0 k.val 0 0 (by decide) k.isLt (by decide) (by decide) _ (off2_eq 0 k) (k0_off2_inb k 0) _ (off1_eq k) (k0_off1_inb k)
    · intro i hi hn
      obtain ⟨e, he, hr, hk⟩ := newT 0 k.val i hi hn
      have h0 : (i 0).val < 2 := (i 0).isLt
      obtain h | h : (i 0).val = 0 ∨ (i 0).val = 1 := by omega
      all_goals rcases (by omega : e = 0 ∨ e = 1 ∨ e = 2 ∨ e = 3 ∨ e = 4 ∨ e = 5 ∨ e = 6 ∨ e = 7) with rfl | rfl | rfl | rfl | rfl | rfl | rfl | rfl
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_piece 0 k.val 0 0 _ (off2_eq 0 k) (k0_off2_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_piece 0 k.val 1 0 _ (off2_eq 1 k) (k0_off2_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece 0 k.val 2 0 _ (off2_eq 2 k) (k0_off2_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece 0 k.val 3 0 _ (off2_eq 3 k) (k0_off2_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 0 k.val 4 0 _ (off2_eq 4 k) (k0_off2_inb k 4) i h hr hk⟩
      · exact ⟨_, List.mem_cons_of_mem _ (List.mem_cons_of_mem _ (List.mem_cons_of_mem _ (List.mem_cons_of_mem _ (List.mem_cons_of_mem _ (List.mem_cons_self))))), mem_piece 0 k.val 5 0 _ (off2_eq 5 k) (k0_off2_inb k 5) i h hr hk⟩
      · exact ⟨_, List.mem_cons_of_mem _ (List.mem_cons_of_mem _ (List.mem_cons_of_mem _ (List.mem_cons_self))), mem_piece 0 k.val 6 0 _ (off2_eq 6 k) (k0_off2_inb k 6) i h hr hk⟩
      · exact ⟨_, List.mem_cons_of_mem _ (List.mem_cons_self), mem_piece 0 k.val 7 0 _ (off2_eq 7 k) (k0_off2_inb k 7) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_piece 0 k.val 0 1 _ (off3_eq 0 k) (k0_off3_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece 0 k.val 1 1 _ (off3_eq 1 k) (k0_off3_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece 0 k.val 2 1 _ (off3_eq 2 k) (k0_off3_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece 0 k.val 3 1 _ (off3_eq 3 k) (k0_off3_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_self)))))), mem_piece 0 k.val 4 1 _ (off3_eq 4 k) (k0_off3_inb k 4) i h hr hk⟩
      · exact ⟨_, List.mem_cons_of_mem _ (List.mem_cons_of_mem _ (List.mem_cons_of_mem _ (List.mem_cons_of_mem _ (List.mem_cons_self)))), mem_piece 0 k.val 5 1 _ (off3_eq 5 k) (k0_off3_inb k 5) i h hr hk⟩
      · exact ⟨_, List.mem_cons_of_mem _ (List.mem_cons_of_mem _ (List.mem_cons_self)), mem_piece 0 k.val 6 1 _ (off3_eq 6 k) (k0_off3_inb k 6) i h hr hk⟩
      · exact ⟨_, List.mem_cons_self, mem_piece 0 k.val 7 1 _ (off3_eq 7 k) (k0_off3_inb k 7) i h hr hk⟩
  iexact HS

set_option maxHeartbeats 4000000 in
/-- One trip of the loop that transposes chunk 1. -/
theorem trip2 (v : FVec F S448x448 .bf16) (k : Fin k0_t2_loop.trips) {Q : Unit → sProp (MT nD τ sig Unit (Elt F) ℕ (Pipeline.UD sig nD τ) ℕ)} (S : Finset S112x256x128.Idx)
    (hS : (scS.access (Rect.unit (s := S112x256x128) (k0_off4 k) S1x256x128.size (k0_off4_inb k))).set ⊆ S) :
    iprop(TS c x 1 k ∗ (scS.view.loc (c : Thread nD τ) ↦[S]{fullShare} (XS x))
        ∗ ((TS c x 1 (k.val + 1) ∗ (scS.view.loc (c : Thread nD τ) ↦[S]{fullShare} (XS x))) -∗ Q ⟨⟩))
      ⊢ wp frame (wpE (defs₀ (F := F)) Variants.none (c : Thread nD τ) none) Set.univ
          (k0_t2_body arg0 harg0 hbX (Memref.isWhole_whole _) arg2 harg2 arg3 harg3 arg4 harg4 scS (Memref.isWhole_whole _) scT (Memref.isWhole_whole _) scU (Memref.isWhole_whole _) cc0_scratch3 v k ⟨⟩)
          Q := by
  unfold k0_t2_body
  rw [k0_part4_eq_skeleton]
  unfold k0_part4_skel
  simp only [bind_assoc]
  unfold TS
  iintro ⟨⟨%f, %hf, HT⟩, HS, Hk⟩
  iapply (load_slab c x _ _ _ hS)
  isplitl [HS]; · iexact HS
  iintro HS
  sl_exec
  sl_step
  iapply Hk
  isplitl [HT]
  · iexists _; isplitr; swap; · iexact HT
    ipureintro
    refine goodT_step x 1 k f hf _ ?_ ?_
    · refine List.forall_mem_cons.2 ⟨?_, ?_⟩
      · exact piece_ok x 1 k.val 7 1 (by decide) k.isLt (by decide) (by decide) _ (off6_eq 7 k) (k0_off6_inb k 7) _ (off4_eq k) (k0_off4_inb k)
      refine List.forall_mem_cons.2 ⟨?_, ?_⟩
      · exact piece_ok x 1 k.val 7 0 (by decide) k.isLt (by decide) (by decide) _ (off5_eq 7 k) (k0_off5_inb k 7) _ (off4_eq k) (k0_off4_inb k)
      refine List.forall_mem_cons.2 ⟨?_, ?_⟩
      · exact piece_ok x 1 k.val 6 1 (by decide) k.isLt (by decide) (by decide) _ (off6_eq 6 k) (k0_off6_inb k 6) _ (off4_eq k) (k0_off4_inb k)
      refine List.forall_mem_cons.2 ⟨?_, ?_⟩
      · exact piece_ok x 1 k.val 6 0 (by decide) k.isLt (by decide) (by decide) _ (off5_eq 6 k) (k0_off5_inb k 6) _ (off4_eq k) (k0_off4_inb k)
      refine List.forall_mem_cons.2 ⟨?_, ?_⟩
      · exact piece_ok x 1 k.val 5 1 (by decide) k.isLt (by decide) (by decide) _ (off6_eq 5 k) (k0_off6_inb k 5) _ (off4_eq k) (k0_off4_inb k)
      refine List.forall_mem_cons.2 ⟨?_, ?_⟩
      · exact piece_ok x 1 k.val 5 0 (by decide) k.isLt (by decide) (by decide) _ (off5_eq 5 k) (k0_off5_inb k 5) _ (off4_eq k) (k0_off4_inb k)
      refine List.forall_mem_cons.2 ⟨?_, ?_⟩
      · exact piece_ok x 1 k.val 4 1 (by decide) k.isLt (by decide) (by decide) _ (off6_eq 4 k) (k0_off6_inb k 4) _ (off4_eq k) (k0_off4_inb k)
      refine List.forall_mem_cons.2 ⟨?_, ?_⟩
      · exact piece_ok x 1 k.val 4 0 (by decide) k.isLt (by decide) (by decide) _ (off5_eq 4 k) (k0_off5_inb k 4) _ (off4_eq k) (k0_off4_inb k)
      refine List.forall_mem_cons.2 ⟨?_, ?_⟩
      · exact piece_ok x 1 k.val 3 1 (by decide) k.isLt (by decide) (by decide) _ (off6_eq 3 k) (k0_off6_inb k 3) _ (off4_eq k) (k0_off4_inb k)
      refine List.forall_mem_cons.2 ⟨?_, ?_⟩
      · exact piece_ok x 1 k.val 3 0 (by decide) k.isLt (by decide) (by decide) _ (off5_eq 3 k) (k0_off5_inb k 3) _ (off4_eq k) (k0_off4_inb k)
      refine List.forall_mem_cons.2 ⟨?_, ?_⟩
      · exact piece_ok x 1 k.val 2 1 (by decide) k.isLt (by decide) (by decide) _ (off6_eq 2 k) (k0_off6_inb k 2) _ (off4_eq k) (k0_off4_inb k)
      refine List.forall_mem_cons.2 ⟨?_, ?_⟩
      · exact piece_ok x 1 k.val 2 0 (by decide) k.isLt (by decide) (by decide) _ (off5_eq 2 k) (k0_off5_inb k 2) _ (off4_eq k) (k0_off4_inb k)
      refine List.forall_mem_cons.2 ⟨?_, ?_⟩
      · exact piece_ok x 1 k.val 1 1 (by decide) k.isLt (by decide) (by decide) _ (off6_eq 1 k) (k0_off6_inb k 1) _ (off4_eq k) (k0_off4_inb k)
      refine List.forall_mem_cons.2 ⟨?_, ?_⟩
      · exact piece_ok x 1 k.val 1 0 (by decide) k.isLt (by decide) (by decide) _ (off5_eq 1 k) (k0_off5_inb k 1) _ (off4_eq k) (k0_off4_inb k)
      refine List.forall_mem_cons.2 ⟨?_, ?_⟩
      · exact piece_ok x 1 k.val 0 1 (by decide) k.isLt (by decide) (by decide) _ (off6_eq 0 k) (k0_off6_inb k 0) _ (off4_eq k) (k0_off4_inb k)
      refine List.forall_mem_cons.2 ⟨?_, fun _ h => absurd h List.not_mem_nil⟩
      · exact piece_ok x 1 k.val 0 0 (by decide) k.isLt (by decide) (by decide) _ (off5_eq 0 k) (k0_off5_inb k 0) _ (off4_eq k) (k0_off4_inb k)
    · intro i hi hn
      obtain ⟨e, he, hr, hk⟩ := newT 1 k.val i hi hn
      have h0 : (i 0).val < 2 := (i 0).isLt
      obtain h | h : (i 0).val = 0 ∨ (i 0).val = 1 := by omega
      all_goals rcases (by omega : e = 0 ∨ e = 1 ∨ e = 2 ∨ e = 3 ∨ e = 4 ∨ e = 5 ∨ e = 6 ∨ e = 7) with rfl | rfl | rfl | rfl | rfl | rfl | rfl | rfl
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_piece 1 k.val 0 0 _ (off5_eq 0 k) (k0_off5_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_piece 1 k.val 1 0 _ (off5_eq 1 k) (k0_off5_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece 1 k.val 2 0 _ (off5_eq 2 k) (k0_off5_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece 1 k.val 3 0 _ (off5_eq 3 k) (k0_off5_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 1 k.val 4 0 _ (off5_eq 4 k) (k0_off5_inb k 4) i h hr hk⟩
      · exact ⟨_, List.mem_cons_of_mem _ (List.mem_cons_of_mem _ (List.mem_cons_of_mem _ (List.mem_cons_of_mem _ (List.mem_cons_of_mem _ (List.mem_cons_self))))), mem_piece 1 k.val 5 0 _ (off5_eq 5 k) (k0_off5_inb k 5) i h hr hk⟩
      · exact ⟨_, List.mem_cons_of_mem _ (List.mem_cons_of_mem _ (List.mem_cons_of_mem _ (List.mem_cons_self))), mem_piece 1 k.val 6 0 _ (off5_eq 6 k) (k0_off5_inb k 6) i h hr hk⟩
      · exact ⟨_, List.mem_cons_of_mem _ (List.mem_cons_self), mem_piece 1 k.val 7 0 _ (off5_eq 7 k) (k0_off5_inb k 7) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_piece 1 k.val 0 1 _ (off6_eq 0 k) (k0_off6_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece 1 k.val 1 1 _ (off6_eq 1 k) (k0_off6_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece 1 k.val 2 1 _ (off6_eq 2 k) (k0_off6_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece 1 k.val 3 1 _ (off6_eq 3 k) (k0_off6_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_self)))))), mem_piece 1 k.val 4 1 _ (off6_eq 4 k) (k0_off6_inb k 4) i h hr hk⟩
      · exact ⟨_, List.mem_cons_of_mem _ (List.mem_cons_of_mem _ (List.mem_cons_of_mem _ (List.mem_cons_of_mem _ (List.mem_cons_self)))), mem_piece 1 k.val 5 1 _ (off6_eq 5 k) (k0_off6_inb k 5) i h hr hk⟩
      · exact ⟨_, List.mem_cons_of_mem _ (List.mem_cons_of_mem _ (List.mem_cons_self)), mem_piece 1 k.val 6 1 _ (off6_eq 6 k) (k0_off6_inb k 6) i h hr hk⟩
      · exact ⟨_, List.mem_cons_self, mem_piece 1 k.val 7 1 _ (off6_eq 7 k) (k0_off6_inb k 7) i h hr hk⟩
  iexact HS

set_option maxHeartbeats 4000000 in
/-- One trip of the loop that transposes chunk 2. -/
theorem trip3 (v : FVec F S448x448 .bf16) (k : Fin k0_t3_loop.trips) {Q : Unit → sProp (MT nD τ sig Unit (Elt F) ℕ (Pipeline.UD sig nD τ) ℕ)} (S : Finset S112x256x128.Idx)
    (hS : (scS.access (Rect.unit (s := S112x256x128) (k0_off7 k) S1x256x128.size (k0_off7_inb k))).set ⊆ S) :
    iprop(TS c x 2 k ∗ (scS.view.loc (c : Thread nD τ) ↦[S]{fullShare} (XS x))
        ∗ ((TS c x 2 (k.val + 1) ∗ (scS.view.loc (c : Thread nD τ) ↦[S]{fullShare} (XS x))) -∗ Q ⟨⟩))
      ⊢ wp frame (wpE (defs₀ (F := F)) Variants.none (c : Thread nD τ) none) Set.univ
          (k0_t3_body arg0 harg0 hbX (Memref.isWhole_whole _) arg2 harg2 arg3 harg3 arg4 harg4 scS (Memref.isWhole_whole _) scT (Memref.isWhole_whole _) scU (Memref.isWhole_whole _) cc0_scratch3 k ⟨⟩)
          Q := by
  unfold k0_t3_body
  rw [k0_part7_eq_skeleton]
  unfold k0_part7_skel
  simp only [bind_assoc]
  unfold TS
  iintro ⟨⟨%f, %hf, HT⟩, HS, Hk⟩
  iapply (load_slab c x _ _ _ hS)
  isplitl [HS]; · iexact HS
  iintro HS
  sl_exec
  sl_step
  iapply Hk
  isplitl [HT]
  · iexists _; isplitr; swap; · iexact HT
    ipureintro
    refine goodT_step x 2 k f hf _ ?_ ?_
    · refine List.forall_mem_cons.2 ⟨?_, ?_⟩
      · exact piece_ok x 2 k.val 7 1 (by decide) k.isLt (by decide) (by decide) _ (off9_eq 7 k) (k0_off9_inb k 7) _ (off7_eq k) (k0_off7_inb k)
      refine List.forall_mem_cons.2 ⟨?_, ?_⟩
      · exact piece_ok x 2 k.val 7 0 (by decide) k.isLt (by decide) (by decide) _ (off8_eq 7 k) (k0_off8_inb k 7) _ (off7_eq k) (k0_off7_inb k)
      refine List.forall_mem_cons.2 ⟨?_, ?_⟩
      · exact piece_ok x 2 k.val 6 1 (by decide) k.isLt (by decide) (by decide) _ (off9_eq 6 k) (k0_off9_inb k 6) _ (off7_eq k) (k0_off7_inb k)
      refine List.forall_mem_cons.2 ⟨?_, ?_⟩
      · exact piece_ok x 2 k.val 6 0 (by decide) k.isLt (by decide) (by decide) _ (off8_eq 6 k) (k0_off8_inb k 6) _ (off7_eq k) (k0_off7_inb k)
      refine List.forall_mem_cons.2 ⟨?_, ?_⟩
      · exact piece_ok x 2 k.val 5 1 (by decide) k.isLt (by decide) (by decide) _ (off9_eq 5 k) (k0_off9_inb k 5) _ (off7_eq k) (k0_off7_inb k)
      refine List.forall_mem_cons.2 ⟨?_, ?_⟩
      · exact piece_ok x 2 k.val 5 0 (by decide) k.isLt (by decide) (by decide) _ (off8_eq 5 k) (k0_off8_inb k 5) _ (off7_eq k) (k0_off7_inb k)
      refine List.forall_mem_cons.2 ⟨?_, ?_⟩
      · exact piece_ok x 2 k.val 4 1 (by decide) k.isLt (by decide) (by decide) _ (off9_eq 4 k) (k0_off9_inb k 4) _ (off7_eq k) (k0_off7_inb k)
      refine List.forall_mem_cons.2 ⟨?_, ?_⟩
      · exact piece_ok x 2 k.val 4 0 (by decide) k.isLt (by decide) (by decide) _ (off8_eq 4 k) (k0_off8_inb k 4) _ (off7_eq k) (k0_off7_inb k)
      refine List.forall_mem_cons.2 ⟨?_, ?_⟩
      · exact piece_ok x 2 k.val 3 1 (by decide) k.isLt (by decide) (by decide) _ (off9_eq 3 k) (k0_off9_inb k 3) _ (off7_eq k) (k0_off7_inb k)
      refine List.forall_mem_cons.2 ⟨?_, ?_⟩
      · exact piece_ok x 2 k.val 3 0 (by decide) k.isLt (by decide) (by decide) _ (off8_eq 3 k) (k0_off8_inb k 3) _ (off7_eq k) (k0_off7_inb k)
      refine List.forall_mem_cons.2 ⟨?_, ?_⟩
      · exact piece_ok x 2 k.val 2 1 (by decide) k.isLt (by decide) (by decide) _ (off9_eq 2 k) (k0_off9_inb k 2) _ (off7_eq k) (k0_off7_inb k)
      refine List.forall_mem_cons.2 ⟨?_, ?_⟩
      · exact piece_ok x 2 k.val 2 0 (by decide) k.isLt (by decide) (by decide) _ (off8_eq 2 k) (k0_off8_inb k 2) _ (off7_eq k) (k0_off7_inb k)
      refine List.forall_mem_cons.2 ⟨?_, ?_⟩
      · exact piece_ok x 2 k.val 1 1 (by decide) k.isLt (by decide) (by decide) _ (off9_eq 1 k) (k0_off9_inb k 1) _ (off7_eq k) (k0_off7_inb k)
      refine List.forall_mem_cons.2 ⟨?_, ?_⟩
      · exact piece_ok x 2 k.val 1 0 (by decide) k.isLt (by decide) (by decide) _ (off8_eq 1 k) (k0_off8_inb k 1) _ (off7_eq k) (k0_off7_inb k)
      refine List.forall_mem_cons.2 ⟨?_, ?_⟩
      · exact piece_ok x 2 k.val 0 1 (by decide) k.isLt (by decide) (by decide) _ (off9_eq 0 k) (k0_off9_inb k 0) _ (off7_eq k) (k0_off7_inb k)
      refine List.forall_mem_cons.2 ⟨?_, fun _ h => absurd h List.not_mem_nil⟩
      · exact piece_ok x 2 k.val 0 0 (by decide) k.isLt (by decide) (by decide) _ (off8_eq 0 k) (k0_off8_inb k 0) _ (off7_eq k) (k0_off7_inb k)
    · intro i hi hn
      obtain ⟨e, he, hr, hk⟩ := newT 2 k.val i hi hn
      have h0 : (i 0).val < 2 := (i 0).isLt
      obtain h | h : (i 0).val = 0 ∨ (i 0).val = 1 := by omega
      all_goals rcases (by omega : e = 0 ∨ e = 1 ∨ e = 2 ∨ e = 3 ∨ e = 4 ∨ e = 5 ∨ e = 6 ∨ e = 7) with rfl | rfl | rfl | rfl | rfl | rfl | rfl | rfl
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_piece 2 k.val 0 0 _ (off8_eq 0 k) (k0_off8_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_piece 2 k.val 1 0 _ (off8_eq 1 k) (k0_off8_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece 2 k.val 2 0 _ (off8_eq 2 k) (k0_off8_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece 2 k.val 3 0 _ (off8_eq 3 k) (k0_off8_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 2 k.val 4 0 _ (off8_eq 4 k) (k0_off8_inb k 4) i h hr hk⟩
      · exact ⟨_, List.mem_cons_of_mem _ (List.mem_cons_of_mem _ (List.mem_cons_of_mem _ (List.mem_cons_of_mem _ (List.mem_cons_of_mem _ (List.mem_cons_self))))), mem_piece 2 k.val 5 0 _ (off8_eq 5 k) (k0_off8_inb k 5) i h hr hk⟩
      · exact ⟨_, List.mem_cons_of_mem _ (List.mem_cons_of_mem _ (List.mem_cons_of_mem _ (List.mem_cons_self))), mem_piece 2 k.val 6 0 _ (off8_eq 6 k) (k0_off8_inb k 6) i h hr hk⟩
      · exact ⟨_, List.mem_cons_of_mem _ (List.mem_cons_self), mem_piece 2 k.val 7 0 _ (off8_eq 7 k) (k0_off8_inb k 7) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_piece 2 k.val 0 1 _ (off9_eq 0 k) (k0_off9_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece 2 k.val 1 1 _ (off9_eq 1 k) (k0_off9_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece 2 k.val 2 1 _ (off9_eq 2 k) (k0_off9_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece 2 k.val 3 1 _ (off9_eq 3 k) (k0_off9_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_self)))))), mem_piece 2 k.val 4 1 _ (off9_eq 4 k) (k0_off9_inb k 4) i h hr hk⟩
      · exact ⟨_, List.mem_cons_of_mem _ (List.mem_cons_of_mem _ (List.mem_cons_of_mem _ (List.mem_cons_of_mem _ (List.mem_cons_self)))), mem_piece 2 k.val 5 1 _ (off9_eq 5 k) (k0_off9_inb k 5) i h hr hk⟩
      · exact ⟨_, List.mem_cons_of_mem _ (List.mem_cons_of_mem _ (List.mem_cons_self)), mem_piece 2 k.val 6 1 _ (off9_eq 6 k) (k0_off9_inb k 6) i h hr hk⟩
      · exact ⟨_, List.mem_cons_self, mem_piece 2 k.val 7 1 _ (off9_eq 7 k) (k0_off9_inb k 7) i h hr hk⟩
  iexact HS

set_option maxHeartbeats 4000000 in
/-- One trip of the loop that transposes chunk 3. -/
theorem trip4 (v : FVec F S448x448 .bf16) (k : Fin k0_t4_loop.trips) {Q : Unit → sProp (MT nD τ sig Unit (Elt F) ℕ (Pipeline.UD sig nD τ) ℕ)} (S : Finset S112x256x128.Idx)
    (hS : (scS.access (Rect.unit (s := S112x256x128) (k0_off10 k) S1x256x128.size (k0_off10_inb k))).set ⊆ S) :
    iprop(TS c x 3 k ∗ (scS.view.loc (c : Thread nD τ) ↦[S]{fullShare} (XS x))
        ∗ ((TS c x 3 (k.val + 1) ∗ (scS.view.loc (c : Thread nD τ) ↦[S]{fullShare} (XS x))) -∗ Q ⟨⟩))
      ⊢ wp frame (wpE (defs₀ (F := F)) Variants.none (c : Thread nD τ) none) Set.univ
          (k0_t4_body arg0 harg0 hbX (Memref.isWhole_whole _) arg2 harg2 arg3 harg3 arg4 harg4 scS (Memref.isWhole_whole _) scT (Memref.isWhole_whole _) scU (Memref.isWhole_whole _) cc0_scratch3 v k ⟨⟩)
          Q := by
  unfold k0_t4_body
  rw [k0_part10_eq_skeleton]
  unfold k0_part10_skel
  simp only [bind_assoc]
  unfold TS
  iintro ⟨⟨%f, %hf, HT⟩, HS, Hk⟩
  iapply (load_slab c x _ _ _ hS)
  isplitl [HS]; · iexact HS
  iintro HS
  sl_exec
  sl_step
  iapply Hk
  isplitl [HT]
  · iexists _; isplitr; swap; · iexact HT
    ipureintro
    refine goodT_step x 3 k f hf _ ?_ ?_
    · refine List.forall_mem_cons.2 ⟨?_, ?_⟩
      · exact piece_ok x 3 k.val 7 1 (by decide) k.isLt (by decide) (by decide) _ (off12_eq 7 k) (k0_off12_inb k 7) _ (off10_eq k) (k0_off10_inb k)
      refine List.forall_mem_cons.2 ⟨?_, ?_⟩
      · exact piece_ok x 3 k.val 7 0 (by decide) k.isLt (by decide) (by decide) _ (off11_eq 7 k) (k0_off11_inb k 7) _ (off10_eq k) (k0_off10_inb k)
      refine List.forall_mem_cons.2 ⟨?_, ?_⟩
      · exact piece_ok x 3 k.val 6 1 (by decide) k.isLt (by decide) (by decide) _ (off12_eq 6 k) (k0_off12_inb k 6) _ (off10_eq k) (k0_off10_inb k)
      refine List.forall_mem_cons.2 ⟨?_, ?_⟩
      · exact piece_ok x 3 k.val 6 0 (by decide) k.isLt (by decide) (by decide) _ (off11_eq 6 k) (k0_off11_inb k 6) _ (off10_eq k) (k0_off10_inb k)
      refine List.forall_mem_cons.2 ⟨?_, ?_⟩
      · exact piece_ok x 3 k.val 5 1 (by decide) k.isLt (by decide) (by decide) _ (off12_eq 5 k) (k0_off12_inb k 5) _ (off10_eq k) (k0_off10_inb k)
      refine List.forall_mem_cons.2 ⟨?_, ?_⟩
      · exact piece_ok x 3 k.val 5 0 (by decide) k.isLt (by decide) (by decide) _ (off11_eq 5 k) (k0_off11_inb k 5) _ (off10_eq k) (k0_off10_inb k)
      refine List.forall_mem_cons.2 ⟨?_, ?_⟩
      · exact piece_ok x 3 k.val 4 1 (by decide) k.isLt (by decide) (by decide) _ (off12_eq 4 k) (k0_off12_inb k 4) _ (off10_eq k) (k0_off10_inb k)
      refine List.forall_mem_cons.2 ⟨?_, ?_⟩
      · exact piece_ok x 3 k.val 4 0 (by decide) k.isLt (by decide) (by decide) _ (off11_eq 4 k) (k0_off11_inb k 4) _ (off10_eq k) (k0_off10_inb k)
      refine List.forall_mem_cons.2 ⟨?_, ?_⟩
      · exact piece_ok x 3 k.val 3 1 (by decide) k.isLt (by decide) (by decide) _ (off12_eq 3 k) (k0_off12_inb k 3) _ (off10_eq k) (k0_off10_inb k)
      refine List.forall_mem_cons.2 ⟨?_, ?_⟩
      · exact piece_ok x 3 k.val 3 0 (by decide) k.isLt (by decide) (by decide) _ (off11_eq 3 k) (k0_off11_inb k 3) _ (off10_eq k) (k0_off10_inb k)
      refine List.forall_mem_cons.2 ⟨?_, ?_⟩
      · exact piece_ok x 3 k.val 2 1 (by decide) k.isLt (by decide) (by decide) _ (off12_eq 2 k) (k0_off12_inb k 2) _ (off10_eq k) (k0_off10_inb k)
      refine List.forall_mem_cons.2 ⟨?_, ?_⟩
      · exact piece_ok x 3 k.val 2 0 (by decide) k.isLt (by decide) (by decide) _ (off11_eq 2 k) (k0_off11_inb k 2) _ (off10_eq k) (k0_off10_inb k)
      refine List.forall_mem_cons.2 ⟨?_, ?_⟩
      · exact piece_ok x 3 k.val 1 1 (by decide) k.isLt (by decide) (by decide) _ (off12_eq 1 k) (k0_off12_inb k 1) _ (off10_eq k) (k0_off10_inb k)
      refine List.forall_mem_cons.2 ⟨?_, ?_⟩
      · exact piece_ok x 3 k.val 1 0 (by decide) k.isLt (by decide) (by decide) _ (off11_eq 1 k) (k0_off11_inb k 1) _ (off10_eq k) (k0_off10_inb k)
      refine List.forall_mem_cons.2 ⟨?_, ?_⟩
      · exact piece_ok x 3 k.val 0 1 (by decide) k.isLt (by decide) (by decide) _ (off12_eq 0 k) (k0_off12_inb k 0) _ (off10_eq k) (k0_off10_inb k)
      refine List.forall_mem_cons.2 ⟨?_, fun _ h => absurd h List.not_mem_nil⟩
      · exact piece_ok x 3 k.val 0 0 (by decide) k.isLt (by decide) (by decide) _ (off11_eq 0 k) (k0_off11_inb k 0) _ (off10_eq k) (k0_off10_inb k)
    · intro i hi hn
      obtain ⟨e, he, hr, hk⟩ := newT 3 k.val i hi hn
      have h0 : (i 0).val < 2 := (i 0).isLt
      obtain h | h : (i 0).val = 0 ∨ (i 0).val = 1 := by omega
      all_goals rcases (by omega : e = 0 ∨ e = 1 ∨ e = 2 ∨ e = 3 ∨ e = 4 ∨ e = 5 ∨ e = 6 ∨ e = 7) with rfl | rfl | rfl | rfl | rfl | rfl | rfl | rfl
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_piece 3 k.val 0 0 _ (off11_eq 0 k) (k0_off11_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_piece 3 k.val 1 0 _ (off11_eq 1 k) (k0_off11_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece 3 k.val 2 0 _ (off11_eq 2 k) (k0_off11_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece 3 k.val 3 0 _ (off11_eq 3 k) (k0_off11_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 3 k.val 4 0 _ (off11_eq 4 k) (k0_off11_inb k 4) i h hr hk⟩
      · exact ⟨_, List.mem_cons_of_mem _ (List.mem_cons_of_mem _ (List.mem_cons_of_mem _ (List.mem_cons_of_mem _ (List.mem_cons_of_mem _ (List.mem_cons_self))))), mem_piece 3 k.val 5 0 _ (off11_eq 5 k) (k0_off11_inb k 5) i h hr hk⟩
      · exact ⟨_, List.mem_cons_of_mem _ (List.mem_cons_of_mem _ (List.mem_cons_of_mem _ (List.mem_cons_self))), mem_piece 3 k.val 6 0 _ (off11_eq 6 k) (k0_off11_inb k 6) i h hr hk⟩
      · exact ⟨_, List.mem_cons_of_mem _ (List.mem_cons_self), mem_piece 3 k.val 7 0 _ (off11_eq 7 k) (k0_off11_inb k 7) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_piece 3 k.val 0 1 _ (off12_eq 0 k) (k0_off12_inb k 0) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece 3 k.val 1 1 _ (off12_eq 1 k) (k0_off12_inb k 1) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece 3 k.val 2 1 _ (off12_eq 2 k) (k0_off12_inb k 2) i h hr hk⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece 3 k.val 3 1 _ (off12_eq 3 k) (k0_off12_inb k 3) i h hr hk⟩
      · exact ⟨_, List.mem_cons_of_mem _ (List.mem_cons_of_mem _ (List.mem_cons_of_mem _ (List.mem_cons_of_mem _ (List.mem_cons_of_mem _ (List.mem_cons_of_mem _ (List.mem_cons_self)))))), mem_piece 3 k.val 4 1 _ (off12_eq 4 k) (k0_off12_inb k 4) i h hr hk⟩
      · exact ⟨_, List.mem_cons_of_mem _ (List.mem_cons_of_mem _ (List.mem_cons_of_mem _ (List.mem_cons_of_mem _ (List.mem_cons_self)))), mem_piece 3 k.val 5 1 _ (off12_eq 5 k) (k0_off12_inb k 5) i h hr hk⟩
      · exact ⟨_, List.mem_cons_of_mem _ (List.mem_cons_of_mem _ (List.mem_cons_self)), mem_piece 3 k.val 6 1 _ (off12_eq 6 k) (k0_off12_inb k 6) i h hr hk⟩
      · exact ⟨_, List.mem_cons_self, mem_piece 3 k.val 7 1 _ (off12_eq 7 k) (k0_off12_inb k 7) i h hr hk⟩
  iexact HS

end Cert.RotateIdeal.Run
-- ==== Proof.RotIdealIssue.lean ====
/- The rotation kernel's transfers, issued five at a time as the body is written. -/
module

public import proofs.«01_k».proof.Proof.RotIdealDma

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- THE RUN of part 38 of the body. -/
theorem part38_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 0 ∗ (iprop(Iss c x 0 5) -∗ Q ⟨⟩))
      ⊢ wp frame (wpE (defs₀ (F := F)) Variants.none (c : Thread nD τ) none) Set.univ (k0_part38 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part38_eq_skeleton]; unfold k0_part38_skel
  simp only [wp_bind]
  iintro ⟨H0, Hk⟩
  iapply (issue c x 0 ⟨0, by decide⟩ 0 0 0 rfl rfl rfl _ _ _ _ _ _)
  isplitl [H0]; · iexact H0
  iintro H0
  iapply (issue c x 0 ⟨1, by decide⟩ 4 512 0 rfl rfl rfl _ _ _ _ _ _)
  isplitl [H0]; · iexact H0
  iintro H0
  iapply (issue c x 0 ⟨2, by decide⟩ 8 1024 0 rfl rfl rfl _ _ _ _ _ _)
  isplitl [H0]; · iexact H0
  iintro H0
  iapply (issue c x 0 ⟨3, by decide⟩ 12 1536 0 rfl rfl rfl _ _ _ _ _ _)
  isplitl [H0]; · iexact H0
  iintro H0
  iapply (issue c x 0 ⟨4, by decide⟩ 16 2048 0 rfl rfl rfl _ _ _ _ _ _)
  isplitl [H0]; · iexact H0
  iintro H0
  iapply le_wp_ret
  iapply Hk
  iexact H0

/-- THE RUN of part 39 of the body. -/
theorem part39_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 5 ∗ (iprop(Iss c x 0 10) -∗ Q ⟨⟩))
      ⊢ wp frame (wpE (defs₀ (F := F)) Variants.none (c : Thread nD τ) none) Set.univ (k0_part39 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part39_eq_skeleton]; unfold k0_part39_skel
  simp only [wp_bind]
  iintro ⟨H0, Hk⟩
  iapply (issue c x 0 ⟨5, by decide⟩ 20 2560 0 rfl rfl rfl _ _ _ _ _ _)
  isplitl [H0]; · iexact H0
  iintro H0
  iapply (issue c x 0 ⟨6, by decide⟩ 24 3072 0 rfl rfl rfl _ _ _ _ _ _)
  isplitl [H0]; · iexact H0
  iintro H0
  iapply (issue c x 0 ⟨7, by decide⟩ 28 3584 0 rfl rfl rfl _ _ _ _ _ _)
  isplitl [H0]; · iexact H0
  iintro H0
  iapply (issue c x 0 ⟨8, by decide⟩ 32 4096 0 rfl rfl rfl _ _ _ _ _ _)
  isplitl [H0]; · iexact H0
  iintro H0
  iapply (issue c x 0 ⟨9, by decide⟩ 36 4608 0 rfl rfl rfl _ _ _ _ _ _)
  isplitl [H0]; · iexact H0
  iintro H0
  iapply le_wp_ret
  iapply Hk
  iexact H0

/-- THE RUN of part 40 of the body. -/
theorem part40_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 10 ∗ (iprop(Iss c x 0 15) -∗ Q ⟨⟩))
      ⊢ wp frame (wpE (defs₀ (F := F)) Variants.none (c : Thread nD τ) none) Set.univ (k0_part40 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part40_eq_skeleton]; unfold k0_part40_skel
  simp only [wp_bind]
  iintro ⟨H0, Hk⟩
  iapply (issue c x 0 ⟨10, by decide⟩ 40 5120 0 rfl rfl rfl _ _ _ _ _ _)
  isplitl [H0]; · iexact H0
  iintro H0
  iapply (issue c x 0 ⟨11, by decide⟩ 44 5632 0 rfl rfl rfl _ _ _ _ _ _)
  isplitl [H0]; · iexact H0
  iintro H0
  iapply (issue c x 0 ⟨12, by decide⟩ 48 6144 0 rfl rfl rfl _ _ _ _ _ _)
  isplitl [H0]; · iexact H0
  iintro H0
  iapply (issue c x 0 ⟨13, by decide⟩ 52 6656 0 rfl rfl rfl _ _ _ _ _ _)
  isplitl [H0]; · iexact H0
  iintro H0
  iapply (issue c x 0 ⟨14, by decide⟩ 56 7168 0 rfl rfl rfl _ _ _ _ _ _)
  isplitl [H0]; · iexact H0
  iintro H0
  iapply le_wp_ret
  iapply Hk
  iexact H0

/-- THE RUN of part 41 of the body. -/
theorem part41_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 15 ∗ (iprop(Iss c x 0 20) -∗ Q ⟨⟩))
      ⊢ wp frame (wpE (defs₀ (F := F)) Variants.none (c : Thread nD τ) none) Set.univ (k0_part41 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part41_eq_skeleton]; unfold k0_part41_skel
  simp only [wp_bind]
  iintro ⟨H0, Hk⟩
  iapply (issue c x 0 ⟨15, by decide⟩ 60 7680 0 rfl rfl rfl _ _ _ _ _ _)
  isplitl [H0]; · iexact H0
  iintro H0
  iapply (issue c x 0 ⟨16, by decide⟩ 64 8192 0 rfl rfl rfl _ _ _ _ _ _)
  isplitl [H0]; · iexact H0
  iintro H0
  iapply (issue c x 0 ⟨17, by decide⟩ 68 8704 0 rfl rfl rfl _ _ _ _ _ _)
  isplitl [H0]; · iexact H0
  iintro H0
  iapply (issue c x 0 ⟨18, by decide⟩ 72 9216 0 rfl rfl rfl _ _ _ _ _ _)
  isplitl [H0]; · iexact H0
  iintro H0
  iapply (issue c x 0 ⟨19, by decide⟩ 76 9728 0 rfl rfl rfl _ _ _ _ _ _)
  isplitl [H0]; · iexact H0
  iintro H0
  iapply le_wp_ret
  iapply Hk
  iexact H0

/-- THE RUN of part 42 of the body. -/
theorem part42_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 20 ∗ (iprop(Iss c x 0 25) -∗ Q ⟨⟩))
      ⊢ wp frame (wpE (defs₀ (F := F)) Variants.none (c : Thread nD τ) none) Set.univ (k0_part42 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part42_eq_skeleton]; unfold k0_part42_skel
  simp only [wp_bind]
  iintro ⟨H0, Hk⟩
  iapply (issue c x 0 ⟨20, by decide⟩ 80 10240 0 rfl rfl rfl _ _ _ _ _ _)
  isplitl [H0]; · iexact H0
  iintro H0
  iapply (issue c x 0 ⟨21, by decide⟩ 84 10752 0 rfl rfl rfl _ _ _ _ _ _)
  isplitl [H0]; · iexact H0
  iintro H0
  iapply (issue c x 0 ⟨22, by decide⟩ 88 11264 0 rfl rfl rfl _ _ _ _ _ _)
  isplitl [H0]; · iexact H0
  iintro H0
  iapply (issue c x 0 ⟨23, by decide⟩ 92 11776 0 rfl rfl rfl _ _ _ _ _ _)
  isplitl [H0]; · iexact H0
  iintro H0
  iapply (issue c x 0 ⟨24, by decide⟩ 96 12288 0 rfl rfl rfl _ _ _ _ _ _)
  isplitl [H0]; · iexact H0
  iintro H0
  iapply le_wp_ret
  iapply Hk
  iexact H0

/-- THE RUN of part 43 of the body. -/
theorem part43_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 0 25 ∗ Iss c x 1 0 ∗ (iprop(Iss c x 0 28 ∗ Iss c x 1 2) -∗ Q ⟨⟩))
      ⊢ wp frame (wpE (defs₀ (F := F)) Variants.none (c : Thread nD τ) none) Set.univ (k0_part43 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part43_eq_skeleton]; unfold k0_part43_skel
  simp only [wp_bind]
  iintro ⟨H0, H1, Hk⟩
  iapply (issue c x 0 ⟨25, by decide⟩ 100 12800 0 rfl rfl rfl _ _ _ _ _ _)
  isplitl [H0]; · iexact H0
  iintro H0
  iapply (issue c x 0 ⟨26, by decide⟩ 104 13312 0 rfl rfl rfl _ _ _ _ _ _)
  isplitl [H0]; · iexact H0
  iintro H0
  iapply (issue c x 0 ⟨27, by decide⟩ 108 13824 0 rfl rfl rfl _ _ _ _ _ _)
  isplitl [H0]; · iexact H0
  iintro H0
  iapply (issue c x 1 ⟨0, by decide⟩ 1 128 1 rfl rfl rfl _ _ _ _ _ _)
  isplitl [H1]; · iexact H1
  iintro H1
  iapply (issue c x 1 ⟨1, by decide⟩ 5 640 1 rfl rfl rfl _ _ _ _ _ _)
  isplitl [H1]; · iexact H1
  iintro H1
  iapply le_wp_ret
  iapply Hk
  isplitl [H0]; · iexact H0
  iexact H1

/-- THE RUN of part 44 of the body. -/
theorem part44_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 2 ∗ (iprop(Iss c x 1 7) -∗ Q ⟨⟩))
      ⊢ wp frame (wpE (defs₀ (F := F)) Variants.none (c : Thread nD τ) none) Set.univ (k0_part44 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part44_eq_skeleton]; unfold k0_part44_skel
  simp only [wp_bind]
  iintro ⟨H1, Hk⟩
  iapply (issue c x 1 ⟨2, by decide⟩ 9 1152 1 rfl rfl rfl _ _ _ _ _ _)
  isplitl [H1]; · iexact H1
  iintro H1
  iapply (issue c x 1 ⟨3, by decide⟩ 13 1664 1 rfl rfl rfl _ _ _ _ _ _)
  isplitl [H1]; · iexact H1
  iintro H1
  iapply (issue c x 1 ⟨4, by decide⟩ 17 2176 1 rfl rfl rfl _ _ _ _ _ _)
  isplitl [H1]; · iexact H1
  iintro H1
  iapply (issue c x 1 ⟨5, by decide⟩ 21 2688 1 rfl rfl rfl _ _ _ _ _ _)
  isplitl [H1]; · iexact H1
  iintro H1
  iapply (issue c x 1 ⟨6, by decide⟩ 25 3200 1 rfl rfl rfl _ _ _ _ _ _)
  isplitl [H1]; · iexact H1
  iintro H1
  iapply le_wp_ret
  iapply Hk
  iexact H1

/-- THE RUN of part 45 of the body. -/
theorem part45_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 7 ∗ (iprop(Iss c x 1 12) -∗ Q ⟨⟩))
      ⊢ wp frame (wpE (defs₀ (F := F)) Variants.none (c : Thread nD τ) none) Set.univ (k0_part45 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part45_eq_skeleton]; unfold k0_part45_skel
  simp only [wp_bind]
  iintro ⟨H1, Hk⟩
  iapply (issue c x 1 ⟨7, by decide⟩ 29 3712 1 rfl rfl rfl _ _ _ _ _ _)
  isplitl [H1]; · iexact H1
  iintro H1
  iapply (issue c x 1 ⟨8, by decide⟩ 33 4224 1 rfl rfl rfl _ _ _ _ _ _)
  isplitl [H1]; · iexact H1
  iintro H1
  iapply (issue c x 1 ⟨9, by decide⟩ 37 4736 1 rfl rfl rfl _ _ _ _ _ _)
  isplitl [H1]; · iexact H1
  iintro H1
  iapply (issue c x 1 ⟨10, by decide⟩ 41 5248 1 rfl rfl rfl _ _ _ _ _ _)
  isplitl [H1]; · iexact H1
  iintro H1
  iapply (issue c x 1 ⟨11, by decide⟩ 45 5760 1 rfl rfl rfl _ _ _ _ _ _)
  isplitl [H1]; · iexact H1
  iintro H1
  iapply le_wp_ret
  iapply Hk
  iexact H1

/-- THE RUN of part 46 of the body. -/
theorem part46_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 12 ∗ (iprop(Iss c x 1 17) -∗ Q ⟨⟩))
      ⊢ wp frame (wpE (defs₀ (F := F)) Variants.none (c : Thread nD τ) none) Set.univ (k0_part46 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part46_eq_skeleton]; unfold k0_part46_skel
  simp only [wp_bind]
  iintro ⟨H1, Hk⟩
  iapply (issue c x 1 ⟨12, by decide⟩ 49 6272 1 rfl rfl rfl _ _ _ _ _ _)
  isplitl [H1]; · iexact H1
  iintro H1
  iapply (issue c x 1 ⟨13, by decide⟩ 53 6784 1 rfl rfl rfl _ _ _ _ _ _)
  isplitl [H1]; · iexact H1
  iintro H1
  iapply (issue c x 1 ⟨14, by decide⟩ 57 7296 1 rfl rfl rfl _ _ _ _ _ _)
  isplitl [H1]; · iexact H1
  iintro H1
  iapply (issue c x 1 ⟨15, by decide⟩ 61 7808 1 rfl rfl rfl _ _ _ _ _ _)
  isplitl [H1]; · iexact H1
  iintro H1
  iapply (issue c x 1 ⟨16, by decide⟩ 65 8320 1 rfl rfl rfl _ _ _ _ _ _)
  isplitl [H1]; · iexact H1
  iintro H1
  iapply le_wp_ret
  iapply Hk
  iexact H1

/-- THE RUN of part 47 of the body. -/
theorem part47_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 17 ∗ (iprop(Iss c x 1 22) -∗ Q ⟨⟩))
      ⊢ wp frame (wpE (defs₀ (F := F)) Variants.none (c : Thread nD τ) none) Set.univ (k0_part47 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part47_eq_skeleton]; unfold k0_part47_skel
  simp only [wp_bind]
  iintro ⟨H1, Hk⟩
  iapply (issue c x 1 ⟨17, by decide⟩ 69 8832 1 rfl rfl rfl _ _ _ _ _ _)
  isplitl [H1]; · iexact H1
  iintro H1
  iapply (issue c x 1 ⟨18, by decide⟩ 73 9344 1 rfl rfl rfl _ _ _ _ _ _)
  isplitl [H1]; · iexact H1
  iintro H1
  iapply (issue c x 1 ⟨19, by decide⟩ 77 9856 1 rfl rfl rfl _ _ _ _ _ _)
  isplitl [H1]; · iexact H1
  iintro H1
  iapply (issue c x 1 ⟨20, by decide⟩ 81 10368 1 rfl rfl rfl _ _ _ _ _ _)
  isplitl [H1]; · iexact H1
  iintro H1
  iapply (issue c x 1 ⟨21, by decide⟩ 85 10880 1 rfl rfl rfl _ _ _ _ _ _)
  isplitl [H1]; · iexact H1
  iintro H1
  iapply le_wp_ret
  iapply Hk
  iexact H1

/-- THE RUN of part 48 of the body. -/
theorem part48_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 22 ∗ (iprop(Iss c x 1 27) -∗ Q ⟨⟩))
      ⊢ wp frame (wpE (defs₀ (F := F)) Variants.none (c : Thread nD τ) none) Set.univ (k0_part48 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part48_eq_skeleton]; unfold k0_part48_skel
  simp only [wp_bind]
  iintro ⟨H1, Hk⟩
  iapply (issue c x 1 ⟨22, by decide⟩ 89 11392 1 rfl rfl rfl _ _ _ _ _ _)
  isplitl [H1]; · iexact H1
  iintro H1
  iapply (issue c x 1 ⟨23, by decide⟩ 93 11904 1 rfl rfl rfl _ _ _ _ _ _)
  isplitl [H1]; · iexact H1
  iintro H1
  iapply (issue c x 1 ⟨24, by decide⟩ 97 12416 1 rfl rfl rfl _ _ _ _ _ _)
  isplitl [H1]; · iexact H1
  iintro H1
  iapply (issue c x 1 ⟨25, by decide⟩ 101 12928 1 rfl rfl rfl _ _ _ _ _ _)
  isplitl [H1]; · iexact H1
  iintro H1
  iapply (issue c x 1 ⟨26, by decide⟩ 105 13440 1 rfl rfl rfl _ _ _ _ _ _)
  isplitl [H1]; · iexact H1
  iintro H1
  iapply le_wp_ret
  iapply Hk
  iexact H1

/-- THE RUN of part 49 of the body. -/
theorem part49_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 1 27 ∗ Iss c x 2 0 ∗ (iprop(Iss c x 1 28 ∗ Iss c x 2 4) -∗ Q ⟨⟩))
      ⊢ wp frame (wpE (defs₀ (F := F)) Variants.none (c : Thread nD τ) none) Set.univ (k0_part49 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part49_eq_skeleton]; unfold k0_part49_skel
  simp only [wp_bind]
  iintro ⟨H1, H2, Hk⟩
  iapply (issue c x 1 ⟨27, by decide⟩ 109 13952 1 rfl rfl rfl _ _ _ _ _ _)
  isplitl [H1]; · iexact H1
  iintro H1
  iapply (issue c x 2 ⟨0, by decide⟩ 2 256 2 rfl rfl rfl _ _ _ _ _ _)
  isplitl [H2]; · iexact H2
  iintro H2
  iapply (issue c x 2 ⟨1, by decide⟩ 6 768 2 rfl rfl rfl _ _ _ _ _ _)
  isplitl [H2]; · iexact H2
  iintro H2
  iapply (issue c x 2 ⟨2, by decide⟩ 10 1280 2 rfl rfl rfl _ _ _ _ _ _)
  isplitl [H2]; · iexact H2
  iintro H2
  iapply (issue c x 2 ⟨3, by decide⟩ 14 1792 2 rfl rfl rfl _ _ _ _ _ _)
  isplitl [H2]; · iexact H2
  iintro H2
  iapply le_wp_ret
  iapply Hk
  isplitl [H1]; · iexact H1
  iexact H2

/-- THE RUN of part 50 of the body. -/
theorem part50_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 2 4 ∗ (iprop(Iss c x 2 9) -∗ Q ⟨⟩))
      ⊢ wp frame (wpE (defs₀ (F := F)) Variants.none (c : Thread nD τ) none) Set.univ (k0_part50 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part50_eq_skeleton]; unfold k0_part50_skel
  simp only [wp_bind]
  iintro ⟨H2, Hk⟩
  iapply (issue c x 2 ⟨4, by decide⟩ 18 2304 2 rfl rfl rfl _ _ _ _ _ _)
  isplitl [H2]; · iexact H2
  iintro H2
  iapply (issue c x 2 ⟨5, by decide⟩ 22 2816 2 rfl rfl rfl _ _ _ _ _ _)
  isplitl [H2]; · iexact H2
  iintro H2
  iapply (issue c x 2 ⟨6, by decide⟩ 26 3328 2 rfl rfl rfl _ _ _ _ _ _)
  isplitl [H2]; · iexact H2
  iintro H2
  iapply (issue c x 2 ⟨7, by decide⟩ 30 3840 2 rfl rfl rfl _ _ _ _ _ _)
  isplitl [H2]; · iexact H2
  iintro H2
  iapply (issue c x 2 ⟨8, by decide⟩ 34 4352 2 rfl rfl rfl _ _ _ _ _ _)
  isplitl [H2]; · iexact H2
  iintro H2
  iapply le_wp_ret
  iapply Hk
  iexact H2

/-- THE RUN of part 51 of the body. -/
theorem part51_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 2 9 ∗ (iprop(Iss c x 2 14) -∗ Q ⟨⟩))
      ⊢ wp frame (wpE (defs₀ (F := F)) Variants.none (c : Thread nD τ) none) Set.univ (k0_part51 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part51_eq_skeleton]; unfold k0_part51_skel
  simp only [wp_bind]
  iintro ⟨H2, Hk⟩
  iapply (issue c x 2 ⟨9, by decide⟩ 38 4864 2 rfl rfl rfl _ _ _ _ _ _)
  isplitl [H2]; · iexact H2
  iintro H2
  iapply (issue c x 2 ⟨10, by decide⟩ 42 5376 2 rfl rfl rfl _ _ _ _ _ _)
  isplitl [H2]; · iexact H2
  iintro H2
  iapply (issue c x 2 ⟨11, by decide⟩ 46 5888 2 rfl rfl rfl _ _ _ _ _ _)
  isplitl [H2]; · iexact H2
  iintro H2
  iapply (issue c x 2 ⟨12, by decide⟩ 50 6400 2 rfl rfl rfl _ _ _ _ _ _)
  isplitl [H2]; · iexact H2
  iintro H2
  iapply (issue c x 2 ⟨13, by decide⟩ 54 6912 2 rfl rfl rfl _ _ _ _ _ _)
  isplitl [H2]; · iexact H2
  iintro H2
  iapply le_wp_ret
  iapply Hk
  iexact H2

/-- THE RUN of part 52 of the body. -/
theorem part52_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 2 14 ∗ (iprop(Iss c x 2 19) -∗ Q ⟨⟩))
      ⊢ wp frame (wpE (defs₀ (F := F)) Variants.none (c : Thread nD τ) none) Set.univ (k0_part52 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part52_eq_skeleton]; unfold k0_part52_skel
  simp only [wp_bind]
  iintro ⟨H2, Hk⟩
  iapply (issue c x 2 ⟨14, by decide⟩ 58 7424 2 rfl rfl rfl _ _ _ _ _ _)
  isplitl [H2]; · iexact H2
  iintro H2
  iapply (issue c x 2 ⟨15, by decide⟩ 62 7936 2 rfl rfl rfl _ _ _ _ _ _)
  isplitl [H2]; · iexact H2
  iintro H2
  iapply (issue c x 2 ⟨16, by decide⟩ 66 8448 2 rfl rfl rfl _ _ _ _ _ _)
  isplitl [H2]; · iexact H2
  iintro H2
  iapply (issue c x 2 ⟨17, by decide⟩ 70 8960 2 rfl rfl rfl _ _ _ _ _ _)
  isplitl [H2]; · iexact H2
  iintro H2
  iapply (issue c x 2 ⟨18, by decide⟩ 74 9472 2 rfl rfl rfl _ _ _ _ _ _)
  isplitl [H2]; · iexact H2
  iintro H2
  iapply le_wp_ret
  iapply Hk
  iexact H2

/-- THE RUN of part 53 of the body. -/
theorem part53_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 2 19 ∗ (iprop(Iss c x 2 24) -∗ Q ⟨⟩))
      ⊢ wp frame (wpE (defs₀ (F := F)) Variants.none (c : Thread nD τ) none) Set.univ (k0_part53 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part53_eq_skeleton]; unfold k0_part53_skel
  simp only [wp_bind]
  iintro ⟨H2, Hk⟩
  iapply (issue c x 2 ⟨19, by decide⟩ 78 9984 2 rfl rfl rfl _ _ _ _ _ _)
  isplitl [H2]; · iexact H2
  iintro H2
  iapply (issue c x 2 ⟨20, by decide⟩ 82 10496 2 rfl rfl rfl _ _ _ _ _ _)
  isplitl [H2]; · iexact H2
  iintro H2
  iapply (issue c x 2 ⟨21, by decide⟩ 86 11008 2 rfl rfl rfl _ _ _ _ _ _)
  isplitl [H2]; · iexact H2
  iintro H2
  iapply (issue c x 2 ⟨22, by decide⟩ 90 11520 2 rfl rfl rfl _ _ _ _ _ _)
  isplitl [H2]; · iexact H2
  iintro H2
  iapply (issue c x 2 ⟨23, by decide⟩ 94 12032 2 rfl rfl rfl _ _ _ _ _ _)
  isplitl [H2]; · iexact H2
  iintro H2
  iapply le_wp_ret
  iapply Hk
  iexact H2

/-- THE RUN of part 54 of the body. -/
theorem part54_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 2 24 ∗ Iss c x 3 0 ∗ (iprop(Iss c x 2 28 ∗ Iss c x 3 1) -∗ Q ⟨⟩))
      ⊢ wp frame (wpE (defs₀ (F := F)) Variants.none (c : Thread nD τ) none) Set.univ (k0_part54 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part54_eq_skeleton]; unfold k0_part54_skel
  simp only [wp_bind]
  iintro ⟨H2, H3, Hk⟩
  iapply (issue c x 2 ⟨24, by decide⟩ 98 12544 2 rfl rfl rfl _ _ _ _ _ _)
  isplitl [H2]; · iexact H2
  iintro H2
  iapply (issue c x 2 ⟨25, by decide⟩ 102 13056 2 rfl rfl rfl _ _ _ _ _ _)
  isplitl [H2]; · iexact H2
  iintro H2
  iapply (issue c x 2 ⟨26, by decide⟩ 106 13568 2 rfl rfl rfl _ _ _ _ _ _)
  isplitl [H2]; · iexact H2
  iintro H2
  iapply (issue c x 2 ⟨27, by decide⟩ 110 14080 2 rfl rfl rfl _ _ _ _ _ _)
  isplitl [H2]; · iexact H2
  iintro H2
  iapply (issue c x 3 ⟨0, by decide⟩ 3 384 3 rfl rfl rfl _ _ _ _ _ _)
  isplitl [H3]; · iexact H3
  iintro H3
  iapply le_wp_ret
  iapply Hk
  isplitl [H2]; · iexact H2
  iexact H3

/-- THE RUN of part 55 of the body. -/
theorem part55_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 3 1 ∗ (iprop(Iss c x 3 6) -∗ Q ⟨⟩))
      ⊢ wp frame (wpE (defs₀ (F := F)) Variants.none (c : Thread nD τ) none) Set.univ (k0_part55 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part55_eq_skeleton]; unfold k0_part55_skel
  simp only [wp_bind]
  iintro ⟨H3, Hk⟩
  iapply (issue c x 3 ⟨1, by decide⟩ 7 896 3 rfl rfl rfl _ _ _ _ _ _)
  isplitl [H3]; · iexact H3
  iintro H3
  iapply (issue c x 3 ⟨2, by decide⟩ 11 1408 3 rfl rfl rfl _ _ _ _ _ _)
  isplitl [H3]; · iexact H3
  iintro H3
  iapply (issue c x 3 ⟨3, by decide⟩ 15 1920 3 rfl rfl rfl _ _ _ _ _ _)
  isplitl [H3]; · iexact H3
  iintro H3
  iapply (issue c x 3 ⟨4, by decide⟩ 19 2432 3 rfl rfl rfl _ _ _ _ _ _)
  isplitl [H3]; · iexact H3
  iintro H3
  iapply (issue c x 3 ⟨5, by decide⟩ 23 2944 3 rfl rfl rfl _ _ _ _ _ _)
  isplitl [H3]; · iexact H3
  iintro H3
  iapply le_wp_ret
  iapply Hk
  iexact H3

/-- THE RUN of part 56 of the body. -/
theorem part56_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 3 6 ∗ (iprop(Iss c x 3 11) -∗ Q ⟨⟩))
      ⊢ wp frame (wpE (defs₀ (F := F)) Variants.none (c : Thread nD τ) none) Set.univ (k0_part56 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part56_eq_skeleton]; unfold k0_part56_skel
  simp only [wp_bind]
  iintro ⟨H3, Hk⟩
  iapply (issue c x 3 ⟨6, by decide⟩ 27 3456 3 rfl rfl rfl _ _ _ _ _ _)
  isplitl [H3]; · iexact H3
  iintro H3
  iapply (issue c x 3 ⟨7, by decide⟩ 31 3968 3 rfl rfl rfl _ _ _ _ _ _)
  isplitl [H3]; · iexact H3
  iintro H3
  iapply (issue c x 3 ⟨8, by decide⟩ 35 4480 3 rfl rfl rfl _ _ _ _ _ _)
  isplitl [H3]; · iexact H3
  iintro H3
  iapply (issue c x 3 ⟨9, by decide⟩ 39 4992 3 rfl rfl rfl _ _ _ _ _ _)
  isplitl [H3]; · iexact H3
  iintro H3
  iapply (issue c x 3 ⟨10, by decide⟩ 43 5504 3 rfl rfl rfl _ _ _ _ _ _)
  isplitl [H3]; · iexact H3
  iintro H3
  iapply le_wp_ret
  iapply Hk
  iexact H3

/-- THE RUN of part 57 of the body. -/
theorem part57_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 3 11 ∗ (iprop(Iss c x 3 16) -∗ Q ⟨⟩))
      ⊢ wp frame (wpE (defs₀ (F := F)) Variants.none (c : Thread nD τ) none) Set.univ (k0_part57 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part57_eq_skeleton]; unfold k0_part57_skel
  simp only [wp_bind]
  iintro ⟨H3, Hk⟩
  iapply (issue c x 3 ⟨11, by decide⟩ 47 6016 3 rfl rfl rfl _ _ _ _ _ _)
  isplitl [H3]; · iexact H3
  iintro H3
  iapply (issue c x 3 ⟨12, by decide⟩ 51 6528 3 rfl rfl rfl _ _ _ _ _ _)
  isplitl [H3]; · iexact H3
  iintro H3
  iapply (issue c x 3 ⟨13, by decide⟩ 55 7040 3 rfl rfl rfl _ _ _ _ _ _)
  isplitl [H3]; · iexact H3
  iintro H3
  iapply (issue c x 3 ⟨14, by decide⟩ 59 7552 3 rfl rfl rfl _ _ _ _ _ _)
  isplitl [H3]; · iexact H3
  iintro H3
  iapply (issue c x 3 ⟨15, by decide⟩ 63 8064 3 rfl rfl rfl _ _ _ _ _ _)
  isplitl [H3]; · iexact H3
  iintro H3
  iapply le_wp_ret
  iapply Hk
  iexact H3

/-- THE RUN of part 58 of the body. -/
theorem part58_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 3 16 ∗ (iprop(Iss c x 3 21) -∗ Q ⟨⟩))
      ⊢ wp frame (wpE (defs₀ (F := F)) Variants.none (c : Thread nD τ) none) Set.univ (k0_part58 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part58_eq_skeleton]; unfold k0_part58_skel
  simp only [wp_bind]
  iintro ⟨H3, Hk⟩
  iapply (issue c x 3 ⟨16, by decide⟩ 67 8576 3 rfl rfl rfl _ _ _ _ _ _)
  isplitl [H3]; · iexact H3
  iintro H3
  iapply (issue c x 3 ⟨17, by decide⟩ 71 9088 3 rfl rfl rfl _ _ _ _ _ _)
  isplitl [H3]; · iexact H3
  iintro H3
  iapply (issue c x 3 ⟨18, by decide⟩ 75 9600 3 rfl rfl rfl _ _ _ _ _ _)
  isplitl [H3]; · iexact H3
  iintro H3
  iapply (issue c x 3 ⟨19, by decide⟩ 79 10112 3 rfl rfl rfl _ _ _ _ _ _)
  isplitl [H3]; · iexact H3
  iintro H3
  iapply (issue c x 3 ⟨20, by decide⟩ 83 10624 3 rfl rfl rfl _ _ _ _ _ _)
  isplitl [H3]; · iexact H3
  iintro H3
  iapply le_wp_ret
  iapply Hk
  iexact H3

/-- THE RUN of part 59 of the body. -/
theorem part59_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : PUnit → sProp (MT nD τ sig Unit (Elt F) ℕ (Pipeline.UD sig nD τ) ℕ)} :
    iprop(Iss c x 3 21 ∗ (iprop(Iss c x 3 26) -∗ Q ⟨⟩))
      ⊢ wp frame (wpE (defs₀ (F := F)) Variants.none (c : Thread nD τ) none) Set.univ (k0_part59 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part59_eq_skeleton]; unfold k0_part59_skel
  simp only [wp_bind]
  iintro ⟨H3, Hk⟩
  iapply (issue c x 3 ⟨21, by decide⟩ 87 11136 3 rfl rfl rfl _ _ _ _ _ _)
  isplitl [H3]; · iexact H3
  iintro H3
  iapply (issue c x 3 ⟨22, by decide⟩ 91 11648 3 rfl rfl rfl _ _ _ _ _ _)
  isplitl [H3]; · iexact H3
  iintro H3
  iapply (issue c x 3 ⟨23, by decide⟩ 95 12160 3 rfl rfl rfl _ _ _ _ _ _)
  isplitl [H3]; · iexact H3
  iintro H3
  iapply (issue c x 3 ⟨24, by decide⟩ 99 12672 3 rfl rfl rfl _ _ _ _ _ _)
  isplitl [H3]; · iexact H3
  iintro H3
  iapply (issue c x 3 ⟨25, by decide⟩ 103 13184 3 rfl rfl rfl _ _ _ _ _ _)
  isplitl [H3]; · iexact H3
  iintro H3
  iapply le_wp_ret
  iapply Hk
  iexact H3

/-- THE RUN of part 60 of the body. -/
theorem part60_run (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole) {Q : FVec F S448x28 .f32 → sProp (MT nD τ sig Unit (Elt F) ℕ (Pipeline.UD sig nD τ) ℕ)} :
    iprop(Iss c x 3 26 ∗ (iprop(Iss c x 3 28) -∗ Q (k0_pay536 (F := F))))
      ⊢ wp frame (wpE (defs₀ (F := F)) Variants.none (c : Thread nD τ) none) Set.univ (k0_part60 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part60_eq_skeleton]; unfold k0_part60_skel
  simp only [wp_bind]
  iintro ⟨H3, Hk⟩
  iapply (issue c x 3 ⟨26, by decide⟩ 107 13696 3 rfl rfl rfl _ _ _ _ _ _)
  isplitl [H3]; · iexact H3
  iintro H3
  iapply (issue c x 3 ⟨27, by decide⟩ 111 14208 3 rfl rfl rfl _ _ _ _ _ _)
  isplitl [H3]; · iexact H3
  iintro H3
  iapply le_wp_ret
  iapply Hk
  iexact H3

end Cert.RotateIdeal.Run
-- ==== Proof.RotIdealSteps.lean ====
/- The rotation kernel's steps between the transfers: the transposing loops as wholes, and the products' loads and stores. -/
module

public import proofs.«01_k».proof.Proof.RotIdealTrans
public import proofs.«01_k».proof.Proof.RotIdealIssue

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole)

/-- What a chunk's transfers leave, with its cell back at zero. -/
def Landed (q : Fin 4) : sProp (MT nD τ sig Unit (Elt F) ℕ (Pipeline.UD sig nD τ) ℕ) :=
  iprop(bigSep Finset.univ (fun t : Fin 28 => dlv c x (q, t)) ∗ semVal ((c : Thread nD τ), SemLoc.dma (cellM q.val (cell_inb q))) 0)

/-- The debt a thread carries between its waits. -/
def Ow : sProp (MT nD τ sig Unit (Elt F) ℕ (Pipeline.UD sig nD τ) ℕ) := iprop(∃ W, owes (c : Thread nD τ) 0 W)

/-- A column waited for has landed. -/
theorem Got_eq (q : Fin 4) : Got c x q ⊢ iprop(Landed c x q ∗ Ow c) := by
  unfold Got Landed Ow
  iintro ⟨H, Hs, HO⟩
  isplitr [HO]
  · isplitl [H] <;> iassumption
  iexact HO

/-- A column started is a column to wait for. -/
theorem Iss_all' (q : Fin 4) : iprop(Iss c x q 28 ∗ Ow c) ⊢ Wt c x q 0 := by
  unfold Ow
  iintro ⟨HI, ⟨%W, HO⟩⟩
  iapply (Iss_all c x q W)
  isplitl [HI] <;> iassumption

/-- One slab out of a landed chunk, and the chunk back from it. -/
theorem Landed_acc (q : Fin 4) (k : Fin 28) :
    Landed c x q ⊢ iprop((scS.view.loc (c : Thread nD τ) ↦[slabSet (q, k)]{fullShare} (XS x))
      ∗ ((scS.view.loc (c : Thread nD τ) ↦[slabSet (q, k)]{fullShare} (XS x)) -∗ Landed c x q)) := by
  unfold Landed
  have e : bigSep Finset.univ (fun t : Fin 28 => dlv c x (q, t)) = iprop(dlv c x (q, k) ∗ bigSep (Finset.univ.erase k) (fun t : Fin 28 => dlv c x (q, t))) :=
    bigSep_erase (Finset.mem_univ k) (Φ := fun t : Fin 28 => dlv c x (q, t))
  rw [e]
  unfold dlv
  iintro ⟨⟨⟨HS, HX⟩, HR⟩, Hs⟩
  isplitl [HS]; · iexact HS
  iintro HS
  isplitr [Hs]
  · isplitr [HR]
    · isplitl [HS] <;> iassumption
    · iexact HR
  iexact Hs

/-- The slab a trip reads is of the landed column. -/
theorem slab_sub (q : Fin 4) (k : Fin 28) (off : Fin 3 → ℕ) (ho : off = ![4 * k.val + q.val, 0, 0]) (inb) :
    (scS.access (Rect.unit (s := S112x256x128) off S1x256x128.size inb)).set ⊆ slabSet (q, k) := by
  subst ho
  show ((View.whole cc0_scratch0).slice _).set ⊆ _
  rw [View.set_slice_whole]
  exact Finset.Subset.refl _

/-- A chunk done, the next begins. -/
theorem TS_next (q n : ℕ) (hn : n = 28) : TS c x q n ⊢ TS c x (q + 1) 0 := by
  subst hn
  unfold TS
  iintro ⟨%f, %hf, HT⟩
  iexists f
  isplitr
  · ipureintro
    intro i hi
    apply hf
    have h1 : (i 1).val < 14336 := (i 1).isLt
    unfold DoneT at hi ⊢
    omega
  iexact HT

/-- The loop that transposes chunk 0. -/
theorem loop1 (G : FVec F S448x448 .bf16) {Q : Unit → sProp (MT nD τ sig Unit (Elt F) ℕ (Pipeline.UD sig nD τ) ℕ)} :
    iprop(TS c x 0 0 ∗ Landed c x 0 ∗ ((TS c x 1 0 ∗ Landed c x 0) -∗ Q ⟨⟩))
      ⊢ wp frame (wpE (defs₀ (F := F)) Variants.none (c : Thread nD τ) none) Set.univ
          (Scf.Loop.for k0_t1_loop k0_t1_ok ⟨⟩ (k0_t1_body arg0 harg0 hbX (Memref.isWhole_whole _) arg2 harg2 arg3 harg3 arg4 harg4 scS (Memref.isWhole_whole _) scT (Memref.isWhole_whole _) scU (Memref.isWhole_whole _) cc0_scratch3 G )) Q := by
  have hb : ∀ (k : Fin (Scf.trips k0_t1_loop.lb k0_t1_loop.ub k0_t1_loop.st)) (acc : Unit), iprop(TS c x 0 k ∗ Landed c x 0)
      ⊢ wp frame (wpE (defs₀ (F := F)) Variants.none (c : Thread nD τ) none) Set.univ
          (k0_t1_body arg0 harg0 hbX (Memref.isWhole_whole _) arg2 harg2 arg3 harg3 arg4 harg4 scS (Memref.isWhole_whole _) scT (Memref.isWhole_whole _) scU (Memref.isWhole_whole _) cc0_scratch3 G k acc)
          (fun _ => iprop(TS c x 0 (k.val + 1) ∗ Landed c x 0)) := by
    intro k acc
    iintro ⟨HT, HL⟩
    ihave HL := (Landed_acc c x 0 k) $$ HL
    icases HL with ⟨HS, HB⟩
    iapply (trip1 c x arg0 harg0 arg2 harg2 arg3 harg3 arg4 harg4 G k (slabSet (0, k)) (slab_sub 0 k _ (off1_eq k) (k0_off1_inb k)))
    isplitl [HT]; · iexact HT
    isplitl [HS]; · iexact HS
    iintro ⟨HT, HS⟩
    isplitl [HT]; · iexact HT
    iapply HB
    iexact HS
  iintro ⟨HT, HL, Hk⟩
  iapply (Scf.wp_for frame (wpE (defs₀ (F := F)) Variants.none (c : Thread nD τ) none) Set.univ _ _ _ k0_t1_ok ⟨⟩ _
    (fun k _ => iprop(TS c x 0 k ∗ Landed c x 0)) hb)
  isplitl [HT HL]
  · isplitl [HT] <;> iassumption
  iintro %acc ⟨HT, HL⟩
  iapply Hk
  isplitl [HT]
  · iapply (TS_next c x 0 (Scf.trips k0_t1_loop.lb k0_t1_loop.ub k0_t1_loop.st) (by decide)) $$ HT
  iexact HL

/-- The loop that transposes chunk 1. -/
theorem loop2 (G : FVec F S448x448 .bf16) {Q : Unit → sProp (MT nD τ sig Unit (Elt F) ℕ (Pipeline.UD sig nD τ) ℕ)} :
    iprop(TS c x 1 0 ∗ Landed c x 1 ∗ ((TS c x 2 0 ∗ Landed c x 1) -∗ Q ⟨⟩))
      ⊢ wp frame (wpE (defs₀ (F := F)) Variants.none (c : Thread nD τ) none) Set.univ
          (Scf.Loop.for k0_t2_loop k0_t2_ok ⟨⟩ (k0_t2_body arg0 harg0 hbX (Memref.isWhole_whole _) arg2 harg2 arg3 harg3 arg4 harg4 scS (Memref.isWhole_whole _) scT (Memref.isWhole_whole _) scU (Memref.isWhole_whole _) cc0_scratch3 G )) Q := by
  have hb : ∀ (k : Fin (Scf.trips k0_t2_loop.lb k0_t2_loop.ub k0_t2_loop.st)) (acc : Unit), iprop(TS c x 1 k ∗ Landed c x 1)
      ⊢ wp frame (wpE (defs₀ (F := F)) Variants.none (c : Thread nD τ) none) Set.univ
          (k0_t2_body arg0 harg0 hbX (Memref.isWhole_whole _) arg2 harg2 arg3 harg3 arg4 harg4 scS (Memref.isWhole_whole _) scT (Memref.isWhole_whole _) scU (Memref.isWhole_whole _) cc0_scratch3 G k acc)
          (fun _ => iprop(TS c x 1 (k.val + 1) ∗ Landed c x 1)) := by
    intro k acc
    iintro ⟨HT, HL⟩
    ihave HL := (Landed_acc c x 1 k) $$ HL
    icases HL with ⟨HS, HB⟩
    iapply (trip2 c x arg0 harg0 arg2 harg2 arg3 harg3 arg4 harg4 G k (slabSet (1, k)) (slab_sub 1 k _ (off4_eq k) (k0_off4_inb k)))
    isplitl [HT]; · iexact HT
    isplitl [HS]; · iexact HS
    iintro ⟨HT, HS⟩
    isplitl [HT]; · iexact HT
    iapply HB
    iexact HS
  iintro ⟨HT, HL, Hk⟩
  iapply (Scf.wp_for frame (wpE (defs₀ (F := F)) Variants.none (c : Thread nD τ) none) Set.univ _ _ _ k0_t2_ok ⟨⟩ _
    (fun k _ => iprop(TS c x 1 k ∗ Landed c x 1)) hb)
  isplitl [HT HL]
  · isplitl [HT] <;> iassumption
  iintro %acc ⟨HT, HL⟩
  iapply Hk
  isplitl [HT]
  · iapply (TS_next c x 1 (Scf.trips k0_t2_loop.lb k0_t2_loop.ub k0_t2_loop.st) (by decide)) $$ HT
  iexact HL

/-- The loop that transposes chunk 2. -/
theorem loop3 (G : FVec F S448x448 .bf16) {Q : Unit → sProp (MT nD τ sig Unit (Elt F) ℕ (Pipeline.UD sig nD τ) ℕ)} :
    iprop(TS c x 2 0 ∗ Landed c x 2 ∗ ((TS c x 3 0 ∗ Landed c x 2) -∗ Q ⟨⟩))
      ⊢ wp frame (wpE (defs₀ (F := F)) Variants.none (c : Thread nD τ) none) Set.univ
          (Scf.Loop.for k0_t3_loop k0_t3_ok ⟨⟩ (k0_t3_body arg0 harg0 hbX (Memref.isWhole_whole _) arg2 harg2 arg3 harg3 arg4 harg4 scS (Memref.isWhole_whole _) scT (Memref.isWhole_whole _) scU (Memref.isWhole_whole _) cc0_scratch3 )) Q := by
  have hb : ∀ (k : Fin (Scf.trips k0_t3_loop.lb k0_t3_loop.ub k0_t3_loop.st)) (acc : Unit), iprop(TS c x 2 k ∗ Landed c x 2)
      ⊢ wp frame (wpE (defs₀ (F := F)) Variants.none (c : Thread nD τ) none) Set.univ
          (k0_t3_body arg0 harg0 hbX (Memref.isWhole_whole _) arg2 harg2 arg3 harg3 arg4 harg4 scS (Memref.isWhole_whole _) scT (Memref.isWhole_whole _) scU (Memref.isWhole_whole _) cc0_scratch3 k acc)
          (fun _ => iprop(TS c x 2 (k.val + 1) ∗ Landed c x 2)) := by
    intro k acc
    iintro ⟨HT, HL⟩
    ihave HL := (Landed_acc c x 2 k) $$ HL
    icases HL with ⟨HS, HB⟩
    iapply (trip3 c x arg0 harg0 arg2 harg2 arg3 harg3 arg4 harg4 G k (slabSet (2, k)) (slab_sub 2 k _ (off7_eq k) (k0_off7_inb k)))
    isplitl [HT]; · iexact HT
    isplitl [HS]; · iexact HS
    iintro ⟨HT, HS⟩
    isplitl [HT]; · iexact HT
    iapply HB
    iexact HS
  iintro ⟨HT, HL, Hk⟩
  iapply (Scf.wp_for frame (wpE (defs₀ (F := F)) Variants.none (c : Thread nD τ) none) Set.univ _ _ _ k0_t3_ok ⟨⟩ _
    (fun k _ => iprop(TS c x 2 k ∗ Landed c x 2)) hb)
  isplitl [HT HL]
  · isplitl [HT] <;> iassumption
  iintro %acc ⟨HT, HL⟩
  iapply Hk
  isplitl [HT]
  · iapply (TS_next c x 2 (Scf.trips k0_t3_loop.lb k0_t3_loop.ub k0_t3_loop.st) (by decide)) $$ HT
  iexact HL

/-- The loop that transposes chunk 3. -/
theorem loop4 (G : FVec F S448x448 .bf16) {Q : Unit → sProp (MT nD τ sig Unit (Elt F) ℕ (Pipeline.UD sig nD τ) ℕ)} :
    iprop(TS c x 3 0 ∗ Landed c x 3 ∗ ((TS c x 4 0 ∗ Landed c x 3) -∗ Q ⟨⟩))
      ⊢ wp frame (wpE (defs₀ (F := F)) Variants.none (c : Thread nD τ) none) Set.univ
          (Scf.Loop.for k0_t4_loop k0_t4_ok ⟨⟩ (k0_t4_body arg0 harg0 hbX (Memref.isWhole_whole _) arg2 harg2 arg3 harg3 arg4 harg4 scS (Memref.isWhole_whole _) scT (Memref.isWhole_whole _) scU (Memref.isWhole_whole _) cc0_scratch3 G )) Q := by
  have hb : ∀ (k : Fin (Scf.trips k0_t4_loop.lb k0_t4_loop.ub k0_t4_loop.st)) (acc : Unit), iprop(TS c x 3 k ∗ Landed c x 3)
      ⊢ wp frame (wpE (defs₀ (F := F)) Variants.none (c : Thread nD τ) none) Set.univ
          (k0_t4_body arg0 harg0 hbX (Memref.isWhole_whole _) arg2 harg2 arg3 harg3 arg4 harg4 scS (Memref.isWhole_whole _) scT (Memref.isWhole_whole _) scU (Memref.isWhole_whole _) cc0_scratch3 G k acc)
          (fun _ => iprop(TS c x 3 (k.val + 1) ∗ Landed c x 3)) := by
    intro k acc
    iintro ⟨HT, HL⟩
    ihave HL := (Landed_acc c x 3 k) $$ HL
    icases HL with ⟨HS, HB⟩
    iapply (trip4 c x arg0 harg0 arg2 harg2 arg3 harg3 arg4 harg4 G k (slabSet (3, k)) (slab_sub 3 k _ (off10_eq k) (k0_off10_inb k)))
    isplitl [HT]; · iexact HT
    isplitl [HS]; · iexact HS
    iintro ⟨HT, HS⟩
    isplitl [HT]; · iexact HT
    iapply HB
    iexact HS
  iintro ⟨HT, HL, Hk⟩
  iapply (Scf.wp_for frame (wpE (defs₀ (F := F)) Variants.none (c : Thread nD τ) none) Set.univ _ _ _ k0_t4_ok ⟨⟩ _
    (fun k _ => iprop(TS c x 3 k ∗ Landed c x 3)) hb)
  isplitl [HT HL]
  · isplitl [HT] <;> iassumption
  iintro %acc ⟨HT, HL⟩
  iapply Hk
  isplitl [HT]
  · iapply (TS_next c x 3 (Scf.trips k0_t4_loop.lb k0_t4_loop.ub k0_t4_loop.st) (by decide)) $$ HT
  iexact HL

/-- Rows `448 i …` of half `h` of the transposed buffer. -/
def rowsT (h : Fin 2) (i : ℕ) : Vec F S1x448x128 .bf16 := fun j =>
  XT x (ix3 (n0 := 2) (n1 := 14336) (n2 := 128) h (Fin.ofNat 14336 (448 * i + (j 1).val)) ⟨(j 2).val, (j 2).isLt⟩)

/-- Loading rows already transposed. -/
theorem load_T (n : ℕ) (h : Fin 2) (oh i o : ℕ) (hh : oh = h.val) (hi : i < 8 * n) (hi' : i < 32) (ho : o = 448 * i) (inb) (hl)
    {Q : (S1x448x128.Idx → Elt F .bf16) → sProp (MT nD τ sig Unit (Elt F) ℕ (Pipeline.UD sig nD τ) ℕ)} :
    iprop(TS c x n 0 ∗ (TS c x n 0 -∗ Q (rowsT x h i)))
      ⊢ wp frame (wpE (defs₀ (F := F)) Variants.none (c : Thread nD τ) none) Set.univ
          (Prog.lift (.load scT (Rect.unit (s := S2x14336x128) ![oh, o, 0] S1x448x128.size inb).toLoadRect hl)) Q := by
  subst ho hh
  unfold TS
  iintro ⟨⟨%f, %hf, HT⟩, Hk⟩
  iapply (wp_load_rect (Lvl := ℕ) (Name := ℕ) (U := Pipeline.UD sig nD τ) (Ix := Unit) (defs := defs₀ (F := F)) Variants.none (c : Thread nD τ) none Set.univ
    (Q := Q) (m := scT) (r := Rect.unit (s := S2x14336x128) ![h.val, 448 * i, 0] S1x448x128.size inb) (hl := hl) (k := Prog.ret) (S := scT.view.set) (q := fullShare) (f := f)
    (View.set_slice_subset _ _)) $$ HT
  iintro HT
  iapply le_wp_ret
  have e : (scT.access (Rect.unit (s := S2x14336x128) ![h.val, 448 * i, 0] S1x448x128.size inb)).read (Elt F) f = rowsT x h i := by
    funext j
    show f ((Rect.unit (s := S2x14336x128) ![h.val, 448 * i, 0] S1x448x128.size inb).emb j) = _
    have hj0 : (j 0).val < 1 := (j 0).isLt
    have hj1 : (j 1).val < 448 := (j 1).isLt
    rw [hf _ (Or.inl (by show (448 * i + 1 * (j 1).val) / 448 < 8 * n; omega))]
    unfold rowsT
    congr 1
    funext a
    apply Fin.ext
    match a with
    | ⟨0, _⟩ => show h.val + 1 * (j 0).val = h.val; omega
    | ⟨1, _⟩ => show 448 * i + 1 * (j 1).val = (448 * i + (j 1).val) % 14336; omega
    | ⟨2, _⟩ => show 0 + 1 * (j 2).val = (j 2).val; omega
  rw [e]
  iapply Hk
  iexists f
  isplitr; · ipureintro; exact hf
  iexact HT

variable (G : FVec F S448x448 .bf16)

/-- The products: block `i` is `G` times the block of transposed rows `i`. -/
def U0 : S32x448x256.Idx → Elt F .f32 := fun i =>
  k0_pay541 G (rowsT x 0 (i 0).val) (rowsT x 1 (i 0).val) (ix3 (n0 := 1) (n1 := 448) (n2 := 256) 0 ⟨(i 1).val, (i 1).isLt⟩ ⟨(i 2).val, (i 2).isLt⟩)

/-- The products' buffer, its first `n` blocks written. -/
def US (n : ℕ) : sProp (MT nD τ sig Unit (Elt F) ℕ (Pipeline.UD sig nD τ) ℕ) :=
  iprop(∃ f, ⌜∀ i, (i 0).val < n → f i = U0 x G i⌝ ∗ (scU.view.loc (c : Thread nD τ) ↦[scU.view.set]{fullShare} f))

/-- A load of the products' buffer whose value nothing reads. -/
theorem load_U (n : ℕ) (r : Rect S32x448x256) (hl) {Q : (r.shape.Idx → Elt F .f32) → sProp (MT nD τ sig Unit (Elt F) ℕ (Pipeline.UD sig nD τ) ℕ)} :
    iprop(US c x G n ∗ (∀ v, US c x G n -∗ Q v))
      ⊢ wp frame (wpE (defs₀ (F := F)) Variants.none (c : Thread nD τ) none) Set.univ (Prog.lift (.load scU r.toLoadRect hl)) Q := by
  unfold US
  iintro ⟨⟨%f, %hf, HT⟩, Hk⟩
  iapply (wp_load_rect (Lvl := ℕ) (Name := ℕ) (U := Pipeline.UD sig nD τ) (Ix := Unit) (defs := defs₀ (F := F)) Variants.none (c : Thread nD τ) none Set.univ
    (Q := Q) (m := scU) (r := r) (hl := hl) (k := Prog.ret) (S := scU.view.set) (q := fullShare) (f := f)
    (View.set_slice_subset _ _)) $$ HT
  iintro HT
  iapply le_wp_ret
  iapply Hk
  iexists f
  isplitr; · ipureintro; exact hf
  iexact HT

/-- A product stored extends the rows that are right. -/
theorem goodU_step (n : ℕ) (f : S32x448x256.Idx → Elt F .f32) (hf : ∀ i, (i 0).val < n → f i = U0 x G i) (L : List (View.Piece (Elt F) S32x448x256 .f32))
    (hL : ∀ p ∈ L, ∀ j : p.1.shape.Idx, p.2 j = U0 x G (p.1.emb j))
    (hc : ∀ i, (i 0).val = n → ∃ p ∈ L, i ∈ p.1.set) :
    ∀ i, (i 0).val < n + 1 → scU.view.writes (Elt F) f L i = U0 x G i := by
  intro i hi
  by_cases h : ∃ p ∈ L, i ∈ p.1.set
  · exact View.read_writes_apply_of_pieces scU.view f (U0 x G) L hL i h
  · have hd : (i 0).val < n := by
      by_contra hn
      exact h (hc i (by omega))
    have h' : ∀ p ∈ L, i ∉ p.1.set := fun p hp hm => h ⟨p, hp, hm⟩
    exact (View.read_writes_apply_of_forall_not_mem scU.view f i L h').trans (hf i hd)

/-- The store of the next block of products. -/
theorem store_U (n o : ℕ) (ho : o = n) (inb) (w : S1x448x256.Idx → Elt F .f32) (hw : w = k0_pay541 G (rowsT x 0 n) (rowsT x 1 n)) (hst) (hm)
    {Q : PUnit → sProp (MT nD τ sig Unit (Elt F) ℕ (Pipeline.UD sig nD τ) ℕ)} :
    iprop(US c x G n ∗ (US c x G (n + 1) -∗ Q ⟨⟩))
      ⊢ wp frame (wpE (defs₀ (F := F)) Variants.none (c : Thread nD τ) none) Set.univ
          (Prog.lift (.store scU (Rect.unit (s := S32x448x256) ![o, 0, 0] S1x448x256.size inb) w Finset.univ hst hm)) Q := by
  subst ho hw
  unfold US
  iintro ⟨⟨%f, %hf, HT⟩, Hk⟩
  iapply (wp_store (Lvl := ℕ) (Name := ℕ) (U := Pipeline.UD sig nD τ) (Ix := Unit) (defs := defs₀ (F := F)) Variants.none (c : Thread nD τ) none Set.univ
    (Q := Q) (m := scU) (r := Rect.unit (s := S32x448x256) ![o, 0, 0] S1x448x256.size inb) (hx := hst) (hm := hm) (k := Prog.ret) (S := scU.view.set) (f := f)
    (by rw [View.setOn_univ]; exact View.set_slice_subset _ _)) $$ HT
  iintro HT
  iapply le_wp_ret
  iapply Hk
  iexists _
  isplitr; swap; · iexact HT
  ipureintro
  refine goodU_step x G o f hf [⟨Rect.unit (s := S32x448x256) ![o, 0, 0] S1x448x256.size inb, k0_pay541 G (rowsT x 0 o) (rowsT x 1 o)⟩] ?_ ?_
  · intro p hp j
    rw [List.mem_singleton] at hp
    subst hp
    have hj0 : (j 0).val < 1 := (j 0).isLt
    have e0 : (((Rect.unit (s := S32x448x256) ![o, 0, 0] S1x448x256.size inb).emb j) 0).val = o := by
      show o + 1 * (j 0).val = o; omega
    unfold U0
    rw [e0]
    show k0_pay541 G (rowsT x 0 o) (rowsT x 1 o) j = _
    congr 1
    funext a
    apply Fin.ext
    match a with
    | ⟨0, _⟩ => show (j 0).val = 0; omega
    | ⟨1, _⟩ => show (j 1).val = 0 + 1 * (j 1).val; omega
    | ⟨2, _⟩ => show (j 2).val = 0 + 1 * (j 2).val; omega
  · intro i hi
    have h1 : (i 1).val < 448 := (i 1).isLt
    have h2 : (i 2).val < 256 := (i 2).isLt
    refine ⟨_, List.mem_singleton_self _, ?_⟩
    rw [Rect.mem_set_unit]
    intro a
    match a with
    | ⟨0, _⟩ => exact ⟨by show o ≤ (i 0).val; omega, by show (i 0).val < o + 1; omega⟩
    | ⟨1, _⟩ => exact ⟨Nat.zero_le _, by show (i 1).val < 0 + 448; omega⟩
    | ⟨2, _⟩ => exact ⟨Nat.zero_le _, by show (i 2).val < 0 + 256; omega⟩

/-- The load of the 28 × 28 Hadamard factor. -/
theorem load_H (f0 : arg0.view.ty.Contents (Elt F)) (inb) (hl) {Q : (S28x28.Idx → Elt F .f32) → sProp (MT nD τ sig Unit (Elt F) ℕ (Pipeline.UD sig nD τ) ℕ)} :
    iprop((arg0.view.loc (c : Thread nD τ) ↦[arg0.view.set]{fullShare} f0) ∗ ((arg0.view.loc (c : Thread nD τ) ↦[arg0.view.set]{fullShare} f0) -∗ Q (arg0.view.read (Elt F) f0)))
      ⊢ wp frame (wpE (defs₀ (F := F)) Variants.none (c : Thread nD τ) none) Set.univ
          (Prog.lift (.load arg0 (Rect.unit (s := S28x28) ![0, 0] S28x28.size inb).toLoadRect hl)) Q := by
  iintro ⟨HT, Hk⟩
  iapply (wp_load_rect (Lvl := ℕ) (Name := ℕ) (U := Pipeline.UD sig nD τ) (Ix := Unit) (defs := defs₀ (F := F)) Variants.none (c : Thread nD τ) none Set.univ
    (Q := Q) (m := arg0) (r := Rect.unit (s := S28x28) ![0, 0] S28x28.size inb) (hl := hl) (k := Prog.ret) (S := arg0.view.set) (q := fullShare) (f := f0)
    (View.set_slice_subset _ _)) $$ HT
  iintro HT
  iapply le_wp_ret
  have e : (arg0.access (Rect.unit (s := S28x28) ![0, 0] S28x28.size inb)).read (Elt F) f0 = arg0.view.read (Elt F) f0 := by
    funext j
    show arg0.view.read (Elt F) f0 ((Rect.unit (s := S28x28) ![0, 0] S28x28.size inb).emb j) = _
    congr 1
    funext a
    apply Fin.ext
    match a with
    | ⟨0, _⟩ => show 0 + 1 * (j 0).val = (j 0).val; omega
    | ⟨1, _⟩ => show 0 + 1 * (j 1).val = (j 1).val; omega
  rw [e]
  iapply Hk
  iexact HT

end Cert.RotateIdeal.Run
-- ==== Proof.RotIdealButter.lean ====
/- The rotation kernel's butterflies: thirty-two blocks of products combined, eight rows at a time, with the largest magnitudes. -/
module

public import proofs.«01_k».proof.Proof.RotIdealSteps

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (x : S256x14336.Idx → Elt F .bf16) (G : FVec F S448x448 .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole)

/-- Block `i` after `s` steps of the butterfly: step `s` adds and subtracts the blocks `2 ^ s` apart. -/
def vb (w : ℕ → FVec F S8x128 .f32) : ℕ → ℕ → FVec F S8x128 .f32
  | 0, i => w i
  | s + 1, i => if i / 2 ^ s % 2 = 0 then addf (vb w s i) (vb w s (i + 2 ^ s)) else subf (vb w s (i - 2 ^ s)) (vb w s i)

/-- The largest magnitude of the first `n` combined blocks, and of `m`. -/
def mx (m : FVec F S8x128 .f32) (w : ℕ → FVec F S8x128 .f32) : ℕ → FVec F S8x128 .f32
  | 0 => m
  | n + 1 => maximumf (mx m w n) (absf (vb w 5 n))

/-- Eight rows and one half of the lanes of block `i` of the products. -/
def win (k h i : ℕ) : Vec F S1x8x128 .f32 := fun j =>
  U0 x G (ix3 (n0 := 32) (n1 := 448) (n2 := 256) (Fin.ofNat 32 i) (Fin.ofNat 448 (8 * k + (j 1).val)) (Fin.ofNat 256 (128 * h + (j 2).val)))

/-- A block trip `k` reads, as a matrix. -/
def wv (k h i : ℕ) : FVec F S8x128 .f32 := shapeCast S8x128 (win x G k h i) shapeCasts_S1x8x128_S8x128

/-- What trip `k` leaves of block `i`, half `h`. -/
def outv (k h i : ℕ) : FVec F S1x8x128 .f32 := shapeCast S1x8x128 (vb (wv x G k h) 5 i) shapeCasts_S8x128_S1x8x128

/-- The buffer once every trip has run. -/
def UB : S32x448x256.Idx → Elt F .f32 := fun i =>
  outv x G ((i 1).val / 8) ((i 2).val / 128) (i 0).val (ix3 (n0 := 1) (n1 := 8) (n2 := 128) 0 (Fin.ofNat 8 ((i 1).val % 8)) (Fin.ofNat 128 ((i 2).val % 128)))

/-- The buffer during trip `k`, after its first `n` stores. -/
def Umix (k n : ℕ) : S32x448x256.Idx → Elt F .f32 := fun i =>
  if (i 1).val < 8 * k ∨ ((i 1).val < 8 * k + 8 ∧ 32 * ((i 2).val / 128) + (i 0).val < n) then UB x G i else U0 x G i

/-- The product buffer between the trips, with the first blocks of trip `k` stored. -/
def UX (k n : ℕ) : sProp (MT nD τ sig Unit (Elt F) ℕ (Pipeline.UD sig nD τ) ℕ) := iprop(scU.view.loc (c : Thread nD τ) ↦[scU.view.set]{fullShare} (Umix x G k n))

/-- The magnitudes carried into trip `k`. -/
def macc : ℕ → FVec F S8x256 .f32
  | 0 => k0_pay590
  | k + 1 => concatenate S8x256 1 [⟨S8x128, mx (extractStridedSlice S8x128 ![0, 0] (macc k) slices_S8x256_o0_0_S8x128) (wv x G k 0) 32⟩,
      ⟨S8x128, mx (extractStridedSlice S8x128 ![0, 128] (macc k) slices_S8x256_o0_128_S8x128) (wv x G k 1) 32⟩] concatenates_S8x128_S8x128_S8x256_d1

/-- A load of a window no store of this trip has reached. -/
theorem load_W (k n h i : ℕ) (hk : k < 56) (hh : h < 2) (hi : i < 32) (hn : n ≤ 32 * h + i) (off : Fin 3 → ℕ) (ho : off = ![i, 8 * k, 128 * h]) (inb) (hl)
    {Q : (S1x8x128.Idx → Elt F .f32) → sProp (MT nD τ sig Unit (Elt F) ℕ (Pipeline.UD sig nD τ) ℕ)} :
    iprop(UX c x G k n ∗ (UX c x G k n -∗ Q (win x G k h i)))
      ⊢ wp frame (wpE (defs₀ (F := F)) Variants.none (c : Thread nD τ) none) Set.univ
          (Prog.lift (.load scU (Rect.unit (s := S32x448x256) off S1x8x128.size inb).toLoadRect hl)) Q := by
  subst ho
  unfold UX
  iintro ⟨HT, Hk⟩
  iapply (wp_load_rect (Lvl := ℕ) (Name := ℕ) (U := Pipeline.UD sig nD τ) (Ix := Unit) (defs := defs₀ (F := F)) Variants.none (c : Thread nD τ) none Set.univ
    (Q := Q) (m := scU) (r := Rect.unit (s := S32x448x256) ![i, 8 * k, 128 * h] S1x8x128.size inb) (hl := hl) (k := Prog.ret) (S := scU.view.set) (q := fullShare) (f := Umix x G k n)
    (View.set_slice_subset _ _)) $$ HT
  iintro HT
  iapply le_wp_ret
  have e : (scU.access (Rect.unit (s := S32x448x256) ![i, 8 * k, 128 * h] S1x8x128.size inb)).read (Elt F) (Umix x G k n) = win x G k h i := by
    funext j
    show Umix x G k n ((Rect.unit (s := S32x448x256) ![i, 8 * k, 128 * h] S1x8x128.size inb).emb j) = _
    have hj0 : (j 0).val < 1 := (j 0).isLt
    have hj1 : (j 1).val < 8 := (j 1).isLt
    have hj2 : (j 2).val < 128 := (j 2).isLt
    unfold Umix
    rw [if_neg (by
      show ¬ (8 * k + 1 * (j 1).val < 8 * k ∨ (8 * k + 1 * (j 1).val < 8 * k + 8 ∧ 32 * ((128 * h + 1 * (j 2).val) / 128) + (i + 1 * (j 0).val) < n))
      omega)]
    unfold win
    congr 1
    funext a
    apply Fin.ext
    match a with
    | ⟨0, _⟩ => show i + 1 * (j 0).val = i % 32; omega
    | ⟨1, _⟩ => show 8 * k + 1 * (j 1).val = (8 * k + (j 1).val) % 448; omega
    | ⟨2, _⟩ => show 128 * h + 1 * (j 2).val = (128 * h + (j 2).val) % 256; omega
  rw [e]
  iapply Hk
  iexact HT

/-- A load whose value nothing reads. -/
theorem load_D (k n : ℕ) (r : Rect S32x448x256) (hl) {Q : (r.shape.Idx → Elt F .f32) → sProp (MT nD τ sig Unit (Elt F) ℕ (Pipeline.UD sig nD τ) ℕ)} :
    iprop(UX c x G k n ∗ (∀ v, UX c x G k n -∗ Q v))
      ⊢ wp frame (wpE (defs₀ (F := F)) Variants.none (c : Thread nD τ) none) Set.univ (Prog.lift (.load scU r.toLoadRect hl)) Q := by
  unfold UX
  iintro ⟨HT, Hk⟩
  iapply (wp_load_rect (Lvl := ℕ) (Name := ℕ) (U := Pipeline.UD sig nD τ) (Ix := Unit) (defs := defs₀ (F := F)) Variants.none (c : Thread nD τ) none Set.univ
    (Q := Q) (m := scU) (r := r) (hl := hl) (k := Prog.ret) (S := scU.view.set) (q := fullShare) (f := Umix x G k n)
    (View.set_slice_subset _ _)) $$ HT
  iintro HT
  iapply le_wp_ret
  iapply Hk
  iexact HT

/-- The store of one window: the next in the trip's order. -/
theorem store_W (k n h i : ℕ) (hk : k < 56) (hh : h < 2) (hi : i < 32) (hn : n = 32 * h + i) (off : Fin 3 → ℕ) (ho : off = ![i, 8 * k, 128 * h]) (inb)
    (w : S1x8x128.Idx → Elt F .f32) (hw : w = outv x G k h i) (hst) (hm) {Q : PUnit → sProp (MT nD τ sig Unit (Elt F) ℕ (Pipeline.UD sig nD τ) ℕ)} :
    iprop(UX c x G k n ∗ (UX c x G k (n + 1) -∗ Q ⟨⟩))
      ⊢ wp frame (wpE (defs₀ (F := F)) Variants.none (c : Thread nD τ) none) Set.univ
          (Prog.lift (.store scU (Rect.unit (s := S32x448x256) off S1x8x128.size inb) w Finset.univ hst hm)) Q := by
  subst ho hw
  unfold UX
  iintro ⟨HT, Hk⟩
  iapply (wp_store (Lvl := ℕ) (Name := ℕ) (U := Pipeline.UD sig nD τ) (Ix := Unit) (defs := defs₀ (F := F)) Variants.none (c : Thread nD τ) none Set.univ
    (Q := Q) (m := scU) (r := Rect.unit (s := S32x448x256) ![i, 8 * k, 128 * h] S1x8x128.size inb) (hx := hst) (hm := hm) (k := Prog.ret) (S := scU.view.set) (f := Umix x G k n)
    (by rw [View.setOn_univ]; exact View.set_slice_subset _ _)) $$ HT
  iintro HT
  iapply le_wp_ret
  have e : (scU.access (Rect.unit (s := S32x448x256) ![i, 8 * k, 128 * h] S1x8x128.size inb)).write (Elt F) (Umix x G k n) (outv x G k h i) Finset.univ = Umix x G k (n + 1) := by
    funext y
    have y0 : (y 0).val < 32 := (y 0).isLt
    have y1 : (y 1).val < 448 := (y 1).isLt
    have y2 : (y 2).val < 256 := (y 2).isLt
    have L : ∃ L : List (View.Piece (Elt F) S32x448x256 .f32), L = [⟨Rect.unit (s := S32x448x256) ![i, 8 * k, 128 * h] S1x8x128.size inb, outv x G k h i⟩] := ⟨_, rfl⟩
    obtain ⟨L, hL⟩ := L
    have e1 : (scU.access (Rect.unit (s := S32x448x256) ![i, 8 * k, 128 * h] S1x8x128.size inb)).write (Elt F) (Umix x G k n) (outv x G k h i) Finset.univ
        = scU.view.writes (Elt F) (Umix x G k n) L := by rw [hL]; rfl
    rw [e1]
    by_cases hy : (y 0).val = i ∧ (y 1).val / 8 = k ∧ (y 2).val / 128 = h
    · have e2 : scU.view.writes (Elt F) (Umix x G k n) L y = UB x G y := by
        refine View.read_writes_apply_of_pieces scU.view (Umix x G k n) (UB x G) L ?_ y ?_
        · intro p hp j
          rw [hL, List.mem_singleton] at hp
          subst hp
          have hj0 : (j 0).val < 1 := (j 0).isLt
          have hj1 : (j 1).val < 8 := (j 1).isLt
          have hj2 : (j 2).val < 128 := (j 2).isLt
          have a0 : (((Rect.unit (s := S32x448x256) ![i, 8 * k, 128 * h] S1x8x128.size inb).emb j) 0).val = i := by show i + 1 * (j 0).val = i; omega
          have a1 : (((Rect.unit (s := S32x448x256) ![i, 8 * k, 128 * h] S1x8x128.size inb).emb j) 1).val / 8 = k := by show (8 * k + 1 * (j 1).val) / 8 = k; omega
          have a2 : (((Rect.unit (s := S32x448x256) ![i, 8 * k, 128 * h] S1x8x128.size inb).emb j) 2).val / 128 = h := by show (128 * h + 1 * (j 2).val) / 128 = h; omega
          unfold UB
          rw [a0, a1, a2]
          show outv x G k h i j = _
          congr 1
          funext a
          apply Fin.ext
          match a with
          | ⟨0, _⟩ => show (j 0).val = 0; omega
          | ⟨1, _⟩ => show (j 1).val = (8 * k + 1 * (j 1).val) % 8 % 8; omega
          | ⟨2, _⟩ => show (j 2).val = (128 * h + 1 * (j 2).val) % 128 % 128; omega
        · refine ⟨_, by rw [hL]; exact List.mem_singleton_self _, ?_⟩
          rw [Rect.mem_set_unit]
          intro a
          match a with
          | ⟨0, _⟩ => exact ⟨by show i ≤ (y 0).val; omega, by show (y 0).val < i + 1; omega⟩
          | ⟨1, _⟩ => exact ⟨by show 8 * k ≤ (y 1).val; omega, by show (y 1).val < 8 * k + 8; omega⟩
          | ⟨2, _⟩ => exact ⟨by show 128 * h ≤ (y 2).val; omega, by show (y 2).val < 128 * h + 128; omega⟩
      rw [e2]
      unfold Umix
      rw [if_pos (by omega)]
    · have e2 : scU.view.writes (Elt F) (Umix x G k n) L y = Umix x G k n y := by
        refine View.read_writes_apply_of_forall_not_mem scU.view (Umix x G k n) y L ?_
        intro p hp
        rw [hL, List.mem_singleton] at hp
        subst hp
        rw [Rect.mem_set_unit]
        intro hh
        have h0 := hh 0
        have h1 := hh 1
        have h2 := hh 2
        change i ≤ (y 0).val ∧ (y 0).val < i + 1 at h0
        change 8 * k ≤ (y 1).val ∧ (y 1).val < 8 * k + 8 at h1
        change 128 * h ≤ (y 2).val ∧ (y 2).val < 128 * h + 128 at h2
        exact hy (by omega)
      rw [e2]
      unfold Umix
      have : ((y 1).val < 8 * k ∨ ((y 1).val < 8 * k + 8 ∧ 32 * ((y 2).val / 128) + (y 0).val < n))
          ↔ ((y 1).val < 8 * k ∨ ((y 1).val < 8 * k + 8 ∧ 32 * ((y 2).val / 128) + (y 0).val < n + 1)) := by omega
      simp only [this]
  rw [e]
  iapply Hk
  iexact HT

/-- Offset 13, in numbers. -/
theorem off13_eq : ∀ k : Fin k0_t5_loop.trips, k0_off13 k = ![0, 8 * k.val, 128 * 0] := by decide +kernel
/-- Offset 14, in numbers. -/
theorem off14_eq : ∀ k : Fin k0_t5_loop.trips, k0_off14 k = ![1, 8 * k.val, 128 * 0] := by decide +kernel
/-- Offset 15, in numbers. -/
theorem off15_eq : ∀ k : Fin k0_t5_loop.trips, k0_off15 k = ![2, 8 * k.val, 128 * 0] := by decide +kernel
/-- Offset 16, in numbers. -/
theorem off16_eq : ∀ k : Fin k0_t5_loop.trips, k0_off16 k = ![3, 8 * k.val, 128 * 0] := by decide +kernel
/-- Offset 17, in numbers. -/
theorem off17_eq : ∀ k : Fin k0_t5_loop.trips, k0_off17 k = ![4, 8 * k.val, 128 * 0] := by decide +kernel
/-- Offset 18, in numbers. -/
theorem off18_eq : ∀ k : Fin k0_t5_loop.trips, k0_off18 k = ![5, 8 * k.val, 128 * 0] := by decide +kernel
/-- Offset 19, in numbers. -/
theorem off19_eq : ∀ k : Fin k0_t5_loop.trips, k0_off19 k = ![6, 8 * k.val, 128 * 0] := by decide +kernel
/-- Offset 20, in numbers. -/
theorem off20_eq : ∀ k : Fin k0_t5_loop.trips, k0_off20 k = ![7, 8 * k.val, 128 * 0] := by decide +kernel
/-- Offset 21, in numbers. -/
theorem off21_eq : ∀ k : Fin k0_t5_loop.trips, k0_off21 k = ![8, 8 * k.val, 128 * 0] := by decide +kernel
/-- Offset 22, in numbers. -/
theorem off22_eq : ∀ k : Fin k0_t5_loop.trips, k0_off22 k = ![9, 8 * k.val, 128 * 0] := by decide +kernel
/-- Offset 23, in numbers. -/
theorem off23_eq : ∀ k : Fin k0_t5_loop.trips, k0_off23 k = ![10, 8 * k.val, 128 * 0] := by decide +kernel
/-- Offset 24, in numbers. -/
theorem off24_eq : ∀ k : Fin k0_t5_loop.trips, k0_off24 k = ![11, 8 * k.val, 128 * 0] := by decide +kernel
/-- Offset 25, in numbers. -/
theorem off25_eq : ∀ k : Fin k0_t5_loop.trips, k0_off25 k = ![12, 8 * k.val, 128 * 0] := by decide +kernel
/-- Offset 26, in numbers. -/
theorem off26_eq : ∀ k : Fin k0_t5_loop.trips, k0_off26 k = ![13, 8 * k.val, 128 * 0] := by decide +kernel
/-- Offset 27, in numbers. -/
theorem off27_eq : ∀ k : Fin k0_t5_loop.trips, k0_off27 k = ![14, 8 * k.val, 128 * 0] := by decide +kernel
/-- Offset 28, in numbers. -/
theorem off28_eq : ∀ k : Fin k0_t5_loop.trips, k0_off28 k = ![15, 8 * k.val, 128 * 0] := by decide +kernel
/-- Offset 29, in numbers. -/
theorem off29_eq : ∀ k : Fin k0_t5_loop.trips, k0_off29 k = ![16, 8 * k.val, 128 * 0] := by decide +kernel
/-- Offset 30, in numbers. -/
theorem off30_eq : ∀ k : Fin k0_t5_loop.trips, k0_off30 k = ![17, 8 * k.val, 128 * 0] := by decide +kernel
/-- Offset 31, in numbers. -/
theorem off31_eq : ∀ k : Fin k0_t5_loop.trips, k0_off31 k = ![18, 8 * k.val, 128 * 0] := by decide +kernel
/-- Offset 32, in numbers. -/
theorem off32_eq : ∀ k : Fin k0_t5_loop.trips, k0_off32 k = ![19, 8 * k.val, 128 * 0] := by decide +kernel
/-- Offset 33, in numbers. -/
theorem off33_eq : ∀ k : Fin k0_t5_loop.trips, k0_off33 k = ![20, 8 * k.val, 128 * 0] := by decide +kernel
/-- Offset 34, in numbers. -/
theorem off34_eq : ∀ k : Fin k0_t5_loop.trips, k0_off34 k = ![21, 8 * k.val, 128 * 0] := by decide +kernel
/-- Offset 35, in numbers. -/
theorem off35_eq : ∀ k : Fin k0_t5_loop.trips, k0_off35 k = ![22, 8 * k.val, 128 * 0] := by decide +kernel
/-- Offset 36, in numbers. -/
theorem off36_eq : ∀ k : Fin k0_t5_loop.trips, k0_off36 k = ![23, 8 * k.val, 128 * 0] := by decide +kernel
/-- Offset 37, in numbers. -/
theorem off37_eq : ∀ k : Fin k0_t5_loop.trips, k0_off37 k = ![24, 8 * k.val, 128 * 0] := by decide +kernel
/-- Offset 38, in numbers. -/
theorem off38_eq : ∀ k : Fin k0_t5_loop.trips, k0_off38 k = ![25, 8 * k.val, 128 * 0] := by decide +kernel
/-- Offset 39, in numbers. -/
theorem off39_eq : ∀ k : Fin k0_t5_loop.trips, k0_off39 k = ![26, 8 * k.val, 128 * 0] := by decide +kernel
/-- Offset 40, in numbers. -/
theorem off40_eq : ∀ k : Fin k0_t5_loop.trips, k0_off40 k = ![27, 8 * k.val, 128 * 0] := by decide +kernel
/-- Offset 41, in numbers. -/
theorem off41_eq : ∀ k : Fin k0_t5_loop.trips, k0_off41 k = ![28, 8 * k.val, 128 * 0] := by decide +kernel
/-- Offset 42, in numbers. -/
theorem off42_eq : ∀ k : Fin k0_t5_loop.trips, k0_off42 k = ![29, 8 * k.val, 128 * 0] := by decide +kernel
/-- Offset 43, in numbers. -/
theorem off43_eq : ∀ k : Fin k0_t5_loop.trips, k0_off43 k = ![30, 8 * k.val, 128 * 0] := by decide +kernel
/-- Offset 44, in numbers. -/
theorem off44_eq : ∀ k : Fin k0_t5_loop.trips, k0_off44 k = ![31, 8 * k.val, 128 * 0] := by decide +kernel
/-- Offset 45, in numbers. -/
theorem off45_eq : ∀ k : Fin k0_t5_loop.trips, k0_off45 k = ![0, 8 * k.val, 128 * 1] := by decide +kernel
/-- Offset 46, in numbers. -/
theorem off46_eq : ∀ k : Fin k0_t5_loop.trips, k0_off46 k = ![1, 8 * k.val, 128 * 1] := by decide +kernel
/-- Offset 47, in numbers. -/
theorem off47_eq : ∀ k : Fin k0_t5_loop.trips, k0_off47 k = ![2, 8 * k.val, 128 * 1] := by decide +kernel
/-- Offset 48, in numbers. -/
theorem off48_eq : ∀ k : Fin k0_t5_loop.trips, k0_off48 k = ![3, 8 * k.val, 128 * 1] := by decide +kernel
/-- Offset 49, in numbers. -/
theorem off49_eq : ∀ k : Fin k0_t5_loop.trips, k0_off49 k = ![4, 8 * k.val, 128 * 1] := by decide +kernel
/-- Offset 50, in numbers. -/
theorem off50_eq : ∀ k : Fin k0_t5_loop.trips, k0_off50 k = ![5, 8 * k.val, 128 * 1] := by decide +kernel
/-- Offset 51, in numbers. -/
theorem off51_eq : ∀ k : Fin k0_t5_loop.trips, k0_off51 k = ![6, 8 * k.val, 128 * 1] := by decide +kernel
/-- Offset 52, in numbers. -/
theorem off52_eq : ∀ k : Fin k0_t5_loop.trips, k0_off52 k = ![7, 8 * k.val, 128 * 1] := by decide +kernel
/-- Offset 53, in numbers. -/
theorem off53_eq : ∀ k : Fin k0_t5_loop.trips, k0_off53 k = ![8, 8 * k.val, 128 * 1] := by decide +kernel
/-- Offset 54, in numbers. -/
theorem off54_eq : ∀ k : Fin k0_t5_loop.trips, k0_off54 k = ![9, 8 * k.val, 128 * 1] := by decide +kernel
/-- Offset 55, in numbers. -/
theorem off55_eq : ∀ k : Fin k0_t5_loop.trips, k0_off55 k = ![10, 8 * k.val, 128 * 1] := by decide +kernel
/-- Offset 56, in numbers. -/
theorem off56_eq : ∀ k : Fin k0_t5_loop.trips, k0_off56 k = ![11, 8 * k.val, 128 * 1] := by decide +kernel
/-- Offset 57, in numbers. -/
theorem off57_eq : ∀ k : Fin k0_t5_loop.trips, k0_off57 k = ![12, 8 * k.val, 128 * 1] := by decide +kernel
/-- Offset 58, in numbers. -/
theorem off58_eq : ∀ k : Fin k0_t5_loop.trips, k0_off58 k = ![13, 8 * k.val, 128 * 1] := by decide +kernel
/-- Offset 59, in numbers. -/
theorem off59_eq : ∀ k : Fin k0_t5_loop.trips, k0_off59 k = ![14, 8 * k.val, 128 * 1] := by decide +kernel
/-- Offset 60, in numbers. -/
theorem off60_eq : ∀ k : Fin k0_t5_loop.trips, k0_off60 k = ![15, 8 * k.val, 128 * 1] := by decide +kernel
/-- Offset 61, in numbers. -/
theorem off61_eq : ∀ k : Fin k0_t5_loop.trips, k0_off61 k = ![16, 8 * k.val, 128 * 1] := by decide +kernel
/-- Offset 62, in numbers. -/
theorem off62_eq : ∀ k : Fin k0_t5_loop.trips, k0_off62 k = ![17, 8 * k.val, 128 * 1] := by decide +kernel
/-- Offset 63, in numbers. -/
theorem off63_eq : ∀ k : Fin k0_t5_loop.trips, k0_off63 k = ![18, 8 * k.val, 128 * 1] := by decide +kernel
/-- Offset 64, in numbers. -/
theorem off64_eq : ∀ k : Fin k0_t5_loop.trips, k0_off64 k = ![19, 8 * k.val, 128 * 1] := by decide +kernel
/-- Offset 65, in numbers. -/
theorem off65_eq : ∀ k : Fin k0_t5_loop.trips, k0_off65 k = ![20, 8 * k.val, 128 * 1] := by decide +kernel
/-- Offset 66, in numbers. -/
theorem off66_eq : ∀ k : Fin k0_t5_loop.trips, k0_off66 k = ![21, 8 * k.val, 128 * 1] := by decide +kernel
/-- Offset 67, in numbers. -/
theorem off67_eq : ∀ k : Fin k0_t5_loop.trips, k0_off67 k = ![22, 8 * k.val, 128 * 1] := by decide +kernel
/-- Offset 68, in numbers. -/
theorem off68_eq : ∀ k : Fin k0_t5_loop.trips, k0_off68 k = ![23, 8 * k.val, 128 * 1] := by decide +kernel
/-- Offset 69, in numbers. -/
theorem off69_eq : ∀ k : Fin k0_t5_loop.trips, k0_off69 k = ![24, 8 * k.val, 128 * 1] := by decide +kernel
/-- Offset 70, in numbers. -/
theorem off70_eq : ∀ k : Fin k0_t5_loop.trips, k0_off70 k = ![25, 8 * k.val, 128 * 1] := by decide +kernel
/-- Offset 71, in numbers. -/
theorem off71_eq : ∀ k : Fin k0_t5_loop.trips, k0_off71 k = ![26, 8 * k.val, 128 * 1] := by decide +kernel
/-- Offset 72, in numbers. -/
theorem off72_eq : ∀ k : Fin k0_t5_loop.trips, k0_off72 k = ![27, 8 * k.val, 128 * 1] := by decide +kernel
/-- Offset 73, in numbers. -/
theorem off73_eq : ∀ k : Fin k0_t5_loop.trips, k0_off73 k = ![28, 8 * k.val, 128 * 1] := by decide +kernel
/-- Offset 74, in numbers. -/
theorem off74_eq : ∀ k : Fin k0_t5_loop.trips, k0_off74 k = ![29, 8 * k.val, 128 * 1] := by decide +kernel
/-- Offset 75, in numbers. -/
theorem off75_eq : ∀ k : Fin k0_t5_loop.trips, k0_off75 k = ![30, 8 * k.val, 128 * 1] := by decide +kernel
/-- Offset 76, in numbers. -/
theorem off76_eq : ∀ k : Fin k0_t5_loop.trips, k0_off76 k = ![31, 8 * k.val, 128 * 1] := by decide +kernel

set_option maxHeartbeats 2000000 in
/-- THE RUN of part 13 of the body. -/
theorem part13_run (k : Fin k0_t5_loop.trips) (hk : k.val < 56) (m : FVec F S8x256 .f32) (c0_i32_1410 : BitVec 32) (c1_i32_1412 : BitVec 32) {Q : (Σ' (arg9 : BitVec 32) (v1481 : FVec F S8x128 .f32) (v1485 : FVec F S8x128 .f32) (v1489 : FVec F S8x128 .f32) (v1493 : FVec F S8x128 .f32) (v1497 : FVec F S8x128 .f32) (v1501 : FVec F S8x128 .f32) (v1505 : FVec F S8x128 .f32) (v1509 : FVec F S8x128 .f32), BitVec 32) → sProp (MT nD τ sig Unit (Elt F) ℕ (Pipeline.UD sig nD τ) ℕ)} :
    iprop(UX c x G k 0 ∗ (∀ r d_arg9 d_v1510, iprop(⌜r = ⟨d_arg9, (vb (wv x G k 0) 0 0), (vb (wv x G k 0) 0 1), (vb (wv x G k 0) 0 2), (vb (wv x G k 0) 0 3), (vb (wv x G k 0) 0 4), (vb (wv x G k 0) 0 5), (vb (wv x G k 0) 0 6), (vb (wv x G k 0) 0 7), d_v1510⟩⌝ ∗ UX c x G k 0) -∗ Q r))
      ⊢ wp frame (wpE (defs₀ (F := F)) Variants.none (c : Thread nD τ) none) Set.univ (k0_part13 (F := F) arg0 harg0 hbX (Memref.isWhole_whole _) arg2 harg2 arg3 harg3 arg4 harg4 scS (Memref.isWhole_whole _) scT (Memref.isWhole_whole _) scU (Memref.isWhole_whole _) cc0_scratch3 c0_i32_1410 c1_i32_1412 k) Q := by
  rw [k0_part13_eq_skeleton]; unfold k0_part13_skel
  simp only [wp_bind]
  iintro ⟨HU, Hk⟩
  iapply (load_W c x G k 0 0 0 hk (by decide) (by decide) (by decide) _ (off13_eq k))
  isplitl [HU]; · iexact HU
  iintro HU
  iapply (load_W c x G k 0 0 1 hk (by decide) (by decide) (by decide) _ (off14_eq k))
  isplitl [HU]; · iexact HU
  iintro HU
  iapply (load_W c x G k 0 0 2 hk (by decide) (by decide) (by decide) _ (off15_eq k))
  isplitl [HU]; · iexact HU
  iintro HU
  iapply (load_W c x G k 0 0 3 hk (by decide) (by decide) (by decide) _ (off16_eq k))
  isplitl [HU]; · iexact HU
  iintro HU
  iapply (load_W c x G k 0 0 4 hk (by decide) (by decide) (by decide) _ (off17_eq k))
  isplitl [HU]; · iexact HU
  iintro HU
  iapply (load_W c x G k 0 0 5 hk (by decide) (by decide) (by decide) _ (off18_eq k))
  isplitl [HU]; · iexact HU
  iintro HU
  iapply (load_W c x G k 0 0 6 hk (by decide) (by decide) (by decide) _ (off19_eq k))
  isplitl [HU]; · iexact HU
  iintro HU
  iapply (load_W c x G k 0 0 7 hk (by decide) (by decide) (by decide) _ (off20_eq k))
  isplitl [HU]; · iexact HU
  iintro HU
  iapply le_wp_ret
  iapply Hk
  isplitr; · ipureintro; rfl
  iexact HU

set_option maxHeartbeats 2000000 in
/-- THE RUN of part 14 of the body. -/
theorem part14_run (k : Fin k0_t5_loop.trips) (hk : k.val < 56) (m : FVec F S8x256 .f32) (arg9 : BitVec 32) (v1510 : BitVec 32) {Q : (Σ' (v1513 : FVec F S8x128 .f32) (v1517 : FVec F S8x128 .f32) (v1521 : FVec F S8x128 .f32) (v1525 : FVec F S8x128 .f32) (v1529 : FVec F S8x128 .f32) (v1533 : FVec F S8x128 .f32) (v1537 : FVec F S8x128 .f32) (v1541 : FVec F S8x128 .f32), FVec F S8x128 .f32) → sProp (MT nD τ sig Unit (Elt F) ℕ (Pipeline.UD sig nD τ) ℕ)} :
    iprop(UX c x G k 0 ∗ (∀ r , iprop(⌜r = ⟨(vb (wv x G k 0) 0 8), (vb (wv x G k 0) 0 9), (vb (wv x G k 0) 0 10), (vb (wv x G k 0) 0 11), (vb (wv x G k 0) 0 12), (vb (wv x G k 0) 0 13), (vb (wv x G k 0) 0 14), (vb (wv x G k 0) 0 15), (vb (wv x G k 0) 0 16)⟩⌝ ∗ UX c x G k 0) -∗ Q r))
      ⊢ wp frame (wpE (defs₀ (F := F)) Variants.none (c : Thread nD τ) none) Set.univ (k0_part14 (F := F) arg0 harg0 hbX (Memref.isWhole_whole _) arg2 harg2 arg3 harg3 arg4 harg4 scS (Memref.isWhole_whole _) scT (Memref.isWhole_whole _) scU (Memref.isWhole_whole _) cc0_scratch3 k arg9 v1510) Q := by
  rw [k0_part14_eq_skeleton]; unfold k0_part14_skel
  simp only [wp_bind]
  iintro ⟨HU, Hk⟩
  iapply (load_W c x G k 0 0 8 hk (by decide) (by decide) (by decide) _ (off21_eq k))
  isplitl [HU]; · iexact HU
  iintro HU
  iapply (load_W c x G k 0 0 9 hk (by decide) (by decide) (by decide) _ (off22_eq k))
  isplitl [HU]; · iexact HU
  iintro HU
  iapply (load_W c x G k 0 0 10 hk (by decide) (by decide) (by decide) _ (off23_eq k))
  isplitl [HU]; · iexact HU
  iintro HU
  iapply (load_W c x G k 0 0 11 hk (by decide) (by decide) (by decide) _ (off24_eq k))
  isplitl [HU]; · iexact HU
  iintro HU
  iapply (load_W c x G k 0 0 12 hk (by decide) (by decide) (by decide) _ (off25_eq k))
  isplitl [HU]; · iexact HU
  iintro HU
  iapply (load_W c x G k 0 0 13 hk (by decide) (by decide) (by decide) _ (off26_eq k))
  isplitl [HU]; · iexact HU
  iintro HU
  iapply (load_W c x G k 0 0 14 hk (by decide) (by decide) (by decide) _ (off27_eq k))
  isplitl [HU]; · iexact HU
  iintro HU
  iapply (load_W c x G k 0 0 15 hk (by decide) (by decide) (by decide) _ (off28_eq k))
  isplitl [HU]; · iexact HU
  iintro HU
  iapply (load_W c x G k 0 0 16 hk (by decide) (by decide) (by decide) _ (off29_eq k))
  isplitl [HU]; · iexact HU
  iintro HU
  iapply le_wp_ret
  iapply Hk
  isplitr; · ipureintro; rfl
  iexact HU

set_option maxHeartbeats 2000000 in
/-- THE RUN of part 15 of the body. -/
theorem part15_run (k : Fin k0_t5_loop.trips) (hk : k.val < 56) (m : FVec F S8x256 .f32) (arg9 : BitVec 32) {Q : (Σ' (v1549 : FVec F S8x128 .f32) (v1553 : FVec F S8x128 .f32) (v1557 : FVec F S8x128 .f32) (v1561 : FVec F S8x128 .f32) (v1565 : FVec F S8x128 .f32) (v1569 : FVec F S8x128 .f32) (v1573 : FVec F S8x128 .f32), FVec F S8x128 .f32) → sProp (MT nD τ sig Unit (Elt F) ℕ (Pipeline.UD sig nD τ) ℕ)} :
    iprop(UX c x G k 0 ∗ (∀ r , iprop(⌜r = ⟨(vb (wv x G k 0) 0 17), (vb (wv x G k 0) 0 18), (vb (wv x G k 0) 0 19), (vb (wv x G k 0) 0 20), (vb (wv x G k 0) 0 21), (vb (wv x G k 0) 0 22), (vb (wv x G k 0) 0 23), (vb (wv x G k 0) 0 24)⟩⌝ ∗ UX c x G k 0) -∗ Q r))
      ⊢ wp frame (wpE (defs₀ (F := F)) Variants.none (c : Thread nD τ) none) Set.univ (k0_part15 (F := F) arg0 harg0 hbX (Memref.isWhole_whole _) arg2 harg2 arg3 harg3 arg4 harg4 scS (Memref.isWhole_whole _) scT (Memref.isWhole_whole _) scU (Memref.isWhole_whole _) cc0_scratch3 k arg9) Q := by
  rw [k0_part15_eq_skeleton]; unfold k0_part15_skel
  simp only [wp_bind]
  iintro ⟨HU, Hk⟩
  iapply (load_W c x G k 0 0 17 hk (by decide) (by decide) (by decide) _ (off30_eq k))
  isplitl [HU]; · iexact HU
  iintro HU
  iapply (load_W c x G k 0 0 18 hk (by decide) (by decide) (by decide) _ (off31_eq k))
  isplitl [HU]; · iexact HU
  iintro HU
  iapply (load_W c x G k 0 0 19 hk (by decide) (by decide) (by decide) _ (off32_eq k))
  isplitl [HU]; · iexact HU
  iintro HU
  iapply (load_W c x G k 0 0 20 hk (by decide) (by decide) (by decide) _ (off33_eq k))
  isplitl [HU]; · iexact HU
  iintro HU
  iapply (load_W c x G k 0 0 21 hk (by decide) (by decide) (by decide) _ (off34_eq k))
  isplitl [HU]; · iexact HU
  iintro HU
  iapply (load_W c x G k 0 0 22 hk (by decide) (by decide) (by decide) _ (off35_eq k))
  isplitl [HU]; · iexact HU
  iintro HU
  iapply (load_W c x G k 0 0 23 hk (by decide) (by decide) (by decide) _ (off36_eq k))
  isplitl [HU]; · iexact HU
  iintro HU
  iapply (load_W c x G k 0 0 24 hk (by decide) (by decide) (by decide) _ (off37_eq k))
  isplitl [HU]; · iexact HU
  iintro HU
  iapply le_wp_ret
  iapply Hk
  isplitr; · ipureintro; rfl
  iexact HU

set_option maxHeartbeats 2000000 in
/-- THE RUN of part 16 of the body. -/
theorem part16_run (k : Fin k0_t5_loop.trips) (hk : k.val < 56) (m : FVec F S8x256 .f32) (arg9 : BitVec 32) {Q : (Σ' (v1581 : FVec F S8x128 .f32) (v1585 : FVec F S8x128 .f32) (v1589 : FVec F S8x128 .f32) (v1593 : FVec F S8x128 .f32) (v1597 : FVec F S8x128 .f32) (v1601 : FVec F S8x128 .f32) (v1605 : FVec F S8x128 .f32) (v1606 : FVec F S8x128 .f32) (v1607 : FVec F S8x128 .f32) (v1608 : FVec F S8x128 .f32) (v1609 : FVec F S8x128 .f32) (v1610 : FVec F S8x128 .f32) (v1611 : FVec F S8x128 .f32) (v1612 : FVec F S8x128 .f32) (v1613 : FVec F S8x128 .f32) (v1614 : FVec F S8x128 .f32) (v1615 : FVec F S8x128 .f32) (v1616 : FVec F S8x128 .f32) (v1617 : FVec F S8x128 .f32) (v1618 : FVec F S8x128 .f32) (v1619 : FVec F S8x128 .f32), FVec F S8x128 .f32) → sProp (MT nD τ sig Unit (Elt F) ℕ (Pipeline.UD sig nD τ) ℕ)} :
    iprop(UX c x G k 0 ∗ (∀ r , iprop(⌜r = ⟨(vb (wv x G k 0) 0 25), (vb (wv x G k 0) 0 26), (vb (wv x G k 0) 0 27), (vb (wv x G k 0) 0 28), (vb (wv x G k 0) 0 29), (vb (wv x G k 0) 0 30), (vb (wv x G k 0) 0 31), (vb (wv x G k 0) 1 0), (vb (wv x G k 0) 1 1), (vb (wv x G k 0) 1 2), (vb (wv x G k 0) 1 3), (vb (wv x G k 0) 1 4), (vb (wv x G k 0) 1 5), (vb (wv x G k 0) 1 6), (vb (wv x G k 0) 1 7), (vb (wv x G k 0) 1 8), (vb (wv x G k 0) 1 9), (vb (wv x G k 0) 1 10), (vb (wv x G k 0) 1 11), (vb (wv x G k 0) 1 12), (vb (wv x G k 0) 1 13), (vb (wv x G k 0) 1 14)⟩⌝ ∗ UX c x G k 0) -∗ Q r))
      ⊢ wp frame (wpE (defs₀ (F := F)) Variants.none (c : Thread nD τ) none) Set.univ (k0_part16 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 0 0) (vb (wv x G k 0) 0 1) (vb (wv x G k 0) 0 2) (vb (wv x G k 0) 0 3) (vb (wv x G k 0) 0 4) (vb (wv x G k 0) 0 5) (vb (wv x G k 0) 0 6) (vb (wv x G k 0) 0 7) (vb (wv x G k 0) 0 8) (vb (wv x G k 0) 0 9) (vb (wv x G k 0) 0 10) (vb (wv x G k 0) 0 11) (vb (wv x G k 0) 0 12) (vb (wv x G k 0) 0 13) (vb (wv x G k 0) 0 14) (vb (wv x G k 0) 0 15)) Q := by
  rw [k0_part16_eq_skeleton]; unfold k0_part16_skel
  simp only [wp_bind]
  iintro ⟨HU, Hk⟩
  iapply (load_W c x G k 0 0 25 hk (by decide) (by decide) (by decide) _ (off38_eq k))
  isplitl [HU]; · iexact HU
  iintro HU
  iapply (load_W c x G k 0 0 26 hk (by decide) (by decide) (by decide) _ (off39_eq k))
  isplitl [HU]; · iexact HU
  iintro HU
  iapply (load_W c x G k 0 0 27 hk (by decide) (by decide) (by decide) _ (off40_eq k))
  isplitl [HU]; · iexact HU
  iintro HU
  iapply (load_W c x G k 0 0 28 hk (by decide) (by decide) (by decide) _ (off41_eq k))
  isplitl [HU]; · iexact HU
  iintro HU
  iapply (load_W c x G k 0 0 29 hk (by decide) (by decide) (by decide) _ (off42_eq k))
  isplitl [HU]; · iexact HU
  iintro HU
  iapply (load_W c x G k 0 0 30 hk (by decide) (by decide) (by decide) _ (off43_eq k))
  isplitl [HU]; · iexact HU
  iintro HU
  iapply (load_W c x G k 0 0 31 hk (by decide) (by decide) (by decide) _ (off44_eq k))
  isplitl [HU]; · iexact HU
  iintro HU
  iapply le_wp_ret
  iapply Hk
  isplitr; · ipureintro; rfl
  iexact HU

set_option maxHeartbeats 2000000 in
/-- THE RUN of part 17 of the body. -/
theorem part17_run (k : Fin k0_t5_loop.trips) (hk : k.val < 56) (m : FVec F S8x256 .f32) {Q : (Σ' (v1647 : FVec F S8x128 .f32) (v1648 : FVec F S8x128 .f32) (v1649 : FVec F S8x128 .f32) (v1651 : FVec F S8x128 .f32) (v1652 : FVec F S8x128 .f32) (v1653 : FVec F S8x128 .f32) (v1654 : FVec F S8x128 .f32) (v1655 : FVec F S8x128 .f32) (v1656 : FVec F S8x128 .f32) (v1657 : FVec F S8x128 .f32) (v1658 : FVec F S8x128 .f32) (v1659 : FVec F S8x128 .f32) (v1660 : FVec F S8x128 .f32) (v1661 : FVec F S8x128 .f32) (v1662 : FVec F S8x128 .f32) (v1663 : FVec F S8x128 .f32) (v1664 : FVec F S8x128 .f32) (v1665 : FVec F S8x128 .f32) (v1666 : FVec F S8x128 .f32) (v1667 : FVec F S8x128 .f32) (v1668 : FVec F S8x128 .f32) (v1669 : FVec F S8x128 .f32) (v1670 : FVec F S8x128 .f32) (v1671 : FVec F S8x128 .f32) (v1672 : FVec F S8x128 .f32) (v1673 : FVec F S8x128 .f32) (v1674 : FVec F S8x128 .f32) (v1675 : FVec F S8x128 .f32) (v1676 : FVec F S8x128 .f32) (v1677 : FVec F S8x128 .f32) (v1678 : FVec F S8x128 .f32) (v1679 : FVec F S8x128 .f32), FVec F S8x128 .f32) → sProp (MT nD τ sig Unit (Elt F) ℕ (Pipeline.UD sig nD τ) ℕ)} :
    iprop(UX c x G k 0 ∗ (∀ r , iprop(⌜r = ⟨(vb (wv x G k 0) 2 10), (vb (wv x G k 0) 2 9), (vb (wv x G k 0) 2 11), (vb (wv x G k 0) 2 14), (vb (wv x G k 0) 2 13), (vb (wv x G k 0) 2 15), (vb (wv x G k 0) 2 16), (vb (wv x G k 0) 2 18), (vb (wv x G k 0) 2 17), (vb (wv x G k 0) 2 19), (vb (wv x G k 0) 2 20), (vb (wv x G k 0) 2 22), (vb (wv x G k 0) 2 21), (vb (wv x G k 0) 2 23), (vb (wv x G k 0) 2 24), (vb (wv x G k 0) 2 26), (vb (wv x G k 0) 2 25), (vb (wv x G k 0) 2 27), (vb (wv x G k 0) 2 28), (vb (wv x G k 0) 2 30), (vb (wv x G k 0) 2 29), (vb (wv x G k 0) 2 31), (vb (wv x G k 0) 3 0), (vb (wv x G k 0) 3 4), (vb (wv x G k 0) 3 1), (vb (wv x G k 0) 3 5), (vb (wv x G k 0) 3 2), (vb (wv x G k 0) 3 6), (vb (wv x G k 0) 3 3), (vb (wv x G k 0) 3 7), (vb (wv x G k 0) 3 8), (vb (wv x G k 0) 3 12), (vb (wv x G k 0) 3 9)⟩⌝ ∗ UX c x G k 0) -∗ Q r))
      ⊢ wp frame (wpE (defs₀ (F := F)) Variants.none (c : Thread nD τ) none) Set.univ (k0_part17 (F := F) arg0 harg0 hbX (Memref.isWhole_whole _) arg2 harg2 arg3 harg3 arg4 harg4 scS (Memref.isWhole_whole _) scT (Memref.isWhole_whole _) scU (Memref.isWhole_whole _) cc0_scratch3 (vb (wv x G k 0) 0 14) (vb (wv x G k 0) 0 15) (vb (wv x G k 0) 0 16) (vb (wv x G k 0) 0 17) (vb (wv x G k 0) 0 18) (vb (wv x G k 0) 0 19) (vb (wv x G k 0) 0 20) (vb (wv x G k 0) 0 21) (vb (wv x G k 0) 0 22) (vb (wv x G k 0) 0 23) (vb (wv x G k 0) 0 24) (vb (wv x G k 0) 0 25) (vb (wv x G k 0) 0 26) (vb (wv x G k 0) 0 27) (vb (wv x G k 0) 0 28) (vb (wv x G k 0) 0 29) (vb (wv x G k 0) 0 30) (vb (wv x G k 0) 0 31) (vb (wv x G k 0) 1 0) (vb (wv x G k 0) 1 1) (vb (wv x G k 0) 1 2) (vb (wv x G k 0) 1 3) (vb (wv x G k 0) 1 4) (vb (wv x G k 0) 1 5) (vb (wv x G k 0) 1 6) (vb (wv x G k 0) 1 7) (vb (wv x G k 0) 1 8) (vb (wv x G k 0) 1 9) (vb (wv x G k 0) 1 10) (vb (wv x G k 0) 1 11) (vb (wv x G k 0) 1 12) (vb (wv x G k 0) 1 13) (vb (wv x G k 0) 1 14)) Q := by
  rw [k0_part17_eq_skeleton]; unfold k0_part17_skel
  simp only [wp_bind]
  iintro ⟨HU, Hk⟩
  iapply le_wp_ret
  iapply Hk
  isplitr; · ipureintro; rfl
  iexact HU

set_option maxHeartbeats 2000000 in
/-- THE RUN of part 18 of the body. -/
theorem part18_run (k : Fin k0_t5_loop.trips) (hk : k.val < 56) (m : FVec F S8x256 .f32) {Q : (Σ' (v1703 : FVec F S8x128 .f32) (v1705 : FVec F S8x128 .f32) (v1707 : FVec F S8x128 .f32) (v1708 : FVec F S8x128 .f32) (v1709 : FVec F S8x128 .f32) (v1710 : FVec F S8x128 .f32) (v1711 : FVec F S8x128 .f32) (v1712 : FVec F S8x128 .f32) (v1713 : FVec F S8x128 .f32) (v1714 : FVec F S8x128 .f32) (v1715 : FVec F S8x128 .f32) (v1716 : FVec F S8x128 .f32) (v1717 : FVec F S8x128 .f32) (v1719 : FVec F S8x128 .f32) (v1721 : FVec F S8x128 .f32) (v1723 : FVec F S8x128 .f32) (v1724 : FVec F S8x128 .f32) (v1725 : FVec F S8x128 .f32) (v1726 : FVec F S8x128 .f32) (v1727 : FVec F S8x128 .f32) (v1728 : FVec F S8x128 .f32) (v1729 : FVec F S8x128 .f32) (v1730 : FVec F S8x128 .f32) (v1731 : FVec F S8x128 .f32) (v1732 : FVec F S8x128 .f32) (v1733 : FVec F S8x128 .f32) (v1734 : FVec F S8x128 .f32) (v1735 : FVec F S8x128 .f32) (v1736 : FVec F S8x128 .f32) (v1737 : FVec F S8x128 .f32) (v1738 : FVec F S8x128 .f32) (v1739 : FVec F S8x128 .f32), FVec F S8x128 .f32) → sProp (MT nD τ sig Unit (Elt F) ℕ (Pipeline.UD sig nD τ) ℕ)} :
    iprop(UX c x G k 0 ∗ (∀ r , iprop(⌜r = ⟨(vb (wv x G k 0) 4 8), (vb (wv x G k 0) 4 9), (vb (wv x G k 0) 4 10), (vb (wv x G k 0) 4 3), (vb (wv x G k 0) 4 11), (vb (wv x G k 0) 4 4), (vb (wv x G k 0) 4 12), (vb (wv x G k 0) 4 5), (vb (wv x G k 0) 4 13), (vb (wv x G k 0) 4 6), (vb (wv x G k 0) 4 14), (vb (wv x G k 0) 4 7), (vb (wv x G k 0) 4 15), (vb (wv x G k 0) 4 24), (vb (wv x G k 0) 4 25), (vb (wv x G k 0) 4 26), (vb (wv x G k 0) 4 19), (vb (wv x G k 0) 4 27), (vb (wv x G k 0) 4 20), (vb (wv x G k 0) 4 28), (vb (wv x G k 0) 4 21), (vb (wv x G k 0) 4 29), (vb (wv x G k 0) 4 22), (vb (wv x G k 0) 4 30), (vb (wv x G k 0) 4 23), (vb (wv x G k 0) 4 31), (vb (wv x G k 0) 5 0), (vb (wv x G k 0) 5 16), (vb (wv x G k 0) 5 1), (vb (wv x G k 0) 5 17), (vb (wv x G k 0) 5 2), (vb (wv x G k 0) 5 18), (vb (wv x G k 0) 5 3)⟩⌝ ∗ UX c x G k 0) -∗ Q r))
      ⊢ wp frame (wpE (defs₀ (F := F)) Variants.none (c : Thread nD τ) none) Set.univ (k0_part18 (F := F) arg0 harg0 hbX (Memref.isWhole_whole _) arg2 harg2 arg3 harg3 arg4 harg4 scS (Memref.isWhole_whole _) scT (Memref.isWhole_whole _) scU (Memref.isWhole_whole _) cc0_scratch3 (vb (wv x G k 0) 2 10) (vb (wv x G k 0) 2 9) (vb (wv x G k 0) 2 11) (vb (wv x G k 0) 2 14) (vb (wv x G k 0) 2 13) (vb (wv x G k 0) 2 15) (vb (wv x G k 0) 2 16) (vb (wv x G k 0) 2 18) (vb (wv x G k 0) 2 17) (vb (wv x G k 0) 2 19) (vb (wv x G k 0) 2 20) (vb (wv x G k 0) 2 22) (vb (wv x G k 0) 2 21) (vb (wv x G k 0) 2 23) (vb (wv x G k 0) 2 24) (vb (wv x G k 0) 2 26) (vb (wv x G k 0) 2 25) (vb (wv x G k 0) 2 27) (vb (wv x G k 0) 2 28) (vb (wv x G k 0) 2 30) (vb (wv x G k 0) 2 29) (vb (wv x G k 0) 2 31) (vb (wv x G k 0) 3 0) (vb (wv x G k 0) 3 4) (vb (wv x G k 0) 3 1) (vb (wv x G k 0) 3 5) (vb (wv x G k 0) 3 2) (vb (wv x G k 0) 3 6) (vb (wv x G k 0) 3 3) (vb (wv x G k 0) 3 7) (vb (wv x G k 0) 3 8) (vb (wv x G k 0) 3 12) (vb (wv x G k 0) 3 9)) Q := by
  rw [k0_part18_eq_skeleton]; unfold k0_part18_skel
  simp only [wp_bind]
  iintro ⟨HU, Hk⟩
  iapply le_wp_ret
  iapply Hk
  isplitr; · ipureintro; rfl
  iexact HU

set_option maxHeartbeats 2000000 in
/-- THE RUN of part 19 of the body. -/
theorem part19_run (k : Fin k0_t5_loop.trips) (hk : k.val < 56) (m : FVec F S8x256 .f32) (arg9 : BitVec 32) {Q : (Σ' (v1741 : FVec F S8x128 .f32) (v1742 : FVec F S8x128 .f32) (v1743 : FVec F S8x128 .f32) (v1744 : FVec F S8x128 .f32) (v1745 : FVec F S8x128 .f32) (v1746 : FVec F S8x128 .f32) (v1747 : FVec F S8x128 .f32) (v1748 : FVec F S8x128 .f32) (v1749 : FVec F S8x128 .f32) (v1750 : FVec F S8x128 .f32) (v1751 : FVec F S8x128 .f32) (v1752 : FVec F S8x128 .f32) (v1753 : FVec F S8x128 .f32) (v1754 : FVec F S8x128 .f32) (v1755 : FVec F S8x128 .f32) (v1756 : FVec F S8x128 .f32) (v1757 : FVec F S8x128 .f32) (v1758 : FVec F S8x128 .f32) (v1759 : FVec F S8x128 .f32) (v1760 : FVec F S8x128 .f32) (v1761 : FVec F S8x128 .f32) (v1762 : FVec F S8x128 .f32) (v1763 : FVec F S8x128 .f32) (v1764 : FVec F S8x128 .f32) (v1765 : FVec F S8x128 .f32) (v1787 : FVec F S8x128 .f32), BitVec 32) → sProp (MT nD τ sig Unit (Elt F) ℕ (Pipeline.UD sig nD τ) ℕ)} :
    iprop(UX c x G k 0 ∗ (∀ r d_c8_i32_1531, iprop(⌜r = ⟨(vb (wv x G k 0) 5 19), (vb (wv x G k 0) 5 4), (vb (wv x G k 0) 5 20), (vb (wv x G k 0) 5 5), (vb (wv x G k 0) 5 21), (vb (wv x G k 0) 5 6), (vb (wv x G k 0) 5 22), (vb (wv x G k 0) 5 7), (vb (wv x G k 0) 5 23), (vb (wv x G k 0) 5 8), (vb (wv x G k 0) 5 24), (vb (wv x G k 0) 5 9), (vb (wv x G k 0) 5 25), (vb (wv x G k 0) 5 10), (vb (wv x G k 0) 5 26), (vb (wv x G k 0) 5 11), (vb (wv x G k 0) 5 27), (vb (wv x G k 0) 5 12), (vb (wv x G k 0) 5 28), (vb (wv x G k 0) 5 13), (vb (wv x G k 0) 5 29), (vb (wv x G k 0) 5 14), (vb (wv x G k 0) 5 30), (vb (wv x G k 0) 5 15), (vb (wv x G k 0) 5 31), (mx (extractStridedSlice S8x128 ![0, 0] m slices_S8x256_o0_0_S8x128) (wv x G k 0) 3), d_c8_i32_1531⟩⌝ ∗ UX c x G k 3) -∗ Q r))
      ⊢ wp frame (wpE (defs₀ (F := F)) Variants.none (c : Thread nD τ) none) Set.univ (k0_part19 (F := F) arg0 harg0 hbX (Memref.isWhole_whole _) arg2 harg2 arg3 harg3 arg4 harg4 scS (Memref.isWhole_whole _) scT (Memref.isWhole_whole _) scU (Memref.isWhole_whole _) cc0_scratch3 k m arg9 (vb (wv x G k 0) 4 8) (vb (wv x G k 0) 4 9) (vb (wv x G k 0) 4 10) (vb (wv x G k 0) 4 3) (vb (wv x G k 0) 4 11) (vb (wv x G k 0) 4 4) (vb (wv x G k 0) 4 12) (vb (wv x G k 0) 4 5) (vb (wv x G k 0) 4 13) (vb (wv x G k 0) 4 6) (vb (wv x G k 0) 4 14) (vb (wv x G k 0) 4 7) (vb (wv x G k 0) 4 15) (vb (wv x G k 0) 4 24) (vb (wv x G k 0) 4 25) (vb (wv x G k 0) 4 26) (vb (wv x G k 0) 4 19) (vb (wv x G k 0) 4 27) (vb (wv x G k 0) 4 20) (vb (wv x G k 0) 4 28) (vb (wv x G k 0) 4 21) (vb (wv x G k 0) 4 29) (vb (wv x G k 0) 4 22) (vb (wv x G k 0) 4 30) (vb (wv x G k 0) 4 23) (vb (wv x G k 0) 4 31) (vb (wv x G k 0) 5 0) (vb (wv x G k 0) 5 1) (vb (wv x G k 0) 5 2)) Q := by
  rw [k0_part19_eq_skeleton]; unfold k0_part19_skel
  simp only [wp_bind]
  iintro ⟨HU, Hk⟩
  iapply (load_D c x G k 0)
  isplitl [HU]; · iexact HU
  iintro %v1769 HU
  iapply (store_W c x G k 0 0 0 hk (by decide) (by decide) (by decide) _ (off13_eq k) _ _ rfl)
  isplitl [HU]; · iexact HU
  iintro HU
  iapply (load_D c x G k 1)
  isplitl [HU]; · iexact HU
  iintro %v1776 HU
  iapply (store_W c x G k 1 0 1 hk (by decide) (by decide) (by decide) _ (off14_eq k) _ _ rfl)
  isplitl [HU]; · iexact HU
  iintro HU
  iapply (load_D c x G k 2)
  isplitl [HU]; · iexact HU
  iintro %v1783 HU
  iapply (store_W c x G k 2 0 2 hk (by decide) (by decide) (by decide) _ (off15_eq k) _ _ rfl)
  isplitl [HU]; · iexact HU
  iintro HU
  iapply le_wp_ret
  iapply Hk
  isplitr; · ipureintro; rfl
  iexact HU

set_option maxHeartbeats 2000000 in
/-- THE RUN of part 20 of the body. -/
theorem part20_run (k : Fin k0_t5_loop.trips) (hk : k.val < 56) (m : FVec F S8x256 .f32) (arg9 : BitVec 32) (c8_i32_1531 : BitVec 32) {Q : (Σ' (v1822 : FVec F S8x128 .f32), Vec F S1x8x128 .f32) → sProp (MT nD τ sig Unit (Elt F) ℕ (Pipeline.UD sig nD τ) ℕ)} :
    iprop(UX c x G k 3 ∗ (∀ r d_v1825, iprop(⌜r = ⟨(mx (extractStridedSlice S8x128 ![0, 0] m slices_S8x256_o0_0_S8x128) (wv x G k 0) 8), d_v1825⟩⌝ ∗ UX c x G k 8) -∗ Q r))
      ⊢ wp frame (wpE (defs₀ (F := F)) Variants.none (c : Thread nD τ) none) Set.univ (k0_part20 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 3) (vb (wv x G k 0) 5 4) (vb (wv x G k 0) 5 5) (vb (wv x G k 0) 5 6) (vb (wv x G k 0) 5 7) (mx (extractStridedSlice S8x128 ![0, 0] m slices_S8x256_o0_0_S8x128) (wv x G k 0) 3) c8_i32_1531) Q := by
  rw [k0_part20_eq_skeleton]; unfold k0_part20_skel
  simp only [wp_bind]
  iintro ⟨HU, Hk⟩
  iapply (load_D c x G k 3)
  isplitl [HU]; · iexact HU
  iintro %v1790 HU
  iapply (store_W c x G k 3 0 3 hk (by decide) (by decide) (by decide) _ (off16_eq k) _ _ rfl)
  isplitl [HU]; · iexact HU
  iintro HU
  iapply (load_D c x G k 4)
  isplitl [HU]; · iexact HU
  iintro %v1797 HU
  iapply (store_W c x G k 4 0 4 hk (by decide) (by decide) (by decide) _ (off17_eq k) _ _ rfl)
  isplitl [HU]; · iexact HU
  iintro HU
  iapply (load_D c x G k 5)
  isplitl [HU]; · iexact HU
  iintro %v1804 HU
  iapply (store_W c x G k 5 0 5 hk (by decide) (by decide) (by decide) _ (off18_eq k) _ _ rfl)
  isplitl [HU]; · iexact HU
  iintro HU
  iapply (load_D c x G k 6)
  isplitl [HU]; · iexact HU
  iintro %v1811 HU
  iapply (store_W c x G k 6 0 6 hk (by decide) (by decide) (by decide) _ (off19_eq k) _ _ rfl)
  isplitl [HU]; · iexact HU
  iintro HU
  iapply (load_D c x G k 7)
  isplitl [HU]; · iexact HU
  iintro %v1818 HU
  iapply (store_W c x G k 7 0 7 hk (by decide) (by decide) (by decide) _ (off20_eq k) _ _ rfl)
  isplitl [HU]; · iexact HU
  iintro HU
  iapply (load_D c x G k 8)
  isplitl [HU]; · iexact HU
  iintro %v1825 HU
  iapply le_wp_ret
  iapply Hk
  isplitr; · ipureintro; rfl
  iexact HU

set_option maxHeartbeats 2000000 in
/-- THE RUN of part 21 of the body. -/
theorem part21_run (k : Fin k0_t5_loop.trips) (hk : k.val < 56) (m : FVec F S8x256 .f32) (arg9 : BitVec 32) (v1825 : Vec F S1x8x128 .f32) {Q : (FVec F S8x128 .f32) → sProp (MT nD τ sig Unit (Elt F) ℕ (Pipeline.UD sig nD τ) ℕ)} :
    iprop(UX c x G k 8 ∗ (∀ r , iprop(⌜r = (mx (extractStridedSlice S8x128 ![0, 0] m slices_S8x256_o0_0_S8x128) (wv x G k 0) 14)⌝ ∗ UX c x G k 14) -∗ Q r))
      ⊢ wp frame (wpE (defs₀ (F := F)) Variants.none (c : Thread nD τ) none) Set.univ (k0_part21 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 8) (vb (wv x G k 0) 5 9) (vb (wv x G k 0) 5 10) (vb (wv x G k 0) 5 11) (vb (wv x G k 0) 5 12) (vb (wv x G k 0) 5 13) (mx (extractStridedSlice S8x128 ![0, 0] m slices_S8x256_o0_0_S8x128) (wv x G k 0) 8) v1825) Q := by
  rw [k0_part21_eq_skeleton]; unfold k0_part21_skel
  simp only [wp_bind]
  iintro ⟨HU, Hk⟩
  iapply (store_W c x G k 8 0 8 hk (by decide) (by decide) (by decide) _ (off21_eq k) _ _ rfl)
  isplitl [HU]; · iexact HU
  iintro HU
  iapply (load_D c x G k 9)
  isplitl [HU]; · iexact HU
  iintro %v1832 HU
  iapply (store_W c x G k 9 0 9 hk (by decide) (by decide) (by decide) _ (off22_eq k) _ _ rfl)
  isplitl [HU]; · iexact HU
  iintro HU
  iapply (load_D c x G k 10)
  isplitl [HU]; · iexact HU
  iintro %v1839 HU
  iapply (store_W c x G k 10 0 10 hk (by decide) (by decide) (by decide) _ (off23_eq k) _ _ rfl)
  isplitl [HU]; · iexact HU
  iintro HU
  iapply (load_D c x G k 11)
  isplitl [HU]; · iexact HU
  iintro %v1846 HU
  iapply (store_W c x G k 11 0 11 hk (by decide) (by decide) (by decide) _ (off24_eq k) _ _ rfl)
  isplitl [HU]; · iexact HU
  iintro HU
  iapply (load_D c x G k 12)
  isplitl [HU]; · iexact HU
  iintro %v1853 HU
  iapply (store_W c x G k 12 0 12 hk (by decide) (by decide) (by decide) _ (off25_eq k) _ _ rfl)
  isplitl [HU]; · iexact HU
  iintro HU
  iapply (load_D c x G k 13)
  isplitl [HU]; · iexact HU
  iintro %v1860 HU
  iapply (store_W c x G k 13 0 13 hk (by decide) (by decide) (by decide) _ (off26_eq k) _ _ rfl)
  isplitl [HU]; · iexact HU
  iintro HU
  iapply le_wp_ret
  iapply Hk
  isplitr; · ipureintro; rfl
  iexact HU

set_option maxHeartbeats 2000000 in
/-- THE RUN of part 22 of the body. -/
theorem part22_run (k : Fin k0_t5_loop.trips) (hk : k.val < 56) (m : FVec F S8x256 .f32) (arg9 : BitVec 32) {Q : (FVec F S8x128 .f32) → sProp (MT nD τ sig Unit (Elt F) ℕ (Pipeline.UD sig nD τ) ℕ)} :
    iprop(UX c x G k 14 ∗ (∀ r , iprop(⌜r = (mx (extractStridedSlice S8x128 ![0, 0] m slices_S8x256_o0_0_S8x128) (wv x G k 0) 19)⌝ ∗ UX c x G k 19) -∗ Q r))
      ⊢ wp frame (wpE (defs₀ (F := F)) Variants.none (c : Thread nD τ) none) Set.univ (k0_part22 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 16) (vb (wv x G k 0) 5 17) (vb (wv x G k 0) 5 18) (vb (wv x G k 0) 5 14) (vb (wv x G k 0) 5 15) (mx (extractStridedSlice S8x128 ![0, 0] m slices_S8x256_o0_0_S8x128) (wv x G k 0) 14)) Q := by
  rw [k0_part22_eq_skeleton]; unfold k0_part22_skel
  simp only [wp_bind]
  iintro ⟨HU, Hk⟩
  iapply (load_D c x G k 14)
  isplitl [HU]; · iexact HU
  iintro %v1867 HU
  iapply (store_W c x G k 14 0 14 hk (by decide) (by decide) (by decide) _ (off27_eq k) _ _ rfl)
  isplitl [HU]; · iexact HU
  iintro HU
  iapply (load_D c x G k 15)
  isplitl [HU]; · iexact HU
  iintro %v1874 HU
  iapply (store_W c x G k 15 0 15 hk (by decide) (by decide) (by decide) _ (off28_eq k) _ _ rfl)
  isplitl [HU]; · iexact HU
  iintro HU
  iapply (load_D c x G k 16)
  isplitl [HU]; · iexact HU
  iintro %v1881 HU
  iapply (store_W c x G k 16 0 16 hk (by decide) (by decide) (by decide) _ (off29_eq k) _ _ rfl)
  isplitl [HU]; · iexact HU
  iintro HU
  iapply (load_D c x G k 17)
  isplitl [HU]; · iexact HU
  iintro %v1888 HU
  iapply (store_W c x G k 17 0 17 hk (by decide) (by decide) (by decide) _ (off30_eq k) _ _ rfl)
  isplitl [HU]; · iexact HU
  iintro HU
  iapply (load_D c x G k 18)
  isplitl [HU]; · iexact HU
  iintro %v1895 HU
  iapply (store_W c x G k 18 0 18 hk (by decide) (by decide) (by decide) _ (off31_eq k) _ _ rfl)
  isplitl [HU]; · iexact HU
  iintro HU
  iapply le_wp_ret
  iapply Hk
  isplitr; · ipureintro; rfl
  iexact HU

set_option maxHeartbeats 2000000 in
/-- THE RUN of part 23 of the body. -/
theorem part23_run (k : Fin k0_t5_loop.trips) (hk : k.val < 56) (m : FVec F S8x256 .f32) (arg9 : BitVec 32) {Q : (Σ' (v1934 : FVec F S8x128 .f32), FVec F S8x128 .f32) → sProp (MT nD τ sig Unit (Elt F) ℕ (Pipeline.UD sig nD τ) ℕ)} :
    iprop(UX c x G k 19 ∗ (∀ r , iprop(⌜r = ⟨(mx (extractStridedSlice S8x128 ![0, 0] m slices_S8x256_o0_0_S8x128) (wv x G k 0) 24), (absf (vb (wv x G k 0) 5 24))⟩⌝ ∗ UX c x G k 25) -∗ Q r))
      ⊢ wp frame (wpE (defs₀ (F := F)) Variants.none (c : Thread nD τ) none) Set.univ (k0_part23 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 19) (vb (wv x G k 0) 5 20) (vb (wv x G k 0) 5 21) (vb (wv x G k 0) 5 22) (vb (wv x G k 0) 5 23) (vb (wv x G k 0) 5 24) (mx (extractStridedSlice S8x128 ![0, 0] m slices_S8x256_o0_0_S8x128) (wv x G k 0) 19)) Q := by
  rw [k0_part23_eq_skeleton]; unfold k0_part23_skel
  simp only [wp_bind]
  iintro ⟨HU, Hk⟩
  iapply (load_D c x G k 19)
  isplitl [HU]; · iexact HU
  iintro %v1902 HU
  iapply (store_W c x G k 19 0 19 hk (by decide) (by decide) (by decide) _ (off32_eq k) _ _ rfl)
  isplitl [HU]; · iexact HU
  iintro HU
  iapply (load_D c x G k 20)
  isplitl [HU]; · iexact HU
  iintro %v1909 HU
  iapply (store_W c x G k 20 0 20 hk (by decide) (by decide) (by decide) _ (off33_eq k) _ _ rfl)
  isplitl [HU]; · iexact HU
  iintro HU
  iapply (load_D c x G k 21)
  isplitl [HU]; · iexact HU
  iintro %v1916 HU
  iapply (store_W c x G k 21 0 21 hk (by decide) (by decide) (by decide) _ (off34_eq k) _ _ rfl)
  isplitl [HU]; · iexact HU
  iintro HU
  iapply (load_D c x G k 22)
  isplitl [HU]; · iexact HU
  iintro %v1923 HU
  iapply (store_W c x G k 22 0 22 hk (by decide) (by decide) (by decide) _ (off35_eq k) _ _ rfl)
  isplitl [HU]; · iexact HU
  iintro HU
  iapply (load_D c x G k 23)
  isplitl [HU]; · iexact HU
  iintro %v1930 HU
  iapply (store_W c x G k 23 0 23 hk (by decide) (by decide) (by decide) _ (off36_eq k) _ _ rfl)
  isplitl [HU]; · iexact HU
  iintro HU
  iapply (load_D c x G k 24)
  isplitl [HU]; · iexact HU
  iintro %v1937 HU
  iapply (store_W c x G k 24 0 24 hk (by decide) (by decide) (by decide) _ (off37_eq k) _ _ rfl)
  isplitl [HU]; · iexact HU
  iintro HU
  iapply le_wp_ret
  iapply Hk
  isplitr; · ipureintro; rfl
  iexact HU

set_option maxHeartbeats 2000000 in
/-- THE RUN of part 24 of the body. -/
theorem part24_run (k : Fin k0_t5_loop.trips) (hk : k.val < 56) (m : FVec F S8x256 .f32) (arg9 : BitVec 32) {Q : (FVec F S8x128 .f32) → sProp (MT nD τ sig Unit (Elt F) ℕ (Pipeline.UD sig nD τ) ℕ)} :
    iprop(UX c x G k 25 ∗ (∀ r , iprop(⌜r = (mx (extractStridedSlice S8x128 ![0, 0] m slices_S8x256_o0_0_S8x128) (wv x G k 0) 30)⌝ ∗ UX c x G k 30) -∗ Q r))
      ⊢ wp frame (wpE (defs₀ (F := F)) Variants.none (c : Thread nD τ) none) Set.univ (k0_part24 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 25) (vb (wv x G k 0) 5 26) (vb (wv x G k 0) 5 27) (vb (wv x G k 0) 5 28) (vb (wv x G k 0) 5 29) (mx (extractStridedSlice S8x128 ![0, 0] m slices_S8x256_o0_0_S8x128) (wv x G k 0) 24) (absf (vb (wv x G k 0) 5 24))) Q := by
  rw [k0_part24_eq_skeleton]; unfold k0_part24_skel
  simp only [wp_bind]
  iintro ⟨HU, Hk⟩
  iapply (load_D c x G k 25)
  isplitl [HU]; · iexact HU
  iintro %v1944 HU
  iapply (store_W c x G k 25 0 25 hk (by decide) (by decide) (by decide) _ (off38_eq k) _ _ rfl)
  isplitl [HU]; · iexact HU
  iintro HU
  iapply (load_D c x G k 26)
  isplitl [HU]; · iexact HU
  iintro %v1951 HU
  iapply (store_W c x G k 26 0 26 hk (by decide) (by decide) (by decide) _ (off39_eq k) _ _ rfl)
  isplitl [HU]; · iexact HU
  iintro HU
  iapply (load_D c x G k 27)
  isplitl [HU]; · iexact HU
  iintro %v1958 HU
  iapply (store_W c x G k 27 0 27 hk (by decide) (by decide) (by decide) _ (off40_eq k) _ _ rfl)
  isplitl [HU]; · iexact HU
  iintro HU
  iapply (load_D c x G k 28)
  isplitl [HU]; · iexact HU
  iintro %v1965 HU
  iapply (store_W c x G k 28 0 28 hk (by decide) (by decide) (by decide) _ (off41_eq k) _ _ rfl)
  isplitl [HU]; · iexact HU
  iintro HU
  iapply (load_D c x G k 29)
  isplitl [HU]; · iexact HU
  iintro %v1972 HU
  iapply (store_W c x G k 29 0 29 hk (by decide) (by decide) (by decide) _ (off42_eq k) _ _ rfl)
  isplitl [HU]; · iexact HU
  iintro HU
  iapply le_wp_ret
  iapply Hk
  isplitr; · ipureintro; rfl
  iexact HU

set_option maxHeartbeats 2000000 in
/-- THE RUN of part 25 of the body. -/
theorem part25_run (k : Fin k0_t5_loop.trips) (hk : k.val < 56) (m : FVec F S8x256 .f32) (arg9 : BitVec 32) {Q : (Σ' (v1990 : FVec F S8x128 .f32) (v1994 : FVec F S8x128 .f32) (v1998 : FVec F S8x128 .f32) (v2002 : FVec F S8x128 .f32) (v2006 : FVec F S8x128 .f32) (v2010 : FVec F S8x128 .f32), FVec F S8x128 .f32) → sProp (MT nD τ sig Unit (Elt F) ℕ (Pipeline.UD sig nD τ) ℕ)} :
    iprop(UX c x G k 30 ∗ (∀ r , iprop(⌜r = ⟨(mx (extractStridedSlice S8x128 ![0, 0] m slices_S8x256_o0_0_S8x128) (wv x G k 0) 32), (vb (wv x G k 1) 0 0), (vb (wv x G k 1) 0 1), (vb (wv x G k 1) 0 2), (vb (wv x G k 1) 0 3), (vb (wv x G k 1) 0 4), (vb (wv x G k 1) 0 5)⟩⌝ ∗ UX c x G k 32) -∗ Q r))
      ⊢ wp frame (wpE (defs₀ (F := F)) Variants.none (c : Thread nD τ) none) Set.univ (k0_part25 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 0) 5 30) (vb (wv x G k 0) 5 31) (mx (extractStridedSlice S8x128 ![0, 0] m slices_S8x256_o0_0_S8x128) (wv x G k 0) 30)) Q := by
  rw [k0_part25_eq_skeleton]; unfold k0_part25_skel
  simp only [wp_bind]
  iintro ⟨HU, Hk⟩
  iapply (load_D c x G k 30)
  isplitl [HU]; · iexact HU
  iintro %v1979 HU
  iapply (store_W c x G k 30 0 30 hk (by decide) (by decide) (by decide) _ (off43_eq k) _ _ rfl)
  isplitl [HU]; · iexact HU
  iintro HU
  iapply (load_D c x G k 31)
  isplitl [HU]; · iexact HU
  iintro %v1986 HU
  iapply (store_W c x G k 31 0 31 hk (by decide) (by decide) (by decide) _ (off44_eq k) _ _ rfl)
  isplitl [HU]; · iexact HU
  iintro HU
  iapply (load_W c x G k 32 1 0 hk (by decide) (by decide) (by decide) _ (off45_eq k))
  isplitl [HU]; · iexact HU
  iintro HU
  iapply (load_W c x G k 32 1 1 hk (by decide) (by decide) (by decide) _ (off46_eq k))
  isplitl [HU]; · iexact HU
  iintro HU
  iapply (load_W c x G k 32 1 2 hk (by decide) (by decide) (by decide) _ (off47_eq k))
  isplitl [HU]; · iexact HU
  iintro HU
  iapply (load_W c x G k 32 1 3 hk (by decide) (by decide) (by decide) _ (off48_eq k))
  isplitl [HU]; · iexact HU
  iintro HU
  iapply (load_W c x G k 32 1 4 hk (by decide) (by decide) (by decide) _ (off49_eq k))
  isplitl [HU]; · iexact HU
  iintro HU
  iapply (load_W c x G k 32 1 5 hk (by decide) (by decide) (by decide) _ (off50_eq k))
  isplitl [HU]; · iexact HU
  iintro HU
  iapply le_wp_ret
  iapply Hk
  isplitr; · ipureintro; rfl
  iexact HU

set_option maxHeartbeats 2000000 in
/-- THE RUN of part 26 of the body. -/
theorem part26_run (k : Fin k0_t5_loop.trips) (hk : k.val < 56) (m : FVec F S8x256 .f32) (arg9 : BitVec 32) {Q : (Σ' (v2018 : FVec F S8x128 .f32) (v2022 : FVec F S8x128 .f32) (v2026 : FVec F S8x128 .f32) (v2030 : FVec F S8x128 .f32) (v2034 : FVec F S8x128 .f32) (v2038 : FVec F S8x128 .f32) (v2042 : FVec F S8x128 .f32), FVec F S8x128 .f32) → sProp (MT nD τ sig Unit (Elt F) ℕ (Pipeline.UD sig nD τ) ℕ)} :
    iprop(UX c x G k 32 ∗ (∀ r , iprop(⌜r = ⟨(vb (wv x G k 1) 0 6), (vb (wv x G k 1) 0 7), (vb (wv x G k 1) 0 8), (vb (wv x G k 1) 0 9), (vb (wv x G k 1) 0 10), (vb (wv x G k 1) 0 11), (vb (wv x G k 1) 0 12), (vb (wv x G k 1) 0 13)⟩⌝ ∗ UX c x G k 32) -∗ Q r))
      ⊢ wp frame (wpE (defs₀ (F := F)) Variants.none (c : Thread nD τ) none) Set.univ (k0_part26 (F := F) arg0 harg0 hbX (Memref.isWhole_whole _) arg2 harg2 arg3 harg3 arg4 harg4 scS (Memref.isWhole_whole _) scT (Memref.isWhole_whole _) scU (Memref.isWhole_whole _) cc0_scratch3 k arg9) Q := by
  rw [k0_part26_eq_skeleton]; unfold k0_part26_skel
  simp only [wp_bind]
  iintro ⟨HU, Hk⟩
  iapply (load_W c x G k 32 1 6 hk (by decide) (by decide) (by decide) _ (off51_eq k))
  isplitl [HU]; · iexact HU
  iintro HU
  iapply (load_W c x G k 32 1 7 hk (by decide) (by decide) (by decide) _ (off52_eq k))
  isplitl [HU]; · iexact HU
  iintro HU
  iapply (load_W c x G k 32 1 8 hk (by decide) (by decide) (by decide) _ (off53_eq k))
  isplitl [HU]; · iexact HU
  iintro HU
  iapply (load_W c x G k 32 1 9 hk (by decide) (by decide) (by decide) _ (off54_eq k))
  isplitl [HU]; · iexact HU
  iintro HU
  iapply (load_W c x G k 32 1 10 hk (by decide) (by decide) (by decide) _ (off55_eq k))
  isplitl [HU]; · iexact HU
  iintro HU
  iapply (load_W c x G k 32 1 11 hk (by decide) (by decide) (by decide) _ (off56_eq k))
  isplitl [HU]; · iexact HU
  iintro HU
  iapply (load_W c x G k 32 1 12 hk (by decide) (by decide) (by decide) _ (off57_eq k))
  isplitl [HU]; · iexact HU
  iintro HU
  iapply (load_W c x G k 32 1 13 hk (by decide) (by decide) (by decide) _ (off58_eq k))
  isplitl [HU]; · iexact HU
  iintro HU
  iapply le_wp_ret
  iapply Hk
  isplitr; · ipureintro; rfl
  iexact HU

set_option maxHeartbeats 2000000 in
/-- THE RUN of part 27 of the body. -/
theorem part27_run (k : Fin k0_t5_loop.trips) (hk : k.val < 56) (m : FVec F S8x256 .f32) (arg9 : BitVec 32) {Q : (Σ' (v2050 : FVec F S8x128 .f32) (v2054 : FVec F S8x128 .f32) (v2058 : FVec F S8x128 .f32) (v2062 : FVec F S8x128 .f32) (v2066 : FVec F S8x128 .f32) (v2070 : FVec F S8x128 .f32) (v2074 : FVec F S8x128 .f32) (v2078 : FVec F S8x128 .f32) (v2082 : FVec F S8x128 .f32), BitVec 32) → sProp (MT nD τ sig Unit (Elt F) ℕ (Pipeline.UD sig nD τ) ℕ)} :
    iprop(UX c x G k 32 ∗ (∀ r d_c8_i32_1686, iprop(⌜r = ⟨(vb (wv x G k 1) 0 14), (vb (wv x G k 1) 0 15), (vb (wv x G k 1) 0 16), (vb (wv x G k 1) 0 17), (vb (wv x G k 1) 0 18), (vb (wv x G k 1) 0 19), (vb (wv x G k 1) 0 20), (vb (wv x G k 1) 0 21), (vb (wv x G k 1) 0 22), d_c8_i32_1686⟩⌝ ∗ UX c x G k 32) -∗ Q r))
      ⊢ wp frame (wpE (defs₀ (F := F)) Variants.none (c : Thread nD τ) none) Set.univ (k0_part27 (F := F) arg0 harg0 hbX (Memref.isWhole_whole _) arg2 harg2 arg3 harg3 arg4 harg4 scS (Memref.isWhole_whole _) scT (Memref.isWhole_whole _) scU (Memref.isWhole_whole _) cc0_scratch3 k arg9) Q := by
  rw [k0_part27_eq_skeleton]; unfold k0_part27_skel
  simp only [wp_bind]
  iintro ⟨HU, Hk⟩
  iapply (load_W c x G k 32 1 14 hk (by decide) (by decide) (by decide) _ (off59_eq k))
  isplitl [HU]; · iexact HU
  iintro HU
  iapply (load_W c x G k 32 1 15 hk (by decide) (by decide) (by decide) _ (off60_eq k))
  isplitl [HU]; · iexact HU
  iintro HU
  iapply (load_W c x G k 32 1 16 hk (by decide) (by decide) (by decide) _ (off61_eq k))
  isplitl [HU]; · iexact HU
  iintro HU
  iapply (load_W c x G k 32 1 17 hk (by decide) (by decide) (by decide) _ (off62_eq k))
  isplitl [HU]; · iexact HU
  iintro HU
  iapply (load_W c x G k 32 1 18 hk (by decide) (by decide) (by decide) _ (off63_eq k))
  isplitl [HU]; · iexact HU
  iintro HU
  iapply (load_W c x G k 32 1 19 hk (by decide) (by decide) (by decide) _ (off64_eq k))
  isplitl [HU]; · iexact HU
  iintro HU
  iapply (load_W c x G k 32 1 20 hk (by decide) (by decide) (by decide) _ (off65_eq k))
  isplitl [HU]; · iexact HU
  iintro HU
  iapply (load_W c x G k 32 1 21 hk (by decide) (by decide) (by decide) _ (off66_eq k))
  isplitl [HU]; · iexact HU
  iintro HU
  iapply (load_W c x G k 32 1 22 hk (by decide) (by decide) (by decide) _ (off67_eq k))
  isplitl [HU]; · iexact HU
  iintro HU
  iapply le_wp_ret
  iapply Hk
  isplitr; · ipureintro; rfl
  iexact HU

set_option maxHeartbeats 2000000 in
/-- THE RUN of part 28 of the body. -/
theorem part28_run (k : Fin k0_t5_loop.trips) (hk : k.val < 56) (m : FVec F S8x256 .f32) (arg9 : BitVec 32) (c8_i32_1686 : BitVec 32) {Q : (Σ' (v2086 : FVec F S8x128 .f32) (v2090 : FVec F S8x128 .f32) (v2094 : FVec F S8x128 .f32) (v2098 : FVec F S8x128 .f32) (v2102 : FVec F S8x128 .f32) (v2106 : FVec F S8x128 .f32) (v2110 : FVec F S8x128 .f32), FVec F S8x128 .f32) → sProp (MT nD τ sig Unit (Elt F) ℕ (Pipeline.UD sig nD τ) ℕ)} :
    iprop(UX c x G k 32 ∗ (∀ r , iprop(⌜r = ⟨(vb (wv x G k 1) 0 23), (vb (wv x G k 1) 0 24), (vb (wv x G k 1) 0 25), (vb (wv x G k 1) 0 26), (vb (wv x G k 1) 0 27), (vb (wv x G k 1) 0 28), (vb (wv x G k 1) 0 29), (vb (wv x G k 1) 0 30)⟩⌝ ∗ UX c x G k 32) -∗ Q r))
      ⊢ wp frame (wpE (defs₀ (F := F)) Variants.none (c : Thread nD τ) none) Set.univ (k0_part28 (F := F) arg0 harg0 hbX (Memref.isWhole_whole _) arg2 harg2 arg3 harg3 arg4 harg4 scS (Memref.isWhole_whole _) scT (Memref.isWhole_whole _) scU (Memref.isWhole_whole _) cc0_scratch3 k arg9 c8_i32_1686) Q := by
  rw [k0_part28_eq_skeleton]; unfold k0_part28_skel
  simp only [wp_bind]
  iintro ⟨HU, Hk⟩
  iapply (load_W c x G k 32 1 23 hk (by decide) (by decide) (by decide) _ (off68_eq k))
  isplitl [HU]; · iexact HU
  iintro HU
  iapply (load_W c x G k 32 1 24 hk (by decide) (by decide) (by decide) _ (off69_eq k))
  isplitl [HU]; · iexact HU
  iintro HU
  iapply (load_W c x G k 32 1 25 hk (by decide) (by decide) (by decide) _ (off70_eq k))
  isplitl [HU]; · iexact HU
  iintro HU
  iapply (load_W c x G k 32 1 26 hk (by decide) (by decide) (by decide) _ (off71_eq k))
  isplitl [HU]; · iexact HU
  iintro HU
  iapply (load_W c x G k 32 1 27 hk (by decide) (by decide) (by decide) _ (off72_eq k))
  isplitl [HU]; · iexact HU
  iintro HU
  iapply (load_W c x G k 32 1 28 hk (by decide) (by decide) (by decide) _ (off73_eq k))
  isplitl [HU]; · iexact HU
  iintro HU
  iapply (load_W c x G k 32 1 29 hk (by decide) (by decide) (by decide) _ (off74_eq k))
  isplitl [HU]; · iexact HU
  iintro HU
  iapply (load_W c x G k 32 1 30 hk (by decide) (by decide) (by decide) _ (off75_eq k))
  isplitl [HU]; · iexact HU
  iintro HU
  iapply le_wp_ret
  iapply Hk
  isplitr; · ipureintro; rfl
  iexact HU

set_option maxHeartbeats 2000000 in
/-- THE RUN of part 29 of the body. -/
theorem part29_run (k : Fin k0_t5_loop.trips) (hk : k.val < 56) (m : FVec F S8x256 .f32) {Q : (Σ' (v2144 : FVec F S8x128 .f32) (v2146 : FVec F S8x128 .f32) (v2147 : FVec F S8x128 .f32) (v2148 : FVec F S8x128 .f32) (v2149 : FVec F S8x128 .f32) (v2150 : FVec F S8x128 .f32) (v2151 : FVec F S8x128 .f32) (v2152 : FVec F S8x128 .f32) (v2153 : FVec F S8x128 .f32) (v2154 : FVec F S8x128 .f32) (v2155 : FVec F S8x128 .f32) (v2156 : FVec F S8x128 .f32) (v2157 : FVec F S8x128 .f32) (v2158 : FVec F S8x128 .f32) (v2159 : FVec F S8x128 .f32) (v2160 : FVec F S8x128 .f32) (v2161 : FVec F S8x128 .f32) (v2162 : FVec F S8x128 .f32) (v2163 : FVec F S8x128 .f32) (v2164 : FVec F S8x128 .f32) (v2165 : FVec F S8x128 .f32) (v2166 : FVec F S8x128 .f32) (v2167 : FVec F S8x128 .f32) (v2168 : FVec F S8x128 .f32) (v2169 : FVec F S8x128 .f32) (v2170 : FVec F S8x128 .f32) (v2171 : FVec F S8x128 .f32) (v2172 : FVec F S8x128 .f32) (v2173 : FVec F S8x128 .f32) (v2174 : FVec F S8x128 .f32) (v2175 : FVec F S8x128 .f32), FVec F S8x128 .f32) → sProp (MT nD τ sig Unit (Elt F) ℕ (Pipeline.UD sig nD τ) ℕ)} :
    iprop(UX c x G k 32 ∗ (∀ r , iprop(⌜r = ⟨(vb (wv x G k 1) 1 25), (vb (wv x G k 1) 1 27), (vb (wv x G k 1) 1 28), (vb (wv x G k 1) 1 29), (vb (wv x G k 1) 1 30), (vb (wv x G k 1) 1 31), (vb (wv x G k 1) 2 0), (vb (wv x G k 1) 2 2), (vb (wv x G k 1) 2 1), (vb (wv x G k 1) 2 3), (vb (wv x G k 1) 2 4), (vb (wv x G k 1) 2 6), (vb (wv x G k 1) 2 5), (vb (wv x G k 1) 2 7), (vb (wv x G k 1) 2 8), (vb (wv x G k 1) 2 10), (vb (wv x G k 1) 2 9), (vb (wv x G k 1) 2 11), (vb (wv x G k 1) 2 12), (vb (wv x G k 1) 2 14), (vb (wv x G k 1) 2 13), (vb (wv x G k 1) 2 15), (vb (wv x G k 1) 2 16), (vb (wv x G k 1) 2 18), (vb (wv x G k 1) 2 17), (vb (wv x G k 1) 2 19), (vb (wv x G k 1) 2 20), (vb (wv x G k 1) 2 22), (vb (wv x G k 1) 2 21), (vb (wv x G k 1) 2 23), (vb (wv x G k 1) 2 24), (vb (wv x G k 1) 2 26)⟩⌝ ∗ UX c x G k 32) -∗ Q r))
      ⊢ wp frame (wpE (defs₀ (F := F)) Variants.none (c : Thread nD τ) none) Set.univ (k0_part29 (F := F) arg0 harg0 hbX (Memref.isWhole_whole _) arg2 harg2 arg3 harg3 arg4 harg4 scS (Memref.isWhole_whole _) scT (Memref.isWhole_whole _) scU (Memref.isWhole_whole _) cc0_scratch3 k (vb (wv x G k 1) 0 0) (vb (wv x G k 1) 0 1) (vb (wv x G k 1) 0 2) (vb (wv x G k 1) 0 3) (vb (wv x G k 1) 0 4) (vb (wv x G k 1) 0 5) (vb (wv x G k 1) 0 6) (vb (wv x G k 1) 0 7) (vb (wv x G k 1) 0 8) (vb (wv x G k 1) 0 9) (vb (wv x G k 1) 0 10) (vb (wv x G k 1) 0 11) (vb (wv x G k 1) 0 12) (vb (wv x G k 1) 0 13) (vb (wv x G k 1) 0 14) (vb (wv x G k 1) 0 15) (vb (wv x G k 1) 0 16) (vb (wv x G k 1) 0 17) (vb (wv x G k 1) 0 18) (vb (wv x G k 1) 0 19) (vb (wv x G k 1) 0 20) (vb (wv x G k 1) 0 21) (vb (wv x G k 1) 0 22) (vb (wv x G k 1) 0 23) (vb (wv x G k 1) 0 24) (vb (wv x G k 1) 0 25) (vb (wv x G k 1) 0 26) (vb (wv x G k 1) 0 27) (vb (wv x G k 1) 0 28) (vb (wv x G k 1) 0 29) (vb (wv x G k 1) 0 30)) Q := by
  rw [k0_part29_eq_skeleton]; unfold k0_part29_skel
  simp only [wp_bind]
  iintro ⟨HU, Hk⟩
  iapply (load_W c x G k 32 1 31 hk (by decide) (by decide) (by decide) _ (off76_eq k))
  isplitl [HU]; · iexact HU
  iintro HU
  iapply le_wp_ret
  iapply Hk
  isplitr; · ipureintro; rfl
  iexact HU

set_option maxHeartbeats 2000000 in
/-- THE RUN of part 30 of the body. -/
theorem part30_run (k : Fin k0_t5_loop.trips) (hk : k.val < 56) (m : FVec F S8x256 .f32) {Q : (Σ' (v2200 : FVec F S8x128 .f32) (v2202 : FVec F S8x128 .f32) (v2204 : FVec F S8x128 .f32) (v2205 : FVec F S8x128 .f32) (v2206 : FVec F S8x128 .f32) (v2208 : FVec F S8x128 .f32) (v2210 : FVec F S8x128 .f32) (v2212 : FVec F S8x128 .f32) (v2213 : FVec F S8x128 .f32) (v2214 : FVec F S8x128 .f32) (v2215 : FVec F S8x128 .f32) (v2216 : FVec F S8x128 .f32) (v2217 : FVec F S8x128 .f32) (v2218 : FVec F S8x128 .f32) (v2219 : FVec F S8x128 .f32) (v2220 : FVec F S8x128 .f32) (v2221 : FVec F S8x128 .f32) (v2222 : FVec F S8x128 .f32) (v2223 : FVec F S8x128 .f32) (v2224 : FVec F S8x128 .f32) (v2225 : FVec F S8x128 .f32) (v2226 : FVec F S8x128 .f32) (v2227 : FVec F S8x128 .f32) (v2228 : FVec F S8x128 .f32) (v2229 : FVec F S8x128 .f32) (v2230 : FVec F S8x128 .f32) (v2231 : FVec F S8x128 .f32) (v2232 : FVec F S8x128 .f32) (v2233 : FVec F S8x128 .f32) (v2234 : FVec F S8x128 .f32) (v2235 : FVec F S8x128 .f32), FVec F S8x128 .f32) → sProp (MT nD τ sig Unit (Elt F) ℕ (Pipeline.UD sig nD τ) ℕ)} :
    iprop(UX c x G k 32 ∗ (∀ r , iprop(⌜r = ⟨(vb (wv x G k 1) 3 20), (vb (wv x G k 1) 3 21), (vb (wv x G k 1) 3 22), (vb (wv x G k 1) 3 19), (vb (wv x G k 1) 3 23), (vb (wv x G k 1) 3 28), (vb (wv x G k 1) 3 29), (vb (wv x G k 1) 3 30), (vb (wv x G k 1) 3 27), (vb (wv x G k 1) 3 31), (vb (wv x G k 1) 4 0), (vb (wv x G k 1) 4 8), (vb (wv x G k 1) 4 1), (vb (wv x G k 1) 4 9), (vb (wv x G k 1) 4 2), (vb (wv x G k 1) 4 10), (vb (wv x G k 1) 4 3), (vb (wv x G k 1) 4 11), (vb (wv x G k 1) 4 4), (vb (wv x G k 1) 4 12), (vb (wv x G k 1) 4 5), (vb (wv x G k 1) 4 13), (vb (wv x G k 1) 4 6), (vb (wv x G k 1) 4 14), (vb (wv x G k 1) 4 7), (vb (wv x G k 1) 4 15), (vb (wv x G k 1) 4 16), (vb (wv x G k 1) 4 24), (vb (wv x G k 1) 4 17), (vb (wv x G k 1) 4 25), (vb (wv x G k 1) 4 18), (vb (wv x G k 1) 4 26)⟩⌝ ∗ UX c x G k 32) -∗ Q r))
      ⊢ wp frame (wpE (defs₀ (F := F)) Variants.none (c : Thread nD τ) none) Set.univ (k0_part30 (F := F) arg0 harg0 hbX (Memref.isWhole_whole _) arg2 harg2 arg3 harg3 arg4 harg4 scS (Memref.isWhole_whole _) scT (Memref.isWhole_whole _) scU (Memref.isWhole_whole _) cc0_scratch3 (vb (wv x G k 1) 1 25) (vb (wv x G k 1) 1 27) (vb (wv x G k 1) 1 28) (vb (wv x G k 1) 1 29) (vb (wv x G k 1) 1 30) (vb (wv x G k 1) 1 31) (vb (wv x G k 1) 2 0) (vb (wv x G k 1) 2 2) (vb (wv x G k 1) 2 1) (vb (wv x G k 1) 2 3) (vb (wv x G k 1) 2 4) (vb (wv x G k 1) 2 6) (vb (wv x G k 1) 2 5) (vb (wv x G k 1) 2 7) (vb (wv x G k 1) 2 8) (vb (wv x G k 1) 2 10) (vb (wv x G k 1) 2 9) (vb (wv x G k 1) 2 11) (vb (wv x G k 1) 2 12) (vb (wv x G k 1) 2 14) (vb (wv x G k 1) 2 13) (vb (wv x G k 1) 2 15) (vb (wv x G k 1) 2 16) (vb (wv x G k 1) 2 18) (vb (wv x G k 1) 2 17) (vb (wv x G k 1) 2 19) (vb (wv x G k 1) 2 20) (vb (wv x G k 1) 2 22) (vb (wv x G k 1) 2 21) (vb (wv x G k 1) 2 23) (vb (wv x G k 1) 2 24) (vb (wv x G k 1) 2 26)) Q := by
  rw [k0_part30_eq_skeleton]; unfold k0_part30_skel
  simp only [wp_bind]
  iintro ⟨HU, Hk⟩
  iapply le_wp_ret
  iapply Hk
  isplitr; · ipureintro; rfl
  iexact HU

set_option maxHeartbeats 2000000 in
/-- THE RUN of part 31 of the body. -/
theorem part31_run (k : Fin k0_t5_loop.trips) (hk : k.val < 56) (m : FVec F S8x256 .f32) (arg9 : BitVec 32) {Q : (Σ' (v2248 : FVec F S8x128 .f32) (v2249 : FVec F S8x128 .f32) (v2250 : FVec F S8x128 .f32) (v2251 : FVec F S8x128 .f32) (v2252 : FVec F S8x128 .f32) (v2253 : FVec F S8x128 .f32) (v2254 : FVec F S8x128 .f32) (v2255 : FVec F S8x128 .f32) (v2256 : FVec F S8x128 .f32) (v2257 : FVec F S8x128 .f32) (v2258 : FVec F S8x128 .f32) (v2259 : FVec F S8x128 .f32) (v2260 : FVec F S8x128 .f32) (v2261 : FVec F S8x128 .f32) (v2262 : FVec F S8x128 .f32) (v2263 : FVec F S8x128 .f32) (v2264 : FVec F S8x128 .f32) (v2265 : FVec F S8x128 .f32) (v2266 : FVec F S8x128 .f32) (v2267 : FVec F S8x128 .f32) (v2268 : FVec F S8x128 .f32) (v2269 : FVec F S8x128 .f32) (v2270 : FVec F S8x128 .f32) (v2271 : FVec F S8x128 .f32) (v2272 : FVec F S8x128 .f32) (v2273 : FVec F S8x128 .f32) (v2274 : FVec F S8x128 .f32) (v2275 : FVec F S8x128 .f32) (v2276 : FVec F S8x128 .f32) (v2277 : FVec F S8x128 .f32) (v2278 : FVec F S8x128 .f32) (v2286 : FVec F S8x128 .f32), Vec F S1x8x128 .f32) → sProp (MT nD τ sig Unit (Elt F) ℕ (Pipeline.UD sig nD τ) ℕ)} :
    iprop(UX c x G k 32 ∗ (∀ r d_v2289, iprop(⌜r = ⟨(vb (wv x G k 1) 5 16), (vb (wv x G k 1) 5 1), (vb (wv x G k 1) 5 17), (vb (wv x G k 1) 5 2), (vb (wv x G k 1) 5 18), (vb (wv x G k 1) 5 3), (vb (wv x G k 1) 5 19), (vb (wv x G k 1) 5 4), (vb (wv x G k 1) 5 20), (vb (wv x G k 1) 5 5), (vb (wv x G k 1) 5 21), (vb (wv x G k 1) 5 6), (vb (wv x G k 1) 5 22), (vb (wv x G k 1) 5 7), (vb (wv x G k 1) 5 23), (vb (wv x G k 1) 5 8), (vb (wv x G k 1) 5 24), (vb (wv x G k 1) 5 9), (vb (wv x G k 1) 5 25), (vb (wv x G k 1) 5 10), (vb (wv x G k 1) 5 26), (vb (wv x G k 1) 5 11), (vb (wv x G k 1) 5 27), (vb (wv x G k 1) 5 12), (vb (wv x G k 1) 5 28), (vb (wv x G k 1) 5 13), (vb (wv x G k 1) 5 29), (vb (wv x G k 1) 5 14), (vb (wv x G k 1) 5 30), (vb (wv x G k 1) 5 15), (vb (wv x G k 1) 5 31), (mx (extractStridedSlice S8x128 ![0, 128] m slices_S8x256_o0_128_S8x128) (wv x G k 1) 1), d_v2289⟩⌝ ∗ UX c x G k 33) -∗ Q r))
      ⊢ wp frame (wpE (defs₀ (F := F)) Variants.none (c : Thread nD τ) none) Set.univ (k0_part31 (F := F) arg0 harg0 hbX (Memref.isWhole_whole _) arg2 harg2 arg3 harg3 arg4 harg4 scS (Memref.isWhole_whole _) scT (Memref.isWhole_whole _) scU (Memref.isWhole_whole _) cc0_scratch3 k m arg9 (vb (wv x G k 1) 3 20) (vb (wv x G k 1) 3 21) (vb (wv x G k 1) 3 22) (vb (wv x G k 1) 3 19) (vb (wv x G k 1) 3 23) (vb (wv x G k 1) 3 28) (vb (wv x G k 1) 3 29) (vb (wv x G k 1) 3 30) (vb (wv x G k 1) 3 27) (vb (wv x G k 1) 3 31) (vb (wv x G k 1) 4 0) (vb (wv x G k 1) 4 8) (vb (wv x G k 1) 4 1) (vb (wv x G k 1) 4 9) (vb (wv x G k 1) 4 2) (vb (wv x G k 1) 4 10) (vb (wv x G k 1) 4 3) (vb (wv x G k 1) 4 11) (vb (wv x G k 1) 4 4) (vb (wv x G k 1) 4 12) (vb (wv x G k 1) 4 5) (vb (wv x G k 1) 4 13) (vb (wv x G k 1) 4 6) (vb (wv x G k 1) 4 14) (vb (wv x G k 1) 4 7) (vb (wv x G k 1) 4 15) (vb (wv x G k 1) 4 16) (vb (wv x G k 1) 4 24) (vb (wv x G k 1) 4 17) (vb (wv x G k 1) 4 25) (vb (wv x G k 1) 4 18) (vb (wv x G k 1) 4 26)) Q := by
  rw [k0_part31_eq_skeleton]; unfold k0_part31_skel
  simp only [wp_bind]
  iintro ⟨HU, Hk⟩
  iapply (load_D c x G k 32)
  isplitl [HU]; · iexact HU
  iintro %v2282 HU
  iapply (store_W c x G k 32 1 0 hk (by decide) (by decide) (by decide) _ (off45_eq k) _ _ rfl)
  isplitl [HU]; · iexact HU
  iintro HU
  iapply (load_D c x G k 33)
  isplitl [HU]; · iexact HU
  iintro %v2289 HU
  iapply le_wp_ret
  iapply Hk
  isplitr; · ipureintro; rfl
  iexact HU

set_option maxHeartbeats 2000000 in
/-- THE RUN of part 32 of the body. -/
theorem part32_run (k : Fin k0_t5_loop.trips) (hk : k.val < 56) (m : FVec F S8x256 .f32) (arg9 : BitVec 32) (v2289 : Vec F S1x8x128 .f32) {Q : (FVec F S8x128 .f32) → sProp (MT nD τ sig Unit (Elt F) ℕ (Pipeline.UD sig nD τ) ℕ)} :
    iprop(UX c x G k 33 ∗ (∀ r , iprop(⌜r = (mx (extractStridedSlice S8x128 ![0, 128] m slices_S8x256_o0_128_S8x128) (wv x G k 1) 7)⌝ ∗ UX c x G k 39) -∗ Q r))
      ⊢ wp frame (wpE (defs₀ (F := F)) Variants.none (c : Thread nD τ) none) Set.univ (k0_part32 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 1) 5 1) (vb (wv x G k 1) 5 2) (vb (wv x G k 1) 5 3) (vb (wv x G k 1) 5 4) (vb (wv x G k 1) 5 5) (vb (wv x G k 1) 5 6) (mx (extractStridedSlice S8x128 ![0, 128] m slices_S8x256_o0_128_S8x128) (wv x G k 1) 1) v2289) Q := by
  rw [k0_part32_eq_skeleton]; unfold k0_part32_skel
  simp only [wp_bind]
  iintro ⟨HU, Hk⟩
  iapply (store_W c x G k 33 1 1 hk (by decide) (by decide) (by decide) _ (off46_eq k) _ _ rfl)
  isplitl [HU]; · iexact HU
  iintro HU
  iapply (load_D c x G k 34)
  isplitl [HU]; · iexact HU
  iintro %v2296 HU
  iapply (store_W c x G k 34 1 2 hk (by decide) (by decide) (by decide) _ (off47_eq k) _ _ rfl)
  isplitl [HU]; · iexact HU
  iintro HU
  iapply (load_D c x G k 35)
  isplitl [HU]; · iexact HU
  iintro %v2303 HU
  iapply (store_W c x G k 35 1 3 hk (by decide) (by decide) (by decide) _ (off48_eq k) _ _ rfl)
  isplitl [HU]; · iexact HU
  iintro HU
  iapply (load_D c x G k 36)
  isplitl [HU]; · iexact HU
  iintro %v2310 HU
  iapply (store_W c x G k 36 1 4 hk (by decide) (by decide) (by decide) _ (off49_eq k) _ _ rfl)
  isplitl [HU]; · iexact HU
  iintro HU
  iapply (load_D c x G k 37)
  isplitl [HU]; · iexact HU
  iintro %v2317 HU
  iapply (store_W c x G k 37 1 5 hk (by decide) (by decide) (by decide) _ (off50_eq k) _ _ rfl)
  isplitl [HU]; · iexact HU
  iintro HU
  iapply (load_D c x G k 38)
  isplitl [HU]; · iexact HU
  iintro %v2324 HU
  iapply (store_W c x G k 38 1 6 hk (by decide) (by decide) (by decide) _ (off51_eq k) _ _ rfl)
  isplitl [HU]; · iexact HU
  iintro HU
  iapply le_wp_ret
  iapply Hk
  isplitr; · ipureintro; rfl
  iexact HU

set_option maxHeartbeats 2000000 in
/-- THE RUN of part 33 of the body. -/
theorem part33_run (k : Fin k0_t5_loop.trips) (hk : k.val < 56) (m : FVec F S8x256 .f32) (arg9 : BitVec 32) {Q : (FVec F S8x128 .f32) → sProp (MT nD τ sig Unit (Elt F) ℕ (Pipeline.UD sig nD τ) ℕ)} :
    iprop(UX c x G k 39 ∗ (∀ r , iprop(⌜r = (mx (extractStridedSlice S8x128 ![0, 128] m slices_S8x256_o0_128_S8x128) (wv x G k 1) 12)⌝ ∗ UX c x G k 44) -∗ Q r))
      ⊢ wp frame (wpE (defs₀ (F := F)) Variants.none (c : Thread nD τ) none) Set.univ (k0_part33 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 1) 5 7) (vb (wv x G k 1) 5 8) (vb (wv x G k 1) 5 9) (vb (wv x G k 1) 5 10) (vb (wv x G k 1) 5 11) (mx (extractStridedSlice S8x128 ![0, 128] m slices_S8x256_o0_128_S8x128) (wv x G k 1) 7)) Q := by
  rw [k0_part33_eq_skeleton]; unfold k0_part33_skel
  simp only [wp_bind]
  iintro ⟨HU, Hk⟩
  iapply (load_D c x G k 39)
  isplitl [HU]; · iexact HU
  iintro %v2331 HU
  iapply (store_W c x G k 39 1 7 hk (by decide) (by decide) (by decide) _ (off52_eq k) _ _ rfl)
  isplitl [HU]; · iexact HU
  iintro HU
  iapply (load_D c x G k 40)
  isplitl [HU]; · iexact HU
  iintro %v2338 HU
  iapply (store_W c x G k 40 1 8 hk (by decide) (by decide) (by decide) _ (off53_eq k) _ _ rfl)
  isplitl [HU]; · iexact HU
  iintro HU
  iapply (load_D c x G k 41)
  isplitl [HU]; · iexact HU
  iintro %v2345 HU
  iapply (store_W c x G k 41 1 9 hk (by decide) (by decide) (by decide) _ (off54_eq k) _ _ rfl)
  isplitl [HU]; · iexact HU
  iintro HU
  iapply (load_D c x G k 42)
  isplitl [HU]; · iexact HU
  iintro %v2352 HU
  iapply (store_W c x G k 42 1 10 hk (by decide) (by decide) (by decide) _ (off55_eq k) _ _ rfl)
  isplitl [HU]; · iexact HU
  iintro HU
  iapply (load_D c x G k 43)
  isplitl [HU]; · iexact HU
  iintro %v2359 HU
  iapply (store_W c x G k 43 1 11 hk (by decide) (by decide) (by decide) _ (off56_eq k) _ _ rfl)
  isplitl [HU]; · iexact HU
  iintro HU
  iapply le_wp_ret
  iapply Hk
  isplitr; · ipureintro; rfl
  iexact HU

set_option maxHeartbeats 2000000 in
/-- THE RUN of part 34 of the body. -/
theorem part34_run (k : Fin k0_t5_loop.trips) (hk : k.val < 56) (m : FVec F S8x256 .f32) (arg9 : BitVec 32) {Q : (Σ' (v2398 : FVec F S8x128 .f32), FVec F S8x128 .f32) → sProp (MT nD τ sig Unit (Elt F) ℕ (Pipeline.UD sig nD τ) ℕ)} :
    iprop(UX c x G k 44 ∗ (∀ r , iprop(⌜r = ⟨(mx (extractStridedSlice S8x128 ![0, 128] m slices_S8x256_o0_128_S8x128) (wv x G k 1) 17), (absf (vb (wv x G k 1) 5 17))⟩⌝ ∗ UX c x G k 50) -∗ Q r))
      ⊢ wp frame (wpE (defs₀ (F := F)) Variants.none (c : Thread nD τ) none) Set.univ (k0_part34 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 1) 5 16) (vb (wv x G k 1) 5 17) (vb (wv x G k 1) 5 12) (vb (wv x G k 1) 5 13) (vb (wv x G k 1) 5 14) (vb (wv x G k 1) 5 15) (mx (extractStridedSlice S8x128 ![0, 128] m slices_S8x256_o0_128_S8x128) (wv x G k 1) 12)) Q := by
  rw [k0_part34_eq_skeleton]; unfold k0_part34_skel
  simp only [wp_bind]
  iintro ⟨HU, Hk⟩
  iapply (load_D c x G k 44)
  isplitl [HU]; · iexact HU
  iintro %v2366 HU
  iapply (store_W c x G k 44 1 12 hk (by decide) (by decide) (by decide) _ (off57_eq k) _ _ rfl)
  isplitl [HU]; · iexact HU
  iintro HU
  iapply (load_D c x G k 45)
  isplitl [HU]; · iexact HU
  iintro %v2373 HU
  iapply (store_W c x G k 45 1 13 hk (by decide) (by decide) (by decide) _ (off58_eq k) _ _ rfl)
  isplitl [HU]; · iexact HU
  iintro HU
  iapply (load_D c x G k 46)
  isplitl [HU]; · iexact HU
  iintro %v2380 HU
  iapply (store_W c x G k 46 1 14 hk (by decide) (by decide) (by decide) _ (off59_eq k) _ _ rfl)
  isplitl [HU]; · iexact HU
  iintro HU
  iapply (load_D c x G k 47)
  isplitl [HU]; · iexact HU
  iintro %v2387 HU
  iapply (store_W c x G k 47 1 15 hk (by decide) (by decide) (by decide) _ (off60_eq k) _ _ rfl)
  isplitl [HU]; · iexact HU
  iintro HU
  iapply (load_D c x G k 48)
  isplitl [HU]; · iexact HU
  iintro %v2394 HU
  iapply (store_W c x G k 48 1 16 hk (by decide) (by decide) (by decide) _ (off61_eq k) _ _ rfl)
  isplitl [HU]; · iexact HU
  iintro HU
  iapply (load_D c x G k 49)
  isplitl [HU]; · iexact HU
  iintro %v2401 HU
  iapply (store_W c x G k 49 1 17 hk (by decide) (by decide) (by decide) _ (off62_eq k) _ _ rfl)
  isplitl [HU]; · iexact HU
  iintro HU
  iapply le_wp_ret
  iapply Hk
  isplitr; · ipureintro; rfl
  iexact HU

set_option maxHeartbeats 2000000 in
/-- THE RUN of part 35 of the body. -/
theorem part35_run (k : Fin k0_t5_loop.trips) (hk : k.val < 56) (m : FVec F S8x256 .f32) (arg9 : BitVec 32) {Q : (FVec F S8x128 .f32) → sProp (MT nD τ sig Unit (Elt F) ℕ (Pipeline.UD sig nD τ) ℕ)} :
    iprop(UX c x G k 50 ∗ (∀ r , iprop(⌜r = (mx (extractStridedSlice S8x128 ![0, 128] m slices_S8x256_o0_128_S8x128) (wv x G k 1) 23)⌝ ∗ UX c x G k 55) -∗ Q r))
      ⊢ wp frame (wpE (defs₀ (F := F)) Variants.none (c : Thread nD τ) none) Set.univ (k0_part35 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 1) 5 18) (vb (wv x G k 1) 5 19) (vb (wv x G k 1) 5 20) (vb (wv x G k 1) 5 21) (vb (wv x G k 1) 5 22) (mx (extractStridedSlice S8x128 ![0, 128] m slices_S8x256_o0_128_S8x128) (wv x G k 1) 17) (absf (vb (wv x G k 1) 5 17))) Q := by
  rw [k0_part35_eq_skeleton]; unfold k0_part35_skel
  simp only [wp_bind]
  iintro ⟨HU, Hk⟩
  iapply (load_D c x G k 50)
  isplitl [HU]; · iexact HU
  iintro %v2408 HU
  iapply (store_W c x G k 50 1 18 hk (by decide) (by decide) (by decide) _ (off63_eq k) _ _ rfl)
  isplitl [HU]; · iexact HU
  iintro HU
  iapply (load_D c x G k 51)
  isplitl [HU]; · iexact HU
  iintro %v2415 HU
  iapply (store_W c x G k 51 1 19 hk (by decide) (by decide) (by decide) _ (off64_eq k) _ _ rfl)
  isplitl [HU]; · iexact HU
  iintro HU
  iapply (load_D c x G k 52)
  isplitl [HU]; · iexact HU
  iintro %v2422 HU
  iapply (store_W c x G k 52 1 20 hk (by decide) (by decide) (by decide) _ (off65_eq k) _ _ rfl)
  isplitl [HU]; · iexact HU
  iintro HU
  iapply (load_D c x G k 53)
  isplitl [HU]; · iexact HU
  iintro %v2429 HU
  iapply (store_W c x G k 53 1 21 hk (by decide) (by decide) (by decide) _ (off66_eq k) _ _ rfl)
  isplitl [HU]; · iexact HU
  iintro HU
  iapply (load_D c x G k 54)
  isplitl [HU]; · iexact HU
  iintro %v2436 HU
  iapply (store_W c x G k 54 1 22 hk (by decide) (by decide) (by decide) _ (off67_eq k) _ _ rfl)
  isplitl [HU]; · iexact HU
  iintro HU
  iapply le_wp_ret
  iapply Hk
  isplitr; · ipureintro; rfl
  iexact HU

set_option maxHeartbeats 2000000 in
/-- THE RUN of part 36 of the body. -/
theorem part36_run (k : Fin k0_t5_loop.trips) (hk : k.val < 56) (m : FVec F S8x256 .f32) (arg9 : BitVec 32) {Q : (FVec F S8x128 .f32) → sProp (MT nD τ sig Unit (Elt F) ℕ (Pipeline.UD sig nD τ) ℕ)} :
    iprop(UX c x G k 55 ∗ (∀ r , iprop(⌜r = (mx (extractStridedSlice S8x128 ![0, 128] m slices_S8x256_o0_128_S8x128) (wv x G k 1) 28)⌝ ∗ UX c x G k 61) -∗ Q r))
      ⊢ wp frame (wpE (defs₀ (F := F)) Variants.none (c : Thread nD τ) none) Set.univ (k0_part36 (F := F) arg0 harg0 hbX (Memref.isWhole_whole _) arg2 harg2 arg3 harg3 arg4 harg4 scS (Memref.isWhole_whole _) scT (Memref.isWhole_whole _) scU (Memref.isWhole_whole _) cc0_scratch3 k arg9 (vb (wv x G k 1) 5 23) (vb (wv x G k 1) 5 24) (vb (wv x G k 1) 5 25) (vb (wv x G k 1) 5 26) (vb (wv x G k 1) 5 27) (vb (wv x G k 1) 5 28) (mx (extractStridedSlice S8x128 ![0, 128] m slices_S8x256_o0_128_S8x128) (wv x G k 1) 23)) Q := by
  rw [k0_part36_eq_skeleton]; unfold k0_part36_skel
  simp only [wp_bind]
  iintro ⟨HU, Hk⟩
  iapply (load_D c x G k 55)
  isplitl [HU]; · iexact HU
  iintro %v2443 HU
  iapply (store_W c x G k 55 1 23 hk (by decide) (by decide) (by decide) _ (off68_eq k) _ _ rfl)
  isplitl [HU]; · iexact HU
  iintro HU
  iapply (load_D c x G k 56)
  isplitl [HU]; · iexact HU
  iintro %v2450 HU
  iapply (store_W c x G k 56 1 24 hk (by decide) (by decide) (by decide) _ (off69_eq k) _ _ rfl)
  isplitl [HU]; · iexact HU
  iintro HU
  iapply (load_D c x G k 57)
  isplitl [HU]; · iexact HU
  iintro %v2457 HU
  iapply (store_W c x G k 57 1 25 hk (by decide) (by decide) (by decide) _ (off70_eq k) _ _ rfl)
  isplitl [HU]; · iexact HU
  iintro HU
  iapply (load_D c x G k 58)
  isplitl [HU]; · iexact HU
  iintro %v2464 HU
  iapply (store_W c x G k 58 1 26 hk (by decide) (by decide) (by decide) _ (off71_eq k) _ _ rfl)
  isplitl [HU]; · iexact HU
  iintro HU
  iapply (load_D c x G k 59)
  isplitl [HU]; · iexact HU
  iintro %v2471 HU
  iapply (store_W c x G k 59 1 27 hk (by decide) (by decide) (by decide) _ (off72_eq k) _ _ rfl)
  isplitl [HU]; · iexact HU
  iintro HU
  iapply (load_D c x G k 60)
  isplitl [HU]; · iexact HU
  iintro %v2478 HU
  iapply (store_W c x G k 60 1 28 hk (by decide) (by decide) (by decide) _ (off73_eq k) _ _ rfl)
  isplitl [HU]; · iexact HU
  iintro HU
  iapply le_wp_ret
  iapply Hk
  isplitr; · ipureintro; rfl
  iexact HU

set_option maxHeartbeats 8000000 in
/-- One trip of the butterfly loop. -/
theorem trip5 (k : Fin k0_t5_loop.trips) (hk : k.val < 56) (m : FVec F S8x256 .f32) (b1 b2 : BitVec 32) {Q : FVec F S8x256 .f32 → sProp (MT nD τ sig Unit (Elt F) ℕ (Pipeline.UD sig nD τ) ℕ)} :
    iprop(UX c x G k 0 ∗ (∀ r, iprop(⌜r = (concatenate S8x256 1 [⟨S8x128, (mx (extractStridedSlice S8x128 ![0, 0] m slices_S8x256_o0_0_S8x128) (wv x G k 0) 32)⟩, ⟨S8x128, (mx (extractStridedSlice S8x128 ![0, 128] m slices_S8x256_o0_128_S8x128) (wv x G k 1) 32)⟩] concatenates_S8x128_S8x128_S8x256_d1)⌝ ∗ UX c x G k 64) -∗ Q r))
      ⊢ wp frame (wpE (defs₀ (F := F)) Variants.none (c : Thread nD τ) none) Set.univ (k0_part37 (F := F) arg0 harg0 hbX (Memref.isWhole_whole _) arg2 harg2 arg3 harg3 arg4 harg4 scS (Memref.isWhole_whole _) scT (Memref.isWhole_whole _) scU (Memref.isWhole_whole _) cc0_scratch3 b1 b2 k m) Q := by
  rw [k0_part37_eq_skeleton]; unfold k0_part37_skel
  simp only [wp_bind]
  iintro ⟨HU, Hk⟩
  iapply (part13_run c x G arg0 harg0 arg2 harg2 arg3 harg3 arg4 harg4 k hk m _ _)
  isplitl [HU]; · iexact HU
  iintro %r %d_arg9 %d_v1510 ⟨%hr, HU⟩
  subst hr
  try dsimp only
  iapply (part14_run c x G arg0 harg0 arg2 harg2 arg3 harg3 arg4 harg4 k hk m _ _)
  isplitl [HU]; · iexact HU
  iintro %r  ⟨%hr, HU⟩
  subst hr
  try dsimp only
  iapply (part15_run c x G arg0 harg0 arg2 harg2 arg3 harg3 arg4 harg4 k hk m _)
  isplitl [HU]; · iexact HU
  iintro %r  ⟨%hr, HU⟩
  subst hr
  try dsimp only
  iapply (part16_run c x G arg0 harg0 arg2 harg2 arg3 harg3 arg4 harg4 k hk m _)
  isplitl [HU]; · iexact HU
  iintro %r  ⟨%hr, HU⟩
  subst hr
  try dsimp only
  iapply (part17_run c x G arg0 harg0 arg2 harg2 arg3 harg3 arg4 harg4 k hk m)
  isplitl [HU]; · iexact HU
  iintro %r  ⟨%hr, HU⟩
  subst hr
  try dsimp only
  iapply (part18_run c x G arg0 harg0 arg2 harg2 arg3 harg3 arg4 harg4 k hk m)
  isplitl [HU]; · iexact HU
  iintro %r  ⟨%hr, HU⟩
  subst hr
  try dsimp only
  iapply (part19_run c x G arg0 harg0 arg2 harg2 arg3 harg3 arg4 harg4 k hk m _)
  isplitl [HU]; · iexact HU
  iintro %r %d_c8_i32_1531 ⟨%hr, HU⟩
  subst hr
  try dsimp only
  iapply (part20_run c x G arg0 harg0 arg2 harg2 arg3 harg3 arg4 harg4 k hk m _ _)
  isplitl [HU]; · iexact HU
  iintro %r %d_v1825 ⟨%hr, HU⟩
  subst hr
  try dsimp only
  iapply (part21_run c x G arg0 harg0 arg2 harg2 arg3 harg3 arg4 harg4 k hk m _ _)
  isplitl [HU]; · iexact HU
  iintro %r  ⟨%hr, HU⟩
  subst hr
  try dsimp only
  iapply (part22_run c x G arg0 harg0 arg2 harg2 arg3 harg3 arg4 harg4 k hk m _)
  isplitl [HU]; · iexact HU
  iintro %r  ⟨%hr, HU⟩
  subst hr
  try dsimp only
  iapply (part23_run c x G arg0 harg0 arg2 harg2 arg3 harg3 arg4 harg4 k hk m _)
  isplitl [HU]; · iexact HU
  iintro %r  ⟨%hr, HU⟩
  subst hr
  try dsimp only
  iapply (part24_run c x G arg0 harg0 arg2 harg2 arg3 harg3 arg4 harg4 k hk m _)
  isplitl [HU]; · iexact HU
  iintro %r  ⟨%hr, HU⟩
  subst hr
  try dsimp only
  iapply (part25_run c x G arg0 harg0 arg2 harg2 arg3 harg3 arg4 harg4 k hk m _)
  isplitl [HU]; · iexact HU
  iintro %r  ⟨%hr, HU⟩
  subst hr
  try dsimp only
  iapply (part26_run c x G arg0 harg0 arg2 harg2 arg3 harg3 arg4 harg4 k hk m _)
  isplitl [HU]; · iexact HU
  iintro %r  ⟨%hr, HU⟩
  subst hr
  try dsimp only
  iapply (part27_run c x G arg0 harg0 arg2 harg2 arg3 harg3 arg4 harg4 k hk m _)
  isplitl [HU]; · iexact HU
  iintro %r %d_c8_i32_1686 ⟨%hr, HU⟩
  subst hr
  try dsimp only
  iapply (part28_run c x G arg0 harg0 arg2 harg2 arg3 harg3 arg4 harg4 k hk m _ _)
  isplitl [HU]; · iexact HU
  iintro %r  ⟨%hr, HU⟩
  subst hr
  try dsimp only
  iapply (part29_run c x G arg0 harg0 arg2 harg2 arg3 harg3 arg4 harg4 k hk m)
  isplitl [HU]; · iexact HU
  iintro %r  ⟨%hr, HU⟩
  subst hr
  try dsimp only
  iapply (part30_run c x G arg0 harg0 arg2 harg2 arg3 harg3 arg4 harg4 k hk m)
  isplitl [HU]; · iexact HU
  iintro %r  ⟨%hr, HU⟩
  subst hr
  try dsimp only
  iapply (part31_run c x G arg0 harg0 arg2 harg2 arg3 harg3 arg4 harg4 k hk m _)
  isplitl [HU]; · iexact HU
  iintro %r %d_v2289 ⟨%hr, HU⟩
  subst hr
  try dsimp only
  iapply (part32_run c x G arg0 harg0 arg2 harg2 arg3 harg3 arg4 harg4 k hk m _ _)
  isplitl [HU]; · iexact HU
  iintro %r  ⟨%hr, HU⟩
  subst hr
  try dsimp only
  iapply (part33_run c x G arg0 harg0 arg2 harg2 arg3 harg3 arg4 harg4 k hk m _)
  isplitl [HU]; · iexact HU
  iintro %r  ⟨%hr, HU⟩
  subst hr
  try dsimp only
  iapply (part34_run c x G arg0 harg0 arg2 harg2 arg3 harg3 arg4 harg4 k hk m _)
  isplitl [HU]; · iexact HU
  iintro %r  ⟨%hr, HU⟩
  subst hr
  try dsimp only
  iapply (part35_run c x G arg0 harg0 arg2 harg2 arg3 harg3 arg4 harg4 k hk m _)
  isplitl [HU]; · iexact HU
  iintro %r  ⟨%hr, HU⟩
  subst hr
  try dsimp only
  iapply (part36_run c x G arg0 harg0 arg2 harg2 arg3 harg3 arg4 harg4 k hk m _)
  isplitl [HU]; · iexact HU
  iintro %r  ⟨%hr, HU⟩
  subst hr
  try dsimp only
  iapply (load_D c x G k 61)
  isplitl [HU]; · iexact HU
  iintro %v2485 HU
  iapply (store_W c x G k 61 1 29 hk (by decide) (by decide) (by decide) _ (off74_eq k) _ _ rfl)
  isplitl [HU]; · iexact HU
  iintro HU
  iapply (load_D c x G k 62)
  isplitl [HU]; · iexact HU
  iintro %v2492 HU
  iapply (store_W c x G k 62 1 30 hk (by decide) (by decide) (by decide) _ (off75_eq k) _ _ rfl)
  isplitl [HU]; · iexact HU
  iintro HU
  iapply (load_D c x G k 63)
  isplitl [HU]; · iexact HU
  iintro %v2499 HU
  iapply (store_W c x G k 63 1 31 hk (by decide) (by decide) (by decide) _ (off76_eq k) _ _ rfl)
  isplitl [HU]; · iexact HU
  iintro HU
  iapply le_wp_ret
  iapply Hk
  isplitr; · ipureintro; rfl
  iexact HU

end Cert.RotateIdeal.Run
-- ==== Proof.RotIdealWaits.lean ====
/- The rotation kernel's waits, transposing loops and products, part by part. -/
module

public import proofs.«01_k».proof.Proof.RotIdealSteps

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (x : S256x14336.Idx → Elt F .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole)

/-- THE RUN of part 61 of the body. -/
theorem part61_run (v588 : FVec F S448x28 .f32) (f0 : arg0.view.ty.Contents (Elt F)) {Q : (FVec F S448x448 .bf16) → sProp (MT nD τ sig Unit (Elt F) ℕ (Pipeline.UD sig nD τ) ℕ)} :
    iprop((arg0.view.loc (c : Thread nD τ) ↦[arg0.view.set]{fullShare} f0) ∗ (Iss c x 0 28) ∗ (Ow c) ∗ (iprop((arg0.view.loc (c : Thread nD τ) ↦[arg0.view.set]{fullShare} f0) ∗ (Wt c x 0 2)) -∗ Q (k0_pay537 v588 (arg0.view.read (Elt F) f0))))
      ⊢ wp frame (wpE (defs₀ (F := F)) Variants.none (c : Thread nD τ) none) Set.univ (k0_part61 (F := F) arg0 harg0 hbX (Memref.isWhole_whole _) arg2 harg2 arg3 harg3 arg4 harg4 scS (Memref.isWhole_whole _) scT (Memref.isWhole_whole _) scU (Memref.isWhole_whole _) cc0_scratch3 v588) Q := by
  rw [k0_part61_eq_skeleton]; unfold k0_part61_skel
  simp only [wp_bind]
  iintro ⟨HH, HI, HO, Hk⟩
  iapply (load_H c arg0 f0)
  isplitl [HH]; · iexact HH
  iintro HH
  ihave HW := (Iss_all' c x 0) $$ [HI HO]
  · isplitl [HI] <;> iassumption
  iapply (wait_one c x 0 0 (by decide) 0 0 0 rfl _ _ _ _ _)
  isplitl [HW]; · iexact HW
  iintro HW
  iapply (wait_one c x 0 1 (by decide) 4 512 0 rfl _ _ _ _ _)
  isplitl [HW]; · iexact HW
  iintro HW
  iapply le_wp_ret
  iapply Hk
  isplitl [HH]; · iexact HH
  iexact HW

/-- THE RUN of part 62 of the body. -/
theorem part62_run {Q : PUnit → sProp (MT nD τ sig Unit (Elt F) ℕ (Pipeline.UD sig nD τ) ℕ)} :
    iprop((Wt c x 0 2) ∗ (iprop((Wt c x 0 7)) -∗ Q ⟨⟩))
      ⊢ wp frame (wpE (defs₀ (F := F)) Variants.none (c : Thread nD τ) none) Set.univ (k0_part62 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part62_eq_skeleton]; unfold k0_part62_skel
  simp only [wp_bind]
  iintro ⟨HW, Hk⟩
  iapply (wait_one c x 0 2 (by decide) 8 1024 0 rfl _ _ _ _ _)
  isplitl [HW]; · iexact HW
  iintro HW
  iapply (wait_one c x 0 3 (by decide) 12 1536 0 rfl _ _ _ _ _)
  isplitl [HW]; · iexact HW
  iintro HW
  iapply (wait_one c x 0 4 (by decide) 16 2048 0 rfl _ _ _ _ _)
  isplitl [HW]; · iexact HW
  iintro HW
  iapply (wait_one c x 0 5 (by decide) 20 2560 0 rfl _ _ _ _ _)
  isplitl [HW]; · iexact HW
  iintro HW
  iapply (wait_one c x 0 6 (by decide) 24 3072 0 rfl _ _ _ _ _)
  isplitl [HW]; · iexact HW
  iintro HW
  iapply le_wp_ret
  iapply Hk
  iexact HW

/-- THE RUN of part 63 of the body. -/
theorem part63_run {Q : PUnit → sProp (MT nD τ sig Unit (Elt F) ℕ (Pipeline.UD sig nD τ) ℕ)} :
    iprop((Wt c x 0 7) ∗ (iprop((Wt c x 0 12)) -∗ Q ⟨⟩))
      ⊢ wp frame (wpE (defs₀ (F := F)) Variants.none (c : Thread nD τ) none) Set.univ (k0_part63 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part63_eq_skeleton]; unfold k0_part63_skel
  simp only [wp_bind]
  iintro ⟨HW, Hk⟩
  iapply (wait_one c x 0 7 (by decide) 28 3584 0 rfl _ _ _ _ _)
  isplitl [HW]; · iexact HW
  iintro HW
  iapply (wait_one c x 0 8 (by decide) 32 4096 0 rfl _ _ _ _ _)
  isplitl [HW]; · iexact HW
  iintro HW
  iapply (wait_one c x 0 9 (by decide) 36 4608 0 rfl _ _ _ _ _)
  isplitl [HW]; · iexact HW
  iintro HW
  iapply (wait_one c x 0 10 (by decide) 40 5120 0 rfl _ _ _ _ _)
  isplitl [HW]; · iexact HW
  iintro HW
  iapply (wait_one c x 0 11 (by decide) 44 5632 0 rfl _ _ _ _ _)
  isplitl [HW]; · iexact HW
  iintro HW
  iapply le_wp_ret
  iapply Hk
  iexact HW

/-- THE RUN of part 64 of the body. -/
theorem part64_run {Q : PUnit → sProp (MT nD τ sig Unit (Elt F) ℕ (Pipeline.UD sig nD τ) ℕ)} :
    iprop((Wt c x 0 12) ∗ (iprop((Wt c x 0 17)) -∗ Q ⟨⟩))
      ⊢ wp frame (wpE (defs₀ (F := F)) Variants.none (c : Thread nD τ) none) Set.univ (k0_part64 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part64_eq_skeleton]; unfold k0_part64_skel
  simp only [wp_bind]
  iintro ⟨HW, Hk⟩
  iapply (wait_one c x 0 12 (by decide) 48 6144 0 rfl _ _ _ _ _)
  isplitl [HW]; · iexact HW
  iintro HW
  iapply (wait_one c x 0 13 (by decide) 52 6656 0 rfl _ _ _ _ _)
  isplitl [HW]; · iexact HW
  iintro HW
  iapply (wait_one c x 0 14 (by decide) 56 7168 0 rfl _ _ _ _ _)
  isplitl [HW]; · iexact HW
  iintro HW
  iapply (wait_one c x 0 15 (by decide) 60 7680 0 rfl _ _ _ _ _)
  isplitl [HW]; · iexact HW
  iintro HW
  iapply (wait_one c x 0 16 (by decide) 64 8192 0 rfl _ _ _ _ _)
  isplitl [HW]; · iexact HW
  iintro HW
  iapply le_wp_ret
  iapply Hk
  iexact HW

/-- THE RUN of part 65 of the body. -/
theorem part65_run {Q : PUnit → sProp (MT nD τ sig Unit (Elt F) ℕ (Pipeline.UD sig nD τ) ℕ)} :
    iprop((Wt c x 0 17) ∗ (iprop((Wt c x 0 22)) -∗ Q ⟨⟩))
      ⊢ wp frame (wpE (defs₀ (F := F)) Variants.none (c : Thread nD τ) none) Set.univ (k0_part65 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part65_eq_skeleton]; unfold k0_part65_skel
  simp only [wp_bind]
  iintro ⟨HW, Hk⟩
  iapply (wait_one c x 0 17 (by decide) 68 8704 0 rfl _ _ _ _ _)
  isplitl [HW]; · iexact HW
  iintro HW
  iapply (wait_one c x 0 18 (by decide) 72 9216 0 rfl _ _ _ _ _)
  isplitl [HW]; · iexact HW
  iintro HW
  iapply (wait_one c x 0 19 (by decide) 76 9728 0 rfl _ _ _ _ _)
  isplitl [HW]; · iexact HW
  iintro HW
  iapply (wait_one c x 0 20 (by decide) 80 10240 0 rfl _ _ _ _ _)
  isplitl [HW]; · iexact HW
  iintro HW
  iapply (wait_one c x 0 21 (by decide) 84 10752 0 rfl _ _ _ _ _)
  isplitl [HW]; · iexact HW
  iintro HW
  iapply le_wp_ret
  iapply Hk
  iexact HW

/-- THE RUN of part 66 of the body. -/
theorem part66_run {Q : PUnit → sProp (MT nD τ sig Unit (Elt F) ℕ (Pipeline.UD sig nD τ) ℕ)} :
    iprop((Wt c x 0 22) ∗ (iprop((Wt c x 0 27)) -∗ Q ⟨⟩))
      ⊢ wp frame (wpE (defs₀ (F := F)) Variants.none (c : Thread nD τ) none) Set.univ (k0_part66 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part66_eq_skeleton]; unfold k0_part66_skel
  simp only [wp_bind]
  iintro ⟨HW, Hk⟩
  iapply (wait_one c x 0 22 (by decide) 88 11264 0 rfl _ _ _ _ _)
  isplitl [HW]; · iexact HW
  iintro HW
  iapply (wait_one c x 0 23 (by decide) 92 11776 0 rfl _ _ _ _ _)
  isplitl [HW]; · iexact HW
  iintro HW
  iapply (wait_one c x 0 24 (by decide) 96 12288 0 rfl _ _ _ _ _)
  isplitl [HW]; · iexact HW
  iintro HW
  iapply (wait_one c x 0 25 (by decide) 100 12800 0 rfl _ _ _ _ _)
  isplitl [HW]; · iexact HW
  iintro HW
  iapply (wait_one c x 0 26 (by decide) 104 13312 0 rfl _ _ _ _ _)
  isplitl [HW]; · iexact HW
  iintro HW
  iapply le_wp_ret
  iapply Hk
  iexact HW

/-- THE RUN of part 67 of the body. -/
theorem part67_run (G : FVec F S448x448 .bf16) {Q : (Σ' (v769 : FVec F S448x128 .bf16), Vec F S1x448x128 .bf16) → sProp (MT nD τ sig Unit (Elt F) ℕ (Pipeline.UD sig nD τ) ℕ)} :
    iprop((Wt c x 0 27) ∗ (TS c x 0 0) ∗ (US c x G 0) ∗ (iprop((Landed c x 0) ∗ (Ow c) ∗ (TS c x 1 0) ∗ (US c x G 2)) -∗ Q ⟨k0_pay543 (rowsT x 0 2), (rowsT x 1 2)⟩))
      ⊢ wp frame (wpE (defs₀ (F := F)) Variants.none (c : Thread nD τ) none) Set.univ (k0_part67 (F := F) arg0 harg0 hbX (Memref.isWhole_whole _) arg2 harg2 arg3 harg3 arg4 harg4 scS (Memref.isWhole_whole _) scT (Memref.isWhole_whole _) scU (Memref.isWhole_whole _) cc0_scratch3 G) Q := by
  rw [k0_part67_eq_skeleton]; unfold k0_part67_skel
  simp only [wp_bind]
  iintro ⟨HW, HT, HU, Hk⟩
  iapply (wait_last c x 0 108 13824 0 rfl _ _ _ _ _)
  isplitl [HW]; · iexact HW
  iintro HW
  ihave HW := (Got_eq c x 0) $$ HW
  icases HW with ⟨HL, HO⟩
  iapply (loop1 c x arg0 harg0 arg2 harg2 arg3 harg3 arg4 harg4 G)
  isplitl [HT]; · iexact HT
  isplitl [HL]; · iexact HL
  iintro ⟨HT, HL⟩
  iapply (load_T c x 1 0 0 0 0 rfl (by decide) (by decide) rfl)
  isplitl [HT]; · iexact HT
  iintro HT
  iapply (load_T c x 1 1 1 0 0 rfl (by decide) (by decide) rfl)
  isplitl [HT]; · iexact HT
  iintro HT
  iapply (load_U c x G 0)
  isplitl [HU]; · iexact HU
  iintro %v756 HU
  iapply (store_U c x G 0 0 rfl _ _ rfl)
  isplitl [HU]; · iexact HU
  iintro HU
  iapply (load_T c x 1 0 0 1 448 rfl (by decide) (by decide) rfl)
  isplitl [HT]; · iexact HT
  iintro HT
  iapply (load_T c x 1 1 1 1 448 rfl (by decide) (by decide) rfl)
  isplitl [HT]; · iexact HT
  iintro HT
  iapply (load_U c x G 1)
  isplitl [HU]; · iexact HU
  iintro %v765 HU
  iapply (store_U c x G 1 1 rfl _ _ rfl)
  isplitl [HU]; · iexact HU
  iintro HU
  iapply (load_T c x 1 0 0 2 896 rfl (by decide) (by decide) rfl)
  isplitl [HT]; · iexact HT
  iintro HT
  iapply (load_T c x 1 1 1 2 896 rfl (by decide) (by decide) rfl)
  isplitl [HT]; · iexact HT
  iintro HT
  iapply le_wp_ret
  iapply Hk
  isplitl [HL]; · iexact HL
  isplitl [HO]; · iexact HO
  isplitl [HT]; · iexact HT
  iexact HU

/-- THE RUN of part 68 of the body. -/
theorem part68_run (G : FVec F S448x448 .bf16) {Q : (Σ' (v796 : FVec F S448x128 .bf16), Vec F S1x448x128 .bf16) → sProp (MT nD τ sig Unit (Elt F) ℕ (Pipeline.UD sig nD τ) ℕ)} :
    iprop((US c x G 2) ∗ (TS c x 1 0) ∗ (iprop((US c x G 5) ∗ (TS c x 1 0)) -∗ Q ⟨k0_pay547 (rowsT x 0 5), (rowsT x 1 5)⟩))
      ⊢ wp frame (wpE (defs₀ (F := F)) Variants.none (c : Thread nD τ) none) Set.univ (k0_part68 (F := F) arg0 harg0 hbX (Memref.isWhole_whole _) arg2 harg2 arg3 harg3 arg4 harg4 scS (Memref.isWhole_whole _) scT (Memref.isWhole_whole _) scU (Memref.isWhole_whole _) cc0_scratch3 G (k0_pay543 (rowsT x 0 2)) ((rowsT x 1 2))) Q := by
  rw [k0_part68_eq_skeleton]; unfold k0_part68_skel
  simp only [wp_bind]
  iintro ⟨HU, HT, Hk⟩
  iapply (load_U c x G 2)
  isplitl [HU]; · iexact HU
  iintro %v774 HU
  iapply (store_U c x G 2 2 rfl _ _ rfl)
  isplitl [HU]; · iexact HU
  iintro HU
  iapply (load_T c x 1 0 0 3 1344 rfl (by decide) (by decide) rfl)
  isplitl [HT]; · iexact HT
  iintro HT
  iapply (load_T c x 1 1 1 3 1344 rfl (by decide) (by decide) rfl)
  isplitl [HT]; · iexact HT
  iintro HT
  iapply (load_U c x G 3)
  isplitl [HU]; · iexact HU
  iintro %v783 HU
  iapply (store_U c x G 3 3 rfl _ _ rfl)
  isplitl [HU]; · iexact HU
  iintro HU
  iapply (load_T c x 1 0 0 4 1792 rfl (by decide) (by decide) rfl)
  isplitl [HT]; · iexact HT
  iintro HT
  iapply (load_T c x 1 1 1 4 1792 rfl (by decide) (by decide) rfl)
  isplitl [HT]; · iexact HT
  iintro HT
  iapply (load_U c x G 4)
  isplitl [HU]; · iexact HU
  iintro %v792 HU
  iapply (store_U c x G 4 4 rfl _ _ rfl)
  isplitl [HU]; · iexact HU
  iintro HU
  iapply (load_T c x 1 0 0 5 2240 rfl (by decide) (by decide) rfl)
  isplitl [HT]; · iexact HT
  iintro HT
  iapply (load_T c x 1 1 1 5 2240 rfl (by decide) (by decide) rfl)
  isplitl [HT]; · iexact HT
  iintro HT
  iapply le_wp_ret
  iapply Hk
  isplitl [HU]; · iexact HU
  iexact HT

/-- THE RUN of part 69 of the body. -/
theorem part69_run (G : FVec F S448x448 .bf16) {Q : PUnit → sProp (MT nD τ sig Unit (Elt F) ℕ (Pipeline.UD sig nD τ) ℕ)} :
    iprop((US c x G 5) ∗ (TS c x 1 0) ∗ (iprop((US c x G 8) ∗ (TS c x 1 0)) -∗ Q ⟨⟩))
      ⊢ wp frame (wpE (defs₀ (F := F)) Variants.none (c : Thread nD τ) none) Set.univ (k0_part69 (F := F) arg0 harg0 hbX (Memref.isWhole_whole _) arg2 harg2 arg3 harg3 arg4 harg4 scS (Memref.isWhole_whole _) scT (Memref.isWhole_whole _) scU (Memref.isWhole_whole _) cc0_scratch3 G (k0_pay547 (rowsT x 0 5)) ((rowsT x 1 5))) Q := by
  rw [k0_part69_eq_skeleton]; unfold k0_part69_skel
  simp only [wp_bind]
  iintro ⟨HU, HT, Hk⟩
  iapply (load_U c x G 5)
  isplitl [HU]; · iexact HU
  iintro %v801 HU
  iapply (store_U c x G 5 5 rfl _ _ rfl)
  isplitl [HU]; · iexact HU
  iintro HU
  iapply (load_T c x 1 0 0 6 2688 rfl (by decide) (by decide) rfl)
  isplitl [HT]; · iexact HT
  iintro HT
  iapply (load_T c x 1 1 1 6 2688 rfl (by decide) (by decide) rfl)
  isplitl [HT]; · iexact HT
  iintro HT
  iapply (load_U c x G 6)
  isplitl [HU]; · iexact HU
  iintro %v810 HU
  iapply (store_U c x G 6 6 rfl _ _ rfl)
  isplitl [HU]; · iexact HU
  iintro HU
  iapply (load_T c x 1 0 0 7 3136 rfl (by decide) (by decide) rfl)
  isplitl [HT]; · iexact HT
  iintro HT
  iapply (load_T c x 1 1 1 7 3136 rfl (by decide) (by decide) rfl)
  isplitl [HT]; · iexact HT
  iintro HT
  iapply (load_U c x G 7)
  isplitl [HU]; · iexact HU
  iintro %v819 HU
  iapply (store_U c x G 7 7 rfl _ _ rfl)
  isplitl [HU]; · iexact HU
  iintro HU
  iapply le_wp_ret
  iapply Hk
  isplitl [HU]; · iexact HU
  iexact HT

/-- THE RUN of part 70 of the body. -/
theorem part70_run {Q : PUnit → sProp (MT nD τ sig Unit (Elt F) ℕ (Pipeline.UD sig nD τ) ℕ)} :
    iprop((Iss c x 1 28) ∗ (Ow c) ∗ (iprop((Wt c x 1 5)) -∗ Q ⟨⟩))
      ⊢ wp frame (wpE (defs₀ (F := F)) Variants.none (c : Thread nD τ) none) Set.univ (k0_part70 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part70_eq_skeleton]; unfold k0_part70_skel
  simp only [wp_bind]
  iintro ⟨HI, HO, Hk⟩
  ihave HW := (Iss_all' c x 1) $$ [HI HO]
  · isplitl [HI] <;> iassumption
  iapply (wait_one c x 1 0 (by decide) 1 128 1 rfl _ _ _ _ _)
  isplitl [HW]; · iexact HW
  iintro HW
  iapply (wait_one c x 1 1 (by decide) 5 640 1 rfl _ _ _ _ _)
  isplitl [HW]; · iexact HW
  iintro HW
  iapply (wait_one c x 1 2 (by decide) 9 1152 1 rfl _ _ _ _ _)
  isplitl [HW]; · iexact HW
  iintro HW
  iapply (wait_one c x 1 3 (by decide) 13 1664 1 rfl _ _ _ _ _)
  isplitl [HW]; · iexact HW
  iintro HW
  iapply (wait_one c x 1 4 (by decide) 17 2176 1 rfl _ _ _ _ _)
  isplitl [HW]; · iexact HW
  iintro HW
  iapply le_wp_ret
  iapply Hk
  iexact HW

/-- THE RUN of part 71 of the body. -/
theorem part71_run {Q : PUnit → sProp (MT nD τ sig Unit (Elt F) ℕ (Pipeline.UD sig nD τ) ℕ)} :
    iprop((Wt c x 1 5) ∗ (iprop((Wt c x 1 10)) -∗ Q ⟨⟩))
      ⊢ wp frame (wpE (defs₀ (F := F)) Variants.none (c : Thread nD τ) none) Set.univ (k0_part71 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part71_eq_skeleton]; unfold k0_part71_skel
  simp only [wp_bind]
  iintro ⟨HW, Hk⟩
  iapply (wait_one c x 1 5 (by decide) 21 2688 1 rfl _ _ _ _ _)
  isplitl [HW]; · iexact HW
  iintro HW
  iapply (wait_one c x 1 6 (by decide) 25 3200 1 rfl _ _ _ _ _)
  isplitl [HW]; · iexact HW
  iintro HW
  iapply (wait_one c x 1 7 (by decide) 29 3712 1 rfl _ _ _ _ _)
  isplitl [HW]; · iexact HW
  iintro HW
  iapply (wait_one c x 1 8 (by decide) 33 4224 1 rfl _ _ _ _ _)
  isplitl [HW]; · iexact HW
  iintro HW
  iapply (wait_one c x 1 9 (by decide) 37 4736 1 rfl _ _ _ _ _)
  isplitl [HW]; · iexact HW
  iintro HW
  iapply le_wp_ret
  iapply Hk
  iexact HW

/-- THE RUN of part 72 of the body. -/
theorem part72_run {Q : PUnit → sProp (MT nD τ sig Unit (Elt F) ℕ (Pipeline.UD sig nD τ) ℕ)} :
    iprop((Wt c x 1 10) ∗ (iprop((Wt c x 1 15)) -∗ Q ⟨⟩))
      ⊢ wp frame (wpE (defs₀ (F := F)) Variants.none (c : Thread nD τ) none) Set.univ (k0_part72 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part72_eq_skeleton]; unfold k0_part72_skel
  simp only [wp_bind]
  iintro ⟨HW, Hk⟩
  iapply (wait_one c x 1 10 (by decide) 41 5248 1 rfl _ _ _ _ _)
  isplitl [HW]; · iexact HW
  iintro HW
  iapply (wait_one c x 1 11 (by decide) 45 5760 1 rfl _ _ _ _ _)
  isplitl [HW]; · iexact HW
  iintro HW
  iapply (wait_one c x 1 12 (by decide) 49 6272 1 rfl _ _ _ _ _)
  isplitl [HW]; · iexact HW
  iintro HW
  iapply (wait_one c x 1 13 (by decide) 53 6784 1 rfl _ _ _ _ _)
  isplitl [HW]; · iexact HW
  iintro HW
  iapply (wait_one c x 1 14 (by decide) 57 7296 1 rfl _ _ _ _ _)
  isplitl [HW]; · iexact HW
  iintro HW
  iapply le_wp_ret
  iapply Hk
  iexact HW

/-- THE RUN of part 73 of the body. -/
theorem part73_run {Q : PUnit → sProp (MT nD τ sig Unit (Elt F) ℕ (Pipeline.UD sig nD τ) ℕ)} :
    iprop((Wt c x 1 15) ∗ (iprop((Wt c x 1 20)) -∗ Q ⟨⟩))
      ⊢ wp frame (wpE (defs₀ (F := F)) Variants.none (c : Thread nD τ) none) Set.univ (k0_part73 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part73_eq_skeleton]; unfold k0_part73_skel
  simp only [wp_bind]
  iintro ⟨HW, Hk⟩
  iapply (wait_one c x 1 15 (by decide) 61 7808 1 rfl _ _ _ _ _)
  isplitl [HW]; · iexact HW
  iintro HW
  iapply (wait_one c x 1 16 (by decide) 65 8320 1 rfl _ _ _ _ _)
  isplitl [HW]; · iexact HW
  iintro HW
  iapply (wait_one c x 1 17 (by decide) 69 8832 1 rfl _ _ _ _ _)
  isplitl [HW]; · iexact HW
  iintro HW
  iapply (wait_one c x 1 18 (by decide) 73 9344 1 rfl _ _ _ _ _)
  isplitl [HW]; · iexact HW
  iintro HW
  iapply (wait_one c x 1 19 (by decide) 77 9856 1 rfl _ _ _ _ _)
  isplitl [HW]; · iexact HW
  iintro HW
  iapply le_wp_ret
  iapply Hk
  iexact HW

/-- THE RUN of part 74 of the body. -/
theorem part74_run {Q : PUnit → sProp (MT nD τ sig Unit (Elt F) ℕ (Pipeline.UD sig nD τ) ℕ)} :
    iprop((Wt c x 1 20) ∗ (iprop((Wt c x 1 25)) -∗ Q ⟨⟩))
      ⊢ wp frame (wpE (defs₀ (F := F)) Variants.none (c : Thread nD τ) none) Set.univ (k0_part74 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part74_eq_skeleton]; unfold k0_part74_skel
  simp only [wp_bind]
  iintro ⟨HW, Hk⟩
  iapply (wait_one c x 1 20 (by decide) 81 10368 1 rfl _ _ _ _ _)
  isplitl [HW]; · iexact HW
  iintro HW
  iapply (wait_one c x 1 21 (by decide) 85 10880 1 rfl _ _ _ _ _)
  isplitl [HW]; · iexact HW
  iintro HW
  iapply (wait_one c x 1 22 (by decide) 89 11392 1 rfl _ _ _ _ _)
  isplitl [HW]; · iexact HW
  iintro HW
  iapply (wait_one c x 1 23 (by decide) 93 11904 1 rfl _ _ _ _ _)
  isplitl [HW]; · iexact HW
  iintro HW
  iapply (wait_one c x 1 24 (by decide) 97 12416 1 rfl _ _ _ _ _)
  isplitl [HW]; · iexact HW
  iintro HW
  iapply le_wp_ret
  iapply Hk
  iexact HW

/-- THE RUN of part 75 of the body. -/
theorem part75_run (G : FVec F S448x448 .bf16) {Q : (FVec F S448x128 .bf16) → sProp (MT nD τ sig Unit (Elt F) ℕ (Pipeline.UD sig nD τ) ℕ)} :
    iprop((Wt c x 1 25) ∗ (TS c x 1 0) ∗ (US c x G 8) ∗ (iprop((Landed c x 1) ∗ (Ow c) ∗ (TS c x 2 0) ∗ (US c x G 9)) -∗ Q (k0_pay555 (rowsT x 0 9))))
      ⊢ wp frame (wpE (defs₀ (F := F)) Variants.none (c : Thread nD τ) none) Set.univ (k0_part75 (F := F) arg0 harg0 hbX (Memref.isWhole_whole _) arg2 harg2 arg3 harg3 arg4 harg4 scS (Memref.isWhole_whole _) scT (Memref.isWhole_whole _) scU (Memref.isWhole_whole _) cc0_scratch3 G) Q := by
  rw [k0_part75_eq_skeleton]; unfold k0_part75_skel
  simp only [wp_bind]
  iintro ⟨HW, HT, HU, Hk⟩
  iapply (wait_one c x 1 25 (by decide) 101 12928 1 rfl _ _ _ _ _)
  isplitl [HW]; · iexact HW
  iintro HW
  iapply (wait_one c x 1 26 (by decide) 105 13440 1 rfl _ _ _ _ _)
  isplitl [HW]; · iexact HW
  iintro HW
  iapply (wait_last c x 1 109 13952 1 rfl _ _ _ _ _)
  isplitl [HW]; · iexact HW
  iintro HW
  ihave HW := (Got_eq c x 1) $$ HW
  icases HW with ⟨HL, HO⟩
  iapply (loop2 c x arg0 harg0 arg2 harg2 arg3 harg3 arg4 harg4 G)
  isplitl [HT]; · iexact HT
  isplitl [HL]; · iexact HL
  iintro ⟨HT, HL⟩
  iapply (load_T c x 2 0 0 8 3584 rfl (by decide) (by decide) rfl)
  isplitl [HT]; · iexact HT
  iintro HT
  iapply (load_T c x 2 1 1 8 3584 rfl (by decide) (by decide) rfl)
  isplitl [HT]; · iexact HT
  iintro HT
  iapply (load_U c x G 8)
  isplitl [HU]; · iexact HU
  iintro %v969 HU
  iapply (store_U c x G 8 8 rfl _ _ rfl)
  isplitl [HU]; · iexact HU
  iintro HU
  iapply (load_T c x 2 0 0 9 4032 rfl (by decide) (by decide) rfl)
  isplitl [HT]; · iexact HT
  iintro HT
  iapply le_wp_ret
  iapply Hk
  isplitl [HL]; · iexact HL
  isplitl [HO]; · iexact HO
  isplitl [HT]; · iexact HT
  iexact HU

/-- THE RUN of part 76 of the body. -/
theorem part76_run (G : FVec F S448x448 .bf16) {Q : (FVec F S448x128 .bf16) → sProp (MT nD τ sig Unit (Elt F) ℕ (Pipeline.UD sig nD τ) ℕ)} :
    iprop((TS c x 2 0) ∗ (US c x G 9) ∗ (iprop((TS c x 2 0) ∗ (US c x G 12)) -∗ Q (k0_pay559 (rowsT x 0 12))))
      ⊢ wp frame (wpE (defs₀ (F := F)) Variants.none (c : Thread nD τ) none) Set.univ (k0_part76 (F := F) arg0 harg0 hbX (Memref.isWhole_whole _) arg2 harg2 arg3 harg3 arg4 harg4 scS (Memref.isWhole_whole _) scT (Memref.isWhole_whole _) scU (Memref.isWhole_whole _) cc0_scratch3 G (k0_pay555 (rowsT x 0 9))) Q := by
  rw [k0_part76_eq_skeleton]; unfold k0_part76_skel
  simp only [wp_bind]
  iintro ⟨HT, HU, Hk⟩
  iapply (load_T c x 2 1 1 9 4032 rfl (by decide) (by decide) rfl)
  isplitl [HT]; · iexact HT
  iintro HT
  iapply (load_U c x G 9)
  isplitl [HU]; · iexact HU
  iintro %v978 HU
  iapply (store_U c x G 9 9 rfl _ _ rfl)
  isplitl [HU]; · iexact HU
  iintro HU
  iapply (load_T c x 2 0 0 10 4480 rfl (by decide) (by decide) rfl)
  isplitl [HT]; · iexact HT
  iintro HT
  iapply (load_T c x 2 1 1 10 4480 rfl (by decide) (by decide) rfl)
  isplitl [HT]; · iexact HT
  iintro HT
  iapply (load_U c x G 10)
  isplitl [HU]; · iexact HU
  iintro %v987 HU
  iapply (store_U c x G 10 10 rfl _ _ rfl)
  isplitl [HU]; · iexact HU
  iintro HU
  iapply (load_T c x 2 0 0 11 4928 rfl (by decide) (by decide) rfl)
  isplitl [HT]; · iexact HT
  iintro HT
  iapply (load_T c x 2 1 1 11 4928 rfl (by decide) (by decide) rfl)
  isplitl [HT]; · iexact HT
  iintro HT
  iapply (load_U c x G 11)
  isplitl [HU]; · iexact HU
  iintro %v996 HU
  iapply (store_U c x G 11 11 rfl _ _ rfl)
  isplitl [HU]; · iexact HU
  iintro HU
  iapply (load_T c x 2 0 0 12 5376 rfl (by decide) (by decide) rfl)
  isplitl [HT]; · iexact HT
  iintro HT
  iapply le_wp_ret
  iapply Hk
  isplitl [HT]; · iexact HT
  iexact HU

/-- THE RUN of part 77 of the body. -/
theorem part77_run (G : FVec F S448x448 .bf16) {Q : (FVec F S448x128 .bf16) → sProp (MT nD τ sig Unit (Elt F) ℕ (Pipeline.UD sig nD τ) ℕ)} :
    iprop((TS c x 2 0) ∗ (US c x G 12) ∗ (iprop((TS c x 2 0) ∗ (US c x G 15)) -∗ Q (k0_pay563 (rowsT x 0 15))))
      ⊢ wp frame (wpE (defs₀ (F := F)) Variants.none (c : Thread nD τ) none) Set.univ (k0_part77 (F := F) arg0 harg0 hbX (Memref.isWhole_whole _) arg2 harg2 arg3 harg3 arg4 harg4 scS (Memref.isWhole_whole _) scT (Memref.isWhole_whole _) scU (Memref.isWhole_whole _) cc0_scratch3 G (k0_pay559 (rowsT x 0 12))) Q := by
  rw [k0_part77_eq_skeleton]; unfold k0_part77_skel
  simp only [wp_bind]
  iintro ⟨HT, HU, Hk⟩
  iapply (load_T c x 2 1 1 12 5376 rfl (by decide) (by decide) rfl)
  isplitl [HT]; · iexact HT
  iintro HT
  iapply (load_U c x G 12)
  isplitl [HU]; · iexact HU
  iintro %v1005 HU
  iapply (store_U c x G 12 12 rfl _ _ rfl)
  isplitl [HU]; · iexact HU
  iintro HU
  iapply (load_T c x 2 0 0 13 5824 rfl (by decide) (by decide) rfl)
  isplitl [HT]; · iexact HT
  iintro HT
  iapply (load_T c x 2 1 1 13 5824 rfl (by decide) (by decide) rfl)
  isplitl [HT]; · iexact HT
  iintro HT
  iapply (load_U c x G 13)
  isplitl [HU]; · iexact HU
  iintro %v1014 HU
  iapply (store_U c x G 13 13 rfl _ _ rfl)
  isplitl [HU]; · iexact HU
  iintro HU
  iapply (load_T c x 2 0 0 14 6272 rfl (by decide) (by decide) rfl)
  isplitl [HT]; · iexact HT
  iintro HT
  iapply (load_T c x 2 1 1 14 6272 rfl (by decide) (by decide) rfl)
  isplitl [HT]; · iexact HT
  iintro HT
  iapply (load_U c x G 14)
  isplitl [HU]; · iexact HU
  iintro %v1023 HU
  iapply (store_U c x G 14 14 rfl _ _ rfl)
  isplitl [HU]; · iexact HU
  iintro HU
  iapply (load_T c x 2 0 0 15 6720 rfl (by decide) (by decide) rfl)
  isplitl [HT]; · iexact HT
  iintro HT
  iapply le_wp_ret
  iapply Hk
  isplitl [HT]; · iexact HT
  iexact HU

/-- THE RUN of part 78 of the body. -/
theorem part78_run (G : FVec F S448x448 .bf16) {Q : PUnit → sProp (MT nD τ sig Unit (Elt F) ℕ (Pipeline.UD sig nD τ) ℕ)} :
    iprop((TS c x 2 0) ∗ (US c x G 15) ∗ (Iss c x 2 28) ∗ (Ow c) ∗ (iprop((TS c x 2 0) ∗ (US c x G 16) ∗ (Wt c x 2 3)) -∗ Q ⟨⟩))
      ⊢ wp frame (wpE (defs₀ (F := F)) Variants.none (c : Thread nD τ) none) Set.univ (k0_part78 (F := F) arg0 harg0 hbX (Memref.isWhole_whole _) arg2 harg2 arg3 harg3 arg4 harg4 scS (Memref.isWhole_whole _) scT (Memref.isWhole_whole _) scU (Memref.isWhole_whole _) cc0_scratch3 G (k0_pay563 (rowsT x 0 15))) Q := by
  rw [k0_part78_eq_skeleton]; unfold k0_part78_skel
  simp only [wp_bind]
  iintro ⟨HT, HU, HI, HO, Hk⟩
  iapply (load_T c x 2 1 1 15 6720 rfl (by decide) (by decide) rfl)
  isplitl [HT]; · iexact HT
  iintro HT
  iapply (load_U c x G 15)
  isplitl [HU]; · iexact HU
  iintro %v1032 HU
  iapply (store_U c x G 15 15 rfl _ _ rfl)
  isplitl [HU]; · iexact HU
  iintro HU
  ihave HW := (Iss_all' c x 2) $$ [HI HO]
  · isplitl [HI] <;> iassumption
  iapply (wait_one c x 2 0 (by decide) 2 256 2 rfl _ _ _ _ _)
  isplitl [HW]; · iexact HW
  iintro HW
  iapply (wait_one c x 2 1 (by decide) 6 768 2 rfl _ _ _ _ _)
  isplitl [HW]; · iexact HW
  iintro HW
  iapply (wait_one c x 2 2 (by decide) 10 1280 2 rfl _ _ _ _ _)
  isplitl [HW]; · iexact HW
  iintro HW
  iapply le_wp_ret
  iapply Hk
  isplitl [HT]; · iexact HT
  isplitl [HU]; · iexact HU
  iexact HW

/-- THE RUN of part 79 of the body. -/
theorem part79_run {Q : PUnit → sProp (MT nD τ sig Unit (Elt F) ℕ (Pipeline.UD sig nD τ) ℕ)} :
    iprop((Wt c x 2 3) ∗ (iprop((Wt c x 2 8)) -∗ Q ⟨⟩))
      ⊢ wp frame (wpE (defs₀ (F := F)) Variants.none (c : Thread nD τ) none) Set.univ (k0_part79 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part79_eq_skeleton]; unfold k0_part79_skel
  simp only [wp_bind]
  iintro ⟨HW, Hk⟩
  iapply (wait_one c x 2 3 (by decide) 14 1792 2 rfl _ _ _ _ _)
  isplitl [HW]; · iexact HW
  iintro HW
  iapply (wait_one c x 2 4 (by decide) 18 2304 2 rfl _ _ _ _ _)
  isplitl [HW]; · iexact HW
  iintro HW
  iapply (wait_one c x 2 5 (by decide) 22 2816 2 rfl _ _ _ _ _)
  isplitl [HW]; · iexact HW
  iintro HW
  iapply (wait_one c x 2 6 (by decide) 26 3328 2 rfl _ _ _ _ _)
  isplitl [HW]; · iexact HW
  iintro HW
  iapply (wait_one c x 2 7 (by decide) 30 3840 2 rfl _ _ _ _ _)
  isplitl [HW]; · iexact HW
  iintro HW
  iapply le_wp_ret
  iapply Hk
  iexact HW

/-- THE RUN of part 80 of the body. -/
theorem part80_run {Q : PUnit → sProp (MT nD τ sig Unit (Elt F) ℕ (Pipeline.UD sig nD τ) ℕ)} :
    iprop((Wt c x 2 8) ∗ (iprop((Wt c x 2 13)) -∗ Q ⟨⟩))
      ⊢ wp frame (wpE (defs₀ (F := F)) Variants.none (c : Thread nD τ) none) Set.univ (k0_part80 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part80_eq_skeleton]; unfold k0_part80_skel
  simp only [wp_bind]
  iintro ⟨HW, Hk⟩
  iapply (wait_one c x 2 8 (by decide) 34 4352 2 rfl _ _ _ _ _)
  isplitl [HW]; · iexact HW
  iintro HW
  iapply (wait_one c x 2 9 (by decide) 38 4864 2 rfl _ _ _ _ _)
  isplitl [HW]; · iexact HW
  iintro HW
  iapply (wait_one c x 2 10 (by decide) 42 5376 2 rfl _ _ _ _ _)
  isplitl [HW]; · iexact HW
  iintro HW
  iapply (wait_one c x 2 11 (by decide) 46 5888 2 rfl _ _ _ _ _)
  isplitl [HW]; · iexact HW
  iintro HW
  iapply (wait_one c x 2 12 (by decide) 50 6400 2 rfl _ _ _ _ _)
  isplitl [HW]; · iexact HW
  iintro HW
  iapply le_wp_ret
  iapply Hk
  iexact HW

/-- THE RUN of part 81 of the body. -/
theorem part81_run {Q : PUnit → sProp (MT nD τ sig Unit (Elt F) ℕ (Pipeline.UD sig nD τ) ℕ)} :
    iprop((Wt c x 2 13) ∗ (iprop((Wt c x 2 18)) -∗ Q ⟨⟩))
      ⊢ wp frame (wpE (defs₀ (F := F)) Variants.none (c : Thread nD τ) none) Set.univ (k0_part81 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part81_eq_skeleton]; unfold k0_part81_skel
  simp only [wp_bind]
  iintro ⟨HW, Hk⟩
  iapply (wait_one c x 2 13 (by decide) 54 6912 2 rfl _ _ _ _ _)
  isplitl [HW]; · iexact HW
  iintro HW
  iapply (wait_one c x 2 14 (by decide) 58 7424 2 rfl _ _ _ _ _)
  isplitl [HW]; · iexact HW
  iintro HW
  iapply (wait_one c x 2 15 (by decide) 62 7936 2 rfl _ _ _ _ _)
  isplitl [HW]; · iexact HW
  iintro HW
  iapply (wait_one c x 2 16 (by decide) 66 8448 2 rfl _ _ _ _ _)
  isplitl [HW]; · iexact HW
  iintro HW
  iapply (wait_one c x 2 17 (by decide) 70 8960 2 rfl _ _ _ _ _)
  isplitl [HW]; · iexact HW
  iintro HW
  iapply le_wp_ret
  iapply Hk
  iexact HW

/-- THE RUN of part 82 of the body. -/
theorem part82_run {Q : PUnit → sProp (MT nD τ sig Unit (Elt F) ℕ (Pipeline.UD sig nD τ) ℕ)} :
    iprop((Wt c x 2 18) ∗ (iprop((Wt c x 2 23)) -∗ Q ⟨⟩))
      ⊢ wp frame (wpE (defs₀ (F := F)) Variants.none (c : Thread nD τ) none) Set.univ (k0_part82 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part82_eq_skeleton]; unfold k0_part82_skel
  simp only [wp_bind]
  iintro ⟨HW, Hk⟩
  iapply (wait_one c x 2 18 (by decide) 74 9472 2 rfl _ _ _ _ _)
  isplitl [HW]; · iexact HW
  iintro HW
  iapply (wait_one c x 2 19 (by decide) 78 9984 2 rfl _ _ _ _ _)
  isplitl [HW]; · iexact HW
  iintro HW
  iapply (wait_one c x 2 20 (by decide) 82 10496 2 rfl _ _ _ _ _)
  isplitl [HW]; · iexact HW
  iintro HW
  iapply (wait_one c x 2 21 (by decide) 86 11008 2 rfl _ _ _ _ _)
  isplitl [HW]; · iexact HW
  iintro HW
  iapply (wait_one c x 2 22 (by decide) 90 11520 2 rfl _ _ _ _ _)
  isplitl [HW]; · iexact HW
  iintro HW
  iapply le_wp_ret
  iapply Hk
  iexact HW

/-- THE RUN of part 83 of the body. -/
theorem part83_run (G : FVec F S448x448 .bf16) {Q : (FVec F S448x128 .bf16) → sProp (MT nD τ sig Unit (Elt F) ℕ (Pipeline.UD sig nD τ) ℕ)} :
    iprop((Wt c x 2 23) ∗ (TS c x 2 0) ∗ (iprop((Landed c x 2) ∗ (Ow c) ∗ (TS c x 3 0)) -∗ Q (k0_pay568 (rowsT x 0 16))))
      ⊢ wp frame (wpE (defs₀ (F := F)) Variants.none (c : Thread nD τ) none) Set.univ (k0_part83 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part83_eq_skeleton]; unfold k0_part83_skel
  simp only [wp_bind]
  iintro ⟨HW, HT, Hk⟩
  iapply (wait_one c x 2 23 (by decide) 94 12032 2 rfl _ _ _ _ _)
  isplitl [HW]; · iexact HW
  iintro HW
  iapply (wait_one c x 2 24 (by decide) 98 12544 2 rfl _ _ _ _ _)
  isplitl [HW]; · iexact HW
  iintro HW
  iapply (wait_one c x 2 25 (by decide) 102 13056 2 rfl _ _ _ _ _)
  isplitl [HW]; · iexact HW
  iintro HW
  iapply (wait_one c x 2 26 (by decide) 106 13568 2 rfl _ _ _ _ _)
  isplitl [HW]; · iexact HW
  iintro HW
  iapply (wait_last c x 2 110 14080 2 rfl _ _ _ _ _)
  isplitl [HW]; · iexact HW
  iintro HW
  ihave HW := (Got_eq c x 2) $$ HW
  icases HW with ⟨HL, HO⟩
  iapply (loop3 c x arg0 harg0 arg2 harg2 arg3 harg3 arg4 harg4 G)
  isplitl [HT]; · iexact HT
  isplitl [HL]; · iexact HL
  iintro ⟨HT, HL⟩
  iapply (load_T c x 3 0 0 16 7168 rfl (by decide) (by decide) rfl)
  isplitl [HT]; · iexact HT
  iintro HT
  iapply le_wp_ret
  iapply Hk
  isplitl [HL]; · iexact HL
  isplitl [HO]; · iexact HO
  iexact HT

/-- THE RUN of part 84 of the body. -/
theorem part84_run (G : FVec F S448x448 .bf16) {Q : (FVec F S448x128 .bf16) → sProp (MT nD τ sig Unit (Elt F) ℕ (Pipeline.UD sig nD τ) ℕ)} :
    iprop((TS c x 3 0) ∗ (US c x G 16) ∗ (iprop((TS c x 3 0) ∗ (US c x G 19)) -∗ Q (k0_pay572 (rowsT x 0 19))))
      ⊢ wp frame (wpE (defs₀ (F := F)) Variants.none (c : Thread nD τ) none) Set.univ (k0_part84 (F := F) arg0 harg0 hbX (Memref.isWhole_whole _) arg2 harg2 arg3 harg3 arg4 harg4 scS (Memref.isWhole_whole _) scT (Memref.isWhole_whole _) scU (Memref.isWhole_whole _) cc0_scratch3 G (k0_pay568 (rowsT x 0 16))) Q := by
  rw [k0_part84_eq_skeleton]; unfold k0_part84_skel
  simp only [wp_bind]
  iintro ⟨HT, HU, Hk⟩
  iapply (load_T c x 3 1 1 16 7168 rfl (by decide) (by decide) rfl)
  isplitl [HT]; · iexact HT
  iintro HT
  iapply (load_U c x G 16)
  isplitl [HU]; · iexact HU
  iintro %v1182 HU
  iapply (store_U c x G 16 16 rfl _ _ rfl)
  isplitl [HU]; · iexact HU
  iintro HU
  iapply (load_T c x 3 0 0 17 7616 rfl (by decide) (by decide) rfl)
  isplitl [HT]; · iexact HT
  iintro HT
  iapply (load_T c x 3 1 1 17 7616 rfl (by decide) (by decide) rfl)
  isplitl [HT]; · iexact HT
  iintro HT
  iapply (load_U c x G 17)
  isplitl [HU]; · iexact HU
  iintro %v1191 HU
  iapply (store_U c x G 17 17 rfl _ _ rfl)
  isplitl [HU]; · iexact HU
  iintro HU
  iapply (load_T c x 3 0 0 18 8064 rfl (by decide) (by decide) rfl)
  isplitl [HT]; · iexact HT
  iintro HT
  iapply (load_T c x 3 1 1 18 8064 rfl (by decide) (by decide) rfl)
  isplitl [HT]; · iexact HT
  iintro HT
  iapply (load_U c x G 18)
  isplitl [HU]; · iexact HU
  iintro %v1200 HU
  iapply (store_U c x G 18 18 rfl _ _ rfl)
  isplitl [HU]; · iexact HU
  iintro HU
  iapply (load_T c x 3 0 0 19 8512 rfl (by decide) (by decide) rfl)
  isplitl [HT]; · iexact HT
  iintro HT
  iapply le_wp_ret
  iapply Hk
  isplitl [HT]; · iexact HT
  iexact HU

/-- THE RUN of part 85 of the body. -/
theorem part85_run (G : FVec F S448x448 .bf16) {Q : (FVec F S448x128 .bf16) → sProp (MT nD τ sig Unit (Elt F) ℕ (Pipeline.UD sig nD τ) ℕ)} :
    iprop((TS c x 3 0) ∗ (US c x G 19) ∗ (iprop((TS c x 3 0) ∗ (US c x G 22)) -∗ Q (k0_pay576 (rowsT x 0 22))))
      ⊢ wp frame (wpE (defs₀ (F := F)) Variants.none (c : Thread nD τ) none) Set.univ (k0_part85 (F := F) arg0 harg0 hbX (Memref.isWhole_whole _) arg2 harg2 arg3 harg3 arg4 harg4 scS (Memref.isWhole_whole _) scT (Memref.isWhole_whole _) scU (Memref.isWhole_whole _) cc0_scratch3 G (k0_pay572 (rowsT x 0 19))) Q := by
  rw [k0_part85_eq_skeleton]; unfold k0_part85_skel
  simp only [wp_bind]
  iintro ⟨HT, HU, Hk⟩
  iapply (load_T c x 3 1 1 19 8512 rfl (by decide) (by decide) rfl)
  isplitl [HT]; · iexact HT
  iintro HT
  iapply (load_U c x G 19)
  isplitl [HU]; · iexact HU
  iintro %v1209 HU
  iapply (store_U c x G 19 19 rfl _ _ rfl)
  isplitl [HU]; · iexact HU
  iintro HU
  iapply (load_T c x 3 0 0 20 8960 rfl (by decide) (by decide) rfl)
  isplitl [HT]; · iexact HT
  iintro HT
  iapply (load_T c x 3 1 1 20 8960 rfl (by decide) (by decide) rfl)
  isplitl [HT]; · iexact HT
  iintro HT
  iapply (load_U c x G 20)
  isplitl [HU]; · iexact HU
  iintro %v1218 HU
  iapply (store_U c x G 20 20 rfl _ _ rfl)
  isplitl [HU]; · iexact HU
  iintro HU
  iapply (load_T c x 3 0 0 21 9408 rfl (by decide) (by decide) rfl)
  isplitl [HT]; · iexact HT
  iintro HT
  iapply (load_T c x 3 1 1 21 9408 rfl (by decide) (by decide) rfl)
  isplitl [HT]; · iexact HT
  iintro HT
  iapply (load_U c x G 21)
  isplitl [HU]; · iexact HU
  iintro %v1227 HU
  iapply (store_U c x G 21 21 rfl _ _ rfl)
  isplitl [HU]; · iexact HU
  iintro HU
  iapply (load_T c x 3 0 0 22 9856 rfl (by decide) (by decide) rfl)
  isplitl [HT]; · iexact HT
  iintro HT
  iapply le_wp_ret
  iapply Hk
  isplitl [HT]; · iexact HT
  iexact HU

/-- THE RUN of part 86 of the body. -/
theorem part86_run (G : FVec F S448x448 .bf16) {Q : PUnit → sProp (MT nD τ sig Unit (Elt F) ℕ (Pipeline.UD sig nD τ) ℕ)} :
    iprop((TS c x 3 0) ∗ (US c x G 22) ∗ (Iss c x 3 28) ∗ (Ow c) ∗ (iprop((TS c x 3 0) ∗ (US c x G 24) ∗ (Wt c x 3 2)) -∗ Q ⟨⟩))
      ⊢ wp frame (wpE (defs₀ (F := F)) Variants.none (c : Thread nD τ) none) Set.univ (k0_part86 (F := F) arg0 harg0 hbX (Memref.isWhole_whole _) arg2 harg2 arg3 harg3 arg4 harg4 scS (Memref.isWhole_whole _) scT (Memref.isWhole_whole _) scU (Memref.isWhole_whole _) cc0_scratch3 G (k0_pay576 (rowsT x 0 22))) Q := by
  rw [k0_part86_eq_skeleton]; unfold k0_part86_skel
  simp only [wp_bind]
  iintro ⟨HT, HU, HI, HO, Hk⟩
  iapply (load_T c x 3 1 1 22 9856 rfl (by decide) (by decide) rfl)
  isplitl [HT]; · iexact HT
  iintro HT
  iapply (load_U c x G 22)
  isplitl [HU]; · iexact HU
  iintro %v1236 HU
  iapply (store_U c x G 22 22 rfl _ _ rfl)
  isplitl [HU]; · iexact HU
  iintro HU
  iapply (load_T c x 3 0 0 23 10304 rfl (by decide) (by decide) rfl)
  isplitl [HT]; · iexact HT
  iintro HT
  iapply (load_T c x 3 1 1 23 10304 rfl (by decide) (by decide) rfl)
  isplitl [HT]; · iexact HT
  iintro HT
  iapply (load_U c x G 23)
  isplitl [HU]; · iexact HU
  iintro %v1245 HU
  iapply (store_U c x G 23 23 rfl _ _ rfl)
  isplitl [HU]; · iexact HU
  iintro HU
  ihave HW := (Iss_all' c x 3) $$ [HI HO]
  · isplitl [HI] <;> iassumption
  iapply (wait_one c x 3 0 (by decide) 3 384 3 rfl _ _ _ _ _)
  isplitl [HW]; · iexact HW
  iintro HW
  iapply (wait_one c x 3 1 (by decide) 7 896 3 rfl _ _ _ _ _)
  isplitl [HW]; · iexact HW
  iintro HW
  iapply le_wp_ret
  iapply Hk
  isplitl [HT]; · iexact HT
  isplitl [HU]; · iexact HU
  iexact HW

/-- THE RUN of part 87 of the body. -/
theorem part87_run {Q : PUnit → sProp (MT nD τ sig Unit (Elt F) ℕ (Pipeline.UD sig nD τ) ℕ)} :
    iprop((Wt c x 3 2) ∗ (iprop((Wt c x 3 7)) -∗ Q ⟨⟩))
      ⊢ wp frame (wpE (defs₀ (F := F)) Variants.none (c : Thread nD τ) none) Set.univ (k0_part87 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part87_eq_skeleton]; unfold k0_part87_skel
  simp only [wp_bind]
  iintro ⟨HW, Hk⟩
  iapply (wait_one c x 3 2 (by decide) 11 1408 3 rfl _ _ _ _ _)
  isplitl [HW]; · iexact HW
  iintro HW
  iapply (wait_one c x 3 3 (by decide) 15 1920 3 rfl _ _ _ _ _)
  isplitl [HW]; · iexact HW
  iintro HW
  iapply (wait_one c x 3 4 (by decide) 19 2432 3 rfl _ _ _ _ _)
  isplitl [HW]; · iexact HW
  iintro HW
  iapply (wait_one c x 3 5 (by decide) 23 2944 3 rfl _ _ _ _ _)
  isplitl [HW]; · iexact HW
  iintro HW
  iapply (wait_one c x 3 6 (by decide) 27 3456 3 rfl _ _ _ _ _)
  isplitl [HW]; · iexact HW
  iintro HW
  iapply le_wp_ret
  iapply Hk
  iexact HW

/-- THE RUN of part 88 of the body. -/
theorem part88_run {Q : PUnit → sProp (MT nD τ sig Unit (Elt F) ℕ (Pipeline.UD sig nD τ) ℕ)} :
    iprop((Wt c x 3 7) ∗ (iprop((Wt c x 3 12)) -∗ Q ⟨⟩))
      ⊢ wp frame (wpE (defs₀ (F := F)) Variants.none (c : Thread nD τ) none) Set.univ (k0_part88 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part88_eq_skeleton]; unfold k0_part88_skel
  simp only [wp_bind]
  iintro ⟨HW, Hk⟩
  iapply (wait_one c x 3 7 (by decide) 31 3968 3 rfl _ _ _ _ _)
  isplitl [HW]; · iexact HW
  iintro HW
  iapply (wait_one c x 3 8 (by decide) 35 4480 3 rfl _ _ _ _ _)
  isplitl [HW]; · iexact HW
  iintro HW
  iapply (wait_one c x 3 9 (by decide) 39 4992 3 rfl _ _ _ _ _)
  isplitl [HW]; · iexact HW
  iintro HW
  iapply (wait_one c x 3 10 (by decide) 43 5504 3 rfl _ _ _ _ _)
  isplitl [HW]; · iexact HW
  iintro HW
  iapply (wait_one c x 3 11 (by decide) 47 6016 3 rfl _ _ _ _ _)
  isplitl [HW]; · iexact HW
  iintro HW
  iapply le_wp_ret
  iapply Hk
  iexact HW

/-- THE RUN of part 89 of the body. -/
theorem part89_run {Q : PUnit → sProp (MT nD τ sig Unit (Elt F) ℕ (Pipeline.UD sig nD τ) ℕ)} :
    iprop((Wt c x 3 12) ∗ (iprop((Wt c x 3 17)) -∗ Q ⟨⟩))
      ⊢ wp frame (wpE (defs₀ (F := F)) Variants.none (c : Thread nD τ) none) Set.univ (k0_part89 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part89_eq_skeleton]; unfold k0_part89_skel
  simp only [wp_bind]
  iintro ⟨HW, Hk⟩
  iapply (wait_one c x 3 12 (by decide) 51 6528 3 rfl _ _ _ _ _)
  isplitl [HW]; · iexact HW
  iintro HW
  iapply (wait_one c x 3 13 (by decide) 55 7040 3 rfl _ _ _ _ _)
  isplitl [HW]; · iexact HW
  iintro HW
  iapply (wait_one c x 3 14 (by decide) 59 7552 3 rfl _ _ _ _ _)
  isplitl [HW]; · iexact HW
  iintro HW
  iapply (wait_one c x 3 15 (by decide) 63 8064 3 rfl _ _ _ _ _)
  isplitl [HW]; · iexact HW
  iintro HW
  iapply (wait_one c x 3 16 (by decide) 67 8576 3 rfl _ _ _ _ _)
  isplitl [HW]; · iexact HW
  iintro HW
  iapply le_wp_ret
  iapply Hk
  iexact HW

/-- THE RUN of part 90 of the body. -/
theorem part90_run {Q : PUnit → sProp (MT nD τ sig Unit (Elt F) ℕ (Pipeline.UD sig nD τ) ℕ)} :
    iprop((Wt c x 3 17) ∗ (iprop((Wt c x 3 22)) -∗ Q ⟨⟩))
      ⊢ wp frame (wpE (defs₀ (F := F)) Variants.none (c : Thread nD τ) none) Set.univ (k0_part90 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part90_eq_skeleton]; unfold k0_part90_skel
  simp only [wp_bind]
  iintro ⟨HW, Hk⟩
  iapply (wait_one c x 3 17 (by decide) 71 9088 3 rfl _ _ _ _ _)
  isplitl [HW]; · iexact HW
  iintro HW
  iapply (wait_one c x 3 18 (by decide) 75 9600 3 rfl _ _ _ _ _)
  isplitl [HW]; · iexact HW
  iintro HW
  iapply (wait_one c x 3 19 (by decide) 79 10112 3 rfl _ _ _ _ _)
  isplitl [HW]; · iexact HW
  iintro HW
  iapply (wait_one c x 3 20 (by decide) 83 10624 3 rfl _ _ _ _ _)
  isplitl [HW]; · iexact HW
  iintro HW
  iapply (wait_one c x 3 21 (by decide) 87 11136 3 rfl _ _ _ _ _)
  isplitl [HW]; · iexact HW
  iintro HW
  iapply le_wp_ret
  iapply Hk
  iexact HW

/-- THE RUN of part 91 of the body. -/
theorem part91_run {Q : PUnit → sProp (MT nD τ sig Unit (Elt F) ℕ (Pipeline.UD sig nD τ) ℕ)} :
    iprop((Wt c x 3 22) ∗ (iprop((Wt c x 3 27)) -∗ Q ⟨⟩))
      ⊢ wp frame (wpE (defs₀ (F := F)) Variants.none (c : Thread nD τ) none) Set.univ (k0_part91 (F := F) arg0 harg0 hbX (Memref.isWhole_whole _) arg2 harg2 arg3 harg3 arg4 harg4 scS (Memref.isWhole_whole _) scT (Memref.isWhole_whole _) scU (Memref.isWhole_whole _) cc0_scratch3 ) Q := by
  rw [k0_part91_eq_skeleton]; unfold k0_part91_skel
  simp only [wp_bind]
  iintro ⟨HW, Hk⟩
  iapply (wait_one c x 3 22 (by decide) 91 11648 3 rfl _ _ _ _ _)
  isplitl [HW]; · iexact HW
  iintro HW
  iapply (wait_one c x 3 23 (by decide) 95 12160 3 rfl _ _ _ _ _)
  isplitl [HW]; · iexact HW
  iintro HW
  iapply (wait_one c x 3 24 (by decide) 99 12672 3 rfl _ _ _ _ _)
  isplitl [HW]; · iexact HW
  iintro HW
  iapply (wait_one c x 3 25 (by decide) 103 13184 3 rfl _ _ _ _ _)
  isplitl [HW]; · iexact HW
  iintro HW
  iapply (wait_one c x 3 26 (by decide) 107 13696 3 rfl _ _ _ _ _)
  isplitl [HW]; · iexact HW
  iintro HW
  iapply le_wp_ret
  iapply Hk
  iexact HW

/-- THE RUN of part 92 of the body. -/
theorem part92_run (G : FVec F S448x448 .bf16) {Q : PUnit → sProp (MT nD τ sig Unit (Elt F) ℕ (Pipeline.UD sig nD τ) ℕ)} :
    iprop((Wt c x 3 27) ∗ (TS c x 3 0) ∗ (US c x G 24) ∗ (iprop((Landed c x 3) ∗ (Ow c) ∗ (TS c x 4 0) ∗ (US c x G 26)) -∗ Q ⟨⟩))
      ⊢ wp frame (wpE (defs₀ (F := F)) Variants.none (c : Thread nD τ) none) Set.univ (k0_part92 (F := F) arg0 harg0 hbX (Memref.isWhole_whole _) arg2 harg2 arg3 harg3 arg4 harg4 scS (Memref.isWhole_whole _) scT (Memref.isWhole_whole _) scU (Memref.isWhole_whole _) cc0_scratch3 G) Q := by
  rw [k0_part92_eq_skeleton]; unfold k0_part92_skel
  simp only [wp_bind]
  iintro ⟨HW, HT, HU, Hk⟩
  iapply (wait_last c x 3 111 14208 3 rfl _ _ _ _ _)
  isplitl [HW]; · iexact HW
  iintro HW
  ihave HW := (Got_eq c x 3) $$ HW
  icases HW with ⟨HL, HO⟩
  iapply (loop4 c x arg0 harg0 arg2 harg2 arg3 harg3 arg4 harg4 G)
  isplitl [HT]; · iexact HT
  isplitl [HL]; · iexact HL
  iintro ⟨HT, HL⟩
  iapply (load_T c x 4 0 0 24 10752 rfl (by decide) (by decide) rfl)
  isplitl [HT]; · iexact HT
  iintro HT
  iapply (load_T c x 4 1 1 24 10752 rfl (by decide) (by decide) rfl)
  isplitl [HT]; · iexact HT
  iintro HT
  iapply (load_U c x G 24)
  isplitl [HU]; · iexact HU
  iintro %v1395 HU
  iapply (store_U c x G 24 24 rfl _ _ rfl)
  isplitl [HU]; · iexact HU
  iintro HU
  iapply (load_T c x 4 0 0 25 11200 rfl (by decide) (by decide) rfl)
  isplitl [HT]; · iexact HT
  iintro HT
  iapply (load_T c x 4 1 1 25 11200 rfl (by decide) (by decide) rfl)
  isplitl [HT]; · iexact HT
  iintro HT
  iapply (load_U c x G 25)
  isplitl [HU]; · iexact HU
  iintro %v1404 HU
  iapply (store_U c x G 25 25 rfl _ _ rfl)
  isplitl [HU]; · iexact HU
  iintro HU
  iapply le_wp_ret
  iapply Hk
  isplitl [HL]; · iexact HL
  isplitl [HO]; · iexact HO
  isplitl [HT]; · iexact HT
  iexact HU

/-- THE RUN of part 93 of the body. -/
theorem part93_run (G : FVec F S448x448 .bf16) {Q : PUnit → sProp (MT nD τ sig Unit (Elt F) ℕ (Pipeline.UD sig nD τ) ℕ)} :
    iprop((TS c x 4 0) ∗ (US c x G 26) ∗ (iprop((TS c x 4 0) ∗ (US c x G 29)) -∗ Q ⟨⟩))
      ⊢ wp frame (wpE (defs₀ (F := F)) Variants.none (c : Thread nD τ) none) Set.univ (k0_part93 (F := F) arg0 harg0 hbX (Memref.isWhole_whole _) arg2 harg2 arg3 harg3 arg4 harg4 scS (Memref.isWhole_whole _) scT (Memref.isWhole_whole _) scU (Memref.isWhole_whole _) cc0_scratch3 G) Q := by
  rw [k0_part93_eq_skeleton]; unfold k0_part93_skel
  simp only [wp_bind]
  iintro ⟨HT, HU, Hk⟩
  iapply (load_T c x 4 0 0 26 11648 rfl (by decide) (by decide) rfl)
  isplitl [HT]; · iexact HT
  iintro HT
  iapply (load_T c x 4 1 1 26 11648 rfl (by decide) (by decide) rfl)
  isplitl [HT]; · iexact HT
  iintro HT
  iapply (load_U c x G 26)
  isplitl [HU]; · iexact HU
  iintro %v1413 HU
  iapply (store_U c x G 26 26 rfl _ _ rfl)
  isplitl [HU]; · iexact HU
  iintro HU
  iapply (load_T c x 4 0 0 27 12096 rfl (by decide) (by decide) rfl)
  isplitl [HT]; · iexact HT
  iintro HT
  iapply (load_T c x 4 1 1 27 12096 rfl (by decide) (by decide) rfl)
  isplitl [HT]; · iexact HT
  iintro HT
  iapply (load_U c x G 27)
  isplitl [HU]; · iexact HU
  iintro %v1422 HU
  iapply (store_U c x G 27 27 rfl _ _ rfl)
  isplitl [HU]; · iexact HU
  iintro HU
  iapply (load_T c x 4 0 0 28 12544 rfl (by decide) (by decide) rfl)
  isplitl [HT]; · iexact HT
  iintro HT
  iapply (load_T c x 4 1 1 28 12544 rfl (by decide) (by decide) rfl)
  isplitl [HT]; · iexact HT
  iintro HT
  iapply (load_U c x G 28)
  isplitl [HU]; · iexact HU
  iintro %v1431 HU
  iapply (store_U c x G 28 28 rfl _ _ rfl)
  isplitl [HU]; · iexact HU
  iintro HU
  iapply le_wp_ret
  iapply Hk
  isplitl [HT]; · iexact HT
  iexact HU

/-- THE RUN of part 94 of the body. -/
theorem part94_run (G : FVec F S448x448 .bf16) {Q : (Σ' (v1461 : FVec F S8x256 .f32), BitVec 32) → sProp (MT nD τ sig Unit (Elt F) ℕ (Pipeline.UD sig nD τ) ℕ)} :
    iprop((TS c x 4 0) ∗ (US c x G 29) ∗ (iprop((TS c x 4 0) ∗ (US c x G 32)) -∗ Q ⟨k0_pay590 (F := F), 0#32⟩))
      ⊢ wp frame (wpE (defs₀ (F := F)) Variants.none (c : Thread nD τ) none) Set.univ (k0_part94 (F := F) arg0 harg0 hbX (Memref.isWhole_whole _) arg2 harg2 arg3 harg3 arg4 harg4 scS (Memref.isWhole_whole _) scT (Memref.isWhole_whole _) scU (Memref.isWhole_whole _) cc0_scratch3 G) Q := by
  rw [k0_part94_eq_skeleton]; unfold k0_part94_skel
  simp only [wp_bind]
  iintro ⟨HT, HU, Hk⟩
  iapply (load_T c x 4 0 0 29 12992 rfl (by decide) (by decide) rfl)
  isplitl [HT]; · iexact HT
  iintro HT
  iapply (load_T c x 4 1 1 29 12992 rfl (by decide) (by decide) rfl)
  isplitl [HT]; · iexact HT
  iintro HT
  iapply (load_U c x G 29)
  isplitl [HU]; · iexact HU
  iintro %v1440 HU
  iapply (store_U c x G 29 29 rfl _ _ rfl)
  isplitl [HU]; · iexact HU
  iintro HU
  iapply (load_T c x 4 0 0 30 13440 rfl (by decide) (by decide) rfl)
  isplitl [HT]; · iexact HT
  iintro HT
  iapply (load_T c x 4 1 1 30 13440 rfl (by decide) (by decide) rfl)
  isplitl [HT]; · iexact HT
  iintro HT
  iapply (load_U c x G 30)
  isplitl [HU]; · iexact HU
  iintro %v1449 HU
  iapply (store_U c x G 30 30 rfl _ _ rfl)
  isplitl [HU]; · iexact HU
  iintro HU
  iapply (load_T c x 4 0 0 31 13888 rfl (by decide) (by decide) rfl)
  isplitl [HT]; · iexact HT
  iintro HT
  iapply (load_T c x 4 1 1 31 13888 rfl (by decide) (by decide) rfl)
  isplitl [HT]; · iexact HT
  iintro HT
  iapply (load_U c x G 31)
  isplitl [HU]; · iexact HU
  iintro %v1458 HU
  iapply (store_U c x G 31 31 rfl _ _ rfl)
  isplitl [HU]; · iexact HU
  iintro HU
  iapply le_wp_ret
  iapply Hk
  isplitl [HT]; · iexact HT
  iexact HU

end Cert.RotateIdeal.Run
-- ==== Proof.RotIdealMain.lean ====
/- The rotation kernel's run as a whole: the butterfly loop, the scale, the codes, and the assembly of the parts. -/
module

public import proofs.«01_k».proof.Proof.RotIdealButter
public import proofs.«01_k».proof.Proof.RotIdealWaits

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (x : S256x14336.Idx → Elt F .bf16) (G : FVec F S448x448 .bf16) (arg0 : Memref sig .tc .vmem S28x28 .f32) (harg0 : arg0.IsWhole) (arg2 : Memref sig .tc .vmem S256x14336 .i8) (harg2 : arg2.IsWhole) (arg3 : Memref sig .tc .vmem S256x14336 .fp8e4m3) (harg3 : arg3.IsWhole) (arg4 : Memref sig .tc .vmem S1x256 .f32) (harg4 : arg4.IsWhole)

/-! ## The butterfly loop -/

/-- Every store of trip `k` done is trip `k + 1` begun. -/
theorem Umix_next (k : ℕ) : Umix x G k 64 = Umix x G (k + 1) 0 := by
  funext y
  have y0 : (y 0).val < 32 := (y 0).isLt
  have y2 : (y 2).val < 256 := (y 2).isLt
  unfold Umix
  have : ((y 1).val < 8 * k ∨ ((y 1).val < 8 * k + 8 ∧ 32 * ((y 2).val / 128) + (y 0).val < 64))
      ↔ ((y 1).val < 8 * (k + 1) ∨ ((y 1).val < 8 * (k + 1) + 8 ∧ 32 * ((y 2).val / 128) + (y 0).val < 0)) := by omega
  simp only [this]

/-- The products all written, the butterflies begin. -/
theorem US_UX : US c x G 32 ⊢ UX c x G 0 0 := by
  unfold US UX
  iintro ⟨%f, %hf, HU⟩
  have e : f = Umix x G 0 0 := by
    funext y
    have y0 : (y 0).val < 32 := (y 0).isLt
    unfold Umix
    rw [if_neg (by omega)]
    exact hf y y0
  rw [e]
  iexact HU

/-- The butterfly loop makes 56 trips, -/
theorem trips5 : Scf.trips k0_t5_loop.lb k0_t5_loop.ub k0_t5_loop.st = 56 := by decide +kernel
/-- and the quantiser's 28. -/
theorem trips6 : Scf.trips k0_t6_loop.lb k0_t6_loop.ub k0_t6_loop.st = 28 := by decide +kernel

/-- The butterfly loop. -/
theorem loop5 (b1 b2 : BitVec 32) {Q : FVec F S8x256 .f32 → sProp (MT nD τ sig Unit (Elt F) ℕ (Pipeline.UD sig nD τ) ℕ)} :
    iprop(UX c x G 0 0 ∗ (UX c x G 56 0 -∗ Q (macc x G 56)))
      ⊢ wp frame (wpE (defs₀ (F := F)) Variants.none (c : Thread nD τ) none) Set.univ
          (Scf.Loop.for k0_t5_loop k0_t5_ok (k0_pay590 (F := F)) (k0_t5_body arg0 harg0 hbX (Memref.isWhole_whole _) arg2 harg2 arg3 harg3 arg4 harg4 scS (Memref.isWhole_whole _) scT (Memref.isWhole_whole _) scU (Memref.isWhole_whole _) cc0_scratch3 b1 b2)) Q := by
  have hb : ∀ (k : Fin (Scf.trips k0_t5_loop.lb k0_t5_loop.ub k0_t5_loop.st)) (acc : FVec F S8x256 .f32), iprop(⌜acc = macc x G k.val⌝ ∗ UX c x G k.val 0)
      ⊢ wp frame (wpE (defs₀ (F := F)) Variants.none (c : Thread nD τ) none) Set.univ
          (k0_t5_body arg0 harg0 hbX (Memref.isWhole_whole _) arg2 harg2 arg3 harg3 arg4 harg4 scS (Memref.isWhole_whole _) scT (Memref.isWhole_whole _) scU (Memref.isWhole_whole _) cc0_scratch3 b1 b2 k acc)
          (fun r => iprop(⌜r = macc x G (k.val + 1)⌝ ∗ UX c x G (k.val + 1) 0)) := by
    intro k acc
    have hk : k.val < 56 := lt_of_lt_of_eq k.isLt trips5
    unfold k0_t5_body
    simp only [wp_bind]
    iintro ⟨%hacc, HU⟩
    subst hacc
    iapply (trip5 c x G arg0 harg0 arg2 harg2 arg3 harg3 arg4 harg4 k hk (macc x G k.val) b1 b2)
    isplitl [HU]; · iexact HU
    iintro %r ⟨%hr, HU⟩
    subst hr
    isplitr; · ipureintro; rfl
    unfold UX
    rw [← Umix_next x G k.val]
    iexact HU
  iintro ⟨HU, Hk⟩
  iapply (Scf.wp_for frame (wpE (defs₀ (F := F)) Variants.none (c : Thread nD τ) none) Set.univ _ _ _ k0_t5_ok (k0_pay590 (F := F)) _
      (fun k acc => iprop(⌜acc = macc x G k⌝ ∗ UX c x G k 0)) hb)
  isplitl [HU]
  · isplitr; · ipureintro; rfl
    iexact HU
  iintro %r ⟨%hr, HU⟩
  rw [trips5] at hr ⊢
  subst hr
  iapply Hk
  iexact HU

/-! ## The codes -/

/-- Sixteen rows of every block: 512 rotated columns, transposed. -/
def brow (k : ℕ) : Vec F S32x16x256 .f32 := fun j =>
  UB x G (ix3 (n0 := 32) (n1 := 448) (n2 := 256) ⟨(j 0).val, (j 0).isLt⟩ (Fin.ofNat 448 (16 * k + (j 1).val)) ⟨(j 2).val, (j 2).isLt⟩)

/-- The codes, as integers and as bytes of floating point. -/
def codesI : S256x14336.Idx → Elt F .i8 := fun i =>
  k0_pay2 (macc x G 56) (brow x G ((i 1).val / 512)) (ix2 (n0 := 256) (n1 := 512) ⟨(i 0).val, (i 0).isLt⟩ (Fin.ofNat 512 ((i 1).val % 512)))
/-- The codes as bytes of fp8. -/
def codesF : S256x14336.Idx → Elt F .fp8e4m3 := fun i =>
  k0_pay3 (macc x G 56) (brow x G ((i 1).val / 512)) (ix2 (n0 := 256) (n1 := 512) ⟨(i 0).val, (i 0).isLt⟩ (Fin.ofNat 512 ((i 1).val % 512)))

/-- A result's buffer, its first `512 k` columns at `C`. -/
def CX {ty : EltTy} (M : Memref sig .tc .vmem S256x14336 ty) (C : S256x14336.Idx → Elt F ty) (k : ℕ) : sProp (MT nD τ sig Unit (Elt F) ℕ (Pipeline.UD sig nD τ) ℕ) :=
  iprop(∃ f, ⌜∀ i, (i 1).val < 512 * k → M.view.read (Elt F) f i = C i⌝ ∗ (M.view.loc (c : Thread nD τ) ↦[M.view.set]{fullShare} f))

/-- A load whose value nothing reads. -/
theorem load_C {ty : EltTy} (M : Memref sig .tc .vmem S256x14336 ty) (C : S256x14336.Idx → Elt F ty) (k : ℕ) (r : Rect S256x14336) (hl) {Q : (r.shape.Idx → Elt F ty) → sProp (MT nD τ sig Unit (Elt F) ℕ (Pipeline.UD sig nD τ) ℕ)} :
    iprop(CX c M C k ∗ (∀ v, CX c M C k -∗ Q v))
      ⊢ wp frame (wpE (defs₀ (F := F)) Variants.none (c : Thread nD τ) none) Set.univ (Prog.lift (.load M r.toLoadRect hl)) Q := by
  unfold CX
  iintro ⟨⟨%f, %hf, HT⟩, Hk⟩
  iapply (wp_load_rect (Lvl := ℕ) (Name := ℕ) (U := Pipeline.UD sig nD τ) (Ix := Unit) (defs := defs₀ (F := F)) Variants.none (c : Thread nD τ) none Set.univ
    (Q := Q) (m := M) (r := r) (hl := hl) (k := Prog.ret) (S := M.view.set) (q := fullShare) (f := f)
    (View.set_slice_subset _ _)) $$ HT
  iintro HT
  iapply le_wp_ret
  iapply Hk
  iexists f
  isplitr; · ipureintro; exact hf
  iexact HT

/-- The store of the next 512 columns. -/
theorem store_C {ty : EltTy} (M : Memref sig .tc .vmem S256x14336 ty) (C : S256x14336.Idx → Elt F ty) (k : ℕ) (hk : k < 28) (off : Fin 2 → ℕ) (ho : off = ![0, 512 * k]) (inb)
    (w : S256x512.Idx → Elt F ty) (hw : ∀ j : S256x512.Idx, w j = C (ix2 (n0 := 256) (n1 := 14336) ⟨(j 0).val, (j 0).isLt⟩ (Fin.ofNat 14336 (512 * k + (j 1).val)))) (hst) (hm) {Q : PUnit → sProp (MT nD τ sig Unit (Elt F) ℕ (Pipeline.UD sig nD τ) ℕ)} :
    iprop(CX c M C k ∗ (CX c M C (k + 1) -∗ Q ⟨⟩))
      ⊢ wp frame (wpE (defs₀ (F := F)) Variants.none (c : Thread nD τ) none) Set.univ
          (Prog.lift (.store M (Rect.unit (s := S256x14336) off S256x512.size inb) w Finset.univ hst hm)) Q := by
  subst ho
  unfold CX
  iintro ⟨⟨%f, %hf, HT⟩, Hk⟩
  iapply (wp_store (Lvl := ℕ) (Name := ℕ) (U := Pipeline.UD sig nD τ) (Ix := Unit) (defs := defs₀ (F := F)) Variants.none (c : Thread nD τ) none Set.univ
    (Q := Q) (m := M) (r := Rect.unit (s := S256x14336) ![0, 512 * k] S256x512.size inb) (hx := hst) (hm := hm) (k := Prog.ret) (S := M.view.set) (f := f)
    (by rw [View.setOn_univ]; exact View.set_slice_subset _ _)) $$ HT
  iintro HT
  iapply le_wp_ret
  iapply Hk
  iexists _
  isplitr
  swap; · iexact HT
  ipureintro
  intro y hy
  have y0 : (y 0).val < 256 := (y 0).isLt
  have L : ∃ L : List (View.Piece (Elt F) S256x14336 ty), L = [⟨Rect.unit (s := S256x14336) ![0, 512 * k] S256x512.size inb, w⟩] := ⟨_, rfl⟩
  obtain ⟨L, hL⟩ := L
  have e1 : (M.access (Rect.unit (s := S256x14336) ![0, 512 * k] S256x512.size inb)).write (Elt F) f w Finset.univ
      = M.view.writes (Elt F) f L := by rw [hL]; rfl
  rw [e1]
  by_cases hy' : 512 * k ≤ (y 1).val
  · refine View.read_writes_apply_of_pieces M.view f C L ?_ y ?_
    · intro p hp j
      rw [hL, List.mem_singleton] at hp
      subst hp
      show w j = _
      rw [hw j]
      congr 1
      have hj1 : (j 1).val < 512 := (j 1).isLt
      funext a
      apply Fin.ext
      match a with
      | ⟨0, _⟩ => show (j 0).val = 0 + 1 * (j 0).val; omega
      | ⟨1, _⟩ => show (512 * k + (j 1).val) % 14336 = 512 * k + 1 * (j 1).val; omega
    · refine ⟨_, by rw [hL]; exact List.mem_singleton_self _, ?_⟩
      rw [Rect.mem_set_unit]
      intro a
      match a with
      | ⟨0, _⟩ => exact ⟨by show 0 ≤ (y 0).val; omega, by show (y 0).val < 0 + 256; omega⟩
      | ⟨1, _⟩ => exact ⟨by show 512 * k ≤ (y 1).val; omega, by show (y 1).val < 512 * k + 512; omega⟩
  · refine (View.read_writes_apply_of_forall_not_mem M.view f y L ?_).trans (hf y (by omega))
    intro p hp
    rw [hL, List.mem_singleton] at hp
    subst hp
    rw [Rect.mem_set_unit]
    intro hh
    have h1 := hh 1
    change 512 * k ≤ (y 1).val ∧ (y 1).val < 512 * k + 512 at h1
    omega

/-- A load of sixteen rows of every block, the butterflies done. -/
theorem load_B (k : ℕ) (hk : k < 28) (off : Fin 3 → ℕ) (ho : off = ![0, 16 * k, 0]) (inb) (hl) {Q : (S32x16x256.Idx → Elt F .f32) → sProp (MT nD τ sig Unit (Elt F) ℕ (Pipeline.UD sig nD τ) ℕ)} :
    iprop(UX c x G 56 0 ∗ (UX c x G 56 0 -∗ Q (brow x G k)))
      ⊢ wp frame (wpE (defs₀ (F := F)) Variants.none (c : Thread nD τ) none) Set.univ
          (Prog.lift (.load scU (Rect.unit (s := S32x448x256) off S32x16x256.size inb).toLoadRect hl)) Q := by
  subst ho
  unfold UX
  iintro ⟨HT, Hk⟩
  iapply (wp_load_rect (Lvl := ℕ) (Name := ℕ) (U := Pipeline.UD sig nD τ) (Ix := Unit) (defs := defs₀ (F := F)) Variants.none (c : Thread nD τ) none Set.univ
    (Q := Q) (m := scU) (r := Rect.unit (s := S32x448x256) ![0, 16 * k, 0] S32x16x256.size inb) (hl := hl) (k := Prog.ret) (S := scU.view.set) (q := fullShare) (f := Umix x G 56 0)
    (View.set_slice_subset _ _)) $$ HT
  iintro HT
  iapply le_wp_ret
  have e : (scU.access (Rect.unit (s := S32x448x256) ![0, 16 * k, 0] S32x16x256.size inb)).read (Elt F) (Umix x G 56 0) = brow x G k := by
    funext j
    show Umix x G 56 0 ((Rect.unit (s := S32x448x256) ![0, 16 * k, 0] S32x16x256.size inb).emb j) = _
    have hj0 : (j 0).val < 32 := (j 0).isLt
    have hj1 : (j 1).val < 16 := (j 1).isLt
    have hj2 : (j 2).val < 256 := (j 2).isLt
    unfold Umix
    rw [if_pos (by
      left
      show 16 * k + 1 * (j 1).val < 8 * 56
      omega)]
    unfold brow
    congr 1
    funext a
    apply Fin.ext
    match a with
    | ⟨0, _⟩ => show 0 + 1 * (j 0).val = (j 0).val; omega
    | ⟨1, _⟩ => show 16 * k + 1 * (j 1).val = (16 * k + (j 1).val) % 448; omega
    | ⟨2, _⟩ => show 0 + 1 * (j 2).val = (j 2).val; omega
  rw [e]
  iapply Hk
  iexact HT

/-- The block of the product buffer trip `k` of the quantiser reads, -/
theorem off77_eq : ∀ k : Fin k0_t6_loop.trips, k0_off77 k = ![0, 16 * k.val, 0] := by decide +kernel
/-- and the columns it writes. -/
theorem off78_eq : ∀ k : Fin k0_t6_loop.trips, k0_off78 k = ![0, 512 * k.val] := by decide +kernel

/-- The codes of trip `k`, in the whole array, -/
theorem codesI_at (k : ℕ) (hk : k < 28) (j : S256x512.Idx) : k0_pay2 (macc x G 56) (brow x G k) j
    = codesI x G (ix2 (n0 := 256) (n1 := 14336) ⟨(j 0).val, (j 0).isLt⟩ (Fin.ofNat 14336 (512 * k + (j 1).val))) := by
  have hj1 : (j 1).val < 512 := (j 1).isLt
  have a1 : (512 * k + (j 1).val) % 14336 / 512 = k := by omega
  have a2 : (512 * k + (j 1).val) % 14336 % 512 = (j 1).val := by omega
  show _ = k0_pay2 (macc x G 56) (brow x G ((512 * k + (j 1).val) % 14336 / 512)) (ix2 (n0 := 256) (n1 := 512) ⟨(j 0).val, _⟩ (Fin.ofNat 512 ((512 * k + (j 1).val) % 14336 % 512)))
  rw [a1, a2]
  congr 1
  funext a
  apply Fin.ext
  match a with
  | ⟨0, _⟩ => rfl
  | ⟨1, _⟩ => show (j 1).val = (j 1).val % 512; omega

/-- and their bytes. -/
theorem codesF_at (k : ℕ) (hk : k < 28) (j : S256x512.Idx) : k0_pay3 (macc x G 56) (brow x G k) j
    = codesF x G (ix2 (n0 := 256) (n1 := 14336) ⟨(j 0).val, (j 0).isLt⟩ (Fin.ofNat 14336 (512 * k + (j 1).val))) := by
  have hj1 : (j 1).val < 512 := (j 1).isLt
  have a1 : (512 * k + (j 1).val) % 14336 / 512 = k := by omega
  have a2 : (512 * k + (j 1).val) % 14336 % 512 = (j 1).val := by omega
  show _ = k0_pay3 (macc x G 56) (brow x G ((512 * k + (j 1).val) % 14336 / 512)) (ix2 (n0 := 256) (n1 := 512) ⟨(j 0).val, _⟩ (Fin.ofNat 512 ((512 * k + (j 1).val) % 14336 % 512)))
  rw [a1, a2]
  congr 1
  funext a
  apply Fin.ext
  match a with
  | ⟨0, _⟩ => rfl
  | ⟨1, _⟩ => show (j 1).val = (j 1).val % 512; omega

/-- The loop that writes the codes. -/
theorem loop6 {Q : Unit → sProp (MT nD τ sig Unit (Elt F) ℕ (Pipeline.UD sig nD τ) ℕ)} :
    iprop(UX c x G 56 0 ∗ CX c arg2 (codesI x G) 0 ∗ CX c arg3 (codesF x G) 0
        ∗ ((UX c x G 56 0 ∗ CX c arg2 (codesI x G) 28 ∗ CX c arg3 (codesF x G) 28) -∗ Q ⟨⟩))
      ⊢ wp frame (wpE (defs₀ (F := F)) Variants.none (c : Thread nD τ) none) Set.univ
          (Scf.Loop.for k0_t6_loop k0_t6_ok ⟨⟩ (k0_t6_body arg0 harg0 hbX (Memref.isWhole_whole _) arg2 harg2 arg3 harg3 arg4 harg4 scS (Memref.isWhole_whole _) scT (Memref.isWhole_whole _) scU (Memref.isWhole_whole _) cc0_scratch3 (macc x G 56))) Q := by
  have hb : ∀ (k : Fin (Scf.trips k0_t6_loop.lb k0_t6_loop.ub k0_t6_loop.st)) (acc : Unit), iprop(UX c x G 56 0 ∗ CX c arg2 (codesI x G) k.val ∗ CX c arg3 (codesF x G) k.val)
      ⊢ wp frame (wpE (defs₀ (F := F)) Variants.none (c : Thread nD τ) none) Set.univ
          (k0_t6_body arg0 harg0 hbX (Memref.isWhole_whole _) arg2 harg2 arg3 harg3 arg4 harg4 scS (Memref.isWhole_whole _) scT (Memref.isWhole_whole _) scU (Memref.isWhole_whole _) cc0_scratch3 (macc x G 56) k acc)
          (fun _ => iprop(UX c x G 56 0 ∗ CX c arg2 (codesI x G) (k.val + 1) ∗ CX c arg3 (codesF x G) (k.val + 1))) := by
    intro k acc
    have hk : k.val < 28 := lt_of_lt_of_eq k.isLt trips6
    unfold k0_t6_body
    simp only [wp_bind]
    iintro ⟨HU, H2, H3⟩
    iapply (load_B c x G k.val hk _ (off77_eq k))
    isplitl [HU]; · iexact HU
    iintro HU
    iapply (load_C c arg2 (codesI x G) k.val)
    isplitl [H2]; · iexact H2
    iintro %v2 H2
    iapply (store_C c arg2 (codesI x G) k.val hk _ (off78_eq k) _ _ (codesI_at x G k.val hk))
    isplitl [H2]; · iexact H2
    iintro H2
    iapply (load_C c arg3 (codesF x G) k.val)
    isplitl [H3]; · iexact H3
    iintro %v3 H3
    iapply (store_C c arg3 (codesF x G) k.val hk _ (off78_eq k) _ _ (codesF_at x G k.val hk))
    isplitl [H3]; · iexact H3
    iintro H3
    iapply le_wp_ret
    isplitl [HU]; · iexact HU
    isplitl [H2] <;> iassumption
  iintro ⟨HU, H2, H3, Hk⟩
  iapply (Scf.wp_for frame (wpE (defs₀ (F := F)) Variants.none (c : Thread nD τ) none) Set.univ _ _ _ k0_t6_ok ⟨⟩ _
      (fun k _ => iprop(UX c x G 56 0 ∗ CX c arg2 (codesI x G) k ∗ CX c arg3 (codesF x G) k)) hb)
  isplitl [HU H2 H3]
  · isplitl [HU]; · iexact HU
    isplitl [H2] <;> iassumption
  iintro %acc H
  rw [trips6]
  iapply Hk
  iexact H

/-! ## The scale -/

/-- The scale's buffer, at `w`. -/
def SX (w : S1x256.Idx → Elt F .f32) : sProp (MT nD τ sig Unit (Elt F) ℕ (Pipeline.UD sig nD τ) ℕ) :=
  iprop(∃ f, ⌜arg4.view.read (Elt F) f = w⌝ ∗ (arg4.view.loc (c : Thread nD τ) ↦[arg4.view.set]{fullShare} f))

/-- Loading the scales' buffer. -/
theorem load_S (r : Rect S1x256) (hl) {Q : (r.shape.Idx → Elt F .f32) → sProp (MT nD τ sig Unit (Elt F) ℕ (Pipeline.UD sig nD τ) ℕ)} :
    iprop((∃ f, (arg4.view.loc (c : Thread nD τ) ↦[arg4.view.set]{fullShare} f)) ∗ (∀ v, (∃ f, (arg4.view.loc (c : Thread nD τ) ↦[arg4.view.set]{fullShare} f)) -∗ Q v))
      ⊢ wp frame (wpE (defs₀ (F := F)) Variants.none (c : Thread nD τ) none) Set.univ (Prog.lift (.load arg4 r.toLoadRect hl)) Q := by
  iintro ⟨⟨%f, HT⟩, Hk⟩
  iapply (wp_load_rect (Lvl := ℕ) (Name := ℕ) (U := Pipeline.UD sig nD τ) (Ix := Unit) (defs := defs₀ (F := F)) Variants.none (c : Thread nD τ) none Set.univ
    (Q := Q) (m := arg4) (r := r) (hl := hl) (k := Prog.ret) (S := arg4.view.set) (q := fullShare) (f := f)
    (View.set_slice_subset _ _)) $$ HT
  iintro HT
  iapply le_wp_ret
  iapply Hk
  iexists f
  iexact HT

/-- Storing the scales' buffer. -/
theorem store_S (inb) (w : S1x256.Idx → Elt F .f32) (hst) (hm) {Q : PUnit → sProp (MT nD τ sig Unit (Elt F) ℕ (Pipeline.UD sig nD τ) ℕ)} :
    iprop((∃ f, (arg4.view.loc (c : Thread nD τ) ↦[arg4.view.set]{fullShare} f)) ∗ (SX c arg4 w -∗ Q ⟨⟩))
      ⊢ wp frame (wpE (defs₀ (F := F)) Variants.none (c : Thread nD τ) none) Set.univ
          (Prog.lift (.store arg4 (Rect.unit (s := S1x256) ![0, 0] S1x256.size inb) w Finset.univ hst hm)) Q := by
  unfold SX
  iintro ⟨⟨%f, HT⟩, Hk⟩
  iapply (wp_store (Lvl := ℕ) (Name := ℕ) (U := Pipeline.UD sig nD τ) (Ix := Unit) (defs := defs₀ (F := F)) Variants.none (c : Thread nD τ) none Set.univ
    (Q := Q) (m := arg4) (r := Rect.unit (s := S1x256) ![0, 0] S1x256.size inb) (hx := hst) (hm := hm) (k := Prog.ret) (S := arg4.view.set) (f := f)
    (by rw [View.setOn_univ]; exact View.set_slice_subset _ _)) $$ HT
  iintro HT
  iapply le_wp_ret
  iapply Hk
  iexists _
  isplitr
  swap; · iexact HT
  ipureintro
  funext y
  have L : ∃ L : List (View.Piece (Elt F) S1x256 .f32), L = [⟨Rect.unit (s := S1x256) ![0, 0] S1x256.size inb, w⟩] := ⟨_, rfl⟩
  obtain ⟨L, hL⟩ := L
  have e1 : (arg4.access (Rect.unit (s := S1x256) ![0, 0] S1x256.size inb)).write (Elt F) f w Finset.univ
      = arg4.view.writes (Elt F) f L := by rw [hL]; rfl
  rw [e1]
  refine View.read_writes_apply_of_pieces arg4.view f w L ?_ y ?_
  · intro p hp j
    rw [hL, List.mem_singleton] at hp
    subst hp
    show w j = _
    congr 1
    funext a
    apply Fin.ext
    match a with
    | ⟨0, _⟩ => show (j 0).val = 0 + 1 * (j 0).val; omega
    | ⟨1, _⟩ => show (j 1).val = 0 + 1 * (j 1).val; omega
  · refine ⟨_, by rw [hL]; exact List.mem_singleton_self _, ?_⟩
    rw [Rect.mem_set_unit]
    intro a
    match a with
    | ⟨0, _⟩ => exact ⟨by show 0 ≤ (y 0).val; omega, by show (y 0).val < 0 + 1; exact lt_of_lt_of_eq (y 0).isLt (by rfl)⟩
    | ⟨1, _⟩ => exact ⟨by show 0 ≤ (y 1).val; omega, by show (y 1).val < 0 + 256; exact lt_of_lt_of_eq (y 1).isLt (by rfl)⟩

/-! ## The chunks' shares -/

/-- Four chunks, one by one. -/
theorem four (Φ : Fin 4 → sProp (MT nD τ sig Unit (Elt F) ℕ (Pipeline.UD sig nD τ) ℕ)) : bigSep Finset.univ Φ = iprop(Φ 0 ∗ Φ 1 ∗ Φ 2 ∗ Φ 3) := by
  rw [BI.bigSep_eq_bigSepL_of_eq [0, 1, 2, 3] (by decide) (by decide)]; rfl

/-- What a chunk starts from. -/
def Fresh (q : Fin 4) : sProp (MT nD τ sig Unit (Elt F) ℕ (Pipeline.UD sig nD τ) ℕ) :=
  bigSep Finset.univ (fun t : Fin 28 => iprop((∃ f, scS.view.loc (c : Thread nD τ) ↦[slabSet (q, t)]{fullShare} f)
        ∗ (hbX.view.loc (c : Thread nD τ) ↦[colSet (q, t)]{fullShare} x)))

/-- The staging buffer and `x`, whole, are the four chunks' shares. -/
theorem fresh_split (f : S112x256x128.Idx → Elt F .bf16) :
    iprop((scS.view.loc (c : Thread nD τ) ↦{fullShare} f) ∗ (hbX.view.loc (c : Thread nD τ) ↦{fullShare} x))
      ⊢ iprop(Fresh c x 0 ∗ Fresh c x 1 ∗ Fresh c x 2 ∗ Fresh c x 3) := by
  rw [← four (F := F) (fun q : Fin 4 => Fresh c x q), Ring.pointsTo_blocks (ℓ := scS.view.loc (c : Thread nD τ)) slabSet slab_disj slab_cover f,
    Ring.pointsTo_blocks (ℓ := hbX.view.loc (c : Thread nD τ)) colSet col_disj col_cover x]
  refine (Entails.of_eq (bigSep_sep Finset.univ (fun b => (scS.view.loc (c : Thread nD τ) ↦[slabSet b]{fullShare} f : sProp (MT nD τ sig Unit (Elt F) ℕ (Pipeline.UD sig nD τ) ℕ))) (fun b => (hbX.view.loc (c : Thread nD τ) ↦[colSet b]{fullShare} x))).symm).trans ?_
  rw [bigSep_univ_prod]
  unfold Fresh
  refine bigSep_mono (fun q _ => bigSep_mono (fun t _ => ?_))
  show iprop((scS.view.loc (c : Thread nD τ) ↦[slabSet (q, t)]{fullShare} f) ∗ (hbX.view.loc (c : Thread nD τ) ↦[colSet (q, t)]{fullShare} x)) ⊢ _
  iintro ⟨H, HX⟩
  isplitl [H]; · iexists f; iexact H
  iexact HX

/-- The four chunks landed are the staging buffer at `XS` and `x`, whole. -/
theorem landed_join :
    iprop(bigSep Finset.univ (fun t : Fin 28 => dlv c x (0, t)) ∗ bigSep Finset.univ (fun t : Fin 28 => dlv c x (1, t))
        ∗ bigSep Finset.univ (fun t : Fin 28 => dlv c x (2, t)) ∗ bigSep Finset.univ (fun t : Fin 28 => dlv c x (3, t)))
      ⊢ iprop((scS.view.loc (c : Thread nD τ) ↦{fullShare} (XS x)) ∗ (hbX.view.loc (c : Thread nD τ) ↦{fullShare} x)) := by
  rw [← four (F := F) (fun q : Fin 4 => bigSep Finset.univ (fun t : Fin 28 => dlv c x (q, t))),
    Ring.pointsTo_blocks (ℓ := scS.view.loc (c : Thread nD τ)) slabSet slab_disj slab_cover (XS x),
    Ring.pointsTo_blocks (ℓ := hbX.view.loc (c : Thread nD τ)) colSet col_disj col_cover x]
  refine BIBase.Entails.trans ?_ (Entails.of_eq (bigSep_sep Finset.univ (fun b => (scS.view.loc (c : Thread nD τ) ↦[slabSet b]{fullShare} (XS x) : sProp (MT nD τ sig Unit (Elt F) ℕ (Pipeline.UD sig nD τ) ℕ))) (fun b => (hbX.view.loc (c : Thread nD τ) ↦[colSet b]{fullShare} x))))
  exact BIBase.Entails.of_eq (bigSep_univ_prod (fun b : Fin 4 × Fin 28 => dlv c x b)).symm

/-- The matrix each block of 448 rows is multiplied by. -/
def GM (h : S28x28.Idx → Elt F .f32) : FVec F S448x448 .bf16 := k0_pay537 (k0_pay536 (F := F)) h

set_option maxHeartbeats 4000000 in
/-- The transfers, the transposes and the products: every part before the butterflies. -/
theorem part95_run (f0 : arg0.view.ty.Contents (Elt F)) {Q : (Σ' (v1461 : FVec F S8x256 .f32) (c0_i32_1410 : BitVec 32), BitVec 32) → sProp (MT nD τ sig Unit (Elt F) ℕ (Pipeline.UD sig nD τ) ℕ)} :
    iprop((arg0.view.loc (c : Thread nD τ) ↦[arg0.view.set]{fullShare} f0) ∗ Iss c x 0 0 ∗ Iss c x 1 0 ∗ Iss c x 2 0 ∗ Iss c x 3 0 ∗ Ow c ∗ TS c x 0 0 ∗ US c x (GM (arg0.view.read (Elt F) f0)) 0
        ∗ (∀ b1 b2, iprop((arg0.view.loc (c : Thread nD τ) ↦[arg0.view.set]{fullShare} f0) ∗ Landed c x 0 ∗ Landed c x 1 ∗ Landed c x 2 ∗ Landed c x 3 ∗ Ow c ∗ TS c x 4 0 ∗ US c x (GM (arg0.view.read (Elt F) f0)) 32) -∗ Q ⟨k0_pay590 (F := F), b1, b2⟩))
      ⊢ wp frame (wpE (defs₀ (F := F)) Variants.none (c : Thread nD τ) none) Set.univ (k0_part95 (F := F) arg0 harg0 hbX (Memref.isWhole_whole _) arg2 harg2 arg3 harg3 arg4 harg4 scS (Memref.isWhole_whole _) scT (Memref.isWhole_whole _) scU (Memref.isWhole_whole _) cc0_scratch3) Q := by
  rw [k0_part95_eq_skeleton]; unfold k0_part95_skel
  simp only [wp_bind]
  iintro ⟨HH, I0, I1, I2, I3, HO, HT, HU, Hk⟩
  iapply (part38_run c x arg0 harg0 arg2 harg2 arg3 harg3 arg4 harg4)
  isplitl [I0]; · iexact I0
  iintro I0
  iapply (part39_run c x arg0 harg0 arg2 harg2 arg3 harg3 arg4 harg4)
  isplitl [I0]; · iexact I0
  iintro I0
  iapply (part40_run c x arg0 harg0 arg2 harg2 arg3 harg3 arg4 harg4)
  isplitl [I0]; · iexact I0
  iintro I0
  iapply (part41_run c x arg0 harg0 arg2 harg2 arg3 harg3 arg4 harg4)
  isplitl [I0]; · iexact I0
  iintro I0
  iapply (part42_run c x arg0 harg0 arg2 harg2 arg3 harg3 arg4 harg4)
  isplitl [I0]; · iexact I0
  iintro I0
  iapply (part43_run c x arg0 harg0 arg2 harg2 arg3 harg3 arg4 harg4)
  isplitl [I0]; · iexact I0
  isplitl [I1]; · iexact I1
  iintro ⟨I0, I1⟩
  iapply (part44_run c x arg0 harg0 arg2 harg2 arg3 harg3 arg4 harg4)
  isplitl [I1]; · iexact I1
  iintro I1
  iapply (part45_run c x arg0 harg0 arg2 harg2 arg3 harg3 arg4 harg4)
  isplitl [I1]; · iexact I1
  iintro I1
  iapply (part46_run c x arg0 harg0 arg2 harg2 arg3 harg3 arg4 harg4)
  isplitl [I1]; · iexact I1
  iintro I1
  iapply (part47_run c x arg0 harg0 arg2 harg2 arg3 harg3 arg4 harg4)
  isplitl [I1]; · iexact I1
  iintro I1
  iapply (part48_run c x arg0 harg0 arg2 harg2 arg3 harg3 arg4 harg4)
  isplitl [I1]; · iexact I1
  iintro I1
  iapply (part49_run c x arg0 harg0 arg2 harg2 arg3 harg3 arg4 harg4)
  isplitl [I1]; · iexact I1
  isplitl [I2]; · iexact I2
  iintro ⟨I1, I2⟩
  iapply (part50_run c x arg0 harg0 arg2 harg2 arg3 harg3 arg4 harg4)
  isplitl [I2]; · iexact I2
  iintro I2
  iapply (part51_run c x arg0 harg0 arg2 harg2 arg3 harg3 arg4 harg4)
  isplitl [I2]; · iexact I2
  iintro I2
  iapply (part52_run c x arg0 harg0 arg2 harg2 arg3 harg3 arg4 harg4)
  isplitl [I2]; · iexact I2
  iintro I2
  iapply (part53_run c x arg0 harg0 arg2 harg2 arg3 harg3 arg4 harg4)
  isplitl [I2]; · iexact I2
  iintro I2
  iapply (part54_run c x arg0 harg0 arg2 harg2 arg3 harg3 arg4 harg4)
  isplitl [I2]; · iexact I2
  isplitl [I3]; · iexact I3
  iintro ⟨I2, I3⟩
  iapply (part55_run c x arg0 harg0 arg2 harg2 arg3 harg3 arg4 harg4)
  isplitl [I3]; · iexact I3
  iintro I3
  iapply (part56_run c x arg0 harg0 arg2 harg2 arg3 harg3 arg4 harg4)
  isplitl [I3]; · iexact I3
  iintro I3
  iapply (part57_run c x arg0 harg0 arg2 harg2 arg3 harg3 arg4 harg4)
  isplitl [I3]; · iexact I3
  iintro I3
  iapply (part58_run c x arg0 harg0 arg2 harg2 arg3 harg3 arg4 harg4)
  isplitl [I3]; · iexact I3
  iintro I3
  iapply (part59_run c x arg0 harg0 arg2 harg2 arg3 harg3 arg4 harg4)
  isplitl [I3]; · iexact I3
  iintro I3
  iapply (part60_run c x arg0 harg0 arg2 harg2 arg3 harg3 arg4 harg4)
  isplitl [I3]; · iexact I3
  iintro I3
  iapply (part61_run c x arg0 harg0 arg2 harg2 arg3 harg3 arg4 harg4 (k0_pay536 (F := F)) f0)
  isplitl [HH]; · iexact HH
  isplitl [I0]; · iexact I0
  isplitl [HO]; · iexact HO
  iintro ⟨HH, HW⟩
  iapply (part62_run c x arg0 harg0 arg2 harg2 arg3 harg3 arg4 harg4 )
  isplitl [HW]; · iexact HW
  iintro HW
  iapply (part63_run c x arg0 harg0 arg2 harg2 arg3 harg3 arg4 harg4 )
  isplitl [HW]; · iexact HW
  iintro HW
  iapply (part64_run c x arg0 harg0 arg2 harg2 arg3 harg3 arg4 harg4 )
  isplitl [HW]; · iexact HW
  iintro HW
  iapply (part65_run c x arg0 harg0 arg2 harg2 arg3 harg3 arg4 harg4 )
  isplitl [HW]; · iexact HW
  iintro HW
  iapply (part66_run c x arg0 harg0 arg2 harg2 arg3 harg3 arg4 harg4 )
  isplitl [HW]; · iexact HW
  iintro HW
  iapply (part67_run c x arg0 harg0 arg2 harg2 arg3 harg3 arg4 harg4 (GM (arg0.view.read (Elt F) f0)))
  isplitl [HW]; · iexact HW
  isplitl [HT]; · iexact HT
  isplitl [HU]; · iexact HU
  iintro ⟨L0, HO, HT, HU⟩
  iapply (part68_run c x arg0 harg0 arg2 harg2 arg3 harg3 arg4 harg4 (GM (arg0.view.read (Elt F) f0)))
  isplitl [HU]; · iexact HU
  isplitl [HT]; · iexact HT
  iintro ⟨HU, HT⟩
  iapply (part69_run c x arg0 harg0 arg2 harg2 arg3 harg3 arg4 harg4 (GM (arg0.view.read (Elt F) f0)))
  isplitl [HU]; · iexact HU
  isplitl [HT]; · iexact HT
  iintro ⟨HU, HT⟩
  iapply (part70_run c x arg0 harg0 arg2 harg2 arg3 harg3 arg4 harg4 )
  isplitl [I1]; · iexact I1
  isplitl [HO]; · iexact HO
  iintro HW
  iapply (part71_run c x arg0 harg0 arg2 harg2 arg3 harg3 arg4 harg4 )
  isplitl [HW]; · iexact HW
  iintro HW
  iapply (part72_run c x arg0 harg0 arg2 harg2 arg3 harg3 arg4 harg4 )
  isplitl [HW]; · iexact HW
  iintro HW
  iapply (part73_run c x arg0 harg0 arg2 harg2 arg3 harg3 arg4 harg4 )
  isplitl [HW]; · iexact HW
  iintro HW
  iapply (part74_run c x arg0 harg0 arg2 harg2 arg3 harg3 arg4 harg4 )
  isplitl [HW]; · iexact HW
  iintro HW
  iapply (part75_run c x arg0 harg0 arg2 harg2 arg3 harg3 arg4 harg4 (GM (arg0.view.read (Elt F) f0)))
  isplitl [HW]; · iexact HW
  isplitl [HT]; · iexact HT
  isplitl [HU]; · iexact HU
  iintro ⟨L1, HO, HT, HU⟩
  iapply (part76_run c x arg0 harg0 arg2 harg2 arg3 harg3 arg4 harg4 (GM (arg0.view.read (Elt F) f0)))
  isplitl [HT]; · iexact HT
  isplitl [HU]; · iexact HU
  iintro ⟨HT, HU⟩
  iapply (part77_run c x arg0 harg0 arg2 harg2 arg3 harg3 arg4 harg4 (GM (arg0.view.read (Elt F) f0)))
  isplitl [HT]; · iexact HT
  isplitl [HU]; · iexact HU
  iintro ⟨HT, HU⟩
  iapply (part78_run c x arg0 harg0 arg2 harg2 arg3 harg3 arg4 harg4 (GM (arg0.view.read (Elt F) f0)))
  isplitl [HT]; · iexact HT
  isplitl [HU]; · iexact HU
  isplitl [I2]; · iexact I2
  isplitl [HO]; · iexact HO
  iintro ⟨HT, HU, HW⟩
  iapply (part79_run c x arg0 harg0 arg2 harg2 arg3 harg3 arg4 harg4 )
  isplitl [HW]; · iexact HW
  iintro HW
  iapply (part80_run c x arg0 harg0 arg2 harg2 arg3 harg3 arg4 harg4 )
  isplitl [HW]; · iexact HW
  iintro HW
  iapply (part81_run c x arg0 harg0 arg2 harg2 arg3 harg3 arg4 harg4 )
  isplitl [HW]; · iexact HW
  iintro HW
  iapply (part82_run c x arg0 harg0 arg2 harg2 arg3 harg3 arg4 harg4 )
  isplitl [HW]; · iexact HW
  iintro HW
  iapply (part83_run c x arg0 harg0 arg2 harg2 arg3 harg3 arg4 harg4 (GM (arg0.view.read (Elt F) f0)))
  isplitl [HW]; · iexact HW
  isplitl [HT]; · iexact HT
  iintro ⟨L2, HO, HT⟩
  iapply (part84_run c x arg0 harg0 arg2 harg2 arg3 harg3 arg4 harg4 (GM (arg0.view.read (Elt F) f0)))
  isplitl [HT]; · iexact HT
  isplitl [HU]; · iexact HU
  iintro ⟨HT, HU⟩
  iapply (part85_run c x arg0 harg0 arg2 harg2 arg3 harg3 arg4 harg4 (GM (arg0.view.read (Elt F) f0)))
  isplitl [HT]; · iexact HT
  isplitl [HU]; · iexact HU
  iintro ⟨HT, HU⟩
  iapply (part86_run c x arg0 harg0 arg2 harg2 arg3 harg3 arg4 harg4 (GM (arg0.view.read (Elt F) f0)))
  isplitl [HT]; · iexact HT
  isplitl [HU]; · iexact HU
  isplitl [I3]; · iexact I3
  isplitl [HO]; · iexact HO
  iintro ⟨HT, HU, HW⟩
  iapply (part87_run c x arg0 harg0 arg2 harg2 arg3 harg3 arg4 harg4 )
  isplitl [HW]; · iexact HW
  iintro HW
  iapply (part88_run c x arg0 harg0 arg2 harg2 arg3 harg3 arg4 harg4 )
  isplitl [HW]; · iexact HW
  iintro HW
  iapply (part89_run c x arg0 harg0 arg2 harg2 arg3 harg3 arg4 harg4 )
  isplitl [HW]; · iexact HW
  iintro HW
  iapply (part90_run c x arg0 harg0 arg2 harg2 arg3 harg3 arg4 harg4 )
  isplitl [HW]; · iexact HW
  iintro HW
  iapply (part91_run c x arg0 harg0 arg2 harg2 arg3 harg3 arg4 harg4 )
  isplitl [HW]; · iexact HW
  iintro HW
  iapply (part92_run c x arg0 harg0 arg2 harg2 arg3 harg3 arg4 harg4 (GM (arg0.view.read (Elt F) f0)))
  isplitl [HW]; · iexact HW
  isplitl [HT]; · iexact HT
  isplitl [HU]; · iexact HU
  iintro ⟨L3, HO, HT, HU⟩
  iapply (part93_run c x arg0 harg0 arg2 harg2 arg3 harg3 arg4 harg4 (GM (arg0.view.read (Elt F) f0)))
  isplitl [HT]; · iexact HT
  isplitl [HU]; · iexact HU
  iintro ⟨HT, HU⟩
  iapply (part94_run c x arg0 harg0 arg2 harg2 arg3 harg3 arg4 harg4 (GM (arg0.view.read (Elt F) f0)))
  isplitl [HT]; · iexact HT
  isplitl [HU]; · iexact HU
  iintro ⟨HT, HU⟩
  iapply le_wp_ret
  iapply Hk
  isplitl [HH]; · iexact HH
  isplitl [L0]; · iexact L0
  isplitl [L1]; · iexact L1
  isplitl [L2]; · iexact L2
  isplitl [L3]; · iexact L3
  isplitl [HO]; · iexact HO
  isplitl [HT]; · iexact HT
  iexact HU

/-- The cells at zero. -/
def Cells : sProp (MT nD τ sig Unit (Elt F) ℕ (Pipeline.UD sig nD τ) ℕ) := bigSep Finset.univ (fun q : Fin 4 => semVal ((c : Thread nD τ), SemLoc.dma (cellM q.val (cell_inb q))) 0)

set_option maxHeartbeats 4000000 in
/-- THE RUN: from the buffers at anything, the codes, their bytes and the scales are what `codesI`, `codesF` and the
    first payload say of `x` and the matrix handed in; everything else comes back. -/
theorem kernel_run (f0 : arg0.view.ty.Contents (Elt F)) {Q : PUnit → sProp (MT nD τ sig Unit (Elt F) ℕ (Pipeline.UD sig nD τ) ℕ)} :
    iprop((arg0.view.loc (c : Thread nD τ) ↦[arg0.view.set]{fullShare} f0) ∗ Cells c ∗ (∃ f, scS.view.loc (c : Thread nD τ) ↦{fullShare} f) ∗ (∃ f, scT.view.loc (c : Thread nD τ) ↦[scT.view.set]{fullShare} f)
        ∗ (∃ f, scU.view.loc (c : Thread nD τ) ↦[scU.view.set]{fullShare} f) ∗ (hbX.view.loc (c : Thread nD τ) ↦{fullShare} x) ∗ Ow c
        ∗ (∃ f, arg2.view.loc (c : Thread nD τ) ↦[arg2.view.set]{fullShare} f) ∗ (∃ f, arg3.view.loc (c : Thread nD τ) ↦[arg3.view.set]{fullShare} f)
        ∗ (∃ f, arg4.view.loc (c : Thread nD τ) ↦[arg4.view.set]{fullShare} f)
        ∗ (iprop((arg0.view.loc (c : Thread nD τ) ↦[arg0.view.set]{fullShare} f0) ∗ Cells c ∗ (∃ f, scS.view.loc (c : Thread nD τ) ↦{fullShare} f) ∗ (∃ f, scT.view.loc (c : Thread nD τ) ↦[scT.view.set]{fullShare} f)
          ∗ (∃ f, scU.view.loc (c : Thread nD τ) ↦[scU.view.set]{fullShare} f) ∗ (hbX.view.loc (c : Thread nD τ) ↦{fullShare} x) ∗ Ow c
          ∗ CX c arg2 (codesI x (GM (arg0.view.read (Elt F) f0))) 28 ∗ CX c arg3 (codesF x (GM (arg0.view.read (Elt F) f0))) 28
          ∗ SX c arg4 (k0_pay1 (macc x (GM (arg0.view.read (Elt F) f0)) 56))) -∗ Q ⟨⟩))
      ⊢ wp frame (wpE (defs₀ (F := F)) Variants.none (c : Thread nD τ) none) Set.univ (cc0_rotate_quant (F := F) arg0 harg0 hbX (Memref.isWhole_whole _) arg2 harg2 arg3 harg3 arg4 harg4 scS (Memref.isWhole_whole _) scT (Memref.isWhole_whole _) scU (Memref.isWhole_whole _) cc0_scratch3) Q := by
  rw [cc0_rotate_quant_eq_skeleton]; unfold cc0_rotate_quant_skel
  simp only [wp_bind]
  unfold Cells
  rw [four (F := F) (fun q : Fin 4 => semVal ((c : Thread nD τ), SemLoc.dma (cellM q.val (cell_inb q))) 0)]
  iintro ⟨HH, ⟨S0, S1, S2, S3⟩, ⟨%fS, HS⟩, ⟨%fT, HT⟩, ⟨%fU, HU⟩, HX, HO, ⟨%f2, H2⟩, ⟨%f3, H3⟩, H4, Hk⟩
  ihave HF := (fresh_split c x fS) $$ [HS HX]
  · isplitl [HS] <;> iassumption
  icases HF with ⟨F0, F1, F2, F3⟩
  unfold Fresh
  imod (Iss_start c x 0) $$ [S0 F0] with I0
  · isplitl [S0] <;> iassumption
  imod (Iss_start c x 1) $$ [S1 F1] with I1
  · isplitl [S1] <;> iassumption
  imod (Iss_start c x 2) $$ [S2 F2] with I2
  · isplitl [S2] <;> iassumption
  imod (Iss_start c x 3) $$ [S3 F3] with I3
  · isplitl [S3] <;> iassumption
  iapply (part95_run c x arg0 harg0 arg2 harg2 arg3 harg3 arg4 harg4 f0)
  isplitl [HH]; · iexact HH
  isplitl [I0]; · iexact I0
  isplitl [I1]; · iexact I1
  isplitl [I2]; · iexact I2
  isplitl [I3]; · iexact I3
  isplitl [HO]; · iexact HO
  isplitl [HT]
  · unfold TS; iexists fT
    isplitr; · ipureintro; intro i hi; exact absurd hi (by unfold DoneT; omega)
    iexact HT
  isplitl [HU]
  · unfold US; iexists fU
    isplitr; · ipureintro; intro i hi; exact absurd hi (by omega)
    iexact HU
  iintro %b1 %b2 ⟨HH, L0, L1, L2, L3, HO, HT, HU⟩
  try dsimp only
  ihave HU := (US_UX c x (GM (arg0.view.read (Elt F) f0))) $$ HU
  iapply (loop5 c x (GM (arg0.view.read (Elt F) f0)) arg0 harg0 arg2 harg2 arg3 harg3 arg4 harg4 b1 b2)
  isplitl [HU]; · iexact HU
  iintro HU
  iapply (load_S c arg4)
  isplitl [H4]; · iexact H4
  iintro %v4 H4
  iapply (store_S c arg4)
  isplitl [H4]; · iexact H4
  iintro H4
  iapply (loop6 c x (GM (arg0.view.read (Elt F) f0)) arg0 harg0 arg2 harg2 arg3 harg3 arg4 harg4)
  isplitl [HU]; · iexact HU
  isplitl [H2]
  · unfold CX; iexists f2
    isplitr; · ipureintro; intro i hi; exact absurd hi (by omega)
    iexact H2
  isplitl [H3]
  · unfold CX; iexists f3
    isplitr; · ipureintro; intro i hi; exact absurd hi (by omega)
    iexact H3
  iintro ⟨HU, H2, H3⟩
  iapply le_wp_ret
  unfold Landed
  icases L0 with ⟨L0, S0⟩
  icases L1 with ⟨L1, S1⟩
  icases L2 with ⟨L2, S2⟩
  icases L3 with ⟨L3, S3⟩
  ihave HSX := (landed_join c x) $$ [L0 L1 L2 L3]
  · isplitl [L0]; · iexact L0
    isplitl [L1]; · iexact L1
    isplitl [L2] <;> iassumption
  icases HSX with ⟨HS, HX⟩
  iapply Hk
  isplitl [HH]; · iexact HH
  isplitl [S0 S1 S2 S3]
  · isplitl [S0]; · iexact S0
    isplitl [S1]; · iexact S1
    isplitl [S2] <;> iassumption
  isplitl [HS]; · iexists _; iexact HS
  isplitl [HT]
  · unfold TS
    icases HT with ⟨%gT, -, HT⟩
    iexists gT; iexact HT
  isplitl [HU]; · unfold UX; iexists _; iexact HU
  isplitl [HX]; · iexact HX
  isplitl [HO]; · iexact HO
  isplitl [H2]; · iexact H2
  isplitl [H3] <;> iassumption

end Cert.RotateIdeal.Run
-- ==== Proof.RotIdealFrame.lean ====
/- The rotation program's frame, and what its run leaves in the three result arrays. -/
module

public import proofs.«01_k».proof.Proof.RotIdealMain

@[expose] public section

set_option maxRecDepth 16384

noncomputable section

namespace Cert.RotateIdeal.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable (m : (ℓ : Loc nD τ sig) → Buf (Elt F) ℓ) (ρ : Dev nD → PrngReg)

/-! ## @main up to the region -/

/-- Core `c`'s buffers when the region is entered: as launched. -/
abbrev V (c : Dev nD) (b : Ref sig .tc) : Buf (Elt F) ((c : Thread nD τ).loc b) := m ((c : Thread nD τ).loc b)

/-- The host program starts the pipeline with the arguments in their arrays. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at a point, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A staged input holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's four cells. -/
abbrev osem0 : Fin 4 → SemLoc sig := fun q => SemLoc.dma (cellM q.val (cell_inb q))
/-- The transfer semaphores are apart from the pipeline's. -/
theorem ownSemFacts0 : Pipeline.OwnSemFacts spec0 osem0 := by decide
/-- The four semaphores, one by one. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ)) = Cells c := by
  rw [Pipeline.ownSems0_eq_of_list c osem0 [0, 1, 2, 3] (by decide) (by decide)]
  unfold Cells
  rw [four (F := F) (fun q : Fin 4 => semVal ((c : Thread nD τ), SemLoc.dma (cellM q.val (cell_inb q))) 0)]
  rfl

/-- The array the body's transfers read: `x`. -/
def H0 : Finset (Ref sig .tc) := {main_arg0}
/-- The activations stay in an array no window stages. -/
theorem H0_sub : H0 ⊆ Pipeline.restRefs sig spec0 := by decide
/-- That array, held whole. -/
theorem hbmPts0_eq (c : Dev nD) :
    (bigSep H0 (fun b => ((c : Thread nD τ).loc b) ↦{fullShare} V m c b) : sProp (MT nD τ sig Unit (Elt F) ℕ (Pipeline.UD sig nD τ) ℕ))
      = (hbX.view.loc (c : Thread nD τ) ↦{fullShare} (V m c main_arg0)) := by
  rw [BI.bigSep_eq_bigSepL_of_eq [main_arg0] (by decide) (by decide)]; rfl

/-- What the body holds besides its windows. -/
theorem PhiD0_eq (c : Dev nD) :
    (Pipeline.ΦD osem0 spec0 H0 (V m) c : sProp (MT nD τ sig Unit (Elt F) ℕ (Pipeline.UD sig nD τ) ℕ))
      = iprop(iprop((∃ f, scS.view.loc (c : Thread nD τ) ↦{fullShare} f) ∗ (∃ f, scT.view.loc (c : Thread nD τ) ↦{fullShare} f) ∗ (∃ f, scU.view.loc (c : Thread nD τ) ↦{fullShare} f))
          ∗ (∃ r, prngReg c r) ∗ Cells c ∗ (hbX.view.loc (c : Thread nD τ) ↦{fullShare} (V m c main_arg0))) := by
  rw [Pipeline.ΦD_eq, scopedRest0_eq, ownSems00_eq, hbmPts0_eq]

/-- The transposed buffer is whole, -/
theorem setT : scT.view.set = Finset.univ := View.set_whole _
/-- and so is the product buffer. -/
theorem setU : scU.view.set = Finset.univ := View.set_whole _

/-! ## The proof data -/

/-- The small Hadamard factor as the body finds it. -/
def hadAt (c : Dev nD) (t : Fin cfg0.N) : S28x28.Idx → Elt F .f32 := iblk m c 0 t
/-- The matrix at a point. -/
def outG (c : Dev nD) (t : Fin cfg0.N) : FVec F S448x448 .bf16 := GM (hadAt m c t)

/-- The contents of the windows around each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => codesI (V m c main_arg0) (outG m c t)
    | ⟨2, _⟩ => codesF (V m c main_arg0) (outG m c t)
    | ⟨3, _⟩ => k0_pay1 (macc (V m c main_arg0) (outG m c t) 56)
  Φ _ := Pipeline.ΦD osem0 spec0 H0 (V m) c
  q _ := fullShare
  owed _ := 0

/-- The arrays before the run. -/
theorem A_eq (c : Dev nD) (w : Fin cfg0.W) : (dats m 0 c).A w = V m c (Pipeline.arrRef spec0 w) := by
  dsimp only [dats]
/-- After the point the small factor's window is unchanged, -/
theorem after0_0 (c : Dev nD) (t : Fin cfg0.N) : (dats m 0 c).after 0 t = iblk m c 0 t := by dsimp only [dats]
/-- the codes' window holds the codes, -/
theorem after0_1 (c : Dev nD) (t : Fin cfg0.N) : (dats m 0 c).after 1 t = codesI (V m c main_arg0) (outG m c t) := by dsimp only [dats]
/-- the bytes' window their bytes, -/
theorem after0_2 (c : Dev nD) (t : Fin cfg0.N) : (dats m 0 c).after 2 t = codesF (V m c main_arg0) (outG m c t) := by dsimp only [dats]
/-- and the scales' window the scales. -/
theorem after0_3 (c : Dev nD) (t : Fin cfg0.N) : (dats m 0 c).after 3 t = k0_pay1 (macc (V m c main_arg0) (outG m c t) 56) := by dsimp only [dats]
/-- Before the point the small factor's window holds it. -/
theorem before0_0 (c : Dev nD) (t : Fin cfg0.N) (d) : (dats m 0 c).before 0 t d = iblk m c 0 t :=
  before0_0_of m (dats m 0 c) (A_eq m c 0) (after0_0 m c) t d

/-- The staging buffer of the small factor, -/
abbrev ms0_0 (t : Fin cfg0.N) : Memref sig .tc .vmem S28x28 .f32 := win0_0.stage (cfg0.slots t 0)
/-- of the codes, -/
abbrev ms0_1 (t : Fin cfg0.N) : Memref sig .tc .vmem S256x14336 .i8 := win0_1.stage (cfg0.slots t 1)
/-- of their bytes, -/
abbrev ms0_2 (t : Fin cfg0.N) : Memref sig .tc .vmem S256x14336 .fp8e4m3 := win0_2.stage (cfg0.slots t 2)
/-- and of the scales. -/
abbrev ms0_3 (t : Fin cfg0.N) : Memref sig .tc .vmem S1x256 .f32 := win0_3.stage (cfg0.slots t 3)
/-- The first is a whole buffer. -/
theorem hs0_0 (t : Fin cfg0.N) : (ms0_0 t).IsWhole := hstage0_0 0

/-- What the body is given. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
/-- What the body leaves. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body's run fits the pipeline's obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  simp only [before0_0]
  unfold Dat.owesAt Pipeline.owesWithin
  rw [show (dats m 0 c).owed t.castSucc = 0 from rfl, show (dats m 0 c).owed t.succ = 0 from rfl]
  unfold outG hadAt
  generalize iblk m c 0 t = hd
  unfold owns
  iintro ⟨⟨⟨HS, ⟨%fT, HT⟩, ⟨%fU, HU⟩⟩, Hg, HC, HX⟩, ⟨%W, -, HW⟩, ⟨%d0, %f0, %hf0, H0⟩, ⟨%d1, %f1, -, H1⟩, ⟨%d2, %f2, -, H2⟩, ⟨%d3, %f3, -, H3⟩⟩
  subst hf0
  iapply (kernel_run c (V m c main_arg0) (ms0_0 t) (hstage0_0 0) (ms0_1 t) (hstage0_1 0) (ms0_2 t) (hstage0_2 0) (ms0_3 t) (hstage0_3 0) f0)
  isplitl [H0]; · iexact H0
  isplitl [HC]; · iexact HC
  isplitl [HS]; · iexact HS
  isplitl [HT]; · iexists fT; rw [setT]; iexact HT
  isplitl [HU]; · iexists fU; rw [setU]; iexact HU
  isplitl [HX]; · iexact HX
  isplitl [HW]; · unfold Ow; iexists W; iexact HW
  isplitl [H1]; · iexists f1; iexact H1
  isplitl [H2]; · iexists f2; iexact H2
  isplitl [H3]; · iexists f3; iexact H3
  unfold CX SX Ow
  iintro ⟨H0, HC, HS, ⟨%gT, HT⟩, ⟨%gU, HU⟩, HX, ⟨%W', HW'⟩, ⟨%g1, %e1, H1⟩, ⟨%g2, %e2, H2⟩, ⟨%g3, %e3, H3⟩⟩
  isplitl [HS HT HU Hg HC HX]
  · isplitl [HS HT HU]
    · isplitl [HS]; · iexact HS
      isplitl [HT]; · iexists gT; rw [setT]; iexact HT
      iexists gU; rw [setU]; iexact HU
    isplitl [Hg]; · iexact Hg
    isplitl [HC] <;> iassumption
  isplitl [HW']
  · iexists W'; isplitr; · ipureintro; exact fun _ _ => Or.inl trivial
    iexact HW'
  isplitl [H0]
  · iexists f0; isplitr; · ipureintro; rfl
    iexact H0
  isplitl [H1]
  · iexists g1; isplitr; · ipureintro; funext i; exact e1 i (i 1).isLt
    iexact H1
  isplitl [H2]
  · iexists g2; isplitr; · ipureintro; funext i; exact e2 i (i 1).isLt
    iexact H2
  iexists g3; isplitr; · ipureintro; exact e3
  iexact H3

/-- The one labelled body is the kernel's. -/
theorem defs₀_row (t : Fin cfg0.N) :
    defs₀ (F := F) .tc cfg0.body (cfg0.bodyArgs t (cfg0.slots t)) = bodyAt0 t := by
  unfold defs₀; rw [Defs.onTc_tc]

/-- THE BODY at each point does what the windows' contents say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE RUN of the whole program, with every semaphore at zero after. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2 main_arg0 (Pipeline.mem_restRefs_of main_arg0 (by decide) (by decide)),
      ((h.1 c).1 0).trans (((dats m 0 c).arrAt_in 0 rfl _).trans (A_eq m c 0))⟩, h.2⟩) (run_main m ρ)

/-! ## The results -/

/-- The only point of the grid. -/
abbrev t0 : Fin cfg0.N := ⟨0, by decide⟩
/-- There is one point. -/
theorem one_point (t t' : Fin cfg0.N) : t = t' := (by decide +kernel : ∀ t t' : Fin grid0.N, t = t') t t'

/-- A window's block is its whole array: the small factor's, -/
theorem emb0 (j : S28x28.Idx) : ((cfg0.win 0).blk t0).view.emb j = j := by
  funext a; apply Fin.ext
  match a with
  | ⟨0, _⟩ => show 0 * 28 + 1 * (j 0).val = (j 0).val; omega
  | ⟨1, _⟩ => show 0 * 28 + 1 * (j 1).val = (j 1).val; omega
/-- the codes', -/
theorem emb1 (j : S256x14336.Idx) : ((cfg0.win 1).blk t0).view.emb j = j := by
  funext a; apply Fin.ext
  match a with
  | ⟨0, _⟩ => show 0 * 256 + 1 * (j 0).val = (j 0).val; omega
  | ⟨1, _⟩ => show 0 * 14336 + 1 * (j 1).val = (j 1).val; omega
/-- their bytes', -/
theorem emb2 (j : S256x14336.Idx) : ((cfg0.win 2).blk t0).view.emb j = j := by
  funext a; apply Fin.ext
  match a with
  | ⟨0, _⟩ => show 0 * 256 + 1 * (j 0).val = (j 0).val; omega
  | ⟨1, _⟩ => show 0 * 14336 + 1 * (j 1).val = (j 1).val; omega
/-- the scales'. -/
theorem emb3 (j : S1x256.Idx) : ((cfg0.win 3).blk t0).view.emb j = j := by
  funext a; apply Fin.ext
  match a with
  | ⟨0, _⟩ => show 0 * 1 + 1 * (j 0).val = (j 0).val; omega
  | ⟨1, _⟩ => show 0 * 256 + 1 * (j 1).val = (j 1).val; omega
/-- The small factor at the point is the argument, -/
theorem hadAt_eq (c : Dev nD) : hadAt m c t0 = V m c main_arg1 := funext fun j => congrArg (V m c main_arg1) (emb0 j)
/-- and the matrix is that of the argument. -/
theorem outG_eq (c : Dev nD) : outG m c t0 = GM (V m c main_arg1) := congrArg GM (hadAt_eq m c)

/-- An array with the codes as its block is the codes; -/
theorem whole1 (f w : Vec F S256x14336 .i8) (h : ((cfg0.win 1).blk t0).view.read (Elt F) f = (cfg0.win 1).cut (grid0.coords t0) w) : f = w := by
  funext i
  have h1 : f (((cfg0.win 1).blk t0).view.emb i) = w i := congrFun h i
  rwa [emb1] at h1
/-- Every result's block is its whole array, written back at the one point: the integer codes, -/
theorem arr1 (c : Dev nD) : (dats m 0 c).arrAt 1 cfg0.N = codesI (m ((c : Thread nD τ).loc main_arg0)) (GM (m ((c : Thread nD τ).loc main_arg1))) := by
  have h := (dats m 0 c).read_blk_arrAt_eq_flushed 1 (fun t t' _ _ h => absurd (one_point t t') h) cfg0.N t0 t0.isLt (flush0_1 t0)
  have e : (dats m 0 c).flushed 1 t0 = (cfg0.win 1).cut (grid0.coords t0) ((dats m 0 c).after 1 t0) := rfl
  refine (whole1 _ _ (h.trans e)).trans ((after0_1 m c t0).trans ?_)
  exact congrArg (fun g => codesI (m ((c : Thread nD τ).loc main_arg0)) g) (outG_eq m c)
/-- so for their bytes, -/
theorem whole2 (f w : Vec F S256x14336 .fp8e4m3) (h : ((cfg0.win 2).blk t0).view.read (Elt F) f = (cfg0.win 2).cut (grid0.coords t0) w) : f = w := by
  funext i
  have h1 : f (((cfg0.win 2).blk t0).view.emb i) = w i := congrFun h i
  rwa [emb2] at h1
/-- their bytes, -/
theorem arr2 (c : Dev nD) : (dats m 0 c).arrAt 2 cfg0.N = codesF (m ((c : Thread nD τ).loc main_arg0)) (GM (m ((c : Thread nD τ).loc main_arg1))) := by
  have h := (dats m 0 c).read_blk_arrAt_eq_flushed 2 (fun t t' _ _ h => absurd (one_point t t') h) cfg0.N t0 t0.isLt (flush0_2 t0)
  have e : (dats m 0 c).flushed 2 t0 = (cfg0.win 2).cut (grid0.coords t0) ((dats m 0 c).after 2 t0) := rfl
  refine (whole2 _ _ (h.trans e)).trans ((after0_2 m c t0).trans ?_)
  exact congrArg (fun g => codesF (m ((c : Thread nD τ).loc main_arg0)) g) (outG_eq m c)
/-- and for the scales. -/
theorem whole3 (f w : Vec F S1x256 .f32) (h : ((cfg0.win 3).blk t0).view.read (Elt F) f = (cfg0.win 3).cut (grid0.coords t0) w) : f = w := by
  funext i
  have h1 : f (((cfg0.win 3).blk t0).view.emb i) = w i := congrFun h i
  rwa [emb3] at h1
/-- and the scales. -/
theorem arr3 (c : Dev nD) : (dats m 0 c).arrAt 3 cfg0.N = k0_pay1 (macc (m ((c : Thread nD τ).loc main_arg0)) (GM (m ((c : Thread nD τ).loc main_arg1))) 56) := by
  have h := (dats m 0 c).read_blk_arrAt_eq_flushed 3 (fun t t' _ _ h => absurd (one_point t t') h) cfg0.N t0 t0.isLt (flush0_3 t0)
  have e : (dats m 0 c).flushed 3 t0 = (cfg0.win 3).cut (grid0.coords t0) ((dats m 0 c).after 3 t0) := rfl
  refine (whole3 _ _ (h.trans e)).trans ((after0_3 m c t0).trans ?_)
  exact congrArg (fun g => k0_pay1 (macc (m ((c : Thread nD τ).loc main_arg0)) g 56)) (outG_eq m c)

/-- THE RESULTS of the run, with the arguments unchanged. -/
theorem run_values : θ_run defs (onTc (τ := τ) (main (F := F))) ⟨m, fun _ => 0, ρ⟩ (fun r => ∀ c : Dev nD,
      r.2.mem ((c.tc : Thread nD τ).loc main_v0_0) = codesI (m ((c : Thread nD τ).loc main_arg0)) (GM (m ((c : Thread nD τ).loc main_arg1)))
      ∧ r.2.mem ((c.tc : Thread nD τ).loc main_v0_1) = codesF (m ((c : Thread nD τ).loc main_arg0)) (GM (m ((c : Thread nD τ).loc main_arg1)))
      ∧ r.2.mem ((c.tc : Thread nD τ).loc main_v0_2) = k0_pay1 (macc (m ((c : Thread nD τ).loc main_arg0)) (GM (m ((c : Thread nD τ).loc main_arg1))) 56)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (arr1 m c), ((h.1 c).1 2).trans (arr2 m c), ((h.1 c).1 3).trans (arr3 m c),
      (h.1 c).2 main_arg0 (Pipeline.mem_restRefs_of main_arg0 (by decide) (by decide)),
      ((h.1 c).1 0).trans (((dats m 0 c).arrAt_in 0 rfl _).trans (A_eq m c 0))⟩) (run_main m ρ)

end Cert.RotateIdeal.Run
-- ==== Proof.RotCopy.lean ====
/- The rotation's program and its ideal copy are one program: part by part, each by unfolding. What is proved of the
   copy at any floats so holds of the program at machine floats. -/
module

public import proofs.«01_k».proof.Proof.RotIdealFrame
public import proofs.«01_k».proof.Proof.Gen.Rotate
public import proofs.«01_k».proof.Proof.Gen.Rotate.Skeleton

@[expose] public section

set_option maxRecDepth 65536
set_option maxHeartbeats 4000000

noncomputable section

namespace Cert.Rotate.Copy

open Idealize.ShloMosaic Idealize.ShloMosaic.TcCoe Idealize.SL.Sem

variable {F : FTy → Type} [FloatOps F]

/-- Part 1 of the body is the same in both programs. -/
theorem part1 : Cert.Rotate.k0_part1 (F := F) = Cert.RotateIdeal.k0_part1 (F := F) := rfl
/-- Part 2 of the body is the same in both programs. -/
theorem part2 : Cert.Rotate.k0_part2 (F := F) = Cert.RotateIdeal.k0_part2 (F := F) := rfl
/-- Part 3 of the body is the same in both programs. -/
theorem part3 : Cert.Rotate.k0_part3 (F := F) = Cert.RotateIdeal.k0_part3 (F := F) := rfl
/-- Part 4 of the body is the same in both programs. -/
theorem part4 : Cert.Rotate.k0_part4 (F := F) = Cert.RotateIdeal.k0_part4 (F := F) := rfl
/-- Part 5 of the body is the same in both programs. -/
theorem part5 : Cert.Rotate.k0_part5 (F := F) = Cert.RotateIdeal.k0_part5 (F := F) := rfl
/-- Part 6 of the body is the same in both programs. -/
theorem part6 : Cert.Rotate.k0_part6 (F := F) = Cert.RotateIdeal.k0_part6 (F := F) := rfl
/-- Part 7 of the body is the same in both programs. -/
theorem part7 : Cert.Rotate.k0_part7 (F := F) = Cert.RotateIdeal.k0_part7 (F := F) := rfl
/-- Part 8 of the body is the same in both programs. -/
theorem part8 : Cert.Rotate.k0_part8 (F := F) = Cert.RotateIdeal.k0_part8 (F := F) := rfl
/-- Part 9 of the body is the same in both programs. -/
theorem part9 : Cert.Rotate.k0_part9 (F := F) = Cert.RotateIdeal.k0_part9 (F := F) := rfl
/-- Part 10 of the body is the same in both programs. -/
theorem part10 : Cert.Rotate.k0_part10 (F := F) = Cert.RotateIdeal.k0_part10 (F := F) := rfl
/-- Part 11 of the body is the same in both programs. -/
theorem part11 : Cert.Rotate.k0_part11 (F := F) = Cert.RotateIdeal.k0_part11 (F := F) := rfl
/-- Part 12 of the body is the same in both programs. -/
theorem part12 : Cert.Rotate.k0_part12 (F := F) = Cert.RotateIdeal.k0_part12 (F := F) := rfl
/-- Part 13 of the body is the same in both programs. -/
theorem part13 : Cert.Rotate.k0_part13 (F := F) = Cert.RotateIdeal.k0_part13 (F := F) := rfl
/-- Part 14 of the body is the same in both programs. -/
theorem part14 : Cert.Rotate.k0_part14 (F := F) = Cert.RotateIdeal.k0_part14 (F := F) := rfl
/-- Part 15 of the body is the same in both programs. -/
theorem part15 : Cert.Rotate.k0_part15 (F := F) = Cert.RotateIdeal.k0_part15 (F := F) := rfl
/-- Part 16 of the body is the same in both programs. -/
theorem part16 : Cert.Rotate.k0_part16 (F := F) = Cert.RotateIdeal.k0_part16 (F := F) := rfl
/-- Part 17 of the body is the same in both programs. -/
theorem part17 : Cert.Rotate.k0_part17 (F := F) = Cert.RotateIdeal.k0_part17 (F := F) := rfl
/-- Part 18 of the body is the same in both programs. -/
theorem part18 : Cert.Rotate.k0_part18 (F := F) = Cert.RotateIdeal.k0_part18 (F := F) := rfl
/-- Part 19 of the body is the same in both programs. -/
theorem part19 : Cert.Rotate.k0_part19 (F := F) = Cert.RotateIdeal.k0_part19 (F := F) := rfl
/-- Part 20 of the body is the same in both programs. -/
theorem part20 : Cert.Rotate.k0_part20 (F := F) = Cert.RotateIdeal.k0_part20 (F := F) := rfl
/-- Part 21 of the body is the same in both programs. -/
theorem part21 : Cert.Rotate.k0_part21 (F := F) = Cert.RotateIdeal.k0_part21 (F := F) := rfl
/-- Part 22 of the body is the same in both programs. -/
theorem part22 : Cert.Rotate.k0_part22 (F := F) = Cert.RotateIdeal.k0_part22 (F := F) := rfl
/-- Part 23 of the body is the same in both programs. -/
theorem part23 : Cert.Rotate.k0_part23 (F := F) = Cert.RotateIdeal.k0_part23 (F := F) := rfl
/-- Part 24 of the body is the same in both programs. -/
theorem part24 : Cert.Rotate.k0_part24 (F := F) = Cert.RotateIdeal.k0_part24 (F := F) := rfl
/-- Part 25 of the body is the same in both programs. -/
theorem part25 : Cert.Rotate.k0_part25 (F := F) = Cert.RotateIdeal.k0_part25 (F := F) := rfl
/-- Part 26 of the body is the same in both programs. -/
theorem part26 : Cert.Rotate.k0_part26 (F := F) = Cert.RotateIdeal.k0_part26 (F := F) := rfl
/-- Part 27 of the body is the same in both programs. -/
theorem part27 : Cert.Rotate.k0_part27 (F := F) = Cert.RotateIdeal.k0_part27 (F := F) := rfl
/-- Part 28 of the body is the same in both programs. -/
theorem part28 : Cert.Rotate.k0_part28 (F := F) = Cert.RotateIdeal.k0_part28 (F := F) := rfl
/-- Part 29 of the body is the same in both programs. -/
theorem part29 : Cert.Rotate.k0_part29 (F := F) = Cert.RotateIdeal.k0_part29 (F := F) := rfl
/-- Part 30 of the body is the same in both programs. -/
theorem part30 : Cert.Rotate.k0_part30 (F := F) = Cert.RotateIdeal.k0_part30 (F := F) := rfl
/-- Part 31 of the body is the same in both programs. -/
theorem part31 : Cert.Rotate.k0_part31 (F := F) = Cert.RotateIdeal.k0_part31 (F := F) := rfl
/-- Part 32 of the body is the same in both programs. -/
theorem part32 : Cert.Rotate.k0_part32 (F := F) = Cert.RotateIdeal.k0_part32 (F := F) := rfl
/-- Part 33 of the body is the same in both programs. -/
theorem part33 : Cert.Rotate.k0_part33 (F := F) = Cert.RotateIdeal.k0_part33 (F := F) := rfl
/-- Part 34 of the body is the same in both programs. -/
theorem part34 : Cert.Rotate.k0_part34 (F := F) = Cert.RotateIdeal.k0_part34 (F := F) := rfl
/-- Part 35 of the body is the same in both programs. -/
theorem part35 : Cert.Rotate.k0_part35 (F := F) = Cert.RotateIdeal.k0_part35 (F := F) := rfl
/-- Part 36 of the body is the same in both programs. -/
theorem part36 : Cert.Rotate.k0_part36 (F := F) = Cert.RotateIdeal.k0_part36 (F := F) := rfl
/-- Part 37 of the body is the same in both programs. -/
theorem part37 : Cert.Rotate.k0_part37 (F := F) = Cert.RotateIdeal.k0_part37 (F := F) := rfl
/-- Part 38 of the body is the same in both programs. -/
theorem part38 : Cert.Rotate.k0_part38 (F := F) = Cert.RotateIdeal.k0_part38 (F := F) := rfl
/-- Part 39 of the body is the same in both programs. -/
theorem part39 : Cert.Rotate.k0_part39 (F := F) = Cert.RotateIdeal.k0_part39 (F := F) := rfl
/-- Part 40 of the body is the same in both programs. -/
theorem part40 : Cert.Rotate.k0_part40 (F := F) = Cert.RotateIdeal.k0_part40 (F := F) := rfl
/-- Part 41 of the body is the same in both programs. -/
theorem part41 : Cert.Rotate.k0_part41 (F := F) = Cert.RotateIdeal.k0_part41 (F := F) := rfl
/-- Part 42 of the body is the same in both programs. -/
theorem part42 : Cert.Rotate.k0_part42 (F := F) = Cert.RotateIdeal.k0_part42 (F := F) := rfl
/-- Part 43 of the body is the same in both programs. -/
theorem part43 : Cert.Rotate.k0_part43 (F := F) = Cert.RotateIdeal.k0_part43 (F := F) := rfl
/-- Part 44 of the body is the same in both programs. -/
theorem part44 : Cert.Rotate.k0_part44 (F := F) = Cert.RotateIdeal.k0_part44 (F := F) := rfl
/-- Part 45 of the body is the same in both programs. -/
theorem part45 : Cert.Rotate.k0_part45 (F := F) = Cert.RotateIdeal.k0_part45 (F := F) := rfl
/-- Part 46 of the body is the same in both programs. -/
theorem part46 : Cert.Rotate.k0_part46 (F := F) = Cert.RotateIdeal.k0_part46 (F := F) := rfl
/-- Part 47 of the body is the same in both programs. -/
theorem part47 : Cert.Rotate.k0_part47 (F := F) = Cert.RotateIdeal.k0_part47 (F := F) := rfl
/-- Part 48 of the body is the same in both programs. -/
theorem part48 : Cert.Rotate.k0_part48 (F := F) = Cert.RotateIdeal.k0_part48 (F := F) := rfl
/-- Part 49 of the body is the same in both programs. -/
theorem part49 : Cert.Rotate.k0_part49 (F := F) = Cert.RotateIdeal.k0_part49 (F := F) := rfl
/-- Part 50 of the body is the same in both programs. -/
theorem part50 : Cert.Rotate.k0_part50 (F := F) = Cert.RotateIdeal.k0_part50 (F := F) := rfl
/-- Part 51 of the body is the same in both programs. -/
theorem part51 : Cert.Rotate.k0_part51 (F := F) = Cert.RotateIdeal.k0_part51 (F := F) := rfl
/-- Part 52 of the body is the same in both programs. -/
theorem part52 : Cert.Rotate.k0_part52 (F := F) = Cert.RotateIdeal.k0_part52 (F := F) := rfl
/-- Part 53 of the body is the same in both programs. -/
theorem part53 : Cert.Rotate.k0_part53 (F := F) = Cert.RotateIdeal.k0_part53 (F := F) := rfl
/-- Part 54 of the body is the same in both programs. -/
theorem part54 : Cert.Rotate.k0_part54 (F := F) = Cert.RotateIdeal.k0_part54 (F := F) := rfl
/-- Part 55 of the body is the same in both programs. -/
theorem part55 : Cert.Rotate.k0_part55 (F := F) = Cert.RotateIdeal.k0_part55 (F := F) := rfl
/-- Part 56 of the body is the same in both programs. -/
theorem part56 : Cert.Rotate.k0_part56 (F := F) = Cert.RotateIdeal.k0_part56 (F := F) := rfl
/-- Part 57 of the body is the same in both programs. -/
theorem part57 : Cert.Rotate.k0_part57 (F := F) = Cert.RotateIdeal.k0_part57 (F := F) := rfl
/-- Part 58 of the body is the same in both programs. -/
theorem part58 : Cert.Rotate.k0_part58 (F := F) = Cert.RotateIdeal.k0_part58 (F := F) := rfl
/-- Part 59 of the body is the same in both programs. -/
theorem part59 : Cert.Rotate.k0_part59 (F := F) = Cert.RotateIdeal.k0_part59 (F := F) := rfl
/-- Part 60 of the body is the same in both programs. -/
theorem part60 : Cert.Rotate.k0_part60 (F := F) = Cert.RotateIdeal.k0_part60 (F := F) := rfl
/-- Part 61 of the body is the same in both programs. -/
theorem part61 : Cert.Rotate.k0_part61 (F := F) = Cert.RotateIdeal.k0_part61 (F := F) := rfl
/-- Part 62 of the body is the same in both programs. -/
theorem part62 : Cert.Rotate.k0_part62 (F := F) = Cert.RotateIdeal.k0_part62 (F := F) := rfl
/-- Part 63 of the body is the same in both programs. -/
theorem part63 : Cert.Rotate.k0_part63 (F := F) = Cert.RotateIdeal.k0_part63 (F := F) := rfl
/-- Part 64 of the body is the same in both programs. -/
theorem part64 : Cert.Rotate.k0_part64 (F := F) = Cert.RotateIdeal.k0_part64 (F := F) := rfl
/-- Part 65 of the body is the same in both programs. -/
theorem part65 : Cert.Rotate.k0_part65 (F := F) = Cert.RotateIdeal.k0_part65 (F := F) := rfl
/-- Part 66 of the body is the same in both programs. -/
theorem part66 : Cert.Rotate.k0_part66 (F := F) = Cert.RotateIdeal.k0_part66 (F := F) := rfl
/-- Part 67 of the body is the same in both programs. -/
theorem part67 : Cert.Rotate.k0_part67 (F := F) = Cert.RotateIdeal.k0_part67 (F := F) := rfl
/-- Part 68 of the body is the same in both programs. -/
theorem part68 : Cert.Rotate.k0_part68 (F := F) = Cert.RotateIdeal.k0_part68 (F := F) := rfl
/-- Part 69 of the body is the same in both programs. -/
theorem part69 : Cert.Rotate.k0_part69 (F := F) = Cert.RotateIdeal.k0_part69 (F := F) := rfl
/-- Part 70 of the body is the same in both programs. -/
theorem part70 : Cert.Rotate.k0_part70 (F := F) = Cert.RotateIdeal.k0_part70 (F := F) := rfl
/-- Part 71 of the body is the same in both programs. -/
theorem part71 : Cert.Rotate.k0_part71 (F := F) = Cert.RotateIdeal.k0_part71 (F := F) := rfl
/-- Part 72 of the body is the same in both programs. -/
theorem part72 : Cert.Rotate.k0_part72 (F := F) = Cert.RotateIdeal.k0_part72 (F := F) := rfl
/-- Part 73 of the body is the same in both programs. -/
theorem part73 : Cert.Rotate.k0_part73 (F := F) = Cert.RotateIdeal.k0_part73 (F := F) := rfl
/-- Part 74 of the body is the same in both programs. -/
theorem part74 : Cert.Rotate.k0_part74 (F := F) = Cert.RotateIdeal.k0_part74 (F := F) := rfl
/-- Part 75 of the body is the same in both programs. -/
theorem part75 : Cert.Rotate.k0_part75 (F := F) = Cert.RotateIdeal.k0_part75 (F := F) := rfl
/-- Part 76 of the body is the same in both programs. -/
theorem part76 : Cert.Rotate.k0_part76 (F := F) = Cert.RotateIdeal.k0_part76 (F := F) := rfl
/-- Part 77 of the body is the same in both programs. -/
theorem part77 : Cert.Rotate.k0_part77 (F := F) = Cert.RotateIdeal.k0_part77 (F := F) := rfl
/-- Part 78 of the body is the same in both programs. -/
theorem part78 : Cert.Rotate.k0_part78 (F := F) = Cert.RotateIdeal.k0_part78 (F := F) := rfl
/-- Part 79 of the body is the same in both programs. -/
theorem part79 : Cert.Rotate.k0_part79 (F := F) = Cert.RotateIdeal.k0_part79 (F := F) := rfl
/-- Part 80 of the body is the same in both programs. -/
theorem part80 : Cert.Rotate.k0_part80 (F := F) = Cert.RotateIdeal.k0_part80 (F := F) := rfl
/-- Part 81 of the body is the same in both programs. -/
theorem part81 : Cert.Rotate.k0_part81 (F := F) = Cert.RotateIdeal.k0_part81 (F := F) := rfl
/-- Part 82 of the body is the same in both programs. -/
theorem part82 : Cert.Rotate.k0_part82 (F := F) = Cert.RotateIdeal.k0_part82 (F := F) := rfl
/-- Part 83 of the body is the same in both programs. -/
theorem part83 : Cert.Rotate.k0_part83 (F := F) = Cert.RotateIdeal.k0_part83 (F := F) := rfl
/-- Part 84 of the body is the same in both programs. -/
theorem part84 : Cert.Rotate.k0_part84 (F := F) = Cert.RotateIdeal.k0_part84 (F := F) := rfl
/-- Part 85 of the body is the same in both programs. -/
theorem part85 : Cert.Rotate.k0_part85 (F := F) = Cert.RotateIdeal.k0_part85 (F := F) := rfl
/-- Part 86 of the body is the same in both programs. -/
theorem part86 : Cert.Rotate.k0_part86 (F := F) = Cert.RotateIdeal.k0_part86 (F := F) := rfl
/-- Part 87 of the body is the same in both programs. -/
theorem part87 : Cert.Rotate.k0_part87 (F := F) = Cert.RotateIdeal.k0_part87 (F := F) := rfl
/-- Part 88 of the body is the same in both programs. -/
theorem part88 : Cert.Rotate.k0_part88 (F := F) = Cert.RotateIdeal.k0_part88 (F := F) := rfl
/-- Part 89 of the body is the same in both programs. -/
theorem part89 : Cert.Rotate.k0_part89 (F := F) = Cert.RotateIdeal.k0_part89 (F := F) := rfl
/-- Part 90 of the body is the same in both programs. -/
theorem part90 : Cert.Rotate.k0_part90 (F := F) = Cert.RotateIdeal.k0_part90 (F := F) := rfl
/-- Part 91 of the body is the same in both programs. -/
theorem part91 : Cert.Rotate.k0_part91 (F := F) = Cert.RotateIdeal.k0_part91 (F := F) := rfl
/-- Part 92 of the body is the same in both programs. -/
theorem part92 : Cert.Rotate.k0_part92 (F := F) = Cert.RotateIdeal.k0_part92 (F := F) := rfl
/-- Part 93 of the body is the same in both programs. -/
theorem part93 : Cert.Rotate.k0_part93 (F := F) = Cert.RotateIdeal.k0_part93 (F := F) := rfl
/-- Part 94 of the body is the same in both programs. -/
theorem part94 : Cert.Rotate.k0_part94 (F := F) = Cert.RotateIdeal.k0_part94 (F := F) := rfl
/-- Part 95 of the body is the same in both programs. -/
theorem part95 : Cert.Rotate.k0_part95 (F := F) = Cert.RotateIdeal.k0_part95 (F := F) := rfl

/-- The kernel's body, -/
theorem body : Cert.Rotate.cc0_rotate_quant (F := F) = Cert.RotateIdeal.cc0_rotate_quant (F := F) := by
  unfold Cert.Rotate.cc0_rotate_quant Cert.RotateIdeal.cc0_rotate_quant
  simp only [part1, part2, part3, part4, part5, part6, part7, part8, part9, part10, part11, part12, part13, part14, part15, part16, part17, part18, part19, part20, part21, part22, part23, part24, part25, part26, part27, part28, part29, part30, part31, part32, part33, part34, part35, part36, part37, part38, part39, part40, part41, part42, part43, part44, part45, part46, part47, part48, part49, part50, part51, part52, part53, part54, part55, part56, part57, part58, part59, part60, part61, part62, part63, part64, part65, part66, part67, part68, part69, part70, part71, part72, part73, part74, part75, part76, part77, part78, part79, part80, part81, part82, part83, part84, part85, part86, part87, part88, part89, part90, part91, part92, part93, part94, part95]
  try rfl

/-- the one labelled body, -/
theorem defs₀ : Cert.Rotate.defs₀ (F := F) = Cert.RotateIdeal.defs₀ (F := F) := by
  unfold Cert.Rotate.defs₀ Cert.RotateIdeal.defs₀
  rw [body]
  refine congrArg Defs.onTc (funext fun l => funext fun a => ?_)
  match l, a with
  | 0, (t, s) => rfl

/-- the pipeline's bodies, -/
theorem defs : Cert.Rotate.defs (F := F) = Cert.RotateIdeal.defs (F := F) := by
  unfold Cert.Rotate.defs Cert.RotateIdeal.defs
  rw [defs₀]
  rfl

/-- and the host program. -/
theorem main : Cert.Rotate.main (F := F) = Cert.RotateIdeal.main (F := F) := rfl

variable (m : (ℓ : Loc Cert.Rotate.nD Cert.Rotate.τ Cert.Rotate.sig) → Buf (Elt F) ℓ) (ρ : Dev Cert.Rotate.nD → PrngReg)

/-- THE FRAME of the program: the copy's. -/
theorem frame : θ_run (Cert.Rotate.defs (F := F)) (onTc (τ := Cert.Rotate.τ) (Cert.Rotate.main (F := F))) ⟨m, fun _ => 0, ρ⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0) := by
  rw [defs, main]
  exact Cert.RotateIdeal.Run.frame m ρ

end Cert.Rotate.Copy

end
-- ==== Proof.RotMath.lean ====
/- The arithmetic of the rotation, over the reals: signs by parity of a bitwise and, the Walsh–Hadamard sums in two
   stages, and the butterflies that compute the outer one. -/
module

public import Idealize.ShloMosaic.Lib.Pointwise

@[expose] public section

noncomputable section

namespace Cert.RotMath

/-- Whether `n` has an odd number of ones among its nine low bits, -/
def od (n : ℕ) : Bool :=
  (n.testBit 0 ^^ n.testBit 1 ^^ n.testBit 2 ^^ n.testBit 3) ^^ (n.testBit 4 ^^ n.testBit 5 ^^ n.testBit 6 ^^ n.testBit 7 ^^ n.testBit 8)

/-- and the sign that says so. -/
def sg (n : ℕ) : ℝ := if od n then -1 else 1

/-- The bits of a number in base sixteen. -/
theorem tb (a b : ℕ) (hb : b < 16) (j : ℕ) : (16 * a + b).testBit j = if j < 4 then b.testBit j else a.testBit (j - 4) :=
  Nat.testBit_two_pow_mul_add a (i := 4) hb j

/-- A number below 16 has four bits, -/
theorem tb4 (b : ℕ) (hb : b < 16) (j : ℕ) (hj : 4 ≤ j) : b.testBit j = false :=
  Nat.testBit_lt_two_pow (lt_of_lt_of_le hb (by calc 16 = 2 ^ 4 := rfl
                                                  _ ≤ 2 ^ j := Nat.pow_le_pow_right (by decide) hj))
/-- and one below 32 has five. -/
theorem tb5 (b : ℕ) (hb : b < 32) (j : ℕ) (hj : 5 ≤ j) : b.testBit j = false :=
  Nat.testBit_lt_two_pow (lt_of_lt_of_le hb (by calc 32 = 2 ^ 5 := rfl
                                                  _ ≤ 2 ^ j := Nat.pow_le_pow_right (by decide) hj))

/-- The sign of a pair of numbers below 512 splits into that of the high five bits and that of the low four. -/
theorem sg_split (i b a b' : ℕ) (hi : i < 32) (ha : a < 32) (hb : b < 16) (hb' : b' < 16) :
    sg ((16 * i + b) &&& (16 * a + b')) = sg (i &&& a) * sg (b &&& b') := by
  have e : od ((16 * i + b) &&& (16 * a + b')) = (od (i &&& a) ^^ od (b &&& b')) := by
    unfold od
    simp only [Nat.testBit_and, tb _ _ hb, tb _ _ hb', tb4 b hb 4 (by decide), tb4 b hb 5 (by decide), tb4 b hb 6 (by decide), tb4 b hb 7 (by decide),
      tb4 b hb 8 (by decide), tb5 i hi 5 (by decide), tb5 i hi 6 (by decide), tb5 i hi 7 (by decide), tb5 i hi 8 (by decide)]
    simp only [Nat.reduceLT, Nat.reduceSub, if_true, if_false, reduceIte, Bool.false_and, Bool.xor_false, lt_self_iff_false, Nat.sub_self]
    generalize (b.testBit 0 && b'.testBit 0) = p0
    generalize (b.testBit 1 && b'.testBit 1) = p1
    generalize (b.testBit 2 && b'.testBit 2) = p2
    generalize (b.testBit 3 && b'.testBit 3) = p3
    generalize (i.testBit 0 && a.testBit 0) = q0
    generalize (i.testBit 1 && a.testBit 1) = q1
    generalize (i.testBit 2 && a.testBit 2) = q2
    generalize (i.testBit 3 && a.testBit 3) = q3
    generalize (i.testBit 4 && a.testBit 4) = q4
    revert p0 p1 p2 p3 q0 q1 q2 q3 q4
    decide
  unfold sg
  rw [e]
  cases od (i &&& a) <;> cases od (b &&& b') <;> simp

/-- A sum over `m n` terms in rows of `n`. -/
theorem sum_rows (n : ℕ) (f : ℕ → ℝ) : ∀ m, ∑ t ∈ Finset.range (n * m), f t = ∑ k ∈ Finset.range m, ∑ b ∈ Finset.range n, f (n * k + b)
  | 0 => by simp
  | m + 1 => by
    rw [Finset.sum_range_succ, ← sum_rows n f m, Nat.mul_succ, Finset.sum_range_add]

/-- The butterflies on reals. -/
def vbR (w : ℕ → ℝ) : ℕ → ℕ → ℝ
  | 0, i => w i
  | s + 1, i => if i / 2 ^ s % 2 = 0 then vbR w s i + vbR w s (i + 2 ^ s) else vbR w s (i - 2 ^ s) - vbR w s i

set_option maxHeartbeats 4000000 in
/-- Five rounds make the signed sum over all 32 blocks. -/
theorem vbR_five (w : ℕ → ℝ) : ∀ i < 32, vbR w 5 i = ∑ a ∈ Finset.range 32, sg (i &&& a) * w a := by
  have s0 : sg 0 = 1 := by rw [sg, show od 0 = false from by decide]; simp
  have s1 : sg 1 = -1 := by rw [sg, show od 1 = true from by decide]; simp
  have s2 : sg 2 = -1 := by rw [sg, show od 2 = true from by decide]; simp
  have s3 : sg 3 = 1 := by rw [sg, show od 3 = false from by decide]; simp
  have s4 : sg 4 = -1 := by rw [sg, show od 4 = true from by decide]; simp
  have s5 : sg 5 = 1 := by rw [sg, show od 5 = false from by decide]; simp
  have s6 : sg 6 = 1 := by rw [sg, show od 6 = false from by decide]; simp
  have s7 : sg 7 = -1 := by rw [sg, show od 7 = true from by decide]; simp
  have s8 : sg 8 = -1 := by rw [sg, show od 8 = true from by decide]; simp
  have s9 : sg 9 = 1 := by rw [sg, show od 9 = false from by decide]; simp
  have s10 : sg 10 = 1 := by rw [sg, show od 10 = false from by decide]; simp
  have s11 : sg 11 = -1 := by rw [sg, show od 11 = true from by decide]; simp
  have s12 : sg 12 = 1 := by rw [sg, show od 12 = false from by decide]; simp
  have s13 : sg 13 = -1 := by rw [sg, show od 13 = true from by decide]; simp
  have s14 : sg 14 = -1 := by rw [sg, show od 14 = true from by decide]; simp
  have s15 : sg 15 = 1 := by rw [sg, show od 15 = false from by decide]; simp
  have s16 : sg 16 = -1 := by rw [sg, show od 16 = true from by decide]; simp
  have s17 : sg 17 = 1 := by rw [sg, show od 17 = false from by decide]; simp
  have s18 : sg 18 = 1 := by rw [sg, show od 18 = false from by decide]; simp
  have s19 : sg 19 = -1 := by rw [sg, show od 19 = true from by decide]; simp
  have s20 : sg 20 = 1 := by rw [sg, show od 20 = false from by decide]; simp
  have s21 : sg 21 = -1 := by rw [sg, show od 21 = true from by decide]; simp
  have s22 : sg 22 = -1 := by rw [sg, show od 22 = true from by decide]; simp
  have s23 : sg 23 = 1 := by rw [sg, show od 23 = false from by decide]; simp
  have s24 : sg 24 = 1 := by rw [sg, show od 24 = false from by decide]; simp
  have s25 : sg 25 = -1 := by rw [sg, show od 25 = true from by decide]; simp
  have s26 : sg 26 = -1 := by rw [sg, show od 26 = true from by decide]; simp
  have s27 : sg 27 = 1 := by rw [sg, show od 27 = false from by decide]; simp
  have s28 : sg 28 = -1 := by rw [sg, show od 28 = true from by decide]; simp
  have s29 : sg 29 = 1 := by rw [sg, show od 29 = false from by decide]; simp
  have s30 : sg 30 = 1 := by rw [sg, show od 30 = false from by decide]; simp
  have s31 : sg 31 = -1 := by rw [sg, show od 31 = true from by decide]; simp
  intro i hi
  interval_cases i <;>
  · simp only [vbR, Finset.sum_range_succ, Finset.sum_range_zero, Nat.reduceAnd, Nat.reducePow, Nat.reduceDiv, Nat.reduceMod, Nat.reduceAdd, Nat.reduceSub,
      if_true, if_false, OfNat.ofNat_ne_zero, one_ne_zero, reduceIte, s0, s1, s2, s3, s4, s5, s6, s7, s8, s9, s10, s11, s12, s13, s14, s15, s16, s17, s18, s19, s20, s21, s22, s23, s24, s25, s26, s27, s28, s29, s30, s31]
    ring

/-- THE ROTATION of one row: block `j`, place `q`, of the products with the small factor and the 512-point signs. -/
def rot (H : ℕ → ℕ → ℝ) (X : ℕ → ℝ) (j q : ℕ) : ℝ :=
  ∑ k ∈ Finset.range 28, H j k * ∑ p ∈ Finset.range 512, sg (q &&& p) * X (512 * k + p)

/-- The first stage: rows of 16 against the matrix of the small factor and the 16-point signs. -/
def stage (H : ℕ → ℕ → ℝ) (X : ℕ → ℝ) (a r : ℕ) : ℝ :=
  ∑ t ∈ Finset.range 448, (sg (r % 16 &&& t % 16) * H (r / 16) (t / 16)) * X (512 * (t / 16) + 16 * a + t % 16)

/-- The second stage on the first is the rotation. -/
theorem vbR_stage (H : ℕ → ℕ → ℝ) (X : ℕ → ℝ) (i j b : ℕ) (hi : i < 32) (hb : b < 16) :
    vbR (fun a => stage H X a (16 * j + b)) 5 i = rot H X j (16 * i + b) := by
  rw [vbR_five _ i hi]
  unfold stage rot
  have e1 : (16 * j + b) % 16 = b := by omega
  have e2 : (16 * j + b) / 16 = j := by omega
  simp only [e1, e2]
  have h1 : ∀ a, ∑ t ∈ Finset.range 448, (sg (b &&& t % 16) * H j (t / 16)) * X (512 * (t / 16) + 16 * a + t % 16)
      = ∑ k ∈ Finset.range 28, ∑ b' ∈ Finset.range 16, (sg (b &&& b') * H j k) * X (512 * k + 16 * a + b') := by
    intro a
    rw [show (448 : ℕ) = 16 * 28 from rfl, sum_rows]
    refine Finset.sum_congr rfl fun k _ => Finset.sum_congr rfl fun b' hb' => ?_
    have := Finset.mem_range.1 hb'
    rw [show (16 * k + b') % 16 = b' by omega, show (16 * k + b') / 16 = k by omega]
  simp only [h1, Finset.mul_sum]
  rw [Finset.sum_comm]
  refine Finset.sum_congr rfl fun k _ => ?_
  rw [show (512 : ℕ) = 16 * 32 from rfl, sum_rows]
  refine Finset.sum_congr rfl fun a ha => Finset.sum_congr rfl fun b' hb' => ?_
  rw [sg_split i b a b' hi (Finset.mem_range.1 ha) hb (Finset.mem_range.1 hb'), Nat.add_assoc]
  ring

/-! ## Infinite values -/

/-- An extended real that is not a real. -/
def Inf (a : EReal) : Prop := a = ⊤ ∨ a = ⊥

/-- What is not infinite is a real. -/
theorem real_of_not_inf {a : EReal} (h : ¬ Inf a) : a = ((a.toReal : ℝ) : EReal) :=
  (EReal.coe_toReal (fun e => h (.inl e)) (fun e => h (.inr e))).symm

/-- A sum with an infinite term on the left is infinite, -/
theorem Inf.add_left {a : EReal} (h : Inf a) (b : EReal) : Inf (a + b) := by
  rcases h with rfl | rfl
  · induction b using EReal.rec
    · exact .inr (by simp)
    · exact .inl (by simp)
    · exact .inl (by simp)
  · exact .inr (by simp)

/-- and one with an infinite term on the right. -/
theorem Inf.add_right {b : EReal} (h : Inf b) (a : EReal) : Inf (a + b) := by
  rw [add_comm]; exact h.add_left a

/-- The opposite of an infinite value is infinite. -/
theorem Inf.neg {a : EReal} (h : Inf a) : Inf (-a) := by
  rcases h with rfl | rfl
  · exact .inr (by simp)
  · exact .inl (by simp)

/-- A finite sum with an infinite term is infinite. -/
theorem Inf.sum {n : ℕ} (f : Fin n → EReal) (k : Fin n) (h : Inf (f k)) : Inf (∑ i, f i) := by
  rw [← Finset.add_sum_erase Finset.univ f (Finset.mem_univ k)]
  exact h.add_left _

/-- An infinite value is not zero. -/
theorem Inf.ne_zero {a : EReal} (h : Inf a) : a ≠ 0 := by
  rcases h with rfl | rfl <;> simp

/-- An infinite value times one that is not zero is infinite. -/
theorem Inf.mul {a : EReal} (h : Inf a) {b : EReal} (hb : b ≠ 0) : Inf (a * b) := by
  rcases lt_or_gt_of_ne hb with hb | hb
  · rcases h with rfl | rfl
    · exact .inr (EReal.top_mul_of_neg hb)
    · exact .inl (EReal.bot_mul_of_neg hb)
  · rcases h with rfl | rfl
    · exact .inl (EReal.top_mul_of_pos hb)
    · exact .inr (EReal.bot_mul_of_pos hb)

/-- A product of reals is not infinite. -/
theorem not_inf_coe (r : ℝ) : ¬ Inf ((r : ℝ) : EReal) := by
  rintro (h | h)
  · exact EReal.coe_ne_top r h
  · exact EReal.coe_ne_bot r h

/-- An infinite product has an infinite factor, and the other is not zero. -/
theorem Inf.of_mul {a b : EReal} (h : Inf (a * b)) : a ≠ 0 ∧ b ≠ 0 ∧ (Inf a ∨ Inf b) := by
  refine ⟨?_, ?_, ?_⟩
  · rintro rfl; exact h.ne_zero (zero_mul b)
  · rintro rfl; exact h.ne_zero (mul_zero a)
  · by_contra hn
    obtain ⟨ha, hb⟩ := not_or.1 hn
    rw [real_of_not_inf ha, real_of_not_inf hb, ← EReal.coe_mul] at h
    exact not_inf_coe _ h

/-- The magnitude of an infinite value is the greatest. -/
theorem Inf.mag {a : EReal} (h : Inf a) : max a (-a) = ⊤ := by
  rcases h with rfl | rfl <;> simp

/-- A value or its opposite, by the sign. -/
def sgE (n : ℕ) (v : EReal) : EReal := if od n then -v else v

/-- The sign of a product goes to its first factor. -/
theorem sgE_mul (n : ℕ) (v w : EReal) : sgE n v * w = sgE n (v * w) := by
  unfold sgE; split
  · rw [EReal.neg_mul]
  · rfl

/-- On reals it is the product with the sign. -/
theorem sgE_coe (n : ℕ) (v : ℝ) : sgE n ((v : ℝ) : EReal) = ((sg n * v : ℝ) : EReal) := by
  unfold sgE sg; split
  · rw [neg_one_mul, EReal.coe_neg]
  · rw [one_mul]

/-- The sign leaves an infinite value infinite. -/
theorem Inf.sgE {v : EReal} (h : Inf v) (n : ℕ) : Inf (sgE n v) := by
  unfold Cert.RotMath.sgE; split
  · exact h.neg
  · exact h

/-- The product with a sign, as an extended real. -/
theorem mul_sg (n : ℕ) (v : EReal) : v * ((sg n : ℝ) : EReal) = sgE n v := by
  unfold sgE sg; split
  · rw [EReal.coe_neg, EReal.coe_one, mul_neg, mul_one]
  · rw [EReal.coe_one, mul_one]

/-! ## The signs are orthogonal -/

/-- The sign as an integer. -/
def sgI (n : ℕ) : ℤ := if od n then -1 else 1

/-- The two signs are one. -/
theorem sg_int (n : ℕ) : sg n = ((sgI n : ℤ) : ℝ) := by unfold sg sgI; split <;> simp

/-- The rows of the 32-point signs are orthogonal, -/
theorem orth32 : ∀ a a' : Fin 32, ∑ i : Fin 32, sgI (i.val &&& a.val) * sgI (i.val &&& a'.val) = if a = a' then 32 else 0 := by decide +kernel

/-- and those of the 16-point signs. -/
theorem orth16 : ∀ a a' : Fin 16, ∑ i : Fin 16, sgI (i.val &&& a.val) * sgI (i.val &&& a'.val) = if a = a' then 16 else 0 := by decide +kernel

/-- The rows of the 512-point signs are orthogonal. -/
theorem orth512 (p p' : ℕ) (hp : p < 512) (hp' : p' < 512) :
    ∑ q ∈ Finset.range 512, sg (q &&& p) * sg (q &&& p') = if p = p' then 512 else 0 := by
  have h32 : ∑ i ∈ Finset.range 32, sg (i &&& (p / 16)) * sg (i &&& (p' / 16)) = if p / 16 = p' / 16 then 32 else 0 := by
    have h := congrArg (fun z : ℤ => (z : ℝ)) (orth32 ⟨p / 16, by omega⟩ ⟨p' / 16, by omega⟩)
    simp only [Fin.mk.injEq] at h
    rw [Finset.sum_range]
    simp only [sg_int]
    push_cast at h ⊢
    exact h
  have h16 : ∑ i ∈ Finset.range 16, sg (i &&& (p % 16)) * sg (i &&& (p' % 16)) = if p % 16 = p' % 16 then 16 else 0 := by
    have h := congrArg (fun z : ℤ => (z : ℝ)) (orth16 ⟨p % 16, by omega⟩ ⟨p' % 16, by omega⟩)
    simp only [Fin.mk.injEq] at h
    rw [Finset.sum_range]
    simp only [sg_int]
    push_cast at h ⊢
    exact h
  have e : ∀ i < 32, ∀ b < 16, sg ((16 * i + b) &&& p) * sg ((16 * i + b) &&& p')
      = (sg (i &&& (p / 16)) * sg (i &&& (p' / 16))) * (sg (b &&& (p % 16)) * sg (b &&& (p' % 16))) := by
    intro i hi b hb
    have e1 := sg_split i b (p / 16) (p % 16) hi (by omega) hb (by omega)
    have e2 := sg_split i b (p' / 16) (p' % 16) hi (by omega) hb (by omega)
    rw [Nat.div_add_mod] at e1 e2
    rw [e1, e2]; ring
  rw [show (512 : ℕ) = 16 * 32 from rfl, sum_rows]
  rw [Finset.sum_congr rfl fun i hi => Finset.sum_congr rfl fun b hb => e i (Finset.mem_range.1 hi) b (Finset.mem_range.1 hb)]
  simp only [← Finset.mul_sum, h16, ← Finset.sum_mul, h32]
  by_cases h1 : p / 16 = p' / 16 <;> by_cases h2 : p % 16 = p' % 16
  · rw [if_pos h1, if_pos h2, if_pos (show p = p' by omega)]; norm_num
  · rw [if_neg h2, if_neg (show ¬ p = p' by omega), mul_zero]
  · rw [if_neg h1, if_neg (show ¬ p = p' by omega), zero_mul]
  · rw [if_neg h1, if_neg (show ¬ p = p' by omega), zero_mul]

/-- Reals whose signed sums all vanish are all zero. -/
theorem walsh_zero (f : ℕ → ℝ) (h : ∀ q < 512, ∑ p ∈ Finset.range 512, sg (q &&& p) * f p = 0) (p : ℕ) (hp : p < 512) : f p = 0 := by
  have h1 : ∑ q ∈ Finset.range 512, sg (q &&& p) * ∑ p' ∈ Finset.range 512, sg (q &&& p') * f p' = 512 * f p := by
    simp only [Finset.mul_sum, ← mul_assoc]
    rw [Finset.sum_comm]
    rw [Finset.sum_congr rfl fun p' hp' => by rw [← Finset.sum_mul, orth512 p p' hp (Finset.mem_range.1 hp')]]
    simp only [ite_mul, zero_mul]
    rw [Finset.sum_ite_eq, if_pos (Finset.mem_range.2 hp)]
  rw [Finset.sum_congr rfl fun q hq => by rw [h q (Finset.mem_range.1 hq), mul_zero], Finset.sum_const_zero] at h1
  linarith

/-- SOME SIGNED SUM is not zero, of 512 values not all zero. -/
theorem walsh_ne (f : Fin 512 → EReal) (p : Fin 512) (hp : f p ≠ 0) : ∃ q : Fin 512, (∑ p : Fin 512, sgE (q.val &&& p.val) (f p)) ≠ 0 := by
  by_cases hI : ∃ p, Inf (f p)
  · obtain ⟨p1, h1⟩ := hI
    exact ⟨0, (Inf.sum (fun p : Fin 512 => sgE ((0 : Fin 512).val &&& p.val) (f p)) p1 (h1.sgE _)).ne_zero⟩
  · by_contra hn
    simp only [not_exists, not_not] at hn
    have hr : ∀ p, f p = (((f p).toReal : ℝ) : EReal) := fun p => real_of_not_inf fun h => hI ⟨p, h⟩
    have hz := walsh_zero (fun n => (f (Fin.ofNat 512 n)).toReal) (fun q hq => by
      have h1 := hn ⟨q, hq⟩
      have h2 : (∑ p : Fin 512, sgE (q &&& p.val) (f p)) = (((∑ p : Fin 512, sg (q &&& p.val) * (f p).toReal : ℝ)) : EReal) := by
        rw [show (((∑ p : Fin 512, sg (q &&& p.val) * (f p).toReal : ℝ)) : EReal) = ∑ p : Fin 512, ((sg (q &&& p.val) * (f p).toReal : ℝ) : EReal) from
          map_sum (⟨⟨Real.toEReal, EReal.coe_zero⟩, EReal.coe_add⟩ : ℝ →+ EReal) _ Finset.univ]
        refine Finset.sum_congr rfl fun p _ => ?_
        rw [← sgE_coe, ← hr]
      rw [Finset.sum_range]
      have h3 := EReal.coe_eq_zero.1 (h2.symm.trans h1)
      refine Eq.trans (Finset.sum_congr rfl fun p _ => ?_) h3
      rw [show Fin.ofNat 512 p.val = p from Fin.ext (Nat.mod_eq_of_lt p.isLt)]) p.val p.isLt
    rw [show Fin.ofNat 512 p.val = p from Fin.ext (Nat.mod_eq_of_lt p.isLt)] at hz
    rw [hr p, hz] at hp
    exact hp EReal.coe_zero

end Cert.RotMath

end
-- ==== Proof.RotValueA.lean ====
/- What the rotation kernel's results are over the extended reals: the matrix it builds, the products, the butterflies. -/
module

public import proofs.«01_k».proof.Proof.RotIdealMain
public import proofs.«01_k».proof.Proof.RotMath
public import Idealize.ShloMosaic.Lib.Pointwise
public import Idealize.ShloMosaic.Lib.MatmulPlain

@[expose] public section

set_option maxRecDepth 16384

noncomputable section

namespace Cert.RotateIdeal.Run

open Cert.RotateIdeal Cert.RotateIdeal.Gen Cert.RotMath
open Idealize.ShloMosaic Idealize.ShloMosaic.TcCoe

/-- The quotient of a row by sixteen, as the words compute it. -/
def rowW (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector w 16#32) 0#32))
    (IntOp.subi (IntOp.divsi ArithUnit.vector w 16#32) 1#32) (IntOp.divsi ArithUnit.vector w 16#32)

/-- It is the quotient. -/
theorem rowW_eq : ∀ r : Fin 448, rowW (BitVec.ofNat 32 r.val) = BitVec.ofNat 32 (r.val / 16) := by decide +kernel

/-- The parity of the low four bits, as the words compute it. -/
def signW (w : BitVec 32) : BitVec 1 :=
  IntOp.cmpi CmpIPredicate.eq
    (IntOp.andi (IntOp.xori (IntOp.xori w (IntOp.shrsi ArithUnit.vector w 2#32))
      (IntOp.shrsi ArithUnit.vector (IntOp.xori w (IntOp.shrsi ArithUnit.vector w 2#32)) 1#32)) 1#32) 1#32

/-- It is the parity. -/
theorem signW_eq : ∀ n : Fin 512, signW (BitVec.ofNat 32 n.val) = BitVec.ofBool (od (n.val % 16)) := by decide +kernel

/-- A sum of reals, as extended reals. -/
theorem coe_sum {n : ℕ} (f : Fin n → ℝ) : (∑ k : Fin n, ((f k : ℝ) : EReal)) = ((∑ k : Fin n, f k : ℝ) : EReal) :=
  (map_sum (⟨⟨Real.toEReal, EReal.coe_zero⟩, EReal.coe_add⟩ : ℝ →+ EReal) f Finset.univ).symm

/-- The matrix that repeats each row sixteen times. -/
theorem rep (r : Fin 448) (k : Fin 28) : (k0_pay536 (F := Ideal)) (ix2 r k) = ((if r.val / 16 = k.val then 1 else 0 : ℝ) : EReal) := by
  unfold k0_pay536
  simp only [pointwise]
  show FloatOps.sitofp (F := Ideal) FTy.f32 (BitVec.setWidth 32 (IntOp.cmpi CmpIPredicate.eq (rowW (BitVec.ofNat 32 (0 * 448 + r.val))) (BitVec.ofNat 32 (0 * 28 + k.val)))) = _
  rw [Nat.zero_mul, Nat.zero_add, Nat.zero_add, rowW_eq]
  have hk := k.isLt
  have hr := r.isLt
  by_cases e : r.val / 16 = k.val
  · rw [if_pos e, e]
    show FloatOps.sitofp (F := Ideal) FTy.f32 (BitVec.setWidth 32 (BitVec.ofBool (BitVec.ofNat 32 k.val == BitVec.ofNat 32 k.val))) = _
    rw [beq_self_eq_true]
    show (((BitVec.setWidth 32 (BitVec.ofBool true)).toInt : ℝ) : EReal) = _
    rw [show (BitVec.setWidth 32 (BitVec.ofBool true)).toInt = 1 from by decide]; norm_num
  · rw [if_neg e]
    show FloatOps.sitofp (F := Ideal) FTy.f32 (BitVec.setWidth 32 (BitVec.ofBool (BitVec.ofNat 32 (r.val / 16) == BitVec.ofNat 32 k.val))) = _
    rw [show (BitVec.ofNat 32 (r.val / 16) == BitVec.ofNat 32 k.val) = false from by
      rw [beq_eq_false_iff_ne]; intro h
      have := congrArg BitVec.toNat h
      rw [BitVec.toNat_ofNat, BitVec.toNat_ofNat, Nat.mod_eq_of_lt (by omega), Nat.mod_eq_of_lt (by omega)] at this
      exact e this]
    show (((BitVec.setWidth 32 (BitVec.ofBool false)).toInt : ℝ) : EReal) = _
    rw [show (BitVec.setWidth 32 (BitVec.ofBool false)).toInt = 0 from by decide]; norm_num

/-- A row whose products with the small factor are real numbers. -/
structure RowArgs (x : S256x14336.Idx → Elt Ideal .bf16) (h : S28x28.Idx → Elt Ideal .f32) (X : ℕ → ℕ → ℝ) (H : ℕ → ℕ → ℝ) (s : Fin 256) : Prop where
  hp : ∀ (j k : Fin 28) (c : Fin 14336), c.val / 512 = k.val →
    (h (ix2 j k) : EReal) * (x (ix2 s c) : EReal) = ((H j.val k.val * X s.val c.val : ℝ) : EReal)

variable {x : S256x14336.Idx → Elt Ideal .bf16} {h : S28x28.Idx → Elt Ideal .f32} {X : ℕ → ℕ → ℝ} {H : ℕ → ℕ → ℝ}

/-- The words' parity, folded. -/
theorem signW_def (w : BitVec 32) : IntOp.cmpi CmpIPredicate.eq (IntOp.andi (IntOp.xori (IntOp.xori w (IntOp.shrsi ArithUnit.vector w 2#32))
        (IntOp.shrsi ArithUnit.vector (IntOp.xori w (IntOp.shrsi ArithUnit.vector w 2#32)) 1#32)) 1#32) 1#32 = signW w := rfl

/-- The sign's choice between a value and its opposite, by the parity. -/
theorem sel_sg (n : ℕ) (v : EReal) : Scalar.select (BitVec.ofBool (od n)) ((0 : EReal) - v) v = sgE n v := by
  unfold sgE
  generalize od n = b
  cases b
  · rw [if_neg (by simp)]; rfl
  · rw [if_pos rfl]
    show (0 : EReal) - v = _
    rw [zero_sub]

/-- The conjunction of two words of numbers. -/
theorem and_word (a b : ℕ) : IntOp.andi (BitVec.ofNat 32 a) (BitVec.ofNat 32 b) = BitVec.ofNat 32 (a &&& b) := BitVec.ofNat_and.symm

/-- The low four bits of a conjunction. -/
theorem and_mod (a b : ℕ) : (a &&& b) % 16 = (a % 16 &&& b % 16) := Nat.and_mod_two_pow (n := 4)

/-- The sign's choice between a value and its opposite. -/
theorem GM_sign (v : EReal) (r c : Fin 448) (w0 w1 : BitVec 32) (h0 : w0 = BitVec.ofNat 32 r.val) (h1 : w1 = BitVec.ofNat 32 c.val) :
    Scalar.select (IntOp.cmpi CmpIPredicate.eq (IntOp.andi (IntOp.xori (IntOp.xori (IntOp.andi w0 w1) (IntOp.shrsi ArithUnit.vector (IntOp.andi w0 w1) 2#32))
        (IntOp.shrsi ArithUnit.vector (IntOp.xori (IntOp.andi w0 w1) (IntOp.shrsi ArithUnit.vector (IntOp.andi w0 w1) 2#32)) 1#32)) 1#32) 1#32)
      ((0 : EReal) - v) v = sgE (r.val % 16 &&& c.val % 16) v := by
  have hlt : r.val &&& c.val < 512 := Nat.and_lt_two_pow (n := 9) _ (lt_trans c.isLt (by norm_num))
  rw [signW_def, h0, h1, and_word, signW_eq ⟨r.val &&& c.val, hlt⟩, sel_sg]
  rw [and_mod]

/-- The entry of the small factor a place of the matrix holds. -/
def had (h : S28x28.Idx → Elt Ideal .f32) (r c : Fin 448) : EReal :=
  h (ix2 (n0 := 28) (n1 := 28) ⟨r.val / 16, by have := r.isLt; omega⟩ ⟨c.val / 16, by have := c.isLt; omega⟩)

/-- THE MATRIX: the small factor spread over blocks of sixteen, with the 16-point signs. -/
theorem GM_apply (r c : Fin 448) :
    (GM (F := Ideal) h (ix2 r c) : EReal) = sgE (r.val % 16 &&& c.val % 16) (had h r c) := by
  unfold GM k0_pay537
  simp only [pointwise]
  have hr := r.isLt
  have hc := c.isLt
  have one : ∀ v : EReal, ((1 : ℝ) : EReal) * v = v := fun v => by rw [EReal.coe_one, one_mul]
  have zero : ∀ v : EReal, ((0 : ℝ) : EReal) * v = 0 := fun v => by rw [EReal.coe_zero, zero_mul]
  have e1 : ∀ y : Fin 28, (0 : EReal) + ∑ k : Fin 28, (k0_pay536 (F := Ideal)) (ix2 r k) * h (ix2 k y)
      = h (ix2 (n0 := 28) (n1 := 28) ⟨r.val / 16, by omega⟩ y) := by
    intro y
    rw [zero_add, Finset.sum_eq_single (⟨r.val / 16, by omega⟩ : Fin 28)]
    · rw [rep, if_pos rfl]; exact one _
    · intro b _ hb; rw [rep, if_neg (fun h => hb (Fin.ext h.symm))]; exact zero _
    · intro hn; exact absurd (Finset.mem_univ _) hn
  have e2 : (0 : EReal) + ∑ y : Fin 28, (0 + ∑ k : Fin 28, (k0_pay536 (F := Ideal)) (ix2 r k) * h (ix2 k y)) * (k0_pay536 (F := Ideal)) (ix2 c y) = had h r c := by
    simp only [e1]
    rw [zero_add, Finset.sum_eq_single (⟨c.val / 16, by omega⟩ : Fin 28)]
    · rw [rep, if_pos rfl]; exact (mul_comm _ _).trans (one _)
    · intro b _ hb; rw [rep, if_neg (fun h => hb (Fin.ext h.symm))]; exact (mul_comm _ _).trans (zero _)
    · intro hn; exact absurd (Finset.mem_univ _) hn
  rw [e2]
  exact GM_sign _ r c _ _ (congrArg _ (by simp)) (congrArg _ (by simp))

/-- The activation a term of a product reads. -/
def act (x : S256x14336.Idx → Elt Ideal .bf16) (a : Fin 32) (s : Fin 256) (k : Fin 448) : EReal :=
  x (ix2 (n0 := 256) (n1 := 14336) s ⟨512 * (k.val / 16) + 16 * a.val + k.val % 16, by have := k.isLt; have := a.isLt; omega⟩)

/-- THE PRODUCTS, of any arguments: a sum of 448 terms. -/
theorem U0_sum (a : Fin 32) (r : Fin 448) (s : Fin 256) :
    (U0 x (GM (F := Ideal) h) (ix3 a r s) : EReal) = ∑ k : Fin 448, sgE (r.val % 16 &&& k.val % 16) (had h r k * act x a s k) := by
  unfold U0 k0_pay541
  simp only [pointwise]
  have ha := a.isLt
  have hr := r.isLt
  have hs := s.isLt
  have e : ∀ k : Fin 448, (if hlt : s.val < 128 then rowsT x 0 a.val (ix3 (n0 := 1) (n1 := 448) (n2 := 128) 0 k ⟨s.val, hlt⟩)
        else rowsT x 1 a.val (ix3 (n0 := 1) (n1 := 448) (n2 := 128) 0 k ⟨s.val - 128, by omega⟩) : EReal) = act x a s k := by
    intro k
    have hk := k.isLt
    have key : ∀ (hf : Fin 2) (l : Fin 128), 128 * hf.val + l.val = s.val → (rowsT x hf a.val (ix3 (n0 := 1) (n1 := 448) (n2 := 128) 0 k l) : EReal) = act x a s k := by
      intro hf l hl
      unfold rowsT XT act
      refine congrArg x ?_
      funext b; apply Fin.ext
      match b with
      | ⟨0, _⟩ => exact hl
      | ⟨1, _⟩ =>
        show 512 * ((448 * a.val + k.val) % 14336 % 448 / 16) + 16 * ((448 * a.val + k.val) % 14336 / 448) + (448 * a.val + k.val) % 14336 % 16 = 512 * (k.val / 16) + 16 * a.val + k.val % 16
        omega
    by_cases hlt : s.val < 128
    · rw [dif_pos hlt]; exact key 0 ⟨s.val, hlt⟩ (by show 128 * 0 + s.val = s.val; omega)
    · rw [dif_neg hlt]; exact key 1 ⟨s.val - 128, by omega⟩ (by show 128 * 1 + (s.val - 128) = s.val; omega)
  rw [zero_add]
  refine Finset.sum_congr rfl fun k _ => ?_
  rw [← sgE_mul, ← GM_apply r k, ← e k]
  refine congrArg (_ * ·) ?_
  by_cases hlt : s.val < 128
  · rw [dif_pos hlt, dif_pos hlt]
  · rw [dif_neg hlt, dif_neg hlt]; rfl

/-- THE PRODUCTS of a row of reals: the first stage of the rotation. -/
theorem U0_apply {s : Fin 256} (A : RowArgs x h X H s) (a : Fin 32) (r : Fin 448) :
    U0 x (GM (F := Ideal) h) (ix3 a r s) = ((stage H (X s.val) a.val r.val : ℝ) : EReal) := by
  refine (U0_sum a r s).trans ?_
  unfold stage
  rw [Finset.sum_range, ← coe_sum]
  refine Finset.sum_congr rfl fun k _ => ?_
  have ha := a.isLt
  have hk := k.isLt
  have e : had h r k * act x a s k = ((H (r.val / 16) (k.val / 16) * X s.val (512 * (k.val / 16) + 16 * a.val + k.val % 16) : ℝ) : EReal) :=
    A.hp ⟨r.val / 16, by have := r.isLt; omega⟩ ⟨k.val / 16, by omega⟩ ⟨512 * (k.val / 16) + 16 * a.val + k.val % 16, by omega⟩
      (by show (512 * (k.val / 16) + 16 * a.val + k.val % 16) / 512 = k.val / 16; omega)
  rw [e, sgE_coe, mul_assoc]

/-- The butterflies on whole vectors are those on reals, element by element. -/
theorem vb_apply (w : ℕ → FVec Ideal S8x128 .f32) (wR : ℕ → ℝ) (j : S8x128.Idx) (hw : ∀ i, w i j = ((wR i : ℝ) : EReal)) :
    ∀ s i, vb w s i j = ((vbR wR s i : ℝ) : EReal)
  | 0, i => hw i
  | s + 1, i => by
    unfold vb vbR
    by_cases e : i / 2 ^ s % 2 = 0
    · rw [if_pos e, if_pos e, EReal.coe_add, ← vb_apply w wR j hw s i, ← vb_apply w wR j hw s (i + 2 ^ s)]; rfl
    · rw [if_neg e, if_neg e, EReal.coe_sub, ← vb_apply w wR j hw s i, ← vb_apply w wR j hw s (i - 2 ^ s)]; rfl

/-- A block a trip reads is a block of the products. -/
theorem wv_read (G : FVec Ideal S448x448 .f32) (k hf i : ℕ) (hk : k < 56) (hh : hf < 2) (j1 : Fin 8) (j2 : Fin 128) :
    (wv x G k hf i (ix2 j1 j2) : EReal) = U0 x G (ix3 (n0 := 32) (n1 := 448) (n2 := 256) ⟨i % 32, by omega⟩
      ⟨8 * k + j1.val, by have := j1.isLt; omega⟩ ⟨128 * hf + j2.val, by have := j2.isLt; omega⟩) := by
  have h1 := j1.isLt
  have h2 := j2.isLt
  unfold wv
  simp only [pointwise]
  unfold win
  refine congrArg (U0 x G) ?_
  funext b; apply Fin.ext
  match b with
  | ⟨0, _⟩ => rfl
  | ⟨1, _⟩ => show (8 * k + j1.val) % 448 = 8 * k + j1.val; omega
  | ⟨2, _⟩ => show (128 * hf + j2.val) % 256 = 128 * hf + j2.val; omega

/-- The block of a row of reals. -/
theorem wv_apply {s : Fin 256} (A : RowArgs x h X H s) (k hf i : ℕ) (hk : k < 56) (hh : hf < 2) (j1 : Fin 8) (j2 : Fin 128) (hs : 128 * hf + j2.val = s.val) :
    (wv x (GM (F := Ideal) h) k hf i (ix2 j1 j2) : EReal) = ((stage H (X s.val) (i % 32) (8 * k + j1.val) : ℝ) : EReal) := by
  have h1 := j1.isLt
  refine (wv_read _ k hf i hk hh j1 j2).trans ?_
  rw [show (⟨128 * hf + j2.val, by have := j2.isLt; omega⟩ : Fin 256) = s from Fin.ext hs]
  exact U0_apply A ⟨i % 32, by omega⟩ ⟨8 * k + j1.val, by omega⟩

/-- Butterflies read only the 32 blocks. -/
theorem vbR_mod (w : ℕ → ℝ) (i : ℕ) (hi : i < 32) : vbR (fun a => w (a % 32)) 5 i = vbR w 5 i := by
  rw [vbR_five _ i hi, vbR_five _ i hi]
  exact Finset.sum_congr rfl fun a ha => by rw [Nat.mod_eq_of_lt (Finset.mem_range.1 ha)]

/-- A COMBINED BLOCK of trip `k`: the rotation. -/
theorem block_apply {s : Fin 256} (A : RowArgs x h X H s) (k hf i : ℕ) (hk : k < 56) (hh : hf < 2) (hi : i < 32) (j1 : Fin 8) (j2 : Fin 128) (hs : 128 * hf + j2.val = s.val) :
    (vb (wv x (GM (F := Ideal) h) k hf) 5 i (ix2 j1 j2) : EReal)
      = ((rot H (X s.val) ((8 * k + j1.val) / 16) (16 * i + (8 * k + j1.val) % 16) : ℝ) : EReal) := by
  rw [vb_apply _ (fun a => stage H (X s.val) (a % 32) (8 * k + j1.val)) _ (fun a => wv_apply A k hf a hk hh j1 j2 hs)]
  rw [vbR_mod (fun a => stage H (X s.val) a (8 * k + j1.val)) i hi]
  conv_lhs => rw [show 8 * k + j1.val = 16 * ((8 * k + j1.val) / 16) + (8 * k + j1.val) % 16 by omega]
  rw [vbR_stage H _ i _ _ hi (by omega)]

/-- The buffer after the butterflies is made of the combined blocks. -/
theorem UB_block (G : FVec Ideal S448x448 .f32) (i : Fin 32) (r : Fin 448) (s : Fin 256) :
    (UB x G (ix3 i r s) : EReal) = vb (wv x G (r.val / 8) (s.val / 128)) 5 i.val (ix2 (Fin.ofNat 8 (r.val % 8)) (Fin.ofNat 128 (s.val % 128))) := by
  unfold UB outv
  simp only [pointwise]

/-- A combined block is a block of the buffer. -/
theorem block_UB (G : FVec Ideal S448x448 .f32) (k hf : ℕ) (i : Fin 32) (hk : k < 56) (hh : hf < 2) (j1 : Fin 8) (j2 : Fin 128) (r : Fin 448) (s : Fin 256)
    (hr : 8 * k + j1.val = r.val) (hs : 128 * hf + j2.val = s.val) :
    (vb (wv x G k hf) 5 i.val (ix2 j1 j2) : EReal) = UB x G (ix3 i r s) := by
  have h1 := j1.isLt
  have h2 := j2.isLt
  rw [UB_block, show r.val / 8 = k by omega, show s.val / 128 = hf by omega,
    show Fin.ofNat 8 (r.val % 8) = j1 from Fin.ext (by show r.val % 8 % 8 = j1.val; omega),
    show Fin.ofNat 128 (s.val % 128) = j2 from Fin.ext (by show s.val % 128 % 128 = j2.val; omega)]

/-- THE BUFFER after the butterflies, at a row of reals. -/
theorem UB_apply {s : Fin 256} (A : RowArgs x h X H s) (i : Fin 32) (r : Fin 448) :
    (UB x (GM (F := Ideal) h) (ix3 i r s) : EReal) = ((rot H (X s.val) (r.val / 16) (16 * i.val + r.val % 16) : ℝ) : EReal) := by
  have hi := i.isLt
  have hr := r.isLt
  have hs := s.isLt
  rw [UB_block]
  refine (block_apply A (r.val / 8) (s.val / 128) i.val (by omega) (by omega) hi (Fin.ofNat 8 (r.val % 8)) (Fin.ofNat 128 (s.val % 128))
    (by show 128 * (s.val / 128) + s.val % 128 % 128 = s.val; omega)).trans ?_
  rw [show 8 * (r.val / 8) + (Fin.ofNat 8 (r.val % 8)).val = r.val by show 8 * (r.val / 8) + r.val % 8 % 8 = r.val; omega]

/-- A butterfly of sums alone keeps an infinite block infinite. -/
theorem inf_vb (w : ℕ → FVec Ideal S8x128 .f32) (j : S8x128.Idx) (a : ℕ) (hI : Inf (w a j : EReal)) :
    ∀ s i, i % 2 ^ s = 0 → i ≤ a → a < i + 2 ^ s → Inf (vb w s i j : EReal)
  | 0, i, _, h1, h2 => by
    have e : i = a := by rw [pow_zero] at h2; omega
    subst e; exact hI
  | s + 1, i, h0, h1, h2 => by
    rw [pow_succ] at h0 h2
    have hp : 0 < 2 ^ s := by positivity
    have h3 : i % 2 ^ s = 0 := Nat.mod_eq_zero_of_dvd (dvd_trans (Dvd.intro _ rfl) (Nat.dvd_of_mod_eq_zero h0))
    have h4 : i / 2 ^ s % 2 = 0 := by rw [← Nat.mod_mul_right_div_self, h0, Nat.zero_div]
    unfold vb
    rw [if_pos h4]
    by_cases h : a < i + 2 ^ s
    · exact (inf_vb w j a hI s i h3 h1 h).add_left _
    · exact (inf_vb w j a hI s (i + 2 ^ s) (by rw [Nat.add_mod_right]; exact h3) (by omega) (by omega)).add_right _

/-- A ROW WITH AN INFINITE PRODUCT has an infinite entry in the buffer's first block. -/
theorem UB_inf (s : Fin 256) (j k : Fin 28) (c : Fin 14336) (hc : c.val / 512 = k.val)
    (hI : Inf ((h (ix2 j k) : EReal) * (x (ix2 s c) : EReal))) :
    Inf (UB x (GM (F := Ideal) h) (ix3 (n0 := 32) (n1 := 448) (n2 := 256) 0 ⟨16 * j.val, by have := j.isLt; omega⟩ s) : EReal) := by
  have hj := j.isLt
  have hk := k.isLt
  have hs := s.isLt
  have hcl := c.isLt
  rw [UB_block]
  refine inf_vb _ _ (c.val % 512 / 16) ?_ 5 0 (by decide) (by omega) (by norm_num; omega)
  refine (congrArg Inf (wv_read _ (16 * j.val / 8) (s.val / 128) (c.val % 512 / 16) (by omega) (by omega) _ _)).mpr ?_
  rw [U0_sum]
  refine Inf.sum (fun t : Fin 448 => sgE _ (had h _ t * act x _ _ t)) ⟨16 * k.val + c.val % 16, by omega⟩ (Inf.sgE ?_ _)
  refine (congrArg Inf (congr (congrArg HMul.hMul ?_) ?_)).mpr hI
  · unfold had
    refine congrArg h (funext fun b => Fin.ext ?_)
    match b with
    | ⟨0, _⟩ => show (8 * (16 * j.val / 8) + 16 * j.val % 8 % 8) / 16 = j.val; omega
    | ⟨1, _⟩ => show (16 * k.val + c.val % 16) / 16 = k.val; omega
  · unfold act
    refine congrArg x (funext fun b => Fin.ext ?_)
    match b with
    | ⟨0, _⟩ => show 128 * (s.val / 128) + s.val % 128 % 128 = s.val; omega
    | ⟨1, _⟩ => show 512 * ((16 * k.val + c.val % 16) / 16) + 16 * (c.val % 512 / 16 % 32) + (16 * k.val + c.val % 16) % 16 = c.val; omega

end Cert.RotateIdeal.Run

end
-- ==== Proof.RotValueB.lean ====
/- What the rotation kernel's results are over the extended reals: the row maxima, the scales and the codes. -/
module

public import proofs.«01_k».proof.Proof.RotValueA
public import Idealize.ShloMosaic.Lib.Pointwise

@[expose] public section

set_option maxRecDepth 16384

noncomputable section

namespace Cert.RotateIdeal.Run

open Cert.RotateIdeal Cert.RotateIdeal.Gen Cert.RotMath
open Idealize.ShloMosaic Idealize.ShloMosaic.TcCoe

variable {x : S256x14336.Idx → Elt Ideal .bf16} {h : S28x28.Idx → Elt Ideal .f32} {X : ℕ → ℕ → ℝ} {H : ℕ → ℕ → ℝ}

/-- A magnitude chain's bound. -/
theorem mx_le (m : FVec Ideal S8x128 .f32) (w : ℕ → FVec Ideal S8x128 .f32) (j : S8x128.Idx) (z : EReal) :
    ∀ n, (mx m w n j : EReal) ≤ z ↔ (m j : EReal) ≤ z ∧ ∀ i < n, max (vb w 5 i j : EReal) (-(vb w 5 i j : EReal)) ≤ z
  | 0 => by simp [mx]
  | n + 1 => by
    show max (mx m w n j : EReal) (max (vb w 5 n j : EReal) (-(vb w 5 n j : EReal))) ≤ z ↔ _
    rw [max_le_iff, mx_le m w j z n]
    constructor
    · rintro ⟨⟨h1, h2⟩, h3⟩
      refine ⟨h1, fun i hi => ?_⟩
      by_cases e : i = n
      · subst e; exact h3
      · exact h2 i (by omega)
    · rintro ⟨h1, h2⟩
      exact ⟨⟨h1, fun i hi => h2 i (by omega)⟩, h2 n (by omega)⟩

/-- The magnitude of a real. -/
theorem abs_coe (r : ℝ) : max ((r : ℝ) : EReal) (-((r : ℝ) : EReal)) = ((|r| : ℝ) : EReal) := by
  rw [abs_eq_max_neg, ← EReal.coe_neg]
  exact (EReal.coe_strictMono.monotone.map_max).symm

/-- The left half of two joined blocks, -/
theorem cat_lo (a b : FVec Ideal S8x128 .f32) (j1 : Fin 8) (s : Fin 256) (hlt : s.val < 128) :
    concatenate S8x256 1 [⟨S8x128, a⟩, ⟨S8x128, b⟩] concatenates_S8x128_S8x128_S8x256_d1 (ix2 j1 s) = a (ix2 (n0 := 8) (n1 := 128) j1 ⟨s.val, hlt⟩) := by
  simp only [pointwise]
  rw [dif_pos hlt]

/-- and the right half. -/
theorem cat_hi (a b : FVec Ideal S8x128 .f32) (j1 : Fin 8) (s : Fin 256) (hlt : ¬ s.val < 128) :
    concatenate S8x256 1 [⟨S8x128, a⟩, ⟨S8x128, b⟩] concatenates_S8x128_S8x128_S8x256_d1 (ix2 j1 s)
      = b (ix2 (n0 := 8) (n1 := 128) j1 ⟨s.val - 128, by have := s.isLt; omega⟩) := by
  simp only [pointwise]
  rw [dif_neg hlt]
  rfl

/-- The left half of a block of 256 lanes, -/
theorem slice_lo (m : FVec Ideal S8x256 .f32) (j1 : Fin 8) (s : Fin 256) (hlt : s.val < 128) :
    extractStridedSlice S8x128 ![0, 0] m slices_S8x256_o0_0_S8x128 (ix2 (n0 := 8) (n1 := 128) j1 ⟨s.val, hlt⟩) = m (ix2 j1 s) := by
  refine congrArg m (funext fun b => Fin.ext ?_)
  match b with
  | ⟨0, _⟩ => show 0 + j1.val = j1.val; omega
  | ⟨1, _⟩ => show 0 + s.val = s.val; omega

/-- and the right half. -/
theorem slice_hi (m : FVec Ideal S8x256 .f32) (j1 : Fin 8) (s : Fin 256) (hlt : ¬ s.val < 128) :
    extractStridedSlice S8x128 ![0, 128] m slices_S8x256_o0_128_S8x128 (ix2 (n0 := 8) (n1 := 128) j1 ⟨s.val - 128, by have := s.isLt; omega⟩) = m (ix2 j1 s) := by
  refine congrArg m (funext fun b => Fin.ext ?_)
  match b with
  | ⟨0, _⟩ => show 0 + j1.val = j1.val; omega
  | ⟨1, _⟩ => show 128 + (s.val - 128) = s.val; omega

/-- The running maximum before the first trip, -/
theorem macc_zero (G : FVec Ideal S448x448 .f32) : macc x G 0 = k0_pay590 := rfl
/-- and after one more. -/
theorem macc_succ (G : FVec Ideal S448x448 .f32) (k : ℕ) : macc x G (k + 1)
    = concatenate S8x256 1 [⟨S8x128, mx (extractStridedSlice S8x128 ![0, 0] (macc x G k) slices_S8x256_o0_0_S8x128) (wv x G k 0) 32⟩,
      ⟨S8x128, mx (extractStridedSlice S8x128 ![0, 128] (macc x G k) slices_S8x256_o0_128_S8x128) (wv x G k 1) 32⟩] concatenates_S8x128_S8x128_S8x256_d1 := rfl
/-- It starts at zero. -/
theorem pay590_apply (j1 : Fin 8) (s : Fin 256) : ((k0_pay590 (F := Ideal)) (ix2 j1 s) : EReal) = 0 := by
  unfold k0_pay590
  simp only [pointwise]

seal macc mx vb wv GM

/-- A magnitude, as the kernel takes it. -/
def mag (v : EReal) : EReal := max v (-v)

/-- One trip's bound of one lane. -/
theorem trip_le (G : FVec Ideal S448x448 .f32) (j1 : Fin 8) (s : Fin 256) (z a : EReal) (n hf : ℕ) (hn : n < 56) (l : Fin 128) (m : FVec Ideal S8x128 .f32)
    (hhf : hf < 2) (hl : 128 * hf + l.val = s.val) (hm : (m (ix2 j1 l) : EReal) = a)
    (ha : a ≤ z ↔ 0 ≤ z ∧ ∀ r : Fin 448, r.val / 8 < n → r.val % 8 = j1.val → ∀ i : Fin 32, mag (UB x G (ix3 i r s)) ≤ z) :
    (mx m (wv x G n hf) 32 (ix2 j1 l) : EReal) ≤ z ↔
      0 ≤ z ∧ ∀ r : Fin 448, r.val / 8 < n + 1 → r.val % 8 = j1.val → ∀ i : Fin 32, mag (UB x G (ix3 i r s)) ≤ z := by
  refine (mx_le m (wv x G n hf) (ix2 j1 l) z 32).trans ?_
  have h1 := j1.isLt
  have hb : ∀ (r : Fin 448) (i : Fin 32), r.val / 8 = n → r.val % 8 = j1.val →
      max (vb (wv x G n hf) 5 i.val (ix2 j1 l) : EReal) (-(vb (wv x G n hf) 5 i.val (ix2 j1 l) : EReal)) = mag (UB x G (ix3 i r s)) := by
    intro r i e1 e2
    exact congrArg mag (block_UB G n hf i hn hhf j1 l r s (by omega) hl)
  constructor
  · rintro ⟨h1, h3⟩
    obtain ⟨h1, h2⟩ := ha.1 (hm ▸ h1)
    refine ⟨h1, fun r hr hj i => ?_⟩
    by_cases e : r.val / 8 = n
    · exact (hb r i e hj).symm.le.trans (h3 i.val i.isLt)
    · exact h2 r (by omega) hj i
  · rintro ⟨h1, h2⟩
    refine ⟨hm.le.trans (ha.2 ⟨h1, fun r hr => h2 r (by omega)⟩), fun i hi => ?_⟩
    exact (hb ⟨8 * n + j1.val, by omega⟩ ⟨i, hi⟩ (by show (8 * n + j1.val) / 8 = n; omega) (by show (8 * n + j1.val) % 8 = j1.val; omega)).le.trans
      (h2 ⟨8 * n + j1.val, by omega⟩ (by show (8 * n + j1.val) / 8 < n + 1; omega) (by show (8 * n + j1.val) % 8 = j1.val; omega) ⟨i, hi⟩)

/-- The running maximum is the least bound of the magnitudes met. -/
theorem macc_le (G : FVec Ideal S448x448 .f32) (j1 : Fin 8) (s : Fin 256) (z : EReal) : ∀ n ≤ 56,
    ((macc x G n (ix2 j1 s) : EReal) ≤ z ↔ 0 ≤ z ∧ ∀ r : Fin 448, r.val / 8 < n → r.val % 8 = j1.val → ∀ i : Fin 32, mag (UB x G (ix3 i r s)) ≤ z)
  | 0, _ => by
    rw [macc_zero, pay590_apply]
    exact ⟨fun h => ⟨h, fun r hr => absurd hr (Nat.not_lt_zero _)⟩, fun h => h.1⟩
  | n + 1, hn => by
    have hs := s.isLt
    have ih := macc_le G j1 s z n (by omega)
    rw [macc_succ]
    by_cases hlt : s.val < 128
    · rw [cat_lo _ _ j1 s hlt]
      exact trip_le G j1 s z _ n 0 (by omega) ⟨s.val, hlt⟩ _ (by decide) (by show 128 * 0 + s.val = s.val; omega) (slice_lo _ j1 s hlt) ih
    · rw [cat_hi _ _ j1 s hlt]
      exact trip_le G j1 s z _ n 1 (by omega) ⟨s.val - 128, by omega⟩ _ (by decide) (by show 128 * 1 + (s.val - 128) = s.val; omega) (slice_hi _ j1 s hlt) ih

/-- The largest magnitude of a row, before scaling. -/
def rowMax (x : S256x14336.Idx → Elt Ideal .bf16) (h : S28x28.Idx → Elt Ideal .f32) (s : Fin 256) : EReal :=
  (Finset.univ : Finset (Fin 8)).fold max (⊥ : EReal) fun j1 => macc x (GM (F := Ideal) h) 56 (ix2 j1 s)

/-- A bound of a maximum bounds each term. -/
theorem fold_le {n : ℕ} (f : Fin n → EReal) (z : EReal) : (Finset.univ : Finset (Fin n)).fold max (⊥ : EReal) f ≤ z ↔ ∀ k, f k ≤ z := by
  rw [Finset.fold_max_le]; simp

/-- It is the least bound of the magnitudes of the row's entries in the buffer. -/
theorem rowMax_bound (s : Fin 256) (z : EReal) :
    rowMax x h s ≤ z ↔ 0 ≤ z ∧ ∀ (r : Fin 448) (i : Fin 32), mag (UB x (GM (F := Ideal) h) (ix3 i r s)) ≤ z := by
  unfold rowMax
  rw [fold_le]
  refine (forall_congr' fun j1 => macc_le _ j1 s z 56 le_rfl).trans ?_
  constructor
  · intro hh
    refine ⟨(hh 0).1, fun r i => (hh ⟨r.val % 8, by omega⟩).2 r ?_ rfl i⟩
    have := r.isLt
    omega
  · rintro ⟨h0, hh⟩ j1
    exact ⟨h0, fun r _ _ i => hh r i⟩

/-- Of a row of reals it is the least bound of the rotation's magnitudes. -/
theorem rowMax_le {s : Fin 256} (A : RowArgs x h X H s) (z : EReal) :
    rowMax x h s ≤ z ↔ ∀ j < 28, ∀ q < 512, ((|rot H (X s.val) j q| : ℝ) : EReal) ≤ z := by
  have e : ∀ (r : Fin 448) (i : Fin 32), mag (UB x (GM (F := Ideal) h) (ix3 i r s))
      = ((|rot H (X s.val) (r.val / 16) (16 * i.val + r.val % 16)| : ℝ) : EReal) :=
    fun r i => (congrArg mag (UB_apply A i r)).trans (abs_coe _)
  rw [rowMax_bound]
  constructor
  · rintro ⟨_, hh⟩ j hj q hq
    have := hh ⟨16 * j + q % 16, by omega⟩ ⟨q / 16, by omega⟩
    rw [e] at this
    rwa [show (⟨16 * j + q % 16, by omega⟩ : Fin 448).val / 16 = j by show (16 * j + q % 16) / 16 = j; omega,
      show 16 * (⟨q / 16, by omega⟩ : Fin 32).val + (⟨16 * j + q % 16, by omega⟩ : Fin 448).val % 16 = q by
        show 16 * (q / 16) + (16 * j + q % 16) % 16 = q; omega] at this
  · intro hh
    refine ⟨le_trans (EReal.coe_nonneg.2 (abs_nonneg _)) (hh 0 (by decide) 0 (by decide)), fun r i => ?_⟩
    have hr := r.isLt
    have hi := i.isLt
    rw [e]
    exact hh _ (by omega) _ (by omega)

/-- Of a row with an infinite product it is the greatest. -/
theorem rowMax_inf (s : Fin 256) (j k : Fin 28) (c : Fin 14336) (hc : c.val / 512 = k.val)
    (hI : Inf ((h (ix2 j k) : EReal) * (x (ix2 s c) : EReal))) : rowMax x h s = ⊤ := by
  have h1 := ((rowMax_bound (x := x) (h := h) s (rowMax x h s)).1 le_rfl).2 ⟨16 * j.val, by have := j.isLt; omega⟩ 0
  rw [show mag (UB x (GM (F := Ideal) h) (ix3 (n0 := 32) (n1 := 448) (n2 := 256) 0 ⟨16 * j.val, by have := j.isLt; omega⟩ s)) = ⊤ from
    (UB_inf s j k c hc hI).mag] at h1
  exact top_le_iff.1 h1

end Cert.RotateIdeal.Run

end
-- ==== Proof.RotRefValue.lean ====
/- The quantiser of the rotation's reference over the extended reals, at an index. -/
module

public import proofs.«01_k».proof.Proof.Gen.RotateReferenceIdeal
public import proofs.«01_k».proof.Proof.Gen.RotateReferenceIdeal.Skeleton
public import proofs.«01_k».proof.Proof.Gen.RotateReferenceIdeal.Launch
public import proofs.«01_k».proof.Proof.Gen.RotateReferenceIdeal.Points
public import proofs.«01_k».proof.Proof.Gen.RotateReferenceIdeal.Frame
public import proofs.«01_k».proof.Proof.RotMath
public import Idealize.ShloMosaic.Lib.Pointwise
public import Idealize.ShloMosaic.Lib.StableHlo.RunRead

@[expose] public section

set_option maxRecDepth 16384

noncomputable section

namespace Cert.RotateReferenceIdeal.Value

open Cert.RotateReferenceIdeal Cert.RotateReferenceIdeal.Gen Cert.RotMath
open Idealize.ShloMosaic Idealize.ShloMosaic.TcCoe Idealize.SL.Sem

/-- THE SCALE from a row's largest magnitude. -/
def scaleOf (a : EReal) : EReal := Scalar.select (Ideal.cmp .oeq a (Ideal.ofBits .f32 0x00000000#32)) (Ideal.ofBits .f32 0x3F800000#32) (Ideal.div a (Ideal.ofBits .f32 0x40E00000#32))

/-- A CODE from a value over its scale. -/
def codeOf (u : EReal) : BitVec 8 :=
  Ideal.fptosi 8 (min (Ideal.ofBits .f32 0x40E00000#32) (max (Ideal.ofBits .f32 0xC0E00000#32) (Ideal.liftRound Ideal.roundHalfEven u)))

/-- The first value is the operand itself. -/
theorem pay1_eq (v : Vec Ideal S256x14336 .f32) : k0_pay1 (F := Ideal) v = v := shapeCast_self v _

/-- The maximum of a row. -/
theorem red_apply (w : FVec Ideal S256x14336 .f32) (s : Fin 256) :
    (multiReduction .maximumf [1] S256 w 0xFF800000#32 reduces_S256x14336_S256 (.inl rfl) rfl (ix1 s) : EReal)
      = (Finset.univ : Finset (Fin 14336)).fold max (Ideal.ofBits .f32 0xFF800000#32) fun k => (w (ix2 s k) : EReal) := by
  simp only [pointwise]

/-- The magnitude of an entry. -/
theorem abs_apply (w : FVec Ideal S256x14336 .f32) (i : S256x14336.Idx) : (absf w i : EReal) = max (w i : EReal) (-(w i : EReal)) := rfl

/-- A column spread over a row. -/
theorem col_apply (w : FVec Ideal S256 .f32) (s : Fin 256) (y : Fin 14336) :
    broadcastTo S256x14336 (shapeCast S256x1 w shapeCasts_S256_S256x1) broadcasts_S256x1_S256x14336 (ix2 s y) = w (ix1 s) := by
  simp only [pointwise]
  rfl

/-- The scale from the maximum. -/
theorem sel_apply (w : FVec Ideal S256 .f32) (s : Fin 256) :
    (select (cmpf .oeq w (broadcast S256 (Scalar.ofBits (F := Ideal) .f32 0x00000000#32))) (broadcast S256 (Scalar.ofBits (F := Ideal) .f32 0x3F800000#32))
      (divf w (broadcast S256 (Scalar.ofBits (F := Ideal) .f32 0x40E00000#32))) (ix1 s) : EReal) = scaleOf (w (ix1 s)) := rfl

/-- The scale of a row. -/
theorem pay2_apply (v : Vec Ideal S256x14336 .f32) (s : Fin 256) : (k0_pay2 (F := Ideal) v (ix1 s) : EReal)
    = scaleOf ((Finset.univ : Finset (Fin 14336)).fold max (Ideal.ofBits .f32 0xFF800000#32) fun k => max (v (ix2 s k) : EReal) (-(v (ix2 s k) : EReal))) := by
  unfold k0_pay2
  refine (sel_apply _ s).trans ?_
  rw [pay1_eq, red_apply]
  rfl

/-- The code from a quotient. -/
theorem cod_apply (a b : FVec Ideal S256x14336 .f32) (i : S256x14336.Idx) :
    (fptosi 8 (minimumf (broadcast S256x14336 (Scalar.ofBits (F := Ideal) .f32 0x40E00000#32)) (maximumf (broadcast S256x14336 (Scalar.ofBits (F := Ideal) .f32 0xC0E00000#32)) (roundeven (divf a b)))) i : BitVec 8)
      = codeOf (Ideal.div (a i) (b i)) := rfl

/-- The code at an index. -/
theorem pay3_apply (v : Vec Ideal S256x14336 .f32) (s : Fin 256) (y : Fin 14336) : k0_pay3 (F := Ideal) v (ix2 s y)
    = codeOf (Ideal.div (v (ix2 s y)) (k0_pay2 (F := Ideal) v (ix1 s))) := by
  unfold k0_pay3
  refine (cod_apply _ _ _).trans ?_
  rw [pay1_eq, col_apply]

/-- The scale in the row of scales. -/
theorem pay5_apply (v : Vec Ideal S256x14336 .f32) (u : Fin 1) (s : Fin 256) : k0_pay5 (F := Ideal) v (ix2 u s) = k0_pay2 (F := Ideal) v (ix1 s) := by
  unfold k0_pay5
  generalize k0_pay2 (F := Ideal) v = w
  simp only [pointwise]

end Cert.RotateReferenceIdeal.Value

end
-- ==== Proof.RotValueC.lean ====
/- The rotation kernel's reduction and quantiser over the extended reals, at an index, of any operands. -/
module

public import proofs.«01_k».proof.Proof.Gen.RotateIdeal
public import proofs.«01_k».proof.Proof.Gen.RotateIdeal.Skeleton
public import proofs.«01_k».proof.Proof.RotRefValue
public import Idealize.ShloMosaic.Lib.Pointwise

@[expose] public section

set_option maxRecDepth 16384

noncomputable section

namespace Cert.RotateIdeal.Run

open Cert.RotateIdeal Cert.RotateIdeal.Gen Cert.RotMath
open Cert.RotateReferenceIdeal.Value (scaleOf codeOf)
open Idealize.ShloMosaic Idealize.ShloMosaic.TcCoe

/-- The factor the rotation is scaled by. -/
def INV : EReal := Ideal.ofBits .f32 0x3C08D677#32

/-- The maximum over the eight rows of lanes. -/
theorem k_red (w : FVec Ideal S8x256 .f32) (s : Fin 256) :
    (multiReduction .maximumf [0] S256 w 0xFF800000#32 reduces_S8x256_S256 (.inl rfl) rfl (ix1 s) : EReal)
      = (Finset.univ : Finset (Fin 8)).fold max (Ideal.ofBits .f32 0xFF800000#32) fun k => (w (ix2 k s) : EReal) := by
  simp only [pointwise]

/-- The maximum, scaled. -/
theorem k_mul (r : FVec Ideal S256 .f32) (u : Fin 1) (s : Fin 256) :
    (mulf (shapeCast S1x256 r shapeCasts_S256_S1x256) (broadcast S1x256 (Scalar.ofBits (F := Ideal) .f32 0x3C08D677#32)) (ix2 u s) : EReal) = r (ix1 s) * INV := by
  simp only [pointwise]
  rfl

/-- The scale from the maximum. -/
theorem k_sel (w : FVec Ideal S1x256 .f32) (i : S1x256.Idx) :
    (select (cmpf .oeq w (broadcast S1x256 (Scalar.ofBits (F := Ideal) .f32 0x00000000#32))) (broadcast S1x256 (Scalar.ofBits (F := Ideal) .f32 0x3F800000#32))
      (divf w (broadcast S1x256 (Scalar.ofBits (F := Ideal) .f32 0x40E00000#32))) i : EReal) = scaleOf (w i) := rfl

/-- The scales. -/
theorem pay1_apply (m : FVec Ideal S8x256 .f32) (u : Fin 1) (s : Fin 256) :
    (k0_pay1 (F := Ideal) m (ix2 u s) : EReal)
      = scaleOf (((Finset.univ : Finset (Fin 8)).fold max (Ideal.ofBits .f32 0xFF800000#32) fun k => (m (ix2 k s) : EReal)) * INV) := by
  unfold k0_pay1
  refine (k_sel _ _).trans ?_
  rw [k_mul, k_red]

/-- A transposed entry. -/
theorem k_tr (w : IVec S512x256 8) (s : Fin 256) (q : Fin 512) :
    transpose S256x512 [1, 0] w transposes_S512x256_p1_0_S256x512 (ix2 s q) = w (ix2 q s) := by
  simp only [pointwise]

/-- The code from a product. -/
theorem k_cod (a : FVec Ideal S512x256 .f32) (i : S512x256.Idx) :
    (fptosi 8 (minimumf (broadcast S512x256 (Scalar.ofBits (F := Ideal) .f32 0x40E00000#32)) (maximumf (broadcast S512x256 (Scalar.ofBits (F := Ideal) .f32 0xC0E00000#32)) (roundeven a))) i : BitVec 8)
      = codeOf (a i) := rfl

/-- A block's entry times its row's factor. -/
theorem k_mul2 (v : FVec Ideal S32x16x256 .f32) (d : FVec Ideal S1x256 .f32) (s : Fin 256) (q : Fin 512) :
    (mulf (shapeCast S512x256 v shapeCasts_S32x16x256_S512x256) (broadcastTo S512x256 d broadcasts_S1x256_S512x256) (ix2 q s) : EReal)
      = v (ix3 (n0 := 32) (n1 := 16) (n2 := 256) ⟨q.val / 16, by have := q.isLt; omega⟩ ⟨q.val % 16, by omega⟩ s) * d (ix2 (n0 := 1) 0 s) := by
  simp only [pointwise]
  rfl

/-- The factor over the scale. -/
theorem k_div (w : FVec Ideal S1x256 .f32) (i : S1x256.Idx) :
    (divf (broadcast S1x256 (Scalar.ofBits (F := Ideal) .f32 0x3C08D677#32)) w i : EReal) = Ideal.div INV (w i) := rfl

/-- The codes of a block. -/
theorem pay2_apply (m : FVec Ideal S8x256 .f32) (v : FVec Ideal S32x16x256 .f32) (s : Fin 256) (q : Fin 512) :
    k0_pay2 (F := Ideal) m v (ix2 s q)
      = codeOf ((v (ix3 (n0 := 32) (n1 := 16) (n2 := 256) ⟨q.val / 16, by have := q.isLt; omega⟩ ⟨q.val % 16, by omega⟩ s) : EReal)
          * Ideal.div INV (k0_pay1 (F := Ideal) m (ix2 (n0 := 1) 0 s))) := by
  unfold k0_pay2
  refine (k_tr _ s q).trans ((k_cod _ _).trans ?_)
  rw [k_mul2, k_div]

end Cert.RotateIdeal.Run

end
-- ==== Proof.RotReference.lean ====
/- The rotation's reference over the extended reals: what its host operations hand to the quantiser, and the arrays it
   leaves. -/
module

public import proofs.«01_k».proof.Proof.Gen.RotateReferenceIdeal
public import proofs.«01_k».proof.Proof.Gen.RotateReferenceIdeal.Skeleton
public import proofs.«01_k».proof.Proof.Gen.RotateReferenceIdeal.Launch
public import proofs.«01_k».proof.Proof.Gen.RotateReferenceIdeal.Points
public import proofs.«01_k».proof.Proof.Gen.RotateReferenceIdeal.Frame
public import proofs.«01_k».proof.Proof.RotMath
public import Idealize.ShloMosaic.Lib.Pointwise
public import Idealize.ShloMosaic.Lib.StableHlo.RunRead

@[expose] public section

set_option maxRecDepth 16384

noncomputable section

namespace Cert.RotateReferenceIdeal.Value

open Cert.RotateReferenceIdeal Cert.RotateReferenceIdeal.Gen Cert.RotMath
open Idealize.ShloMosaic Idealize.ShloMosaic.TcCoe Idealize.SL.Sem

/-- The 512-point signs, as the host computes them. -/
def signs : FVec Ideal S512x512 .f32 :=
  sitofp .f32 (subi (broadcastInDim S512x512 ![] bcast_S_S512x512 (constantI S_ 32 1#32))
    (muli (broadcastInDim S512x512 ![] bcast_S_S512x512 (constantI S_ 32 2#32))
      (andi (ctpop (andi
          (broadcastInDim S512x512 ![0, 1] bcast_S512x1_S512x512_0_1 (broadcastInDim S512x1 ![0] bcast_S512_S512x1_0 (iotaInDim S512 32 0)))
          (broadcastInDim S512x512 ![0, 1] bcast_S1x512_S512x512_0_1 (broadcastInDim S1x512 ![1] bcast_S512_S1x512_1 (iotaInDim S512 32 0)))))
        (broadcastInDim S512x512 ![] bcast_S_S512x512 (constantI S_ 32 1#32)))))

/-- What the quantiser is handed. -/
def refIn (a0 : Vec Ideal S256x14336 .bf16) (a1 : Vec Ideal S28x28 .f32) : FVec Ideal S256x14336 .f32 :=
  shapeCast S256x14336 (mulf (transpose S256x28x512 [0, 2, 1]
    (Host.dotGeneral (φ₁ := .f32) (φ₂ := .f32) dot_S256x28x512_S28x28_S256x512x28_1_1_02_0_n_n (some .fp32)
      (Host.dotGeneral (φ₁ := .f32) (φ₂ := .f32) dot_S256x28x512_S512x512_S256x28x512_2_1_01_0_n_n (some .fp32)
        (shapeCast S256x28x512 (extf .f32 a0 bitsLt_bf16_f32) shapeCasts_S256x14336_S256x28x512) signs) a1)
    transposes_S256x512x28_S256x28x512_0_2_1)
    (broadcastInDim S256x28x512 ![] bcast_S_S256x28x512 (constant S_ .f32 0x3C08D677#32))) shapeCasts_S256x28x512_S256x14336

variable (m : (ℓ : Loc nD τ sig) → Buf (Elt Ideal) ℓ) (ρ : Dev nD → PrngReg)

/-- The host hands the quantiser `refIn` of the arguments. -/
theorem V_in (c : Dev nD) : V m c main_v21 = refIn (m ((c : Thread nD τ).loc main_arg0)) (m ((c : Thread nD τ).loc main_arg1)) := by
  show StableHlo.after hostOps0 (fun b => m (c, b)) (Proc.devRef .tc main_v21) = _
  unfold refIn signs
  after_reads_simp
  try rfl

/-- The sign by the parity of the count of ones. -/
theorem pop_sign : ∀ n : Fin 512, (1#32 - 2#32 * (IntOp.andi (IntOp.ctpop (BitVec.ofNat 32 n.val)) 1#32)).toInt = if od n.val then -1 else 1 := by decide +kernel

/-- The signs at an index. -/
theorem signs_apply (q p : Fin 512) : signs (ix2 q p) = ((sg (q.val &&& p.val) : ℝ) : EReal) := by
  unfold signs
  simp only [pointwise]
  show (((1#32 - 2#32 * (IntOp.andi (IntOp.ctpop (IntOp.andi (BitVec.ofNat 32 q.val) (BitVec.ofNat 32 p.val))) 1#32)).toInt : ℝ) : EReal) = _
  rw [show IntOp.andi (BitVec.ofNat 32 q.val) (BitVec.ofNat 32 p.val) = BitVec.ofNat 32 (q.val &&& p.val) from BitVec.ofNat_and.symm]
  rw [pop_sign ⟨q.val &&& p.val, Nat.and_lt_two_pow (n := 9) _ p.isLt⟩]
  unfold sg
  cases od (q.val &&& p.val) <;> simp

/-- A sum of reals, as extended reals. -/
theorem coe_sum {n : ℕ} (f : Fin n → ℝ) : (∑ k : Fin n, ((f k : ℝ) : EReal)) = ((∑ k : Fin n, f k : ℝ) : EReal) :=
  (map_sum (⟨⟨Real.toEReal, EReal.coe_zero⟩, EReal.coe_add⟩ : ℝ →+ EReal) f Finset.univ).symm

/-- The signed sum of one block of 512 activations. -/
def blockSum (a0 : Vec Ideal S256x14336 .bf16) (s : Fin 256) (k : Fin 28) (q : ℕ) : EReal :=
  ∑ p : Fin 512, sgE (q &&& p.val) (a0 (ix2 (n0 := 256) (n1 := 14336) s ⟨512 * k.val + p.val, by have := k.isLt; have := p.isLt; omega⟩))

/-- The quantiser's operand, of any arguments. -/
theorem refIn_sum (a0 : Vec Ideal S256x14336 .bf16) (a1 : Vec Ideal S28x28 .f32) (s : Fin 256) (y : Fin 14336) :
    (refIn a0 a1 (ix2 s y) : EReal) = (∑ k : Fin 28, blockSum a0 s k (y.val % 512)
      * (a1 (ix2 (n0 := 28) (n1 := 28) ⟨y.val / 512, by have := y.isLt; omega⟩ k) : EReal)) * Ideal.ofBits FTy.f32 0x3C08D677#32 := by
  unfold refIn
  simp only [pointwise]
  refine congrArg (· * _) ?_
  rw [zero_add]
  refine Finset.sum_congr rfl fun k _ => ?_
  refine congrArg (· * _) ?_
  unfold blockSum
  rw [zero_add]
  refine Finset.sum_congr rfl fun p _ => ?_
  rw [signs_apply, mul_sg]
  refine congrArg (sgE _) (congrArg a0 (funext fun b => Fin.ext ?_))
  match b with
  | ⟨0, _⟩ => rfl
  | ⟨1, _⟩ => show k.val * 512 + p.val = 512 * k.val + p.val; omega

/-! ## The arrays left -/

/-- A window's block is its whole array: the operand's, -/
theorem emb0 (j : S256x14336.Idx) : ((cfg0.win 0).blk t0_0).view.emb j = j := by
  funext a; apply Fin.ext
  match a with
  | ⟨0, _⟩ => show 0 * 256 + 1 * (j 0).val = (j 0).val; omega
  | ⟨1, _⟩ => show 0 * 14336 + 1 * (j 1).val = (j 1).val; omega
/-- the codes', -/
theorem emb1 (j : S256x14336.Idx) : ((cfg0.win 1).blk t0_0).view.emb j = j := by
  funext a; apply Fin.ext
  match a with
  | ⟨0, _⟩ => show 0 * 256 + 1 * (j 0).val = (j 0).val; omega
  | ⟨1, _⟩ => show 0 * 14336 + 1 * (j 1).val = (j 1).val; omega
/-- their bytes', -/
theorem emb2 (j : S256x14336.Idx) : ((cfg0.win 2).blk t0_0).view.emb j = j := by
  funext a; apply Fin.ext
  match a with
  | ⟨0, _⟩ => show 0 * 256 + 1 * (j 0).val = (j 0).val; omega
  | ⟨1, _⟩ => show 0 * 14336 + 1 * (j 1).val = (j 1).val; omega
/-- the scales'. -/
theorem emb3 (j : S1x256.Idx) : ((cfg0.win 3).blk t0_0).view.emb j = j := by
  funext a; apply Fin.ext
  match a with
  | ⟨0, _⟩ => show 0 * 1 + 1 * (j 0).val = (j 0).val; omega
  | ⟨1, _⟩ => show 0 * 256 + 1 * (j 1).val = (j 1).val; omega

/-- The rectangle read and written is a whole matrix, -/
theorem remb0 (j : S256x14336.Idx) : r0_0.emb j = j := by
  funext a; apply Fin.ext
  match a with
  | ⟨0, _⟩ => show 0 + 1 * (j 0).val = (j 0).val; omega
  | ⟨1, _⟩ => show 0 + 1 * (j 1).val = (j 1).val; omega
/-- or the whole row of scales. -/
theorem remb1 (j : S1x256.Idx) : r0_1.emb j = j := by
  funext a; apply Fin.ext
  match a with
  | ⟨0, _⟩ => show 0 + 1 * (j 0).val = (j 0).val; omega
  | ⟨1, _⟩ => show 0 + 1 * (j 1).val = (j 1).val; omega

/-- An array with the codes as its block is the codes; -/
theorem whole1 (f w : Vec Ideal S256x14336 .i8) (h : ((cfg0.win 1).blk t0_0).view.read (Elt Ideal) f = (cfg0.win 1).cut (grid0.coords t0_0) w) : f = w := by
  funext i
  have h1 : f (((cfg0.win 1).blk t0_0).view.emb i) = w i := congrFun h i
  rwa [emb1] at h1
/-- so for their bytes, -/
theorem whole2 (f w : Vec Ideal S256x14336 .fp8e4m3) (h : ((cfg0.win 2).blk t0_0).view.read (Elt Ideal) f = (cfg0.win 2).cut (grid0.coords t0_0) w) : f = w := by
  funext i
  have h1 : f (((cfg0.win 2).blk t0_0).view.emb i) = w i := congrFun h i
  rwa [emb2] at h1
/-- and for the scales. -/
theorem whole3 (f w : Vec Ideal S1x256 .f32) (h : ((cfg0.win 3).blk t0_0).view.read (Elt Ideal) f = (cfg0.win 3).cut (grid0.coords t0_0) w) : f = w := by
  funext i
  have h1 : f (((cfg0.win 3).blk t0_0).view.emb i) = w i := congrFun h i
  rwa [emb3] at h1

/-- Loading the whole operand. -/
theorem ld_whole (x : Vec Ideal S256x14336 .f32) : View.ld x r0_0 = x := by
  funext j
  show x (r0_0.emb j) = x j
  rw [remb0]

/-- Storing the whole codes, -/
theorem canon1 (w : Vec Ideal S256x14336 .i8) : View.canon (Val := Elt Ideal) [⟨r0_0, w⟩] = w := by
  funext y
  refine View.canon_apply_of_pieces (Val := Elt Ideal) w _ (fun p hp j => ?_) y (cover0_1 _ y)
  rw [List.mem_singleton] at hp
  subst hp
  exact (congrArg w (remb0 j)).symm
/-- their bytes, -/
theorem canon2 (w : Vec Ideal S256x14336 .fp8e4m3) : View.canon (Val := Elt Ideal) [⟨r0_0, w⟩] = w := by
  funext y
  refine View.canon_apply_of_pieces (Val := Elt Ideal) w _ (fun p hp j => ?_) y (cover0_2 _ y)
  rw [List.mem_singleton] at hp
  subst hp
  exact (congrArg w (remb0 j)).symm
/-- and the scales. -/
theorem canon3 (w : Vec Ideal S1x256 .f32) : View.canon (Val := Elt Ideal) [⟨r0_1, w⟩] = w := by
  funext y
  refine View.canon_apply_of_pieces (Val := Elt Ideal) w _ (fun p hp j => ?_) y (cover0_3 _ y)
  rw [List.mem_singleton] at hp
  subst hp
  exact (congrArg w (remb1 j)).symm

/-- The codes left, -/
theorem out1_eq (x : Vec Ideal S256x14336 .f32) : out0_1 x = k0_pay3 x := by
  unfold out0_1
  rw [canon1, ld_whole]
/-- their bytes left, -/
theorem out2_eq (x : Vec Ideal S256x14336 .f32) : out0_2 x = k0_pay4 x := by
  unfold out0_2
  rw [canon2, ld_whole]
/-- and the scales left. -/
theorem out3_eq (x : Vec Ideal S256x14336 .f32) : out0_3 x = k0_pay5 x := by
  unfold out0_3
  rw [canon3, ld_whole]

/-- The operand's block is the operand. -/
theorem read0 (f : Vec Ideal S256x14336 .f32) : ((cfg0.win 0).blk t0_0).view.read (Elt Ideal) f = f := by
  funext j
  have h : ((cfg0.win 0).blk t0_0).view.read (Elt Ideal) f j = f (((cfg0.win 0).blk t0_0).view.emb j) := rfl
  exact h.trans (congrArg f (emb0 j))
/-- The block the quantiser reads is `refIn` of the arguments. -/
theorem iblk_eq (c : Dev nD) : iblk m c 0 t0_0 = refIn (m ((c : Thread nD τ).loc main_arg0)) (m ((c : Thread nD τ).loc main_arg1)) := by
  unfold iblk
  exact (read0 (V m c main_v21)).trans (V_in m c)

/-- There is one point. -/
theorem one_point (t t' : Fin cfg0.N) : t = t' := (fin_N0 t).trans (fin_N0 t').symm

/-- The codes' array after the run, -/
theorem arr1 (c : Dev nD) : (dats m 0 c).arrAt 1 cfg0.N = k0_pay3 (F := Ideal) (refIn (m ((c : Thread nD τ).loc main_arg0)) (m ((c : Thread nD τ).loc main_arg1))) := by
  have h := (dats m 0 c).read_blk_arrAt_eq_flushed 1 (fun t t' _ _ h => absurd (one_point t t') h) cfg0.N t0_0 t0_0.isLt (flush0_1 t0_0)
  have e : (dats m 0 c).flushed 1 t0_0 = (cfg0.win 1).cut (grid0.coords t0_0) ((dats m 0 c).after 1 t0_0) := rfl
  refine (whole1 _ _ (h.trans e)).trans ((after0_1 m c t0_0).trans ((out1_eq _).trans ?_))
  exact congrArg (k0_pay3 (F := Ideal)) (iblk_eq m c)
/-- their bytes' array, -/
theorem arr2 (c : Dev nD) : (dats m 0 c).arrAt 2 cfg0.N = k0_pay4 (F := Ideal) (refIn (m ((c : Thread nD τ).loc main_arg0)) (m ((c : Thread nD τ).loc main_arg1))) := by
  have h := (dats m 0 c).read_blk_arrAt_eq_flushed 2 (fun t t' _ _ h => absurd (one_point t t') h) cfg0.N t0_0 t0_0.isLt (flush0_2 t0_0)
  have e : (dats m 0 c).flushed 2 t0_0 = (cfg0.win 2).cut (grid0.coords t0_0) ((dats m 0 c).after 2 t0_0) := rfl
  refine (whole2 _ _ (h.trans e)).trans ((after0_2 m c t0_0).trans ((out2_eq _).trans ?_))
  exact congrArg (k0_pay4 (F := Ideal)) (iblk_eq m c)
/-- and the scales' array. -/
theorem arr3 (c : Dev nD) : (dats m 0 c).arrAt 3 cfg0.N = k0_pay5 (F := Ideal) (refIn (m ((c : Thread nD τ).loc main_arg0)) (m ((c : Thread nD τ).loc main_arg1))) := by
  have h := (dats m 0 c).read_blk_arrAt_eq_flushed 3 (fun t t' _ _ h => absurd (one_point t t') h) cfg0.N t0_0 t0_0.isLt (flush0_3 t0_0)
  have e : (dats m 0 c).flushed 3 t0_0 = (cfg0.win 3).cut (grid0.coords t0_0) ((dats m 0 c).after 3 t0_0) := rfl
  refine (whole3 _ _ (h.trans e)).trans ((after0_3 m c t0_0).trans ((out3_eq _).trans ?_))
  exact congrArg (k0_pay5 (F := Ideal)) (iblk_eq m c)

/-- THE RESULTS of the reference's run, with the arguments unchanged. -/
theorem run : θ_run defs (onTc (τ := τ) (main (F := Ideal))) ⟨m, fun _ => 0, ρ⟩ (fun r => ∀ c : Dev nD,
      r.2.mem ((c.tc : Thread nD τ).loc main_v22_0) = k0_pay3 (F := Ideal) (refIn (m ((c : Thread nD τ).loc main_arg0)) (m ((c : Thread nD τ).loc main_arg1)))
      ∧ r.2.mem ((c.tc : Thread nD τ).loc main_v22_1) = k0_pay4 (F := Ideal) (refIn (m ((c : Thread nD τ).loc main_arg0)) (m ((c : Thread nD τ).loc main_arg1)))
      ∧ r.2.mem ((c.tc : Thread nD τ).loc main_v22_2) = k0_pay5 (F := Ideal) (refIn (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (arr1 m c), ((h c).1 2).trans (arr2 m c), ((h c).1 3).trans (arr3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.RotateReferenceIdeal.Value

end
-- ==== Proof.RotValueD.lean ====
/- The rotation kernel's results and its reference's are the same extended reals, for all arguments. A row is
   either one of real products, where both are the real rotation, or one with an infinite product, where both scales are the
   greatest value and all codes are zero. -/
module

public import proofs.«01_k».proof.Proof.RotValueB
public import proofs.«01_k».proof.Proof.RotValueC
public import proofs.«01_k».proof.Proof.RotReference
public import proofs.«01_k».proof.Proof.RotRefValue

@[expose] public section

set_option maxRecDepth 16384

noncomputable section

namespace Cert.RotateIdeal.Run

open Cert.RotateIdeal Cert.RotateIdeal.Gen Cert.RotMath
open Cert.RotateReferenceIdeal.Value (scaleOf codeOf refIn blockSum refIn_sum)
open Idealize.ShloMosaic Idealize.ShloMosaic.TcCoe

variable {x : S256x14336.Idx → Elt Ideal .bf16} {h : S28x28.Idx → Elt Ideal .f32}

/-- The factor is a positive real. -/
theorem INV_real : ∃ v : ℝ, 0 < v ∧ INV = ((v : ℝ) : EReal) := by
  refine ⟨(8967799 : ℝ) * 2 ^ (-30 : ℤ), by positivity, ?_⟩
  unfold INV
  simp [Ideal.ofBits, Ideal.ieee, -EReal.coe_mul]

/-- The word of the least value, -/
theorem ninf : Ideal.ofBits .f32 0xFF800000#32 = ⊥ := by simp [Ideal.ofBits, Ideal.ieee]
/-- of zero, -/
theorem zerof : Ideal.ofBits .f32 0x00000000#32 = 0 := by simp [Ideal.ofBits, Ideal.ieee]
/-- of one, -/
theorem onef : Ideal.ofBits .f32 0x3F800000#32 = 1 := by simp [Ideal.ofBits, Ideal.ieee, -EReal.coe_mul]; norm_num
/-- and of seven. -/
theorem sevenf : Ideal.ofBits .f32 0x40E00000#32 = ((7 : ℝ) : EReal) := by simp [Ideal.ofBits, Ideal.ieee, -EReal.coe_mul]; norm_num

/-- A scale is not zero. -/
theorem scaleOf_ne (a : EReal) : scaleOf a ≠ 0 := by
  have h7 : ((7 : ℝ) : EReal) ≠ 0 := EReal.coe_ne_zero.2 (by norm_num)
  unfold Cert.RotateReferenceIdeal.Value.scaleOf
  rw [zerof, onef, sevenf]
  show Scalar.select (BitVec.ofBool (decide (a = 0))) 1 (Ideal.div a ((7 : ℝ) : EReal)) ≠ 0
  by_cases e : a = 0
  · rw [decide_eq_true e]
    show (1 : EReal) ≠ 0
    exact one_ne_zero
  · rw [decide_eq_false e]
    show Ideal.div a ((7 : ℝ) : EReal) ≠ 0
    unfold Ideal.div
    rw [if_neg h7, ← EReal.coe_inv]
    intro h0
    rcases mul_eq_zero.1 h0 with h1 | h1
    · exact e h1
    · exact absurd (EReal.coe_eq_zero.1 h1) (by norm_num)

/-- Dividing after scaling is multiplying by the factor over the divisor. -/
theorem div_mul (u f sc : EReal) (hs : sc ≠ 0) : u * Ideal.div f sc = Ideal.div (u * f) sc := by
  unfold Ideal.div
  rw [if_neg hs, if_neg hs, mul_assoc]

/-- The activations as real numbers, zero for an infinite one, -/
def actR (x : S256x14336.Idx → Elt Ideal .bf16) (s c : ℕ) : ℝ := EReal.toReal (x (ix2 (Fin.ofNat 256 s) (Fin.ofNat 14336 c)))

/-- and the small factor. -/
def hadR (h : S28x28.Idx → Elt Ideal .f32) (j k : ℕ) : ℝ := EReal.toReal (h (ix2 (Fin.ofNat 28 j) (Fin.ofNat 28 k)))

/-- At a place of the array it is that entry's, -/
theorem actR_val (s : Fin 256) (c : Fin 14336) : actR x s.val c.val = EReal.toReal (x (ix2 s c)) := by
  unfold actR
  rw [show Fin.ofNat 256 s.val = s from Fin.ext (Nat.mod_eq_of_lt s.isLt), show Fin.ofNat 14336 c.val = c from Fin.ext (Nat.mod_eq_of_lt c.isLt)]

/-- and so for the small factor. -/
theorem hadR_val (j k : Fin 28) : hadR h j.val k.val = EReal.toReal (h (ix2 j k)) := by
  unfold hadR
  rw [show Fin.ofNat 28 j.val = j from Fin.ext (Nat.mod_eq_of_lt j.isLt), show Fin.ofNat 28 k.val = k from Fin.ext (Nat.mod_eq_of_lt k.isLt)]

/-- A row has no infinite product with the small factor. -/
def Clean (x : S256x14336.Idx → Elt Ideal .bf16) (h : S28x28.Idx → Elt Ideal .f32) (s : Fin 256) : Prop :=
  ∀ (j k : Fin 28) (c : Fin 14336), c.val / 512 = k.val → ¬ Inf ((h (ix2 j k) : EReal) * (x (ix2 s c) : EReal))

/-- Such a row's products are those of its real numbers. -/
theorem Clean.row {s : Fin 256} (C : Clean x h s) : RowArgs x h (actR x) (hadR h) s := by
  refine ⟨fun j k c hc => ?_⟩
  rw [actR_val, hadR_val, ← EReal.toReal_mul]
  exact real_of_not_inf (C j k c hc)

/-- An infinite value's real number is zero. -/
theorem toReal_inf {a : EReal} (h : Inf a) : a.toReal = 0 := by
  rcases h with rfl | rfl <;> simp

/-- The place `p` of block `k` of a row. -/
def place (k : Fin 28) (p : Fin 512) : Fin 14336 := ⟨512 * k.val + p.val, by have := k.isLt; have := p.isLt; omega⟩

/-- A place of block `k` is in block `k`. -/
theorem place_div (k : Fin 28) (p : Fin 512) : (place k p).val / 512 = k.val := by
  have := p.isLt
  show (512 * k.val + p.val) / 512 = k.val
  omega

/-- A block of reals has a real signed sum. -/
theorem blockSum_coe (s : Fin 256) (k : Fin 28) (q : ℕ) (hr : ∀ p, ¬ Inf (x (ix2 s (place k p)) : EReal)) :
    blockSum x s k q = ((∑ p ∈ Finset.range 512, sg (q &&& p) * actR x s.val (512 * k.val + p) : ℝ) : EReal) := by
  unfold Cert.RotateReferenceIdeal.Value.blockSum
  rw [Finset.sum_range, ← coe_sum]
  refine Finset.sum_congr rfl fun p _ => ?_
  rw [← sgE_coe]
  refine congrArg (sgE _) ?_
  exact (real_of_not_inf (hr p)).trans (congrArg _ (actR_val s (place k p)).symm)

/-- A term of the reference, in a row without infinite products. -/
theorem Clean.term {s : Fin 256} (C : Clean x h s) (j k : Fin 28) (q : ℕ) :
    blockSum x s k q * (h (ix2 j k) : EReal) = ((hadR h j.val k.val * ∑ p ∈ Finset.range 512, sg (q &&& p) * actR x s.val (512 * k.val + p) : ℝ) : EReal) := by
  by_cases hx : ∃ p, Inf (x (ix2 s (place k p)) : EReal)
  · obtain ⟨p, hp⟩ := hx
    have h0 : (h (ix2 j k) : EReal) = 0 := by
      by_contra hn
      refine C j k (place k p) (place_div k p) ?_
      rw [mul_comm]
      exact hp.mul hn
    rw [hadR_val, h0, EReal.toReal_zero, zero_mul, mul_zero, EReal.coe_zero]
  · have hr : ∀ p, ¬ Inf (x (ix2 s (place k p)) : EReal) := fun p hp => hx ⟨p, hp⟩
    rw [blockSum_coe s k q hr, EReal.coe_mul, mul_comm]
    by_cases hh : Inf (h (ix2 j k) : EReal)
    · have h0 : ∀ p : Fin 512, actR x s.val (512 * k.val + p.val) = 0 := by
        intro p
        refine (actR_val s (place k p)).trans ?_
        have h1 : (x (ix2 s (place k p)) : EReal) = 0 := by
          by_contra hn
          exact C j k (place k p) (place_div k p) (hh.mul hn)
        rw [h1, EReal.toReal_zero]
      have hz : ∑ p ∈ Finset.range 512, sg (q &&& p) * actR x s.val (512 * k.val + p) = 0 := by
        rw [Finset.sum_range]
        exact Finset.sum_eq_zero fun p _ => by rw [h0 p, mul_zero]
      rw [hz, EReal.coe_zero, mul_zero, mul_zero]
    · rw [hadR_val, ← real_of_not_inf hh]

/-- The quantiser's operand, in a row without infinite products: the scaled rotation. -/
theorem refIn_clean {s : Fin 256} (C : Clean x h s) (y : Fin 14336) :
    (refIn x h (ix2 s y) : EReal) = ((rot (hadR h) (actR x s.val) (y.val / 512) (y.val % 512) : ℝ) : EReal) * INV := by
  rw [refIn_sum]
  refine congrArg (· * INV) ?_
  unfold rot
  rw [Finset.sum_range, ← coe_sum]
  exact Finset.sum_congr rfl fun k _ => C.term ⟨y.val / 512, by have := y.isLt; omega⟩ k (y.val % 512)

/-- The reference's row maximum, after scaling. -/
def refMax (x : S256x14336.Idx → Elt Ideal .bf16) (h : S28x28.Idx → Elt Ideal .f32) (s : Fin 256) : EReal :=
  (Finset.univ : Finset (Fin 14336)).fold max (⊥ : EReal) fun k => mag (refIn x h (ix2 s k))

/-- The two row maxima are one, in a row without infinite products. -/
theorem max_clean {s : Fin 256} (C : Clean x h s) : rowMax x h s * INV = refMax x h s := by
  obtain ⟨v, hv, hI⟩ := INV_real
  have hv' : (0 : EReal) < ((v : ℝ) : EReal) := EReal.coe_pos.2 hv
  refine eq_of_forall_ge_iff fun z => ?_
  unfold refMax
  rw [fold_le, hI, ← EReal.le_div_iff_mul_le hv' (EReal.coe_ne_top v), rowMax_le C.row]
  have e : ∀ r : ℝ, mag (((r : ℝ) : EReal) * INV) ≤ z ↔ ((|r| : ℝ) : EReal) ≤ z / ((v : ℝ) : EReal) := by
    intro r
    unfold mag
    rw [hI, EReal.le_div_iff_mul_le hv' (EReal.coe_ne_top v), ← EReal.coe_mul, ← EReal.coe_mul, abs_coe, abs_mul, abs_of_pos hv]
  constructor
  · intro hh k
    have := k.isLt
    rw [refIn_clean C]
    exact (e _).2 (hh _ (by omega) _ (by omega))
  · intro hh j hj q hq
    have h1 := hh ⟨512 * j + q, by omega⟩
    rw [refIn_clean C] at h1
    have := (e _).1 h1
    rwa [show (512 * j + q) / 512 = j by omega, show (512 * j + q) % 512 = q by omega] at this

/-- A row with an infinite product has an infinite entry in the reference: some signed sum of the block is not zero. -/
theorem refIn_inf (s : Fin 256) (j k : Fin 28) (p : Fin 512) (hI : Inf ((h (ix2 j k) : EReal) * (x (ix2 s (place k p)) : EReal))) :
    ∃ y, Inf (refIn x h (ix2 s y) : EReal) := by
  obtain ⟨v, hv, hv'⟩ := INV_real
  obtain ⟨h0, x0, hor⟩ := hI.of_mul
  have key : ∃ q : Fin 512, Inf (blockSum x s k q.val * (h (ix2 j k) : EReal)) := by
    rcases hor with hh | hx
    · obtain ⟨q, hq⟩ := walsh_ne (fun p => x (ix2 s (place k p))) p x0
      refine ⟨q, ?_⟩
      rw [mul_comm]
      exact hh.mul hq
    · exact ⟨0, (Inf.sum (fun p : Fin 512 => sgE ((0 : Fin 512).val &&& p.val) (x (ix2 s (place k p)))) p (hx.sgE _)).mul h0⟩
  obtain ⟨q, hq⟩ := key
  have hj := j.isLt
  have hql := q.isLt
  refine ⟨⟨512 * j.val + q.val, by omega⟩, ?_⟩
  rw [refIn_sum]
  refine Inf.mul ?_ (show INV ≠ 0 by rw [hv']; exact EReal.coe_ne_zero.2 hv.ne')
  refine Inf.sum _ k ?_
  refine (congrArg Inf (congr (congrArg HMul.hMul ?_) ?_)).mpr hq
  · exact congrArg (blockSum x s k) (show (512 * j.val + q.val) % 512 = q.val by omega)
  · refine congrArg h (funext fun b => Fin.ext ?_)
    match b with
    | ⟨0, _⟩ => show (512 * j.val + q.val) / 512 = j.val; omega
    | ⟨1, _⟩ => rfl

/-- In a row with an infinite product both maxima are the greatest value. -/
theorem max_inf {s : Fin 256} (C : ¬ Clean x h s) : rowMax x h s * INV = ⊤ ∧ refMax x h s = ⊤ := by
  unfold Clean at C
  simp only [not_forall, not_not] at C
  obtain ⟨j, k, c, hc, hI⟩ := C
  obtain ⟨v, hv, hv'⟩ := INV_real
  have hcl := c.isLt
  constructor
  · rw [rowMax_inf s j k c hc hI, hv']
    exact EReal.top_mul_of_pos (EReal.coe_pos.2 hv)
  · have e : c = place k ⟨c.val % 512, by omega⟩ := Fin.ext (by show c.val = 512 * k.val + c.val % 512; omega)
    rw [e] at hI
    obtain ⟨y, hy⟩ := refIn_inf s j k _ hI
    have h1 := (fold_le (fun k => mag (refIn x h (ix2 s k))) (refMax x h s)).1 le_rfl y
    exact top_le_iff.1 (hy.mag.symm.le.trans h1)

/-- THE ROW MAXIMA are one. -/
theorem max_eq (s : Fin 256) : rowMax x h s * INV = refMax x h s := by
  by_cases C : Clean x h s
  · exact max_clean C
  · exact (max_inf C).1.trans (max_inf C).2.symm

/-- The scale of the greatest value is the greatest value. -/
theorem scaleOf_top : scaleOf ⊤ = ⊤ := by
  have h7 : ((7 : ℝ) : EReal) ≠ 0 := EReal.coe_ne_zero.2 (by norm_num)
  unfold Cert.RotateReferenceIdeal.Value.scaleOf
  rw [zerof, onef, sevenf]
  show Scalar.select (BitVec.ofBool (decide ((⊤ : EReal) = 0))) 1 (Ideal.div ⊤ ((7 : ℝ) : EReal)) = ⊤
  rw [decide_eq_false (by simp)]
  show Ideal.div ⊤ ((7 : ℝ) : EReal) = ⊤
  unfold Ideal.div
  rw [if_neg h7, ← EReal.coe_inv]
  exact EReal.top_mul_of_pos (EReal.coe_pos.2 (by norm_num))

/-- Any value over the greatest is zero. -/
theorem div_top (a : EReal) : Ideal.div a ⊤ = 0 := by
  unfold Ideal.div
  rw [if_neg (by simp), EReal.inv_top, mul_zero]

/-- THE SCALES agree: the reference's, -/
theorem ref_scale (s : Fin 256) :
    (Cert.RotateReferenceIdeal.Gen.k0_pay2 (F := Ideal) (refIn x h) (ix1 s) : EReal) = scaleOf (rowMax x h s * INV) := by
  rw [Cert.RotateReferenceIdeal.Value.pay2_apply, ninf, max_eq s]
  rfl

/-- and the kernel's. -/
theorem ker_scale (s : Fin 256) (u : Fin 1) :
    (k0_pay1 (F := Ideal) (macc x (GM (F := Ideal) h) 56) (ix2 u s) : EReal) = scaleOf (rowMax x h s * INV) := by
  rw [pay1_apply, ninf]
  rfl

/-- THE SCALES: the third result. -/
theorem scales_eq :
    k0_pay1 (F := Ideal) (macc x (GM (F := Ideal) h) 56) = Cert.RotateReferenceIdeal.Gen.k0_pay5 (F := Ideal) (refIn x h) := by
  funext i
  obtain ⟨u, s, rfl⟩ : ∃ (u : Fin 1) (s : Fin 256), i = ix2 u s := ⟨i 0, i 1, by funext b; match b with | ⟨0, _⟩ => rfl | ⟨1, _⟩ => rfl⟩
  exact (ker_scale s u).trans ((Cert.RotateReferenceIdeal.Value.pay5_apply (refIn x h) u s).trans (ref_scale s)).symm

/-- A block the quantiser reads. -/
theorem brow_read (G : FVec Ideal S448x448 .f32) (k : Fin 28) (s : Fin 256) (q : Fin 512) :
    (brow x G k.val (ix3 (n0 := 32) (n1 := 16) (n2 := 256) ⟨q.val / 16, by have := q.isLt; omega⟩ ⟨q.val % 16, by omega⟩ s) : EReal)
      = UB x G (ix3 (n0 := 32) (n1 := 448) (n2 := 256) ⟨q.val / 16, by have := q.isLt; omega⟩ ⟨16 * k.val + q.val % 16, by have := k.isLt; omega⟩ s) := by
  have hk := k.isLt
  unfold brow
  refine congrArg (UB x G) (funext fun b => Fin.ext ?_)
  match b with
  | ⟨0, _⟩ => rfl
  | ⟨1, _⟩ => exact Nat.mod_eq_of_lt (by show 16 * k.val + q.val % 16 < 448; omega)
  | ⟨2, _⟩ => rfl

/-- Its entries in a row without infinite products. -/
theorem brow_clean {s : Fin 256} (C : Clean x h s) (k : Fin 28) (q : Fin 512) :
    (brow x (GM (F := Ideal) h) k.val (ix3 (n0 := 32) (n1 := 16) (n2 := 256) ⟨q.val / 16, by have := q.isLt; omega⟩ ⟨q.val % 16, by omega⟩ s) : EReal)
      = ((rot (hadR h) (actR x s.val) k.val q.val : ℝ) : EReal) := by
  have hq := q.isLt
  have hk := k.isLt
  refine (brow_read _ k s q).trans ((UB_apply C.row _ _).trans ?_)
  show ((rot (hadR h) (actR x s.val) ((16 * k.val + q.val % 16) / 16) (16 * (q.val / 16) + (16 * k.val + q.val % 16) % 16) : ℝ) : EReal) = _
  rw [show (16 * k.val + q.val % 16) / 16 = k.val by omega, show 16 * (q.val / 16) + (16 * k.val + q.val % 16) % 16 = q.val by omega]

/-- The quotients the two sides round are one. -/
theorem quot_eq (s : Fin 256) (y : Fin 14336) (k : Fin 28) (q : Fin 512) (hk : k.val = y.val / 512) (hq : q.val = y.val % 512) :
    (brow x (GM (F := Ideal) h) k.val (ix3 (n0 := 32) (n1 := 16) (n2 := 256) ⟨q.val / 16, by have := q.isLt; omega⟩ ⟨q.val % 16, by omega⟩ s) : EReal)
        * Ideal.div INV (scaleOf (rowMax x h s * INV))
      = Ideal.div (refIn x h (ix2 s y)) (scaleOf (rowMax x h s * INV)) := by
  by_cases C : Clean x h s
  · rw [brow_clean C, refIn_clean C, div_mul _ _ _ (scaleOf_ne _), hk, hq]
  · rw [(max_inf C).1, scaleOf_top, div_top, div_top, mul_zero]

/-- THE CODES: the second result. -/
theorem codesI_eq : codesI x (GM (F := Ideal) h) = Cert.RotateReferenceIdeal.Gen.k0_pay3 (F := Ideal) (refIn x h) := by
  funext i
  obtain ⟨s, y, rfl⟩ : ∃ (s : Fin 256) (y : Fin 14336), i = ix2 s y := ⟨i 0, i 1, by funext b; match b with | ⟨0, _⟩ => rfl | ⟨1, _⟩ => rfl⟩
  have hy := y.isLt
  have e1 : codesI x (GM (F := Ideal) h) (ix2 s y)
      = k0_pay2 (F := Ideal) (macc x (GM (F := Ideal) h) 56) (brow x (GM (F := Ideal) h) (y.val / 512)) (ix2 s (⟨y.val % 512, by omega⟩ : Fin 512)) := by
    unfold codesI
    refine congrArg (k0_pay2 (F := Ideal) (macc x (GM (F := Ideal) h) 56) (brow x (GM (F := Ideal) h) (y.val / 512))) (funext fun b => Fin.ext ?_)
    match b with
    | ⟨0, _⟩ => rfl
    | ⟨1, _⟩ => exact Nat.mod_eq_of_lt (by show y.val % 512 < 512; omega)
  rw [e1, pay2_apply, Cert.RotateReferenceIdeal.Value.pay3_apply, ker_scale, ref_scale s]
  exact congrArg codeOf (quot_eq s y ⟨y.val / 512, by omega⟩ ⟨y.val % 512, by omega⟩ rfl rfl)

/-- Their bytes. -/
theorem codesF_eq : codesF x (GM (F := Ideal) h) = Cert.RotateReferenceIdeal.Gen.k0_pay4 (F := Ideal) (refIn x h) := by
  funext i
  have e : codesF x (GM (F := Ideal) h) i = (((codesI x (GM (F := Ideal) h) i : BitVec 8).toInt : ℝ) : EReal) := rfl
  have e' : Cert.RotateReferenceIdeal.Gen.k0_pay4 (F := Ideal) (refIn x h) i
      = (((Cert.RotateReferenceIdeal.Gen.k0_pay3 (F := Ideal) (refIn x h) i : BitVec 8).toInt : ℝ) : EReal) := rfl
  rw [e, e', codesI_eq]

end Cert.RotateIdeal.Run

end
-- ==== Proof.RotAlgebraic.lean ====
/- The algebraic claim of the rotation: the kernel's three arrays are the reference's, of any arguments. -/
module

public import proofs.«01_k».proof.Defs
public import proofs.«01_k».proof.Proof.RotIdealFrame
public import proofs.«01_k».proof.Proof.RotValueD

@[expose] public section

set_option maxRecDepth 16384

noncomputable section

namespace Cert.Proof

open Idealize.ShloMosaic Idealize.SL.Sem Cert.RotateIdeal

/-- THE ALGEBRAIC CLAIM: over the extended reals, at any arguments, the rotation kernel and its reference leave the
    same codes, the same bytes and the same scales, the arguments unchanged. -/
theorem rotate_algebraic : Cert.algebraic_RotateIdeal_RotateReferenceIdeal := by
  intro m g m' g' _ hargs
  refine ⟨fun c => Cert.RotateIdeal.Run.codesI (m (c.tc.loc main_arg0)) (Cert.RotateIdeal.Run.GM (m (c.tc.loc main_arg1))),
    fun c => Cert.RotateIdeal.Run.codesF (m (c.tc.loc main_arg0)) (Cert.RotateIdeal.Run.GM (m (c.tc.loc main_arg1))),
    fun c => Cert.RotateIdeal.Gen.k0_pay1 (Cert.RotateIdeal.Run.macc (m (c.tc.loc main_arg0)) (Cert.RotateIdeal.Run.GM (m (c.tc.loc main_arg1))) 56), ?_, ?_⟩
  · exact Cert.RotateIdeal.Run.run_values m g
  · refine (θ_run _ _ _).mono (fun r h c => ?_) (Cert.RotateReferenceIdeal.Value.run m' g')
    obtain ⟨e0, e1⟩ := hargs c
    have e : Cert.RotateReferenceIdeal.Value.refIn (m' (c.tc.loc Cert.RotateReferenceIdeal.main_arg0)) (m' (c.tc.loc Cert.RotateReferenceIdeal.main_arg1))
        = Cert.RotateReferenceIdeal.Value.refIn (m (c.tc.loc main_arg0)) (m (c.tc.loc main_arg1)) :=
      congr (congrArg Cert.RotateReferenceIdeal.Value.refIn e0) e1
    obtain ⟨r0, r1, r2, r3, r4⟩ := h c
    exact ⟨r0.trans ((congrArg (Cert.RotateReferenceIdeal.Gen.k0_pay3 (F := Ideal)) e).trans Cert.RotateIdeal.Run.codesI_eq.symm),
      r1.trans ((congrArg (Cert.RotateReferenceIdeal.Gen.k0_pay4 (F := Ideal)) e).trans Cert.RotateIdeal.Run.codesF_eq.symm),
      r2.trans ((congrArg (Cert.RotateReferenceIdeal.Gen.k0_pay5 (F := Ideal)) e).trans Cert.RotateIdeal.Run.scales_eq.symm), r3, r4⟩

end Cert.Proof

end
-- ==== Proof.lean ====
/- The certificate. The frames are cited from the run modules; the algebraic claim of the product joins the two values: the
   kernel's output array (Proof/Value.lean) and the reference's (Proof/Reference.lean) are the same function of the
   arguments. That of the rotation is Proof/RotAlgebraic.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_small_exponents
public import proofs.«01_k».proof.Proof.KernelFrame
public import proofs.«01_k».proof.Proof.IdealFrame
public import proofs.«01_k».proof.Proof.Value
public import proofs.«01_k».proof.Proof.Reference
public import proofs.«01_k».proof.Proof.RefCopy
public import Idealize.ShloMosaic.Lib.ReduceAll
public import proofs.«01_k».proof.Proof.Gen.Rotate
public import proofs.«01_k».proof.Proof.Gen.Rotate.Skeleton
public import proofs.«01_k».proof.Proof.Gen.RotateIdeal
public import proofs.«01_k».proof.Proof.Gen.RotateReferenceIdeal
public import proofs.«01_k».proof.Proof.Gen.RotateReferenceIdeal.Frame
public import proofs.«01_k».proof.Proof.RotIdealFrame
public import proofs.«01_k».proof.Proof.RotCopy
public import proofs.«01_k».proof.Proof.RotAlgebraic
public import Idealize.ShloMosaic.Adequacy
public import Idealize.ShloMosaic.Init

@[expose] public section

set_option maxRecDepth 16384

noncomputable section

namespace Cert.Proof

open Idealize.ShloMosaic Idealize.SL.Sem Cert.Kernel

/-- THE PRECONDITION, READ: every exponent word of the arguments it accepts is at most 126. -/
theorem exponents_le (a0 : Vec Ideal S256x14336 .fp8e4m3) (a1 : Vec Ideal S256x1 .f32) (a2 : Vec Ideal S3584x7168 .i8)
    (a3 : Vec Ideal S3584x112 .i8) (a4 : Vec Ideal S1x3584 .f32)
    (h : Cert.Pre_small_exponents.fn (F := Ideal) a0 a1 a2 a3 a4 = fun _ => 1#1) (i : S3584x112.Idx) : (a3 i).toNat ≤ 126 := by
  have h0 := congrFun h (fun a => a.elim0)
  dsimp only [Cert.Pre_small_exponents.fn] at h0
  have h1 := Host.reduce_andi_all _ _ _ _ _ h0 i
  have h2 := IntOp.cmpi_sle.1 h1
  have h3 : ((a3 i).setWidth 32).toInt ≤ (126#32).toInt := h2
  have h4 := (a3 i).isLt
  rw [BitVec.toInt_eq_toNat_of_lt (by rw [BitVec.toNat_setWidth]; omega), BitVec.toNat_setWidth] at h3
  have h5 : (126#32).toInt = 126 := by decide
  omega

/-- The kernel's output array and the reference's, as functions of the same arguments, are the same. -/
theorem result_eq (a0 : Vec Ideal S256x14336 .fp8e4m3) (a1 : Vec Ideal S256x1 .f32) (a2 : Vec Ideal S3584x7168 .i8)
    (a3 : Vec Ideal S3584x112 .i8) (a4 : Vec Ideal S1x3584 .f32) :
    Cert.ReferenceIdeal.Value.G5 (F := Ideal) a0 a1 a2 a3 a4 = Cert.KernelIdeal.Run.result a0 a1 a2 a3 a4 := by
  funext i
  obtain ⟨r, n, rfl⟩ : ∃ (r : Fin 256) (n : Fin 3584), i = ix2 r n := ⟨i 0, i 1, eq_ix2 (n0 := 256) (n1 := 3584) i⟩
  exact Cert.ReferenceIdeal.Value.G5_apply a0 a1 a2 a3 a4 r n

/-- THE ALGEBRAIC CLAIM: over the extended reals, at exponents of at most 126, the kernel and the reference leave the
    same output array, the arguments unchanged. -/
theorem algebraic : Cert.algebraic_KernelIdeal_ReferenceIdeal_pre_small_exponents := by
  intro m g m' g' hpre hargs
  refine ⟨fun c => Cert.KernelIdeal.Run.result (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)), ?_, ?_⟩
  · refine (θ_run _ _ _).mono (fun r h c => ?_) (Cert.KernelIdeal.Run.run_blocks m g)
    exact ⟨(h c).1.trans (Cert.KernelIdeal.Run.final5 m c (exponents_le _ _ _ _ _ (hpre c))), (h c).2⟩
  · refine (θ_run _ _ _).mono (fun r h c => ?_) (Cert.ReferenceIdeal.Value.run m' g')
    obtain ⟨e0, e1, e2, e3, e4⟩ := hargs c
    refine ⟨(h c).1.trans ((result_eq _ _ _ _ _).trans ?_), (h c).2⟩
    exact congr (congr (congr (congr (congrArg Cert.KernelIdeal.Run.result e0) e1) e2) e3) e4

/-- THE CERTIFICATE: the side conditions of the programs, their frames, and the claims that join them. -/
theorem claim : Cert.Claim := ⟨Cert.Kernel.Gen.facts, Cert.KernelIdeal.Gen.facts, Cert.Reference.Copy.facts, Cert.ReferenceIdeal.Gen.facts,
  Cert.Rotate.Gen.facts, Cert.RotateIdeal.Gen.facts, Cert.RotateReferenceIdeal.Gen.facts, Cert.Pre_small_exponents.Gen.facts,
  fun m g _ => Cert.Kernel.Run.frame m g,
  fun m g _ => Cert.KernelIdeal.Run.frame m g,
  fun m g _ => Cert.KernelIdeal.Run.frame m g,
  fun m g _ => Cert.Reference.Copy.frame m g,
  fun m g _ => Cert.ReferenceIdeal.Gen.frame m g,
  fun m g _ => Cert.ReferenceIdeal.Gen.frame m g,
  fun m g _ => Cert.Rotate.Copy.frame m g,
  fun m g _ => Cert.RotateIdeal.Run.frame m g,
  fun m g _ => Cert.RotateReferenceIdeal.Gen.frame m g,
  trivial,
  trivial,
  algebraic,
  trivial,
  rotate_algebraic⟩

end Cert.Proof

end
